-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).1 = (fun _ => 1#1)
    ∧ (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.1 = (fun _ => 1#1)
    ∧ (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.2 = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_in_range [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjTm (m : (ℓ : Loc Cert.InProjTm.nD Cert.InProjTm.τ Cert.InProjTm.sig) → Buf (Elt Bits) ℓ) : Prop :=
  True

def Pre_InProjTmIdeal (m : (ℓ : Loc Cert.InProjTmIdeal.nD Cert.InProjTmIdeal.τ Cert.InProjTmIdeal.sig) → Buf (Elt Ideal) ℓ) : Prop :=
  True

def Pre_InProjTmRefIdeal (m : (ℓ : Loc Cert.InProjTmRefIdeal.nD Cert.InProjTmRefIdeal.τ Cert.InProjTmRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjTm (m : (ℓ : Loc Cert.OutProjTm.nD Cert.OutProjTm.τ Cert.OutProjTm.sig) → Buf (Elt Bits) ℓ) : Prop :=
  True

def Pre_OutProjTmIdeal (m : (ℓ : Loc Cert.OutProjTmIdeal.nD Cert.OutProjTmIdeal.τ Cert.OutProjTmIdeal.sig) → Buf (Elt Ideal) ℓ) : Prop :=
  True

def Pre_OutProjTmRefIdeal (m : (ℓ : Loc Cert.OutProjTmRefIdeal.nD Cert.OutProjTmRefIdeal.τ Cert.OutProjTmRefIdeal.sig) → Buf (Elt Ideal) ℓ) : Prop :=
  True

def Pre_CdPrep (m : (ℓ : Loc Cert.CdPrep.nD Cert.CdPrep.τ Cert.CdPrep.sig) → Buf (Elt Bits) ℓ) : Prop :=
  True

def Pre_CdPrepIdeal (m : (ℓ : Loc Cert.CdPrepIdeal.nD Cert.CdPrepIdeal.τ Cert.CdPrepIdeal.sig) → Buf (Elt Ideal) ℓ) : Prop :=
  True

def Pre_CdPrepRefIdeal (m : (ℓ : Loc Cert.CdPrepRefIdeal.nD Cert.CdPrepRefIdeal.τ Cert.CdPrepRefIdeal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tables_in_range [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InProjTm [hInProjTm : Cert.InProjTm.Facts] : Prop :=
  ∀ (m : (ℓ : Loc Cert.InProjTm.nD Cert.InProjTm.τ Cert.InProjTm.sig) → Buf (Elt Bits) ℓ) (g : Dev Cert.InProjTm.nD → PrngReg), Pre_InProjTm m →
    θ_run (Cert.InProjTm.defs (F := Bits)) (onTc (τ := Cert.InProjTm.τ) (Cert.InProjTm.main (F := Bits))) ⟨m, fun _ => 0, g⟩ (fun r => (∀ c : Dev Cert.InProjTm.nD,
      r.2.mem ((c.tc : Thread Cert.InProjTm.nD Cert.InProjTm.τ).loc Cert.InProjTm.main_arg0) = m ((c.tc : Thread Cert.InProjTm.nD Cert.InProjTm.τ).loc Cert.InProjTm.main_arg0)
      ∧ r.2.mem ((c.tc : Thread Cert.InProjTm.nD Cert.InProjTm.τ).loc Cert.InProjTm.main_arg1) = m ((c.tc : Thread Cert.InProjTm.nD Cert.InProjTm.τ).loc Cert.InProjTm.main_arg1))
      ∧ r.2.sem = fun _ => 0)

def quiescent_InProjTmIdeal [hInProjTmIdeal : Cert.InProjTmIdeal.Facts] : Prop :=
  ∀ (m : (ℓ : Loc Cert.InProjTmIdeal.nD Cert.InProjTmIdeal.τ Cert.InProjTmIdeal.sig) → Buf (Elt Ideal) ℓ) (g : Dev Cert.InProjTmIdeal.nD → PrngReg), Pre_InProjTmIdeal m →
    θ_run (Cert.InProjTmIdeal.defs (F := Ideal)) (onTc (τ := Cert.InProjTmIdeal.τ) (Cert.InProjTmIdeal.main (F := Ideal))) ⟨m, fun _ => 0, g⟩ (fun r => (∀ c : Dev Cert.InProjTmIdeal.nD,
      r.2.mem ((c.tc : Thread Cert.InProjTmIdeal.nD Cert.InProjTmIdeal.τ).loc Cert.InProjTmIdeal.main_arg0) = m ((c.tc : Thread Cert.InProjTmIdeal.nD Cert.InProjTmIdeal.τ).loc Cert.InProjTmIdeal.main_arg0)
      ∧ r.2.mem ((c.tc : Thread Cert.InProjTmIdeal.nD Cert.InProjTmIdeal.τ).loc Cert.InProjTmIdeal.main_arg1) = m ((c.tc : Thread Cert.InProjTmIdeal.nD Cert.InProjTmIdeal.τ).loc Cert.InProjTmIdeal.main_arg1))
      ∧ r.2.sem = fun _ => 0)

def quiescent_InProjTmRefIdeal [hInProjTmRefIdeal : Cert.InProjTmRefIdeal.Facts] : Prop :=
  ∀ (m : (ℓ : Loc Cert.InProjTmRefIdeal.nD Cert.InProjTmRefIdeal.τ Cert.InProjTmRefIdeal.sig) → Buf (Elt Ideal) ℓ) (g : Dev Cert.InProjTmRefIdeal.nD → PrngReg), Pre_InProjTmRefIdeal m →
    θ_run (Cert.InProjTmRefIdeal.defs (F := Ideal)) (onTc (τ := Cert.InProjTmRefIdeal.τ) (Cert.InProjTmRefIdeal.main (F := Ideal))) ⟨m, fun _ => 0, g⟩ (fun r => (∀ c : Dev Cert.InProjTmRefIdeal.nD,
      r.2.mem ((c.tc : Thread Cert.InProjTmRefIdeal.nD Cert.InProjTmRefIdeal.τ).loc Cert.InProjTmRefIdeal.main_arg0) = m ((c.tc : Thread Cert.InProjTmRefIdeal.nD Cert.InProjTmRefIdeal.τ).loc Cert.InProjTmRefIdeal.main_arg0)
      ∧ r.2.mem ((c.tc : Thread Cert.InProjTmRefIdeal.nD Cert.InProjTmRefIdeal.τ).loc Cert.InProjTmRefIdeal.main_arg1) = m ((c.tc : Thread Cert.InProjTmRefIdeal.nD Cert.InProjTmRefIdeal.τ).loc Cert.InProjTmRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7))
      ∧ r.2.sem = fun _ => 0)

def quiescent_OutProjTm [hOutProjTm : Cert.OutProjTm.Facts] : Prop :=
  ∀ (m : (ℓ : Loc Cert.OutProjTm.nD Cert.OutProjTm.τ Cert.OutProjTm.sig) → Buf (Elt Bits) ℓ) (g : Dev Cert.OutProjTm.nD → PrngReg), Pre_OutProjTm m →
    θ_run (Cert.OutProjTm.defs (F := Bits)) (onTc (τ := Cert.OutProjTm.τ) (Cert.OutProjTm.main (F := Bits))) ⟨m, fun _ => 0, g⟩ (fun r => (∀ c : Dev Cert.OutProjTm.nD,
      r.2.mem ((c.tc : Thread Cert.OutProjTm.nD Cert.OutProjTm.τ).loc Cert.OutProjTm.main_arg0) = m ((c.tc : Thread Cert.OutProjTm.nD Cert.OutProjTm.τ).loc Cert.OutProjTm.main_arg0)
      ∧ r.2.mem ((c.tc : Thread Cert.OutProjTm.nD Cert.OutProjTm.τ).loc Cert.OutProjTm.main_arg1) = m ((c.tc : Thread Cert.OutProjTm.nD Cert.OutProjTm.τ).loc Cert.OutProjTm.main_arg1)
      ∧ r.2.mem ((c.tc : Thread Cert.OutProjTm.nD Cert.OutProjTm.τ).loc Cert.OutProjTm.main_arg2) = m ((c.tc : Thread Cert.OutProjTm.nD Cert.OutProjTm.τ).loc Cert.OutProjTm.main_arg2)
      ∧ r.2.mem ((c.tc : Thread Cert.OutProjTm.nD Cert.OutProjTm.τ).loc Cert.OutProjTm.main_arg3) = m ((c.tc : Thread Cert.OutProjTm.nD Cert.OutProjTm.τ).loc Cert.OutProjTm.main_arg3)
      ∧ r.2.mem ((c.tc : Thread Cert.OutProjTm.nD Cert.OutProjTm.τ).loc Cert.OutProjTm.main_arg4) = m ((c.tc : Thread Cert.OutProjTm.nD Cert.OutProjTm.τ).loc Cert.OutProjTm.main_arg4)
      ∧ r.2.mem ((c.tc : Thread Cert.OutProjTm.nD Cert.OutProjTm.τ).loc Cert.OutProjTm.main_arg5) = m ((c.tc : Thread Cert.OutProjTm.nD Cert.OutProjTm.τ).loc Cert.OutProjTm.main_arg5)
      ∧ r.2.mem ((c.tc : Thread Cert.OutProjTm.nD Cert.OutProjTm.τ).loc Cert.OutProjTm.main_arg6) = m ((c.tc : Thread Cert.OutProjTm.nD Cert.OutProjTm.τ).loc Cert.OutProjTm.main_arg6)
      ∧ r.2.mem ((c.tc : Thread Cert.OutProjTm.nD Cert.OutProjTm.τ).loc Cert.OutProjTm.main_arg7) = m ((c.tc : Thread Cert.OutProjTm.nD Cert.OutProjTm.τ).loc Cert.OutProjTm.main_arg7))
      ∧ r.2.sem = fun _ => 0)

def quiescent_OutProjTmIdeal [hOutProjTmIdeal : Cert.OutProjTmIdeal.Facts] : Prop :=
  ∀ (m : (ℓ : Loc Cert.OutProjTmIdeal.nD Cert.OutProjTmIdeal.τ Cert.OutProjTmIdeal.sig) → Buf (Elt Ideal) ℓ) (g : Dev Cert.OutProjTmIdeal.nD → PrngReg), Pre_OutProjTmIdeal m →
    θ_run (Cert.OutProjTmIdeal.defs (F := Ideal)) (onTc (τ := Cert.OutProjTmIdeal.τ) (Cert.OutProjTmIdeal.main (F := Ideal))) ⟨m, fun _ => 0, g⟩ (fun r => (∀ c : Dev Cert.OutProjTmIdeal.nD,
      r.2.mem ((c.tc : Thread Cert.OutProjTmIdeal.nD Cert.OutProjTmIdeal.τ).loc Cert.OutProjTmIdeal.main_arg0) = m ((c.tc : Thread Cert.OutProjTmIdeal.nD Cert.OutProjTmIdeal.τ).loc Cert.OutProjTmIdeal.main_arg0)
      ∧ r.2.mem ((c.tc : Thread Cert.OutProjTmIdeal.nD Cert.OutProjTmIdeal.τ).loc Cert.OutProjTmIdeal.main_arg1) = m ((c.tc : Thread Cert.OutProjTmIdeal.nD Cert.OutProjTmIdeal.τ).loc Cert.OutProjTmIdeal.main_arg1)
      ∧ r.2.mem ((c.tc : Thread Cert.OutProjTmIdeal.nD Cert.OutProjTmIdeal.τ).loc Cert.OutProjTmIdeal.main_arg2) = m ((c.tc : Thread Cert.OutProjTmIdeal.nD Cert.OutProjTmIdeal.τ).loc Cert.OutProjTmIdeal.main_arg2)
      ∧ r.2.mem ((c.tc : Thread Cert.OutProjTmIdeal.nD Cert.OutProjTmIdeal.τ).loc Cert.OutProjTmIdeal.main_arg3) = m ((c.tc : Thread Cert.OutProjTmIdeal.nD Cert.OutProjTmIdeal.τ).loc Cert.OutProjTmIdeal.main_arg3)
      ∧ r.2.mem ((c.tc : Thread Cert.OutProjTmIdeal.nD Cert.OutProjTmIdeal.τ).loc Cert.OutProjTmIdeal.main_arg4) = m ((c.tc : Thread Cert.OutProjTmIdeal.nD Cert.OutProjTmIdeal.τ).loc Cert.OutProjTmIdeal.main_arg4)
      ∧ r.2.mem ((c.tc : Thread Cert.OutProjTmIdeal.nD Cert.OutProjTmIdeal.τ).loc Cert.OutProjTmIdeal.main_arg5) = m ((c.tc : Thread Cert.OutProjTmIdeal.nD Cert.OutProjTmIdeal.τ).loc Cert.OutProjTmIdeal.main_arg5)
      ∧ r.2.mem ((c.tc : Thread Cert.OutProjTmIdeal.nD Cert.OutProjTmIdeal.τ).loc Cert.OutProjTmIdeal.main_arg6) = m ((c.tc : Thread Cert.OutProjTmIdeal.nD Cert.OutProjTmIdeal.τ).loc Cert.OutProjTmIdeal.main_arg6)
      ∧ r.2.mem ((c.tc : Thread Cert.OutProjTmIdeal.nD Cert.OutProjTmIdeal.τ).loc Cert.OutProjTmIdeal.main_arg7) = m ((c.tc : Thread Cert.OutProjTmIdeal.nD Cert.OutProjTmIdeal.τ).loc Cert.OutProjTmIdeal.main_arg7))
      ∧ r.2.sem = fun _ => 0)

def quiescent_OutProjTmRefIdeal [hOutProjTmRefIdeal : Cert.OutProjTmRefIdeal.Facts] : Prop :=
  ∀ (m : (ℓ : Loc Cert.OutProjTmRefIdeal.nD Cert.OutProjTmRefIdeal.τ Cert.OutProjTmRefIdeal.sig) → Buf (Elt Ideal) ℓ) (g : Dev Cert.OutProjTmRefIdeal.nD → PrngReg), Pre_OutProjTmRefIdeal m →
    θ_run (Cert.OutProjTmRefIdeal.defs (F := Ideal)) (onTc (τ := Cert.OutProjTmRefIdeal.τ) (Cert.OutProjTmRefIdeal.main (F := Ideal))) ⟨m, fun _ => 0, g⟩ (fun r => (∀ c : Dev Cert.OutProjTmRefIdeal.nD,
      r.2.mem ((c.tc : Thread Cert.OutProjTmRefIdeal.nD Cert.OutProjTmRefIdeal.τ).loc Cert.OutProjTmRefIdeal.main_arg0) = m ((c.tc : Thread Cert.OutProjTmRefIdeal.nD Cert.OutProjTmRefIdeal.τ).loc Cert.OutProjTmRefIdeal.main_arg0)
      ∧ r.2.mem ((c.tc : Thread Cert.OutProjTmRefIdeal.nD Cert.OutProjTmRefIdeal.τ).loc Cert.OutProjTmRefIdeal.main_arg1) = m ((c.tc : Thread Cert.OutProjTmRefIdeal.nD Cert.OutProjTmRefIdeal.τ).loc Cert.OutProjTmRefIdeal.main_arg1)
      ∧ r.2.mem ((c.tc : Thread Cert.OutProjTmRefIdeal.nD Cert.OutProjTmRefIdeal.τ).loc Cert.OutProjTmRefIdeal.main_arg2) = m ((c.tc : Thread Cert.OutProjTmRefIdeal.nD Cert.OutProjTmRefIdeal.τ).loc Cert.OutProjTmRefIdeal.main_arg2)
      ∧ r.2.mem ((c.tc : Thread Cert.OutProjTmRefIdeal.nD Cert.OutProjTmRefIdeal.τ).loc Cert.OutProjTmRefIdeal.main_arg3) = m ((c.tc : Thread Cert.OutProjTmRefIdeal.nD Cert.OutProjTmRefIdeal.τ).loc Cert.OutProjTmRefIdeal.main_arg3)
      ∧ r.2.mem ((c.tc : Thread Cert.OutProjTmRefIdeal.nD Cert.OutProjTmRefIdeal.τ).loc Cert.OutProjTmRefIdeal.main_arg4) = m ((c.tc : Thread Cert.OutProjTmRefIdeal.nD Cert.OutProjTmRefIdeal.τ).loc Cert.OutProjTmRefIdeal.main_arg4)
      ∧ r.2.mem ((c.tc : Thread Cert.OutProjTmRefIdeal.nD Cert.OutProjTmRefIdeal.τ).loc Cert.OutProjTmRefIdeal.main_arg5) = m ((c.tc : Thread Cert.OutProjTmRefIdeal.nD Cert.OutProjTmRefIdeal.τ).loc Cert.OutProjTmRefIdeal.main_arg5)
      ∧ r.2.mem ((c.tc : Thread Cert.OutProjTmRefIdeal.nD Cert.OutProjTmRefIdeal.τ).loc Cert.OutProjTmRefIdeal.main_arg6) = m ((c.tc : Thread Cert.OutProjTmRefIdeal.nD Cert.OutProjTmRefIdeal.τ).loc Cert.OutProjTmRefIdeal.main_arg6)
      ∧ r.2.mem ((c.tc : Thread Cert.OutProjTmRefIdeal.nD Cert.OutProjTmRefIdeal.τ).loc Cert.OutProjTmRefIdeal.main_arg7) = m ((c.tc : Thread Cert.OutProjTmRefIdeal.nD Cert.OutProjTmRefIdeal.τ).loc Cert.OutProjTmRefIdeal.main_arg7))
      ∧ r.2.sem = fun _ => 0)

def quiescent_CdPrep [hCdPrep : Cert.CdPrep.Facts] : Prop :=
  ∀ (m : (ℓ : Loc Cert.CdPrep.nD Cert.CdPrep.τ Cert.CdPrep.sig) → Buf (Elt Bits) ℓ) (g : Dev Cert.CdPrep.nD → PrngReg), Pre_CdPrep m →
    θ_run (Cert.CdPrep.defs (F := Bits)) (onTc (τ := Cert.CdPrep.τ) (Cert.CdPrep.main (F := Bits))) ⟨m, fun _ => 0, g⟩ (fun r => (∀ c : Dev Cert.CdPrep.nD,
      r.2.mem ((c.tc : Thread Cert.CdPrep.nD Cert.CdPrep.τ).loc Cert.CdPrep.main_arg0) = m ((c.tc : Thread Cert.CdPrep.nD Cert.CdPrep.τ).loc Cert.CdPrep.main_arg0)
      ∧ r.2.mem ((c.tc : Thread Cert.CdPrep.nD Cert.CdPrep.τ).loc Cert.CdPrep.main_arg1) = m ((c.tc : Thread Cert.CdPrep.nD Cert.CdPrep.τ).loc Cert.CdPrep.main_arg1)
      ∧ r.2.mem ((c.tc : Thread Cert.CdPrep.nD Cert.CdPrep.τ).loc Cert.CdPrep.main_arg2) = m ((c.tc : Thread Cert.CdPrep.nD Cert.CdPrep.τ).loc Cert.CdPrep.main_arg2)
      ∧ r.2.mem ((c.tc : Thread Cert.CdPrep.nD Cert.CdPrep.τ).loc Cert.CdPrep.main_arg3) = m ((c.tc : Thread Cert.CdPrep.nD Cert.CdPrep.τ).loc Cert.CdPrep.main_arg3)
      ∧ r.2.mem ((c.tc : Thread Cert.CdPrep.nD Cert.CdPrep.τ).loc Cert.CdPrep.main_arg4) = m ((c.tc : Thread Cert.CdPrep.nD Cert.CdPrep.τ).loc Cert.CdPrep.main_arg4)
      ∧ r.2.mem ((c.tc : Thread Cert.CdPrep.nD Cert.CdPrep.τ).loc Cert.CdPrep.main_arg5) = m ((c.tc : Thread Cert.CdPrep.nD Cert.CdPrep.τ).loc Cert.CdPrep.main_arg5)
      ∧ r.2.mem ((c.tc : Thread Cert.CdPrep.nD Cert.CdPrep.τ).loc Cert.CdPrep.main_arg6) = m ((c.tc : Thread Cert.CdPrep.nD Cert.CdPrep.τ).loc Cert.CdPrep.main_arg6)
      ∧ r.2.mem ((c.tc : Thread Cert.CdPrep.nD Cert.CdPrep.τ).loc Cert.CdPrep.main_arg7) = m ((c.tc : Thread Cert.CdPrep.nD Cert.CdPrep.τ).loc Cert.CdPrep.main_arg7)
      ∧ r.2.mem ((c.tc : Thread Cert.CdPrep.nD Cert.CdPrep.τ).loc Cert.CdPrep.main_arg8) = m ((c.tc : Thread Cert.CdPrep.nD Cert.CdPrep.τ).loc Cert.CdPrep.main_arg8))
      ∧ r.2.sem = fun _ => 0)

def quiescent_CdPrepIdeal [hCdPrepIdeal : Cert.CdPrepIdeal.Facts] : Prop :=
  ∀ (m : (ℓ : Loc Cert.CdPrepIdeal.nD Cert.CdPrepIdeal.τ Cert.CdPrepIdeal.sig) → Buf (Elt Ideal) ℓ) (g : Dev Cert.CdPrepIdeal.nD → PrngReg), Pre_CdPrepIdeal m →
    θ_run (Cert.CdPrepIdeal.defs (F := Ideal)) (onTc (τ := Cert.CdPrepIdeal.τ) (Cert.CdPrepIdeal.main (F := Ideal))) ⟨m, fun _ => 0, g⟩ (fun r => (∀ c : Dev Cert.CdPrepIdeal.nD,
      r.2.mem ((c.tc : Thread Cert.CdPrepIdeal.nD Cert.CdPrepIdeal.τ).loc Cert.CdPrepIdeal.main_arg0) = m ((c.tc : Thread Cert.CdPrepIdeal.nD Cert.CdPrepIdeal.τ).loc Cert.CdPrepIdeal.main_arg0)
      ∧ r.2.mem ((c.tc : Thread Cert.CdPrepIdeal.nD Cert.CdPrepIdeal.τ).loc Cert.CdPrepIdeal.main_arg1) = m ((c.tc : Thread Cert.CdPrepIdeal.nD Cert.CdPrepIdeal.τ).loc Cert.CdPrepIdeal.main_arg1)
      ∧ r.2.mem ((c.tc : Thread Cert.CdPrepIdeal.nD Cert.CdPrepIdeal.τ).loc Cert.CdPrepIdeal.main_arg2) = m ((c.tc : Thread Cert.CdPrepIdeal.nD Cert.CdPrepIdeal.τ).loc Cert.CdPrepIdeal.main_arg2)
      ∧ r.2.mem ((c.tc : Thread Cert.CdPrepIdeal.nD Cert.CdPrepIdeal.τ).loc Cert.CdPrepIdeal.main_arg3) = m ((c.tc : Thread Cert.CdPrepIdeal.nD Cert.CdPrepIdeal.τ).loc Cert.CdPrepIdeal.main_arg3)
      ∧ r.2.mem ((c.tc : Thread Cert.CdPrepIdeal.nD Cert.CdPrepIdeal.τ).loc Cert.CdPrepIdeal.main_arg4) = m ((c.tc : Thread Cert.CdPrepIdeal.nD Cert.CdPrepIdeal.τ).loc Cert.CdPrepIdeal.main_arg4)
      ∧ r.2.mem ((c.tc : Thread Cert.CdPrepIdeal.nD Cert.CdPrepIdeal.τ).loc Cert.CdPrepIdeal.main_arg5) = m ((c.tc : Thread Cert.CdPrepIdeal.nD Cert.CdPrepIdeal.τ).loc Cert.CdPrepIdeal.main_arg5)
      ∧ r.2.mem ((c.tc : Thread Cert.CdPrepIdeal.nD Cert.CdPrepIdeal.τ).loc Cert.CdPrepIdeal.main_arg6) = m ((c.tc : Thread Cert.CdPrepIdeal.nD Cert.CdPrepIdeal.τ).loc Cert.CdPrepIdeal.main_arg6)
      ∧ r.2.mem ((c.tc : Thread Cert.CdPrepIdeal.nD Cert.CdPrepIdeal.τ).loc Cert.CdPrepIdeal.main_arg7) = m ((c.tc : Thread Cert.CdPrepIdeal.nD Cert.CdPrepIdeal.τ).loc Cert.CdPrepIdeal.main_arg7)
      ∧ r.2.mem ((c.tc : Thread Cert.CdPrepIdeal.nD Cert.CdPrepIdeal.τ).loc Cert.CdPrepIdeal.main_arg8) = m ((c.tc : Thread Cert.CdPrepIdeal.nD Cert.CdPrepIdeal.τ).loc Cert.CdPrepIdeal.main_arg8))
      ∧ r.2.sem = fun _ => 0)

def quiescent_CdPrepRefIdeal [hCdPrepRefIdeal : Cert.CdPrepRefIdeal.Facts] : Prop :=
  ∀ (m : (ℓ : Loc Cert.CdPrepRefIdeal.nD Cert.CdPrepRefIdeal.τ Cert.CdPrepRefIdeal.sig) → Buf (Elt Ideal) ℓ) (g : Dev Cert.CdPrepRefIdeal.nD → PrngReg), Pre_CdPrepRefIdeal m →
    θ_run (Cert.CdPrepRefIdeal.defs (F := Ideal)) (onTc (τ := Cert.CdPrepRefIdeal.τ) (Cert.CdPrepRefIdeal.main (F := Ideal))) ⟨m, fun _ => 0, g⟩ (fun r => (∀ c : Dev Cert.CdPrepRefIdeal.nD,
      r.2.mem ((c.tc : Thread Cert.CdPrepRefIdeal.nD Cert.CdPrepRefIdeal.τ).loc Cert.CdPrepRefIdeal.main_arg0) = m ((c.tc : Thread Cert.CdPrepRefIdeal.nD Cert.CdPrepRefIdeal.τ).loc Cert.CdPrepRefIdeal.main_arg0)
      ∧ r.2.mem ((c.tc : Thread Cert.CdPrepRefIdeal.nD Cert.CdPrepRefIdeal.τ).loc Cert.CdPrepRefIdeal.main_arg1) = m ((c.tc : Thread Cert.CdPrepRefIdeal.nD Cert.CdPrepRefIdeal.τ).loc Cert.CdPrepRefIdeal.main_arg1)
      ∧ r.2.mem ((c.tc : Thread Cert.CdPrepRefIdeal.nD Cert.CdPrepRefIdeal.τ).loc Cert.CdPrepRefIdeal.main_arg2) = m ((c.tc : Thread Cert.CdPrepRefIdeal.nD Cert.CdPrepRefIdeal.τ).loc Cert.CdPrepRefIdeal.main_arg2)
      ∧ r.2.mem ((c.tc : Thread Cert.CdPrepRefIdeal.nD Cert.CdPrepRefIdeal.τ).loc Cert.CdPrepRefIdeal.main_arg3) = m ((c.tc : Thread Cert.CdPrepRefIdeal.nD Cert.CdPrepRefIdeal.τ).loc Cert.CdPrepRefIdeal.main_arg3)
      ∧ r.2.mem ((c.tc : Thread Cert.CdPrepRefIdeal.nD Cert.CdPrepRefIdeal.τ).loc Cert.CdPrepRefIdeal.main_arg4) = m ((c.tc : Thread Cert.CdPrepRefIdeal.nD Cert.CdPrepRefIdeal.τ).loc Cert.CdPrepRefIdeal.main_arg4)
      ∧ r.2.mem ((c.tc : Thread Cert.CdPrepRefIdeal.nD Cert.CdPrepRefIdeal.τ).loc Cert.CdPrepRefIdeal.main_arg5) = m ((c.tc : Thread Cert.CdPrepRefIdeal.nD Cert.CdPrepRefIdeal.τ).loc Cert.CdPrepRefIdeal.main_arg5)
      ∧ r.2.mem ((c.tc : Thread Cert.CdPrepRefIdeal.nD Cert.CdPrepRefIdeal.τ).loc Cert.CdPrepRefIdeal.main_arg6) = m ((c.tc : Thread Cert.CdPrepRefIdeal.nD Cert.CdPrepRefIdeal.τ).loc Cert.CdPrepRefIdeal.main_arg6)
      ∧ r.2.mem ((c.tc : Thread Cert.CdPrepRefIdeal.nD Cert.CdPrepRefIdeal.τ).loc Cert.CdPrepRefIdeal.main_arg7) = m ((c.tc : Thread Cert.CdPrepRefIdeal.nD Cert.CdPrepRefIdeal.τ).loc Cert.CdPrepRefIdeal.main_arg7)
      ∧ r.2.mem ((c.tc : Thread Cert.CdPrepRefIdeal.nD Cert.CdPrepRefIdeal.τ).loc Cert.CdPrepRefIdeal.main_arg8) = m ((c.tc : Thread Cert.CdPrepRefIdeal.nD Cert.CdPrepRefIdeal.τ).loc Cert.CdPrepRefIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InProjTm_InProjTmIdeal : Prop :=
  True

def algebraic_InProjTmIdeal_InProjTmRefIdeal [hInProjTmIdeal : Cert.InProjTmIdeal.Facts] [hInProjTmRefIdeal : Cert.InProjTmRefIdeal.Facts] : Prop :=
  ∀ (m : (ℓ : Loc Cert.InProjTmIdeal.nD Cert.InProjTmIdeal.τ Cert.InProjTmIdeal.sig) → Buf (Elt Ideal) ℓ) (g : Dev Cert.InProjTmIdeal.nD → PrngReg)
    (m' : (ℓ : Loc Cert.InProjTmRefIdeal.nD Cert.InProjTmRefIdeal.τ Cert.InProjTmRefIdeal.sig) → Buf (Elt Ideal) ℓ) (g' : Dev Cert.InProjTmRefIdeal.nD → PrngReg), Pre_InProjTmIdeal m →
    (∀ c : Dev Cert.InProjTmIdeal.nD,
      m' ((c.tc : Thread Cert.InProjTmRefIdeal.nD Cert.InProjTmRefIdeal.τ).loc Cert.InProjTmRefIdeal.main_arg0) = m ((c.tc : Thread Cert.InProjTmIdeal.nD Cert.InProjTmIdeal.τ).loc Cert.InProjTmIdeal.main_arg0)
      ∧ m' ((c.tc : Thread Cert.InProjTmRefIdeal.nD Cert.InProjTmRefIdeal.τ).loc Cert.InProjTmRefIdeal.main_arg1) = m ((c.tc : Thread Cert.InProjTmIdeal.nD Cert.InProjTmIdeal.τ).loc Cert.InProjTmIdeal.main_arg1)) →
    ∃ (v0 : (c : Dev Cert.InProjTmIdeal.nD) → Buf (Elt Ideal) ((c.tc : Thread Cert.InProjTmIdeal.nD Cert.InProjTmIdeal.τ).loc Cert.InProjTmIdeal.main_v2)),
      θ_run (Cert.InProjTmIdeal.defs (F := Ideal)) (onTc (τ := Cert.InProjTmIdeal.τ) (Cert.InProjTmIdeal.main (F := Ideal))) ⟨m, fun _ => 0, g⟩ (fun r => ∀ c : Dev Cert.InProjTmIdeal.nD,
          r.2.mem ((c.tc : Thread Cert.InProjTmIdeal.nD Cert.InProjTmIdeal.τ).loc Cert.InProjTmIdeal.main_v2) = v0 c
          ∧ r.2.mem ((c.tc : Thread Cert.InProjTmIdeal.nD Cert.InProjTmIdeal.τ).loc Cert.InProjTmIdeal.main_arg0) = m ((c.tc : Thread Cert.InProjTmIdeal.nD Cert.InProjTmIdeal.τ).loc Cert.InProjTmIdeal.main_arg0)
          ∧ r.2.mem ((c.tc : Thread Cert.InProjTmIdeal.nD Cert.InProjTmIdeal.τ).loc Cert.InProjTmIdeal.main_arg1) = m ((c.tc : Thread Cert.InProjTmIdeal.nD Cert.InProjTmIdeal.τ).loc Cert.InProjTmIdeal.main_arg1))
      ∧ θ_run (Cert.InProjTmRefIdeal.defs (F := Ideal)) (onTc (τ := Cert.InProjTmRefIdeal.τ) (Cert.InProjTmRefIdeal.main (F := Ideal))) ⟨m', fun _ => 0, g'⟩ (fun r => ∀ c : Dev Cert.InProjTmRefIdeal.nD,
          r.2.mem ((c.tc : Thread Cert.InProjTmRefIdeal.nD Cert.InProjTmRefIdeal.τ).loc Cert.InProjTmRefIdeal.main_v3) = v0 c
          ∧ r.2.mem ((c.tc : Thread Cert.InProjTmRefIdeal.nD Cert.InProjTmRefIdeal.τ).loc Cert.InProjTmRefIdeal.main_arg0) = m' ((c.tc : Thread Cert.InProjTmRefIdeal.nD Cert.InProjTmRefIdeal.τ).loc Cert.InProjTmRefIdeal.main_arg0)
          ∧ r.2.mem ((c.tc : Thread Cert.InProjTmRefIdeal.nD Cert.InProjTmRefIdeal.τ).loc Cert.InProjTmRefIdeal.main_arg1) = m' ((c.tc : Thread Cert.InProjTmRefIdeal.nD Cert.InProjTmRefIdeal.τ).loc Cert.InProjTmRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v16_0)) (v1 : (c : Dev Cert.OutProjIdeal.nD) → Buf (Elt Ideal) ((c.tc : Thread Cert.OutProjIdeal.nD Cert.OutProjIdeal.τ).loc Cert.OutProjIdeal.main_v16_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v16_0) = v0 c
          ∧ r.2.mem ((c.tc : Thread Cert.OutProjIdeal.nD Cert.OutProjIdeal.τ).loc Cert.OutProjIdeal.main_v16_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v29) = v0 c
          ∧ r.2.mem ((c.tc : Thread Cert.OutProjRefIdeal.nD Cert.OutProjRefIdeal.τ).loc Cert.OutProjRefIdeal.main_v30) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7))

def preserves_OutProjTm_OutProjTmIdeal : Prop :=
  True

def algebraic_OutProjTmIdeal_OutProjTmRefIdeal [hOutProjTmIdeal : Cert.OutProjTmIdeal.Facts] [hOutProjTmRefIdeal : Cert.OutProjTmRefIdeal.Facts] : Prop :=
  ∀ (m : (ℓ : Loc Cert.OutProjTmIdeal.nD Cert.OutProjTmIdeal.τ Cert.OutProjTmIdeal.sig) → Buf (Elt Ideal) ℓ) (g : Dev Cert.OutProjTmIdeal.nD → PrngReg)
    (m' : (ℓ : Loc Cert.OutProjTmRefIdeal.nD Cert.OutProjTmRefIdeal.τ Cert.OutProjTmRefIdeal.sig) → Buf (Elt Ideal) ℓ) (g' : Dev Cert.OutProjTmRefIdeal.nD → PrngReg), Pre_OutProjTmIdeal m →
    (∀ c : Dev Cert.OutProjTmIdeal.nD,
      m' ((c.tc : Thread Cert.OutProjTmRefIdeal.nD Cert.OutProjTmRefIdeal.τ).loc Cert.OutProjTmRefIdeal.main_arg0) = m ((c.tc : Thread Cert.OutProjTmIdeal.nD Cert.OutProjTmIdeal.τ).loc Cert.OutProjTmIdeal.main_arg0)
      ∧ m' ((c.tc : Thread Cert.OutProjTmRefIdeal.nD Cert.OutProjTmRefIdeal.τ).loc Cert.OutProjTmRefIdeal.main_arg1) = m ((c.tc : Thread Cert.OutProjTmIdeal.nD Cert.OutProjTmIdeal.τ).loc Cert.OutProjTmIdeal.main_arg1)
      ∧ m' ((c.tc : Thread Cert.OutProjTmRefIdeal.nD Cert.OutProjTmRefIdeal.τ).loc Cert.OutProjTmRefIdeal.main_arg2) = m ((c.tc : Thread Cert.OutProjTmIdeal.nD Cert.OutProjTmIdeal.τ).loc Cert.OutProjTmIdeal.main_arg2)
      ∧ m' ((c.tc : Thread Cert.OutProjTmRefIdeal.nD Cert.OutProjTmRefIdeal.τ).loc Cert.OutProjTmRefIdeal.main_arg3) = m ((c.tc : Thread Cert.OutProjTmIdeal.nD Cert.OutProjTmIdeal.τ).loc Cert.OutProjTmIdeal.main_arg3)
      ∧ m' ((c.tc : Thread Cert.OutProjTmRefIdeal.nD Cert.OutProjTmRefIdeal.τ).loc Cert.OutProjTmRefIdeal.main_arg4) = m ((c.tc : Thread Cert.OutProjTmIdeal.nD Cert.OutProjTmIdeal.τ).loc Cert.OutProjTmIdeal.main_arg4)
      ∧ m' ((c.tc : Thread Cert.OutProjTmRefIdeal.nD Cert.OutProjTmRefIdeal.τ).loc Cert.OutProjTmRefIdeal.main_arg5) = m ((c.tc : Thread Cert.OutProjTmIdeal.nD Cert.OutProjTmIdeal.τ).loc Cert.OutProjTmIdeal.main_arg5)
      ∧ m' ((c.tc : Thread Cert.OutProjTmRefIdeal.nD Cert.OutProjTmRefIdeal.τ).loc Cert.OutProjTmRefIdeal.main_arg6) = m ((c.tc : Thread Cert.OutProjTmIdeal.nD Cert.OutProjTmIdeal.τ).loc Cert.OutProjTmIdeal.main_arg6)
      ∧ m' ((c.tc : Thread Cert.OutProjTmRefIdeal.nD Cert.OutProjTmRefIdeal.τ).loc Cert.OutProjTmRefIdeal.main_arg7) = m ((c.tc : Thread Cert.OutProjTmIdeal.nD Cert.OutProjTmIdeal.τ).loc Cert.OutProjTmIdeal.main_arg7)) →
    ∃ (v0 : (c : Dev Cert.OutProjTmIdeal.nD) → Buf (Elt Ideal) ((c.tc : Thread Cert.OutProjTmIdeal.nD Cert.OutProjTmIdeal.τ).loc Cert.OutProjTmIdeal.main_v18_0)) (v1 : (c : Dev Cert.OutProjTmIdeal.nD) → Buf (Elt Ideal) ((c.tc : Thread Cert.OutProjTmIdeal.nD Cert.OutProjTmIdeal.τ).loc Cert.OutProjTmIdeal.main_v18_1)),
      θ_run (Cert.OutProjTmIdeal.defs (F := Ideal)) (onTc (τ := Cert.OutProjTmIdeal.τ) (Cert.OutProjTmIdeal.main (F := Ideal))) ⟨m, fun _ => 0, g⟩ (fun r => ∀ c : Dev Cert.OutProjTmIdeal.nD,
          r.2.mem ((c.tc : Thread Cert.OutProjTmIdeal.nD Cert.OutProjTmIdeal.τ).loc Cert.OutProjTmIdeal.main_v18_0) = v0 c
          ∧ r.2.mem ((c.tc : Thread Cert.OutProjTmIdeal.nD Cert.OutProjTmIdeal.τ).loc Cert.OutProjTmIdeal.main_v18_1) = v1 c
          ∧ r.2.mem ((c.tc : Thread Cert.OutProjTmIdeal.nD Cert.OutProjTmIdeal.τ).loc Cert.OutProjTmIdeal.main_arg0) = m ((c.tc : Thread Cert.OutProjTmIdeal.nD Cert.OutProjTmIdeal.τ).loc Cert.OutProjTmIdeal.main_arg0)
          ∧ r.2.mem ((c.tc : Thread Cert.OutProjTmIdeal.nD Cert.OutProjTmIdeal.τ).loc Cert.OutProjTmIdeal.main_arg1) = m ((c.tc : Thread Cert.OutProjTmIdeal.nD Cert.OutProjTmIdeal.τ).loc Cert.OutProjTmIdeal.main_arg1)
          ∧ r.2.mem ((c.tc : Thread Cert.OutProjTmIdeal.nD Cert.OutProjTmIdeal.τ).loc Cert.OutProjTmIdeal.main_arg2) = m ((c.tc : Thread Cert.OutProjTmIdeal.nD Cert.OutProjTmIdeal.τ).loc Cert.OutProjTmIdeal.main_arg2)
          ∧ r.2.mem ((c.tc : Thread Cert.OutProjTmIdeal.nD Cert.OutProjTmIdeal.τ).loc Cert.OutProjTmIdeal.main_arg3) = m ((c.tc : Thread Cert.OutProjTmIdeal.nD Cert.OutProjTmIdeal.τ).loc Cert.OutProjTmIdeal.main_arg3)
          ∧ r.2.mem ((c.tc : Thread Cert.OutProjTmIdeal.nD Cert.OutProjTmIdeal.τ).loc Cert.OutProjTmIdeal.main_arg4) = m ((c.tc : Thread Cert.OutProjTmIdeal.nD Cert.OutProjTmIdeal.τ).loc Cert.OutProjTmIdeal.main_arg4)
          ∧ r.2.mem ((c.tc : Thread Cert.OutProjTmIdeal.nD Cert.OutProjTmIdeal.τ).loc Cert.OutProjTmIdeal.main_arg5) = m ((c.tc : Thread Cert.OutProjTmIdeal.nD Cert.OutProjTmIdeal.τ).loc Cert.OutProjTmIdeal.main_arg5)
          ∧ r.2.mem ((c.tc : Thread Cert.OutProjTmIdeal.nD Cert.OutProjTmIdeal.τ).loc Cert.OutProjTmIdeal.main_arg6) = m ((c.tc : Thread Cert.OutProjTmIdeal.nD Cert.OutProjTmIdeal.τ).loc Cert.OutProjTmIdeal.main_arg6)
          ∧ r.2.mem ((c.tc : Thread Cert.OutProjTmIdeal.nD Cert.OutProjTmIdeal.τ).loc Cert.OutProjTmIdeal.main_arg7) = m ((c.tc : Thread Cert.OutProjTmIdeal.nD Cert.OutProjTmIdeal.τ).loc Cert.OutProjTmIdeal.main_arg7))
      ∧ θ_run (Cert.OutProjTmRefIdeal.defs (F := Ideal)) (onTc (τ := Cert.OutProjTmRefIdeal.τ) (Cert.OutProjTmRefIdeal.main (F := Ideal))) ⟨m', fun _ => 0, g'⟩ (fun r => ∀ c : Dev Cert.OutProjTmRefIdeal.nD,
          r.2.mem ((c.tc : Thread Cert.OutProjTmRefIdeal.nD Cert.OutProjTmRefIdeal.τ).loc Cert.OutProjTmRefIdeal.main_v30) = v0 c
          ∧ r.2.mem ((c.tc : Thread Cert.OutProjTmRefIdeal.nD Cert.OutProjTmRefIdeal.τ).loc Cert.OutProjTmRefIdeal.main_v31) = v1 c
          ∧ r.2.mem ((c.tc : Thread Cert.OutProjTmRefIdeal.nD Cert.OutProjTmRefIdeal.τ).loc Cert.OutProjTmRefIdeal.main_arg0) = m' ((c.tc : Thread Cert.OutProjTmRefIdeal.nD Cert.OutProjTmRefIdeal.τ).loc Cert.OutProjTmRefIdeal.main_arg0)
          ∧ r.2.mem ((c.tc : Thread Cert.OutProjTmRefIdeal.nD Cert.OutProjTmRefIdeal.τ).loc Cert.OutProjTmRefIdeal.main_arg1) = m' ((c.tc : Thread Cert.OutProjTmRefIdeal.nD Cert.OutProjTmRefIdeal.τ).loc Cert.OutProjTmRefIdeal.main_arg1)
          ∧ r.2.mem ((c.tc : Thread Cert.OutProjTmRefIdeal.nD Cert.OutProjTmRefIdeal.τ).loc Cert.OutProjTmRefIdeal.main_arg2) = m' ((c.tc : Thread Cert.OutProjTmRefIdeal.nD Cert.OutProjTmRefIdeal.τ).loc Cert.OutProjTmRefIdeal.main_arg2)
          ∧ r.2.mem ((c.tc : Thread Cert.OutProjTmRefIdeal.nD Cert.OutProjTmRefIdeal.τ).loc Cert.OutProjTmRefIdeal.main_arg3) = m' ((c.tc : Thread Cert.OutProjTmRefIdeal.nD Cert.OutProjTmRefIdeal.τ).loc Cert.OutProjTmRefIdeal.main_arg3)
          ∧ r.2.mem ((c.tc : Thread Cert.OutProjTmRefIdeal.nD Cert.OutProjTmRefIdeal.τ).loc Cert.OutProjTmRefIdeal.main_arg4) = m' ((c.tc : Thread Cert.OutProjTmRefIdeal.nD Cert.OutProjTmRefIdeal.τ).loc Cert.OutProjTmRefIdeal.main_arg4)
          ∧ r.2.mem ((c.tc : Thread Cert.OutProjTmRefIdeal.nD Cert.OutProjTmRefIdeal.τ).loc Cert.OutProjTmRefIdeal.main_arg5) = m' ((c.tc : Thread Cert.OutProjTmRefIdeal.nD Cert.OutProjTmRefIdeal.τ).loc Cert.OutProjTmRefIdeal.main_arg5)
          ∧ r.2.mem ((c.tc : Thread Cert.OutProjTmRefIdeal.nD Cert.OutProjTmRefIdeal.τ).loc Cert.OutProjTmRefIdeal.main_arg6) = m' ((c.tc : Thread Cert.OutProjTmRefIdeal.nD Cert.OutProjTmRefIdeal.τ).loc Cert.OutProjTmRefIdeal.main_arg6)
          ∧ r.2.mem ((c.tc : Thread Cert.OutProjTmRefIdeal.nD Cert.OutProjTmRefIdeal.τ).loc Cert.OutProjTmRefIdeal.main_arg7) = m' ((c.tc : Thread Cert.OutProjTmRefIdeal.nD Cert.OutProjTmRefIdeal.τ).loc Cert.OutProjTmRefIdeal.main_arg7))

def preserves_CdPrep_CdPrepIdeal : Prop :=
  True

def algebraic_CdPrepIdeal_CdPrepRefIdeal [hCdPrepIdeal : Cert.CdPrepIdeal.Facts] [hCdPrepRefIdeal : Cert.CdPrepRefIdeal.Facts] : Prop :=
  ∀ (m : (ℓ : Loc Cert.CdPrepIdeal.nD Cert.CdPrepIdeal.τ Cert.CdPrepIdeal.sig) → Buf (Elt Ideal) ℓ) (g : Dev Cert.CdPrepIdeal.nD → PrngReg)
    (m' : (ℓ : Loc Cert.CdPrepRefIdeal.nD Cert.CdPrepRefIdeal.τ Cert.CdPrepRefIdeal.sig) → Buf (Elt Ideal) ℓ) (g' : Dev Cert.CdPrepRefIdeal.nD → PrngReg), Pre_CdPrepIdeal m →
    (∀ c : Dev Cert.CdPrepIdeal.nD,
      m' ((c.tc : Thread Cert.CdPrepRefIdeal.nD Cert.CdPrepRefIdeal.τ).loc Cert.CdPrepRefIdeal.main_arg0) = m ((c.tc : Thread Cert.CdPrepIdeal.nD Cert.CdPrepIdeal.τ).loc Cert.CdPrepIdeal.main_arg0)
      ∧ m' ((c.tc : Thread Cert.CdPrepRefIdeal.nD Cert.CdPrepRefIdeal.τ).loc Cert.CdPrepRefIdeal.main_arg1) = m ((c.tc : Thread Cert.CdPrepIdeal.nD Cert.CdPrepIdeal.τ).loc Cert.CdPrepIdeal.main_arg1)
      ∧ m' ((c.tc : Thread Cert.CdPrepRefIdeal.nD Cert.CdPrepRefIdeal.τ).loc Cert.CdPrepRefIdeal.main_arg2) = m ((c.tc : Thread Cert.CdPrepIdeal.nD Cert.CdPrepIdeal.τ).loc Cert.CdPrepIdeal.main_arg2)
      ∧ m' ((c.tc : Thread Cert.CdPrepRefIdeal.nD Cert.CdPrepRefIdeal.τ).loc Cert.CdPrepRefIdeal.main_arg3) = m ((c.tc : Thread Cert.CdPrepIdeal.nD Cert.CdPrepIdeal.τ).loc Cert.CdPrepIdeal.main_arg3)
      ∧ m' ((c.tc : Thread Cert.CdPrepRefIdeal.nD Cert.CdPrepRefIdeal.τ).loc Cert.CdPrepRefIdeal.main_arg4) = m ((c.tc : Thread Cert.CdPrepIdeal.nD Cert.CdPrepIdeal.τ).loc Cert.CdPrepIdeal.main_arg4)
      ∧ m' ((c.tc : Thread Cert.CdPrepRefIdeal.nD Cert.CdPrepRefIdeal.τ).loc Cert.CdPrepRefIdeal.main_arg5) = m ((c.tc : Thread Cert.CdPrepIdeal.nD Cert.CdPrepIdeal.τ).loc Cert.CdPrepIdeal.main_arg5)
      ∧ m' ((c.tc : Thread Cert.CdPrepRefIdeal.nD Cert.CdPrepRefIdeal.τ).loc Cert.CdPrepRefIdeal.main_arg6) = m ((c.tc : Thread Cert.CdPrepIdeal.nD Cert.CdPrepIdeal.τ).loc Cert.CdPrepIdeal.main_arg6)
      ∧ m' ((c.tc : Thread Cert.CdPrepRefIdeal.nD Cert.CdPrepRefIdeal.τ).loc Cert.CdPrepRefIdeal.main_arg7) = m ((c.tc : Thread Cert.CdPrepIdeal.nD Cert.CdPrepIdeal.τ).loc Cert.CdPrepIdeal.main_arg7)
      ∧ m' ((c.tc : Thread Cert.CdPrepRefIdeal.nD Cert.CdPrepRefIdeal.τ).loc Cert.CdPrepRefIdeal.main_arg8) = m ((c.tc : Thread Cert.CdPrepIdeal.nD Cert.CdPrepIdeal.τ).loc Cert.CdPrepIdeal.main_arg8)) →
    ∃ (v0 : (c : Dev Cert.CdPrepIdeal.nD) → Buf (Elt Ideal) ((c.tc : Thread Cert.CdPrepIdeal.nD Cert.CdPrepIdeal.τ).loc Cert.CdPrepIdeal.main_v74_0)) (v1 : (c : Dev Cert.CdPrepIdeal.nD) → Buf (Elt Ideal) ((c.tc : Thread Cert.CdPrepIdeal.nD Cert.CdPrepIdeal.τ).loc Cert.CdPrepIdeal.main_v74_1)) (v2 : (c : Dev Cert.CdPrepIdeal.nD) → Buf (Elt Ideal) ((c.tc : Thread Cert.CdPrepIdeal.nD Cert.CdPrepIdeal.τ).loc Cert.CdPrepIdeal.main_v74_2)),
      θ_run (Cert.CdPrepIdeal.defs (F := Ideal)) (onTc (τ := Cert.CdPrepIdeal.τ) (Cert.CdPrepIdeal.main (F := Ideal))) ⟨m, fun _ => 0, g⟩ (fun r => ∀ c : Dev Cert.CdPrepIdeal.nD,
          r.2.mem ((c.tc : Thread Cert.CdPrepIdeal.nD Cert.CdPrepIdeal.τ).loc Cert.CdPrepIdeal.main_v74_0) = v0 c
          ∧ r.2.mem ((c.tc : Thread Cert.CdPrepIdeal.nD Cert.CdPrepIdeal.τ).loc Cert.CdPrepIdeal.main_v74_1) = v1 c
          ∧ r.2.mem ((c.tc : Thread Cert.CdPrepIdeal.nD Cert.CdPrepIdeal.τ).loc Cert.CdPrepIdeal.main_v74_2) = v2 c
          ∧ r.2.mem ((c.tc : Thread Cert.CdPrepIdeal.nD Cert.CdPrepIdeal.τ).loc Cert.CdPrepIdeal.main_arg0) = m ((c.tc : Thread Cert.CdPrepIdeal.nD Cert.CdPrepIdeal.τ).loc Cert.CdPrepIdeal.main_arg0)
          ∧ r.2.mem ((c.tc : Thread Cert.CdPrepIdeal.nD Cert.CdPrepIdeal.τ).loc Cert.CdPrepIdeal.main_arg1) = m ((c.tc : Thread Cert.CdPrepIdeal.nD Cert.CdPrepIdeal.τ).loc Cert.CdPrepIdeal.main_arg1)
          ∧ r.2.mem ((c.tc : Thread Cert.CdPrepIdeal.nD Cert.CdPrepIdeal.τ).loc Cert.CdPrepIdeal.main_arg2) = m ((c.tc : Thread Cert.CdPrepIdeal.nD Cert.CdPrepIdeal.τ).loc Cert.CdPrepIdeal.main_arg2)
          ∧ r.2.mem ((c.tc : Thread Cert.CdPrepIdeal.nD Cert.CdPrepIdeal.τ).loc Cert.CdPrepIdeal.main_arg3) = m ((c.tc : Thread Cert.CdPrepIdeal.nD Cert.CdPrepIdeal.τ).loc Cert.CdPrepIdeal.main_arg3)
          ∧ r.2.mem ((c.tc : Thread Cert.CdPrepIdeal.nD Cert.CdPrepIdeal.τ).loc Cert.CdPrepIdeal.main_arg4) = m ((c.tc : Thread Cert.CdPrepIdeal.nD Cert.CdPrepIdeal.τ).loc Cert.CdPrepIdeal.main_arg4)
          ∧ r.2.mem ((c.tc : Thread Cert.CdPrepIdeal.nD Cert.CdPrepIdeal.τ).loc Cert.CdPrepIdeal.main_arg5) = m ((c.tc : Thread Cert.CdPrepIdeal.nD Cert.CdPrepIdeal.τ).loc Cert.CdPrepIdeal.main_arg5)
          ∧ r.2.mem ((c.tc : Thread Cert.CdPrepIdeal.nD Cert.CdPrepIdeal.τ).loc Cert.CdPrepIdeal.main_arg6) = m ((c.tc : Thread Cert.CdPrepIdeal.nD Cert.CdPrepIdeal.τ).loc Cert.CdPrepIdeal.main_arg6)
          ∧ r.2.mem ((c.tc : Thread Cert.CdPrepIdeal.nD Cert.CdPrepIdeal.τ).loc Cert.CdPrepIdeal.main_arg7) = m ((c.tc : Thread Cert.CdPrepIdeal.nD Cert.CdPrepIdeal.τ).loc Cert.CdPrepIdeal.main_arg7)
          ∧ r.2.mem ((c.tc : Thread Cert.CdPrepIdeal.nD Cert.CdPrepIdeal.τ).loc Cert.CdPrepIdeal.main_arg8) = m ((c.tc : Thread Cert.CdPrepIdeal.nD Cert.CdPrepIdeal.τ).loc Cert.CdPrepIdeal.main_arg8))
      ∧ θ_run (Cert.CdPrepRefIdeal.defs (F := Ideal)) (onTc (τ := Cert.CdPrepRefIdeal.τ) (Cert.CdPrepRefIdeal.main (F := Ideal))) ⟨m', fun _ => 0, g'⟩ (fun r => ∀ c : Dev Cert.CdPrepRefIdeal.nD,
          r.2.mem ((c.tc : Thread Cert.CdPrepRefIdeal.nD Cert.CdPrepRefIdeal.τ).loc Cert.CdPrepRefIdeal.main_v48) = v0 c
          ∧ r.2.mem ((c.tc : Thread Cert.CdPrepRefIdeal.nD Cert.CdPrepRefIdeal.τ).loc Cert.CdPrepRefIdeal.main_v50) = v1 c
          ∧ r.2.mem ((c.tc : Thread Cert.CdPrepRefIdeal.nD Cert.CdPrepRefIdeal.τ).loc Cert.CdPrepRefIdeal.main_v52) = v2 c
          ∧ r.2.mem ((c.tc : Thread Cert.CdPrepRefIdeal.nD Cert.CdPrepRefIdeal.τ).loc Cert.CdPrepRefIdeal.main_arg0) = m' ((c.tc : Thread Cert.CdPrepRefIdeal.nD Cert.CdPrepRefIdeal.τ).loc Cert.CdPrepRefIdeal.main_arg0)
          ∧ r.2.mem ((c.tc : Thread Cert.CdPrepRefIdeal.nD Cert.CdPrepRefIdeal.τ).loc Cert.CdPrepRefIdeal.main_arg1) = m' ((c.tc : Thread Cert.CdPrepRefIdeal.nD Cert.CdPrepRefIdeal.τ).loc Cert.CdPrepRefIdeal.main_arg1)
          ∧ r.2.mem ((c.tc : Thread Cert.CdPrepRefIdeal.nD Cert.CdPrepRefIdeal.τ).loc Cert.CdPrepRefIdeal.main_arg2) = m' ((c.tc : Thread Cert.CdPrepRefIdeal.nD Cert.CdPrepRefIdeal.τ).loc Cert.CdPrepRefIdeal.main_arg2)
          ∧ r.2.mem ((c.tc : Thread Cert.CdPrepRefIdeal.nD Cert.CdPrepRefIdeal.τ).loc Cert.CdPrepRefIdeal.main_arg3) = m' ((c.tc : Thread Cert.CdPrepRefIdeal.nD Cert.CdPrepRefIdeal.τ).loc Cert.CdPrepRefIdeal.main_arg3)
          ∧ r.2.mem ((c.tc : Thread Cert.CdPrepRefIdeal.nD Cert.CdPrepRefIdeal.τ).loc Cert.CdPrepRefIdeal.main_arg4) = m' ((c.tc : Thread Cert.CdPrepRefIdeal.nD Cert.CdPrepRefIdeal.τ).loc Cert.CdPrepRefIdeal.main_arg4)
          ∧ r.2.mem ((c.tc : Thread Cert.CdPrepRefIdeal.nD Cert.CdPrepRefIdeal.τ).loc Cert.CdPrepRefIdeal.main_arg5) = m' ((c.tc : Thread Cert.CdPrepRefIdeal.nD Cert.CdPrepRefIdeal.τ).loc Cert.CdPrepRefIdeal.main_arg5)
          ∧ r.2.mem ((c.tc : Thread Cert.CdPrepRefIdeal.nD Cert.CdPrepRefIdeal.τ).loc Cert.CdPrepRefIdeal.main_arg6) = m' ((c.tc : Thread Cert.CdPrepRefIdeal.nD Cert.CdPrepRefIdeal.τ).loc Cert.CdPrepRefIdeal.main_arg6)
          ∧ r.2.mem ((c.tc : Thread Cert.CdPrepRefIdeal.nD Cert.CdPrepRefIdeal.τ).loc Cert.CdPrepRefIdeal.main_arg7) = m' ((c.tc : Thread Cert.CdPrepRefIdeal.nD Cert.CdPrepRefIdeal.τ).loc Cert.CdPrepRefIdeal.main_arg7)
          ∧ r.2.mem ((c.tc : Thread Cert.CdPrepRefIdeal.nD Cert.CdPrepRefIdeal.τ).loc Cert.CdPrepRefIdeal.main_arg8) = m' ((c.tc : Thread Cert.CdPrepRefIdeal.nD Cert.CdPrepRefIdeal.τ).loc Cert.CdPrepRefIdeal.main_arg8))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hInProjTm : Cert.InProjTm.Facts) (hInProjTmIdeal : Cert.InProjTmIdeal.Facts) (hInProjTmRefIdeal : Cert.InProjTmRefIdeal.Facts) (hOutProj : Cert.OutProj.Facts) (hOutProjIdeal : Cert.OutProjIdeal.Facts) (hOutProjRefIdeal : Cert.OutProjRefIdeal.Facts) (hOutProjTm : Cert.OutProjTm.Facts) (hOutProjTmIdeal : Cert.OutProjTmIdeal.Facts) (hOutProjTmRefIdeal : Cert.OutProjTmRefIdeal.Facts) (hCdPrep : Cert.CdPrep.Facts) (hCdPrepIdeal : Cert.CdPrepIdeal.Facts) (hCdPrepRefIdeal : Cert.CdPrepRefIdeal.Facts) (hPre_tables_in_range : Cert.Pre_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal)
    ∧ quiescent_ReferenceIdeal_pre_tables_in_range (hReferenceIdeal := hReferenceIdeal) (hPre_tables_in_range := hPre_tables_in_range)
    ∧ quiescent_InProj (hInProj := hInProj)
    ∧ quiescent_InProjIdeal (hInProjIdeal := hInProjIdeal)
    ∧ quiescent_InProjRefIdeal (hInProjRefIdeal := hInProjRefIdeal)
    ∧ quiescent_InProjTm (hInProjTm := hInProjTm)
    ∧ quiescent_InProjTmIdeal (hInProjTmIdeal := hInProjTmIdeal)
    ∧ quiescent_InProjTmRefIdeal (hInProjTmRefIdeal := hInProjTmRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjTm (hOutProjTm := hOutProjTm)
    ∧ quiescent_OutProjTmIdeal (hOutProjTmIdeal := hOutProjTmIdeal)
    ∧ quiescent_OutProjTmRefIdeal (hOutProjTmRefIdeal := hOutProjTmRefIdeal)
    ∧ quiescent_CdPrep (hCdPrep := hCdPrep)
    ∧ quiescent_CdPrepIdeal (hCdPrepIdeal := hCdPrepIdeal)
    ∧ quiescent_CdPrepRefIdeal (hCdPrepRefIdeal := hCdPrepRefIdeal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_InProj_InProjIdeal
    ∧ algebraic_InProjIdeal_InProjRefIdeal (hInProjIdeal := hInProjIdeal) (hInProjRefIdeal := hInProjRefIdeal)
    ∧ preserves_InProjTm_InProjTmIdeal
    ∧ algebraic_InProjTmIdeal_InProjTmRefIdeal (hInProjTmIdeal := hInProjTmIdeal) (hInProjTmRefIdeal := hInProjTmRefIdeal)
    ∧ preserves_OutProj_OutProjIdeal
    ∧ algebraic_OutProjIdeal_OutProjRefIdeal (hOutProjIdeal := hOutProjIdeal) (hOutProjRefIdeal := hOutProjRefIdeal)
    ∧ preserves_OutProjTm_OutProjTmIdeal
    ∧ algebraic_OutProjTmIdeal_OutProjTmRefIdeal (hOutProjTmIdeal := hOutProjTmIdeal) (hOutProjTmRefIdeal := hOutProjTmRefIdeal)
    ∧ preserves_CdPrep_CdPrepIdeal
    ∧ algebraic_CdPrepIdeal_CdPrepRefIdeal (hCdPrepIdeal := hCdPrepIdeal) (hCdPrepRefIdeal := hCdPrepRefIdeal)
-- ==== Pre_tables_in_range.lean ====
abbrev S32768x1024 : Shape := ⟨2, ![32768, 1024]⟩
abbrev S288x512 : Shape := ⟨2, ![288, 512]⟩
abbrev S288 : Shape := ⟨1, ![288]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩

class Facts : Prop where
  bcast_S_S288x512 : S_.BroadcastsInDim S288x512 (![] : Fin 0 → Fin S288x512.rank)
  bcast_S_S288 : S_.BroadcastsInDim S288 (![] : Fin 0 → Fin S288.rank)
  bcast_S_S1 : S_.BroadcastsInDim S1 (![] : Fin 0 → Fin S1.rank)

variable [Facts]

def fn {F : FTy → Type} [FloatOps F] (main_arg0 : FVec F S32768x1024 .f32) (main_arg1 : IVec S288x512 32) (main_arg2 : FVec F S288x512 .f32) (main_arg3 : IVec S288 32) (main_arg4 : IVec S1 32) (main_arg5 : FVec F S2x32x1024x2048 .f32) (main_arg6 : FVec F S2x32x2048 .f32) (main_arg7 : FVec F S2x32x1024x1024 .f32) (main_arg8 : FVec F S2x32x1024 .f32) : IVec S288x512 1 × IVec S288 1 × IVec S1 1 :=
  let main_c : IVec S_ 32 := constantI S_ 32 0#32
  let main_v0 : IVec S288x512 32 := broadcastInDim S288x512 ![] bcast_S_S288x512 main_c
  let main_v1 : IVec S288x512 1 := cmpi .sge main_arg1 main_v0
  let main_c_0 : IVec S_ 32 := constantI S_ 32 32768#32
  let main_v2 : IVec S288x512 32 := broadcastInDim S288x512 ![] bcast_S_S288x512 main_c_0
  let main_v3 : IVec S288x512 1 := cmpi .slt main_arg1 main_v2
  let main_v4 : IVec S288x512 1 := andi main_v1 main_v3
  let main_c_1 : IVec S_ 32 := constantI S_ 32 0#32
  let main_v5 : IVec S288 32 := broadcastInDim S288 ![] bcast_S_S288 main_c_1
  let main_v6 : IVec S288 1 := cmpi .sge main_arg3 main_v5
  let main_c_2 : IVec S_ 32 := constantI S_ 32 32#32
  let main_v7 : IVec S288 32 := broadcastInDim S288 ![] bcast_S_S288 main_c_2
  let main_v8 : IVec S288 1 := cmpi .slt main_arg3 main_v7
  let main_v9 : IVec S288 1 := andi main_v6 main_v8
  let main_c_3 : IVec S_ 32 := constantI S_ 32 1#32
  let main_v10 : IVec S1 32 := broadcastInDim S1 ![] bcast_S_S1 main_c_3
  let main_v11 : IVec S1 1 := cmpi .sge main_arg4 main_v10
  let main_c_4 : IVec S_ 32 := constantI S_ 32 288#32
  let main_v12 : IVec S1 32 := broadcastInDim S1 ![] bcast_S_S1 main_c_4
  let main_v13 : IVec S1 1 := cmpi .sle main_arg4 main_v12
  let main_v14 : IVec S1 1 := andi main_v11 main_v13
  (main_v4, main_v9, main_v14)
-- ==== Kernel.lean ====
abbrev S32768x1024 : Shape := ⟨2, ![32768, 1024]⟩
abbrev S288x512 : Shape := ⟨2, ![288, 512]⟩
abbrev S288 : Shape := ⟨1, ![288]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S262144x128 : Shape := ⟨2, ![262144, 128]⟩
abbrev S_ : Shape := ⟨0, ![]⟩
abbrev S288x1x512 : Shape := ⟨3, ![288, 1, 512]⟩
abbrev S288x4x128 : Shape := ⟨3, ![288, 4, 128]⟩
abbrev S288x8x128 : Shape := ⟨3, ![288, 8, 128]⟩
abbrev S2x32x1x2048 : Shape := ⟨4, ![2, 32, 1, 2048]⟩
abbrev S2x32x1x1024 : Shape := ⟨4, ![2, 32, 1, 1024]⟩
abbrev S1179648x128 : Shape := ⟨2, ![1179648, 128]⟩
abbrev S1x1x512 : Shape := ⟨3, ![1, 1, 512]⟩
abbrev S1x8x128 : Shape := ⟨3, ![1, 8, 128]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S4096x128 : Shape := ⟨2, ![4096, 128]⟩
abbrev S1024x2048 : Shape := ⟨2, ![1024, 2048]⟩
abbrev S1024x1024 : Shape := ⟨2, ![1024, 1024]⟩
abbrev S2x4096x128 : Shape := ⟨3, ![2, 4096, 128]⟩
abbrev S2 : Shape := ⟨1, ![2]⟩
abbrev S1x1x1 : Shape := ⟨3, ![1, 1, 1]⟩
abbrev S1x4096x128 : Shape := ⟨3, ![1, 4096, 128]⟩
abbrev S8x128 : Shape := ⟨2, ![8, 128]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩
abbrev S128x8 : Shape := ⟨2, ![128, 8]⟩
abbrev S128x1024 : Shape := ⟨2, ![128, 1024]⟩
abbrev S128x1 : Shape := ⟨2, ![128, 1]⟩

abbrev nBuf : Space → Nat
  | .hbm => 19
  | .vmem => 15
  | .smem => 6
  | _ => 0

abbrev bufTy : (tb : Table) → Fin (tcTables nBuf tb) → BufTy
  | .hbm, ⟨0, _⟩ => ⟨S32768x1024, .f32⟩
  | .hbm, ⟨1, _⟩ => ⟨S288x512, .i32⟩
  | .hbm, ⟨2, _⟩ => ⟨S288x512, .f32⟩
  | .hbm, ⟨3, _⟩ => ⟨S2x32x1024x2048, .f32⟩
  | .hbm, ⟨4, _⟩ => ⟨S2x32x2048, .f32⟩
  | .hbm, ⟨5, _⟩ => ⟨S2x32x1024x1024, .f32⟩
  | .hbm, ⟨6, _⟩ => ⟨S2x32x1024, .f32⟩
  | .hbm, ⟨7, _⟩ => ⟨S262144x128, .f32⟩
  | .hbm, ⟨8, _⟩ => ⟨S_, .i32⟩
  | .hbm, ⟨9, _⟩ => ⟨S288x512, .i32⟩
  | .hbm, ⟨10, _⟩ => ⟨S288x512, .i32⟩
  | .hbm, ⟨11, _⟩ => ⟨S288x1x512, .i32⟩
  | .hbm, ⟨12, _⟩ => ⟨S288x4x128, .f32⟩
  | .hbm, ⟨13, _⟩ => ⟨S_, .i32⟩
  | .hbm, ⟨14, _⟩ => ⟨S_, .f32⟩
  | .hbm, ⟨15, _⟩ => ⟨S288x8x128, .f32⟩
  | .hbm, ⟨16, _⟩ => ⟨S2x32x1x2048, .f32⟩
  | .hbm, ⟨17, _⟩ => ⟨S2x32x1x1024, .f32⟩
  | .hbm, ⟨18, _⟩ => ⟨S1179648x128, .f32⟩
  | .local _ .vmem, ⟨0, _⟩ => ⟨S1x8x128, .f32⟩
  | .local _ .vmem, ⟨1, _⟩ => ⟨S1x8x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .vmem, ⟨14, _⟩ => ⟨S2x4096x128, .f32⟩
  | .local _ .smem, ⟨0, _⟩ => ⟨S288, .i32⟩
  | .local _ .smem, ⟨1, _⟩ => ⟨S1, .i32⟩
  | .local _ .smem, ⟨2, _⟩ => ⟨S1x1x512, .i32⟩
  | .local _ .smem, ⟨3, _⟩ => ⟨S1x1x512, .i32⟩
  | .local _ .smem, ⟨4, _⟩ => ⟨S1x1x512, .i32⟩
  | .local _ .smem, ⟨5, _⟩ => ⟨S1x1x512, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_arg3 : Ref sig .tc := ⟨.smem, 0, rfl⟩
abbrev main_arg4 : Ref sig .tc := ⟨.smem, 1, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32 : BitVec 32 := 0#32
  let v4 : BitVec 32 := Scalar.maxsi v3 c0_i32
  let v5 : Index := Scalar.indexCast v4
  ![v5.toNat]
def k0_cond1 (i : grid0.Coords) : BitVec 1 :=
  let arg0 : BitVec 32 := BitVec.ofNat 32 (i 0).val
  let c0_i32_0 : BitVec 32 := 0#32
  let v8 : BitVec 1 := Scalar.cmpi .eq arg0 c0_i32_0
  let v9 : BitVec 32 := Scalar.extui v8
  let c0_i32_1 : BitVec 32 := 0#32
  let v10 : BitVec 1 := Scalar.cmpi .ne v9 c0_i32_1
  v10

@[reducible] def k0_t1_loop : Scf.Loop 32 :=
  let c0_i32_12 : BitVec 32 := 0#32
  let c64_i32 : BitVec 32 := 64#32
  let v30 : BitVec 32 := Scalar.addi c0_i32_12 c64_i32
  let c1_i32_13 : BitVec 32 := 1#32
  ⟨c0_i32_12, v30, c1_i32_13⟩
def k0_mult1 (k0_t1 : Fin k0_t1_loop.trips) : BitVec 32 :=
  let c0_i32_12 : BitVec 32 := 0#32
  let c1_i32_13 : BitVec 32 := 1#32
  let arg16 : BitVec 32 := Scf.iv c0_i32_12 c1_i32_13 k0_t1
  let c64_i32_15 : BitVec 32 := 64#32
  let v31 : BitVec 32 := Scalar.muli arg16 c64_i32_15
  v31
def k0_off3 (k0_t1 : Fin k0_t1_loop.trips) : Fin 3 → Nat :=
  let c0_17 : Index := 0#32
  let c0_18 : Index := 0#32
  let c0_i32_12 : BitVec 32 := 0#32
  let c1_i32_13 : BitVec 32 := 1#32
  let arg16 : BitVec 32 := Scf.iv c0_i32_12 c1_i32_13 k0_t1
  let c8_i32 : BitVec 32 := 8#32
  let v33 : BitVec 32 := Scalar.muli arg16 c8_i32
  let c0_i32_16 : BitVec 32 := 0#32
  let v34 : BitVec 32 := Scalar.addi v33 c0_i32_16
  let v35 : Index := Scalar.indexCast v34
  ![0, 0, v35.toNat]
def k0_mult2 (v36 : BitVec 32) : BitVec 32 :=
  v36

def k0_off4 (k0_t1 : Fin k0_t1_loop.trips) : Fin 2 → Nat :=
  let c0_i32_12 : BitVec 32 := 0#32
  let c1_i32_13 : BitVec 32 := 1#32
  let arg16 : BitVec 32 := Scf.iv c0_i32_12 c1_i32_13 k0_t1
  let c64_i32_15 : BitVec 32 := 64#32
  let v31 : BitVec 32 := Scalar.muli arg16 c64_i32_15
  let v32 : BitVec 32 := v31
  let c0_i32_19 : BitVec 32 := 0#32
  let v38 : BitVec 32 := Scalar.addi v32 c0_i32_19
  let c0_i32_22 : BitVec 32 := 0#32
  ![v38.toNat, 0]
def k0_off5 (v36 : BitVec 32) : Fin 2 → Nat :=
  let v37 : BitVec 32 := v36
  let c0_i32_23 : BitVec 32 := 0#32
  ![v37.toNat, 0]

def k0_chk1 (i : grid0.Coords) (v36 : BitVec 32) : Prop :=
  (∀ (k0_h1 : k0_cond1 i = 1#1), 8 ∣ (k0_mult2 v36).toNat) ∧
  (∀ (k0_h1 : k0_cond1 i = 1#1), ∀ a, (k0_off5 v36) a + S8x128.size a ≤ S262144x128.size a)
theorem k0_mult2_dvd : ∀ (i : grid0.Coords) (v36 : BitVec 32) (k0_hw1 : k0_chk1 i v36), ∀ (k0_h1 : k0_cond1 i = 1#1), 8 ∣ (k0_mult2 v36).toNat := fun i v36 k0_hw1 k0_h1 => k0_hw1.1 k0_h1
theorem k0_off5_inb : ∀ (i : grid0.Coords) (v36 : BitVec 32) (k0_hw1 : k0_chk1 i v36), ∀ (k0_h1 : k0_cond1 i = 1#1), ∀ a, (k0_off5 v36) a + S8x128.size a ≤ S262144x128.size a := fun i v36 k0_hw1 k0_h1 => k0_hw1.2 k0_h1

def k0_off6 (k0_t1 : Fin k0_t1_loop.trips) : Fin 3 → Nat :=
  let c0_26 : Index := 0#32
  let c0_27 : Index := 0#32
  let c0_i32_12 : BitVec 32 := 0#32
  let c1_i32_13 : BitVec 32 := 1#32
  let arg16 : BitVec 32 := Scf.iv c0_i32_12 c1_i32_13 k0_t1
  let c8_i32_24 : BitVec 32 := 8#32
  let v45 : BitVec 32 := Scalar.muli arg16 c8_i32_24
  let c1_i32_25 : BitVec 32 := 1#32
  let v46 : BitVec 32 := Scalar.addi v45 c1_i32_25
  let v47 : Index := Scalar.indexCast v46
  ![0, 0, v47.toNat]
def k0_mult3 (v48 : BitVec 32) : BitVec 32 :=
  v48

def k0_off7 (k0_t1 : Fin k0_t1_loop.trips) : Fin 2 → Nat :=
  let c0_i32_12 : BitVec 32 := 0#32
  let c1_i32_13 : BitVec 32 := 1#32
  let arg16 : BitVec 32 := Scf.iv c0_i32_12 c1_i32_13 k0_t1
  let c64_i32_15 : BitVec 32 := 64#32
  let v31 : BitVec 32 := Scalar.muli arg16 c64_i32_15
  let v32 : BitVec 32 := v31
  let c8_i32_28 : BitVec 32 := 8#32
  let v50 : BitVec 32 := Scalar.addi v32 c8_i32_28
  let c0_i32_31 : BitVec 32 := 0#32
  ![v50.toNat, 0]
def k0_off8 (v48 : BitVec 32) : Fin 2 → Nat :=
  let v49 : BitVec 32 := v48
  let c0_i32_32 : BitVec 32 := 0#32
  ![v49.toNat, 0]

def k0_chk2 (i : grid0.Coords) (v48 : BitVec 32) : Prop :=
  (∀ (k0_h1 : k0_cond1 i = 1#1), 8 ∣ (k0_mult3 v48).toNat) ∧
  (∀ (k0_h1 : k0_cond1 i = 1#1), ∀ a, (k0_off8 v48) a + S8x128.size a ≤ S262144x128.size a)
theorem k0_mult3_dvd : ∀ (i : grid0.Coords) (v48 : BitVec 32) (k0_hw2 : k0_chk2 i v48), ∀ (k0_h1 : k0_cond1 i = 1#1), 8 ∣ (k0_mult3 v48).toNat := fun i v48 k0_hw2 k0_h1 => k0_hw2.1 k0_h1
theorem k0_off8_inb : ∀ (i : grid0.Coords) (v48 : BitVec 32) (k0_hw2 : k0_chk2 i v48), ∀ (k0_h1 : k0_cond1 i = 1#1), ∀ a, (k0_off8 v48) a + S8x128.size a ≤ S262144x128.size a := fun i v48 k0_hw2 k0_h1 => k0_hw2.2 k0_h1

def k0_off9 (k0_t1 : Fin k0_t1_loop.trips) : Fin 3 → Nat :=
  let c0_35 : Index := 0#32
  let c0_36 : Index := 0#32
  let c0_i32_12 : BitVec 32 := 0#32
  let c1_i32_13 : BitVec 32 := 1#32
  let arg16 : BitVec 32 := Scf.iv c0_i32_12 c1_i32_13 k0_t1
  let c8_i32_33 : BitVec 32 := 8#32
  let v57 : BitVec 32 := Scalar.muli arg16 c8_i32_33
  let c2_i32_34 : BitVec 32 := 2#32
  let v58 : BitVec 32 := Scalar.addi v57 c2_i32_34
  let v59 : Index := Scalar.indexCast v58
  ![0, 0, v59.toNat]
def k0_mult4 (v60 : BitVec 32) : BitVec 32 :=
  v60

def k0_off10 (k0_t1 : Fin k0_t1_loop.trips) : Fin 2 → Nat :=
  let c0_i32_12 : BitVec 32 := 0#32
  let c1_i32_13 : BitVec 32 := 1#32
  let arg16 : BitVec 32 := Scf.iv c0_i32_12 c1_i32_13 k0_t1
  let c64_i32_15 : BitVec 32 := 64#32
  let v31 : BitVec 32 := Scalar.muli arg16 c64_i32_15
  let v32 : BitVec 32 := v31
  let c16_i32 : BitVec 32 := 16#32
  let v62 : BitVec 32 := Scalar.addi v32 c16_i32
  let c0_i32_39 : BitVec 32 := 0#32
  ![v62.toNat, 0]
def k0_off11 (v60 : BitVec 32) : Fin 2 → Nat :=
  let v61 : BitVec 32 := v60
  let c0_i32_40 : BitVec 32 := 0#32
  ![v61.toNat, 0]

def k0_chk3 (i : grid0.Coords) (v60 : BitVec 32) : Prop :=
  (∀ (k0_h1 : k0_cond1 i = 1#1), 8 ∣ (k0_mult4 v60).toNat) ∧
  (∀ (k0_h1 : k0_cond1 i = 1#1), ∀ a, (k0_off11 v60) a + S8x128.size a ≤ S262144x128.size a)
theorem k0_mult4_dvd : ∀ (i : grid0.Coords) (v60 : BitVec 32) (k0_hw3 : k0_chk3 i v60), ∀ (k0_h1 : k0_cond1 i = 1#1), 8 ∣ (k0_mult4 v60).toNat := fun i v60 k0_hw3 k0_h1 => k0_hw3.1 k0_h1
theorem k0_off11_inb : ∀ (i : grid0.Coords) (v60 : BitVec 32) (k0_hw3 : k0_chk3 i v60), ∀ (k0_h1 : k0_cond1 i = 1#1), ∀ a, (k0_off11 v60) a + S8x128.size a ≤ S262144x128.size a := fun i v60 k0_hw3 k0_h1 => k0_hw3.2 k0_h1

def k0_off12 (k0_t1 : Fin k0_t1_loop.trips) : Fin 3 → Nat :=
  let c0_42 : Index := 0#32
  let c0_43 : Index := 0#32
  let c0_i32_12 : BitVec 32 := 0#32
  let c1_i32_13 : BitVec 32 := 1#32
  let arg16 : BitVec 32 := Scf.iv c0_i32_12 c1_i32_13 k0_t1
  let c8_i32_41 : BitVec 32 := 8#32
  let v69 : BitVec 32 := Scalar.muli arg16 c8_i32_41
  let c3_i32 : BitVec 32 := 3#32
  let v70 : BitVec 32 := Scalar.addi v69 c3_i32
  let v71 : Index := Scalar.indexCast v70
  ![0, 0, v71.toNat]
def k0_mult5 (v72 : BitVec 32) : BitVec 32 :=
  v72

def k0_off13 (k0_t1 : Fin k0_t1_loop.trips) : Fin 2 → Nat :=
  let c0_i32_12 : BitVec 32 := 0#32
  let c1_i32_13 : BitVec 32 := 1#32
  let arg16 : BitVec 32 := Scf.iv c0_i32_12 c1_i32_13 k0_t1
  let c64_i32_15 : BitVec 32 := 64#32
  let v31 : BitVec 32 := Scalar.muli arg16 c64_i32_15
  let v32 : BitVec 32 := v31
  let c24_i32 : BitVec 32 := 24#32
  let v74 : BitVec 32 := Scalar.addi v32 c24_i32
  let c0_i32_46 : BitVec 32 := 0#32
  ![v74.toNat, 0]
def k0_off14 (v72 : BitVec 32) : Fin 2 → Nat :=
  let v73 : BitVec 32 := v72
  let c0_i32_47 : BitVec 32 := 0#32
  ![v73.toNat, 0]

def k0_chk4 (i : grid0.Coords) (v72 : BitVec 32) : Prop :=
  (∀ (k0_h1 : k0_cond1 i = 1#1), 8 ∣ (k0_mult5 v72).toNat) ∧
  (∀ (k0_h1 : k0_cond1 i = 1#1), ∀ a, (k0_off14 v72) a + S8x128.size a ≤ S262144x128.size a)
theorem k0_mult5_dvd : ∀ (i : grid0.Coords) (v72 : BitVec 32) (k0_hw4 : k0_chk4 i v72), ∀ (k0_h1 : k0_cond1 i = 1#1), 8 ∣ (k0_mult5 v72).toNat := fun i v72 k0_hw4 k0_h1 => k0_hw4.1 k0_h1
theorem k0_off14_inb : ∀ (i : grid0.Coords) (v72 : BitVec 32) (k0_hw4 : k0_chk4 i v72), ∀ (k0_h1 : k0_cond1 i = 1#1), ∀ a, (k0_off14 v72) a + S8x128.size a ≤ S262144x128.size a := fun i v72 k0_hw4 k0_h1 => k0_hw4.2 k0_h1

def k0_off15 (k0_t1 : Fin k0_t1_loop.trips) : Fin 3 → Nat :=
  let c0_49 : Index := 0#32
  let c0_50 : Index := 0#32
  let c0_i32_12 : BitVec 32 := 0#32
  let c1_i32_13 : BitVec 32 := 1#32
  let arg16 : BitVec 32 := Scf.iv c0_i32_12 c1_i32_13 k0_t1
  let c8_i32_48 : BitVec 32 := 8#32
  let v81 : BitVec 32 := Scalar.muli arg16 c8_i32_48
  let c4_i32 : BitVec 32 := 4#32
  let v82 : BitVec 32 := Scalar.addi v81 c4_i32
  let v83 : Index := Scalar.indexCast v82
  ![0, 0, v83.toNat]
def k0_mult6 (v84 : BitVec 32) : BitVec 32 :=
  v84

def k0_off16 (k0_t1 : Fin k0_t1_loop.trips) : Fin 2 → Nat :=
  let c0_i32_12 : BitVec 32 := 0#32
  let c1_i32_13 : BitVec 32 := 1#32
  let arg16 : BitVec 32 := Scf.iv c0_i32_12 c1_i32_13 k0_t1
  let c64_i32_15 : BitVec 32 := 64#32
  let v31 : BitVec 32 := Scalar.muli arg16 c64_i32_15
  let v32 : BitVec 32 := v31
  let c32_i32 : BitVec 32 := 32#32
  let v86 : BitVec 32 := Scalar.addi v32 c32_i32
  let c0_i32_53 : BitVec 32 := 0#32
  ![v86.toNat, 0]
def k0_off17 (v84 : BitVec 32) : Fin 2 → Nat :=
  let v85 : BitVec 32 := v84
  let c0_i32_54 : BitVec 32 := 0#32
  ![v85.toNat, 0]

def k0_chk5 (i : grid0.Coords) (v84 : BitVec 32) : Prop :=
  (∀ (k0_h1 : k0_cond1 i = 1#1), 8 ∣ (k0_mult6 v84).toNat) ∧
  (∀ (k0_h1 : k0_cond1 i = 1#1), ∀ a, (k0_off17 v84) a + S8x128.size a ≤ S262144x128.size a)
theorem k0_mult6_dvd : ∀ (i : grid0.Coords) (v84 : BitVec 32) (k0_hw5 : k0_chk5 i v84), ∀ (k0_h1 : k0_cond1 i = 1#1), 8 ∣ (k0_mult6 v84).toNat := fun i v84 k0_hw5 k0_h1 => k0_hw5.1 k0_h1
theorem k0_off17_inb : ∀ (i : grid0.Coords) (v84 : BitVec 32) (k0_hw5 : k0_chk5 i v84), ∀ (k0_h1 : k0_cond1 i = 1#1), ∀ a, (k0_off17 v84) a + S8x128.size a ≤ S262144x128.size a := fun i v84 k0_hw5 k0_h1 => k0_hw5.2 k0_h1

def k0_off18 (k0_t1 : Fin k0_t1_loop.trips) : Fin 3 → Nat :=
  let c0_56 : Index := 0#32
  let c0_57 : Index := 0#32
  let c0_i32_12 : BitVec 32 := 0#32
  let c1_i32_13 : BitVec 32 := 1#32
  let arg16 : BitVec 32 := Scf.iv c0_i32_12 c1_i32_13 k0_t1
  let c8_i32_55 : BitVec 32 := 8#32
  let v93 : BitVec 32 := Scalar.muli arg16 c8_i32_55
  let c5_i32 : BitVec 32 := 5#32
  let v94 : BitVec 32 := Scalar.addi v93 c5_i32
  let v95 : Index := Scalar.indexCast v94
  ![0, 0, v95.toNat]
def k0_mult7 (v96 : BitVec 32) : BitVec 32 :=
  v96

def k0_off19 (k0_t1 : Fin k0_t1_loop.trips) : Fin 2 → Nat :=
  let c0_i32_12 : BitVec 32 := 0#32
  let c1_i32_13 : BitVec 32 := 1#32
  let arg16 : BitVec 32 := Scf.iv c0_i32_12 c1_i32_13 k0_t1
  let c64_i32_15 : BitVec 32 := 64#32
  let v31 : BitVec 32 := Scalar.muli arg16 c64_i32_15
  let v32 : BitVec 32 := v31
  let c40_i32 : BitVec 32 := 40#32
  let v98 : BitVec 32 := Scalar.addi v32 c40_i32
  let c0_i32_60 : BitVec 32 := 0#32
  ![v98.toNat, 0]
def k0_off20 (v96 : BitVec 32) : Fin 2 → Nat :=
  let v97 : BitVec 32 := v96
  let c0_i32_61 : BitVec 32 := 0#32
  ![v97.toNat, 0]

def k0_chk6 (i : grid0.Coords) (v96 : BitVec 32) : Prop :=
  (∀ (k0_h1 : k0_cond1 i = 1#1), 8 ∣ (k0_mult7 v96).toNat) ∧
  (∀ (k0_h1 : k0_cond1 i = 1#1), ∀ a, (k0_off20 v96) a + S8x128.size a ≤ S262144x128.size a)
theorem k0_mult7_dvd : ∀ (i : grid0.Coords) (v96 : BitVec 32) (k0_hw6 : k0_chk6 i v96), ∀ (k0_h1 : k0_cond1 i = 1#1), 8 ∣ (k0_mult7 v96).toNat := fun i v96 k0_hw6 k0_h1 => k0_hw6.1 k0_h1
theorem k0_off20_inb : ∀ (i : grid0.Coords) (v96 : BitVec 32) (k0_hw6 : k0_chk6 i v96), ∀ (k0_h1 : k0_cond1 i = 1#1), ∀ a, (k0_off20 v96) a + S8x128.size a ≤ S262144x128.size a := fun i v96 k0_hw6 k0_h1 => k0_hw6.2 k0_h1

def k0_off21 (k0_t1 : Fin k0_t1_loop.trips) : Fin 3 → Nat :=
  let c0_63 : Index := 0#32
  let c0_64 : Index := 0#32
  let c0_i32_12 : BitVec 32 := 0#32
  let c1_i32_13 : BitVec 32 := 1#32
  let arg16 : BitVec 32 := Scf.iv c0_i32_12 c1_i32_13 k0_t1
  let c8_i32_62 : BitVec 32 := 8#32
  let v105 : BitVec 32 := Scalar.muli arg16 c8_i32_62
  let c6_i32 : BitVec 32 := 6#32
  let v106 : BitVec 32 := Scalar.addi v105 c6_i32
  let v107 : Index := Scalar.indexCast v106
  ![0, 0, v107.toNat]
def k0_mult8 (v108 : BitVec 32) : BitVec 32 :=
  v108

def k0_off22 (k0_t1 : Fin k0_t1_loop.trips) : Fin 2 → Nat :=
  let c0_i32_12 : BitVec 32 := 0#32
  let c1_i32_13 : BitVec 32 := 1#32
  let arg16 : BitVec 32 := Scf.iv c0_i32_12 c1_i32_13 k0_t1
  let c64_i32_15 : BitVec 32 := 64#32
  let v31 : BitVec 32 := Scalar.muli arg16 c64_i32_15
  let v32 : BitVec 32 := v31
  let c48_i32 : BitVec 32 := 48#32
  let v110 : BitVec 32 := Scalar.addi v32 c48_i32
  let c0_i32_67 : BitVec 32 := 0#32
  ![v110.toNat, 0]
def k0_off23 (v108 : BitVec 32) : Fin 2 → Nat :=
  let v109 : BitVec 32 := v108
  let c0_i32_68 : BitVec 32 := 0#32
  ![v109.toNat, 0]

def k0_chk7 (i : grid0.Coords) (v108 : BitVec 32) : Prop :=
  (∀ (k0_h1 : k0_cond1 i = 1#1), 8 ∣ (k0_mult8 v108).toNat) ∧
  (∀ (k0_h1 : k0_cond1 i = 1#1), ∀ a, (k0_off23 v108) a + S8x128.size a ≤ S262144x128.size a)
theorem k0_mult8_dvd : ∀ (i : grid0.Coords) (v108 : BitVec 32) (k0_hw7 : k0_chk7 i v108), ∀ (k0_h1 : k0_cond1 i = 1#1), 8 ∣ (k0_mult8 v108).toNat := fun i v108 k0_hw7 k0_h1 => k0_hw7.1 k0_h1
theorem k0_off23_inb : ∀ (i : grid0.Coords) (v108 : BitVec 32) (k0_hw7 : k0_chk7 i v108), ∀ (k0_h1 : k0_cond1 i = 1#1), ∀ a, (k0_off23 v108) a + S8x128.size a ≤ S262144x128.size a := fun i v108 k0_hw7 k0_h1 => k0_hw7.2 k0_h1

def k0_off24 (k0_t1 : Fin k0_t1_loop.trips) : Fin 3 → Nat :=
  let c0_70 : Index := 0#32
  let c0_71 : Index := 0#32
  let c0_i32_12 : BitVec 32 := 0#32
  let c1_i32_13 : BitVec 32 := 1#32
  let arg16 : BitVec 32 := Scf.iv c0_i32_12 c1_i32_13 k0_t1
  let c8_i32_69 : BitVec 32 := 8#32
  let v117 : BitVec 32 := Scalar.muli arg16 c8_i32_69
  let c7_i32 : BitVec 32 := 7#32
  let v118 : BitVec 32 := Scalar.addi v117 c7_i32
  let v119 : Index := Scalar.indexCast v118
  ![0, 0, v119.toNat]
def k0_mult9 (v120 : BitVec 32) : BitVec 32 :=
  v120

def k0_off25 (k0_t1 : Fin k0_t1_loop.trips) : Fin 2 → Nat :=
  let c0_i32_12 : BitVec 32 := 0#32
  let c1_i32_13 : BitVec 32 := 1#32
  let arg16 : BitVec 32 := Scf.iv c0_i32_12 c1_i32_13 k0_t1
  let c64_i32_15 : BitVec 32 := 64#32
  let v31 : BitVec 32 := Scalar.muli arg16 c64_i32_15
  let v32 : BitVec 32 := v31
  let c56_i32 : BitVec 32 := 56#32
  let v122 : BitVec 32 := Scalar.addi v32 c56_i32
  let c0_i32_74 : BitVec 32 := 0#32
  ![v122.toNat, 0]
def k0_off26 (v120 : BitVec 32) : Fin 2 → Nat :=
  let v121 : BitVec 32 := v120
  let c0_i32_75 : BitVec 32 := 0#32
  ![v121.toNat, 0]

def k0_chk8 (i : grid0.Coords) (v120 : BitVec 32) : Prop :=
  (∀ (k0_h1 : k0_cond1 i = 1#1), 8 ∣ (k0_mult9 v120).toNat) ∧
  (∀ (k0_h1 : k0_cond1 i = 1#1), ∀ a, (k0_off26 v120) a + S8x128.size a ≤ S262144x128.size a)
theorem k0_mult9_dvd : ∀ (i : grid0.Coords) (v120 : BitVec 32) (k0_hw8 : k0_chk8 i v120), ∀ (k0_h1 : k0_cond1 i = 1#1), 8 ∣ (k0_mult9 v120).toNat := fun i v120 k0_hw8 k0_h1 => k0_hw8.1 k0_h1
theorem k0_off26_inb : ∀ (i : grid0.Coords) (v120 : BitVec 32) (k0_hw8 : k0_chk8 i v120), ∀ (k0_h1 : k0_cond1 i = 1#1), ∀ a, (k0_off26 v120) a + S8x128.size a ≤ S262144x128.size a := fun i v120 k0_hw8 k0_h1 => k0_hw8.2 k0_h1

@[reducible] def k0_t2_loop : Scf.Loop 32 :=
  let c0_i32_12 : BitVec 32 := 0#32
  let c64_i32 : BitVec 32 := 64#32
  let v32 : BitVec 32 := Scalar.addi c0_i32_12 c64_i32
  let c1_i32_13 : BitVec 32 := 1#32
  ⟨c0_i32_12, v32, c1_i32_13⟩
def k0_mult10 (k0_t2 : Fin k0_t2_loop.trips) : BitVec 32 :=
  let c0_i32_12 : BitVec 32 := 0#32
  let c1_i32_13 : BitVec 32 := 1#32
  let arg16 : BitVec 32 := Scf.iv c0_i32_12 c1_i32_13 k0_t2
  let c64_i32_15 : BitVec 32 := 64#32
  let v33 : BitVec 32 := Scalar.muli arg16 c64_i32_15
  v33
def k0_off27 (k0_t2 : Fin k0_t2_loop.trips) : Fin 3 → Nat :=
  let c0_17 : Index := 0#32
  let c0_18 : Index := 0#32
  let c0_i32_12 : BitVec 32 := 0#32
  let c1_i32_13 : BitVec 32 := 1#32
  let arg16 : BitVec 32 := Scf.iv c0_i32_12 c1_i32_13 k0_t2
  let c8_i32 : BitVec 32 := 8#32
  let v35 : BitVec 32 := Scalar.muli arg16 c8_i32
  let c0_i32_16 : BitVec 32 := 0#32
  let v36 : BitVec 32 := Scalar.addi v35 c0_i32_16
  let v37 : Index := Scalar.indexCast v36
  ![0, 0, v37.toNat]
def k0_mult11 (v38 : BitVec 32) : BitVec 32 :=
  v38
def k0_cond2 (i : grid0.Coords) (v0 : BitVec 32) : BitVec 1 :=
  let arg0 : BitVec 32 := BitVec.ofNat 32 (i 0).val
  let c1_i32_2 : BitVec 32 := 1#32
  let v11 : BitVec 32 := Scalar.addi arg0 c1_i32_2
  let v12 : BitVec 1 := Scalar.cmpi .slt v11 v0
  let v13 : BitVec 32 := Scalar.extui v12
  let c0_i32_3 : BitVec 32 := 0#32
  let v14 : BitVec 1 := Scalar.cmpi .ne v13 c0_i32_3
  v14

def k0_off28 (i : grid0.Coords) : Fin 1 → Nat :=
  let c1_i32_11 : BitVec 32 := 1#32
  let arg0 : BitVec 32 := BitVec.ofNat 32 (i 0).val
  let c2_i32 : BitVec 32 := 2#32
  let v7 : BitVec 32 := Scalar.remsi arg0 c2_i32
  let v31 : BitVec 32 := Scalar.subi c1_i32_11 v7
  ![v31.toNat]
def k0_off29 (i : grid0.Coords) : Fin 3 → Nat :=
  let c1_i32_10 : BitVec 32 := 1#32
  let arg0 : BitVec 32 := BitVec.ofNat 32 (i 0).val
  let c2_i32 : BitVec 32 := 2#32
  let v7 : BitVec 32 := Scalar.remsi arg0 c2_i32
  let v30 : BitVec 32 := Scalar.subi c1_i32_10 v7
  let c0_i32_20 : BitVec 32 := 0#32
  let c0_i32_21 : BitVec 32 := 0#32
  ![v30.toNat, 0, 0]
def k0_off30 (k0_t2 : Fin k0_t2_loop.trips) : Fin 2 → Nat :=
  let c0_i32_12 : BitVec 32 := 0#32
  let c1_i32_13 : BitVec 32 := 1#32
  let arg16 : BitVec 32 := Scf.iv c0_i32_12 c1_i32_13 k0_t2
  let c64_i32_15 : BitVec 32 := 64#32
  let v33 : BitVec 32 := Scalar.muli arg16 c64_i32_15
  let v34 : BitVec 32 := v33
  let c0_i32_19 : BitVec 32 := 0#32
  let v40 : BitVec 32 := Scalar.addi v34 c0_i32_19
  let c0_i32_22 : BitVec 32 := 0#32
  ![v40.toNat, 0]
def k0_off31 (v38 : BitVec 32) : Fin 2 → Nat :=
  let v39 : BitVec 32 := v38
  let c0_i32_23 : BitVec 32 := 0#32
  ![v39.toNat, 0]

def k0_chk9 (i : grid0.Coords) (v0 : BitVec 32) (v38 : BitVec 32) : Prop :=
  (∀ (k0_h2 : k0_cond2 i v0 = 1#1), 8 ∣ (k0_mult11 v38).toNat) ∧
  (∀ (k0_h2 : k0_cond2 i v0 = 1#1), ∀ a, (k0_off31 v38) a + S8x128.size a ≤ S262144x128.size a)
theorem k0_mult11_dvd : ∀ (i : grid0.Coords) (v0 : BitVec 32) (v38 : BitVec 32) (k0_hw9 : k0_chk9 i v0 v38), ∀ (k0_h2 : k0_cond2 i v0 = 1#1), 8 ∣ (k0_mult11 v38).toNat := fun i v0 v38 k0_hw9 k0_h2 => k0_hw9.1 k0_h2
theorem k0_off31_inb : ∀ (i : grid0.Coords) (v0 : BitVec 32) (v38 : BitVec 32) (k0_hw9 : k0_chk9 i v0 v38), ∀ (k0_h2 : k0_cond2 i v0 = 1#1), ∀ a, (k0_off31 v38) a + S8x128.size a ≤ S262144x128.size a := fun i v0 v38 k0_hw9 k0_h2 => k0_hw9.2 k0_h2

def k0_off32 (k0_t2 : Fin k0_t2_loop.trips) : Fin 3 → Nat :=
  let c0_26 : Index := 0#32
  let c0_27 : Index := 0#32
  let c0_i32_12 : BitVec 32 := 0#32
  let c1_i32_13 : BitVec 32 := 1#32
  let arg16 : BitVec 32 := Scf.iv c0_i32_12 c1_i32_13 k0_t2
  let c8_i32_24 : BitVec 32 := 8#32
  let v47 : BitVec 32 := Scalar.muli arg16 c8_i32_24
  let c1_i32_25 : BitVec 32 := 1#32
  let v48 : BitVec 32 := Scalar.addi v47 c1_i32_25
  let v49 : Index := Scalar.indexCast v48
  ![0, 0, v49.toNat]
def k0_mult12 (v50 : BitVec 32) : BitVec 32 :=
  v50

def k0_off33 (i : grid0.Coords) : Fin 1 → Nat :=
  let c1_i32_11 : BitVec 32 := 1#32
  let arg0 : BitVec 32 := BitVec.ofNat 32 (i 0).val
  let c2_i32 : BitVec 32 := 2#32
  let v7 : BitVec 32 := Scalar.remsi arg0 c2_i32
  let v31 : BitVec 32 := Scalar.subi c1_i32_11 v7
  ![v31.toNat]
def k0_off34 (i : grid0.Coords) : Fin 3 → Nat :=
  let c1_i32_10 : BitVec 32 := 1#32
  let arg0 : BitVec 32 := BitVec.ofNat 32 (i 0).val
  let c2_i32 : BitVec 32 := 2#32
  let v7 : BitVec 32 := Scalar.remsi arg0 c2_i32
  let v30 : BitVec 32 := Scalar.subi c1_i32_10 v7
  let c0_i32_29 : BitVec 32 := 0#32
  let c0_i32_30 : BitVec 32 := 0#32
  ![v30.toNat, 0, 0]
def k0_off35 (k0_t2 : Fin k0_t2_loop.trips) : Fin 2 → Nat :=
  let c0_i32_12 : BitVec 32 := 0#32
  let c1_i32_13 : BitVec 32 := 1#32
  let arg16 : BitVec 32 := Scf.iv c0_i32_12 c1_i32_13 k0_t2
  let c64_i32_15 : BitVec 32 := 64#32
  let v33 : BitVec 32 := Scalar.muli arg16 c64_i32_15
  let v34 : BitVec 32 := v33
  let c8_i32_28 : BitVec 32 := 8#32
  let v52 : BitVec 32 := Scalar.addi v34 c8_i32_28
  let c0_i32_31 : BitVec 32 := 0#32
  ![v52.toNat, 0]
def k0_off36 (v50 : BitVec 32) : Fin 2 → Nat :=
  let v51 : BitVec 32 := v50
  let c0_i32_32 : BitVec 32 := 0#32
  ![v51.toNat, 0]

def k0_chk10 (i : grid0.Coords) (v0 : BitVec 32) (v50 : BitVec 32) : Prop :=
  (∀ (k0_h2 : k0_cond2 i v0 = 1#1), 8 ∣ (k0_mult12 v50).toNat) ∧
  (∀ (k0_h2 : k0_cond2 i v0 = 1#1), ∀ a, (k0_off36 v50) a + S8x128.size a ≤ S262144x128.size a)
theorem k0_mult12_dvd : ∀ (i : grid0.Coords) (v0 : BitVec 32) (v50 : BitVec 32) (k0_hw10 : k0_chk10 i v0 v50), ∀ (k0_h2 : k0_cond2 i v0 = 1#1), 8 ∣ (k0_mult12 v50).toNat := fun i v0 v50 k0_hw10 k0_h2 => k0_hw10.1 k0_h2
theorem k0_off36_inb : ∀ (i : grid0.Coords) (v0 : BitVec 32) (v50 : BitVec 32) (k0_hw10 : k0_chk10 i v0 v50), ∀ (k0_h2 : k0_cond2 i v0 = 1#1), ∀ a, (k0_off36 v50) a + S8x128.size a ≤ S262144x128.size a := fun i v0 v50 k0_hw10 k0_h2 => k0_hw10.2 k0_h2

def k0_off37 (k0_t2 : Fin k0_t2_loop.trips) : Fin 3 → Nat :=
  let c0_35 : Index := 0#32
  let c0_36 : Index := 0#32
  let c0_i32_12 : BitVec 32 := 0#32
  let c1_i32_13 : BitVec 32 := 1#32
  let arg16 : BitVec 32 := Scf.iv c0_i32_12 c1_i32_13 k0_t2
  let c8_i32_33 : BitVec 32 := 8#32
  let v59 : BitVec 32 := Scalar.muli arg16 c8_i32_33
  let c2_i32_34 : BitVec 32 := 2#32
  let v60 : BitVec 32 := Scalar.addi v59 c2_i32_34
  let v61 : Index := Scalar.indexCast v60
  ![0, 0, v61.toNat]
def k0_mult13 (v62 : BitVec 32) : BitVec 32 :=
  v62

def k0_off38 (i : grid0.Coords) : Fin 1 → Nat :=
  let c1_i32_11 : BitVec 32 := 1#32
  let arg0 : BitVec 32 := BitVec.ofNat 32 (i 0).val
  let c2_i32 : BitVec 32 := 2#32
  let v7 : BitVec 32 := Scalar.remsi arg0 c2_i32
  let v31 : BitVec 32 := Scalar.subi c1_i32_11 v7
  ![v31.toNat]
def k0_off39 (i : grid0.Coords) : Fin 3 → Nat :=
  let c1_i32_10 : BitVec 32 := 1#32
  let arg0 : BitVec 32 := BitVec.ofNat 32 (i 0).val
  let c2_i32 : BitVec 32 := 2#32
  let v7 : BitVec 32 := Scalar.remsi arg0 c2_i32
  let v30 : BitVec 32 := Scalar.subi c1_i32_10 v7
  let c0_i32_37 : BitVec 32 := 0#32
  let c0_i32_38 : BitVec 32 := 0#32
  ![v30.toNat, 0, 0]
def k0_off40 (k0_t2 : Fin k0_t2_loop.trips) : Fin 2 → Nat :=
  let c0_i32_12 : BitVec 32 := 0#32
  let c1_i32_13 : BitVec 32 := 1#32
  let arg16 : BitVec 32 := Scf.iv c0_i32_12 c1_i32_13 k0_t2
  let c64_i32_15 : BitVec 32 := 64#32
  let v33 : BitVec 32 := Scalar.muli arg16 c64_i32_15
  let v34 : BitVec 32 := v33
  let c16_i32 : BitVec 32 := 16#32
  let v64 : BitVec 32 := Scalar.addi v34 c16_i32
  let c0_i32_39 : BitVec 32 := 0#32
  ![v64.toNat, 0]
def k0_off41 (v62 : BitVec 32) : Fin 2 → Nat :=
  let v63 : BitVec 32 := v62
  let c0_i32_40 : BitVec 32 := 0#32
  ![v63.toNat, 0]

def k0_chk11 (i : grid0.Coords) (v0 : BitVec 32) (v62 : BitVec 32) : Prop :=
  (∀ (k0_h2 : k0_cond2 i v0 = 1#1), 8 ∣ (k0_mult13 v62).toNat) ∧
  (∀ (k0_h2 : k0_cond2 i v0 = 1#1), ∀ a, (k0_off41 v62) a + S8x128.size a ≤ S262144x128.size a)
theorem k0_mult13_dvd : ∀ (i : grid0.Coords) (v0 : BitVec 32) (v62 : BitVec 32) (k0_hw11 : k0_chk11 i v0 v62), ∀ (k0_h2 : k0_cond2 i v0 = 1#1), 8 ∣ (k0_mult13 v62).toNat := fun i v0 v62 k0_hw11 k0_h2 => k0_hw11.1 k0_h2
theorem k0_off41_inb : ∀ (i : grid0.Coords) (v0 : BitVec 32) (v62 : BitVec 32) (k0_hw11 : k0_chk11 i v0 v62), ∀ (k0_h2 : k0_cond2 i v0 = 1#1), ∀ a, (k0_off41 v62) a + S8x128.size a ≤ S262144x128.size a := fun i v0 v62 k0_hw11 k0_h2 => k0_hw11.2 k0_h2

def k0_off42 (k0_t2 : Fin k0_t2_loop.trips) : Fin 3 → Nat :=
  let c0_42 : Index := 0#32
  let c0_43 : Index := 0#32
  let c0_i32_12 : BitVec 32 := 0#32
  let c1_i32_13 : BitVec 32 := 1#32
  let arg16 : BitVec 32 := Scf.iv c0_i32_12 c1_i32_13 k0_t2
  let c8_i32_41 : BitVec 32 := 8#32
  let v71 : BitVec 32 := Scalar.muli arg16 c8_i32_41
  let c3_i32 : BitVec 32 := 3#32
  let v72 : BitVec 32 := Scalar.addi v71 c3_i32
  let v73 : Index := Scalar.indexCast v72
  ![0, 0, v73.toNat]
def k0_mult14 (v74 : BitVec 32) : BitVec 32 :=
  v74

def k0_off43 (i : grid0.Coords) : Fin 1 → Nat :=
  let c1_i32_11 : BitVec 32 := 1#32
  let arg0 : BitVec 32 := BitVec.ofNat 32 (i 0).val
  let c2_i32 : BitVec 32 := 2#32
  let v7 : BitVec 32 := Scalar.remsi arg0 c2_i32
  let v31 : BitVec 32 := Scalar.subi c1_i32_11 v7
  ![v31.toNat]
def k0_off44 (i : grid0.Coords) : Fin 3 → Nat :=
  let c1_i32_10 : BitVec 32 := 1#32
  let arg0 : BitVec 32 := BitVec.ofNat 32 (i 0).val
  let c2_i32 : BitVec 32 := 2#32
  let v7 : BitVec 32 := Scalar.remsi arg0 c2_i32
  let v30 : BitVec 32 := Scalar.subi c1_i32_10 v7
  let c0_i32_44 : BitVec 32 := 0#32
  let c0_i32_45 : BitVec 32 := 0#32
  ![v30.toNat, 0, 0]
def k0_off45 (k0_t2 : Fin k0_t2_loop.trips) : Fin 2 → Nat :=
  let c0_i32_12 : BitVec 32 := 0#32
  let c1_i32_13 : BitVec 32 := 1#32
  let arg16 : BitVec 32 := Scf.iv c0_i32_12 c1_i32_13 k0_t2
  let c64_i32_15 : BitVec 32 := 64#32
  let v33 : BitVec 32 := Scalar.muli arg16 c64_i32_15
  let v34 : BitVec 32 := v33
  let c24_i32 : BitVec 32 := 24#32
  let v76 : BitVec 32 := Scalar.addi v34 c24_i32
  let c0_i32_46 : BitVec 32 := 0#32
  ![v76.toNat, 0]
def k0_off46 (v74 : BitVec 32) : Fin 2 → Nat :=
  let v75 : BitVec 32 := v74
  let c0_i32_47 : BitVec 32 := 0#32
  ![v75.toNat, 0]

def k0_chk12 (i : grid0.Coords) (v0 : BitVec 32) (v74 : BitVec 32) : Prop :=
  (∀ (k0_h2 : k0_cond2 i v0 = 1#1), 8 ∣ (k0_mult14 v74).toNat) ∧
  (∀ (k0_h2 : k0_cond2 i v0 = 1#1), ∀ a, (k0_off46 v74) a + S8x128.size a ≤ S262144x128.size a)
theorem k0_mult14_dvd : ∀ (i : grid0.Coords) (v0 : BitVec 32) (v74 : BitVec 32) (k0_hw12 : k0_chk12 i v0 v74), ∀ (k0_h2 : k0_cond2 i v0 = 1#1), 8 ∣ (k0_mult14 v74).toNat := fun i v0 v74 k0_hw12 k0_h2 => k0_hw12.1 k0_h2
theorem k0_off46_inb : ∀ (i : grid0.Coords) (v0 : BitVec 32) (v74 : BitVec 32) (k0_hw12 : k0_chk12 i v0 v74), ∀ (k0_h2 : k0_cond2 i v0 = 1#1), ∀ a, (k0_off46 v74) a + S8x128.size a ≤ S262144x128.size a := fun i v0 v74 k0_hw12 k0_h2 => k0_hw12.2 k0_h2

def k0_off47 (k0_t2 : Fin k0_t2_loop.trips) : Fin 3 → Nat :=
  let c0_49 : Index := 0#32
  let c0_50 : Index := 0#32
  let c0_i32_12 : BitVec 32 := 0#32
  let c1_i32_13 : BitVec 32 := 1#32
  let arg16 : BitVec 32 := Scf.iv c0_i32_12 c1_i32_13 k0_t2
  let c8_i32_48 : BitVec 32 := 8#32
  let v83 : BitVec 32 := Scalar.muli arg16 c8_i32_48
  let c4_i32 : BitVec 32 := 4#32
  let v84 : BitVec 32 := Scalar.addi v83 c4_i32
  let v85 : Index := Scalar.indexCast v84
  ![0, 0, v85.toNat]
def k0_mult15 (v86 : BitVec 32) : BitVec 32 :=
  v86

def k0_off48 (i : grid0.Coords) : Fin 1 → Nat :=
  let c1_i32_11 : BitVec 32 := 1#32
  let arg0 : BitVec 32 := BitVec.ofNat 32 (i 0).val
  let c2_i32 : BitVec 32 := 2#32
  let v7 : BitVec 32 := Scalar.remsi arg0 c2_i32
  let v31 : BitVec 32 := Scalar.subi c1_i32_11 v7
  ![v31.toNat]
def k0_off49 (i : grid0.Coords) : Fin 3 → Nat :=
  let c1_i32_10 : BitVec 32 := 1#32
  let arg0 : BitVec 32 := BitVec.ofNat 32 (i 0).val
  let c2_i32 : BitVec 32 := 2#32
  let v7 : BitVec 32 := Scalar.remsi arg0 c2_i32
  let v30 : BitVec 32 := Scalar.subi c1_i32_10 v7
  let c0_i32_51 : BitVec 32 := 0#32
  let c0_i32_52 : BitVec 32 := 0#32
  ![v30.toNat, 0, 0]
def k0_off50 (k0_t2 : Fin k0_t2_loop.trips) : Fin 2 → Nat :=
  let c0_i32_12 : BitVec 32 := 0#32
  let c1_i32_13 : BitVec 32 := 1#32
  let arg16 : BitVec 32 := Scf.iv c0_i32_12 c1_i32_13 k0_t2
  let c64_i32_15 : BitVec 32 := 64#32
  let v33 : BitVec 32 := Scalar.muli arg16 c64_i32_15
  let v34 : BitVec 32 := v33
  let c32_i32 : BitVec 32 := 32#32
  let v88 : BitVec 32 := Scalar.addi v34 c32_i32
  let c0_i32_53 : BitVec 32 := 0#32
  ![v88.toNat, 0]
def k0_off51 (v86 : BitVec 32) : Fin 2 → Nat :=
  let v87 : BitVec 32 := v86
  let c0_i32_54 : BitVec 32 := 0#32
  ![v87.toNat, 0]

def k0_chk13 (i : grid0.Coords) (v0 : BitVec 32) (v86 : BitVec 32) : Prop :=
  (∀ (k0_h2 : k0_cond2 i v0 = 1#1), 8 ∣ (k0_mult15 v86).toNat) ∧
  (∀ (k0_h2 : k0_cond2 i v0 = 1#1), ∀ a, (k0_off51 v86) a + S8x128.size a ≤ S262144x128.size a)
theorem k0_mult15_dvd : ∀ (i : grid0.Coords) (v0 : BitVec 32) (v86 : BitVec 32) (k0_hw13 : k0_chk13 i v0 v86), ∀ (k0_h2 : k0_cond2 i v0 = 1#1), 8 ∣ (k0_mult15 v86).toNat := fun i v0 v86 k0_hw13 k0_h2 => k0_hw13.1 k0_h2
theorem k0_off51_inb : ∀ (i : grid0.Coords) (v0 : BitVec 32) (v86 : BitVec 32) (k0_hw13 : k0_chk13 i v0 v86), ∀ (k0_h2 : k0_cond2 i v0 = 1#1), ∀ a, (k0_off51 v86) a + S8x128.size a ≤ S262144x128.size a := fun i v0 v86 k0_hw13 k0_h2 => k0_hw13.2 k0_h2

def k0_off52 (k0_t2 : Fin k0_t2_loop.trips) : Fin 3 → Nat :=
  let c0_56 : Index := 0#32
  let c0_57 : Index := 0#32
  let c0_i32_12 : BitVec 32 := 0#32
  let c1_i32_13 : BitVec 32 := 1#32
  let arg16 : BitVec 32 := Scf.iv c0_i32_12 c1_i32_13 k0_t2
  let c8_i32_55 : BitVec 32 := 8#32
  let v95 : BitVec 32 := Scalar.muli arg16 c8_i32_55
  let c5_i32 : BitVec 32 := 5#32
  let v96 : BitVec 32 := Scalar.addi v95 c5_i32
  let v97 : Index := Scalar.indexCast v96
  ![0, 0, v97.toNat]
def k0_mult16 (v98 : BitVec 32) : BitVec 32 :=
  v98

def k0_off53 (i : grid0.Coords) : Fin 1 → Nat :=
  let c1_i32_11 : BitVec 32 := 1#32
  let arg0 : BitVec 32 := BitVec.ofNat 32 (i 0).val
  let c2_i32 : BitVec 32 := 2#32
  let v7 : BitVec 32 := Scalar.remsi arg0 c2_i32
  let v31 : BitVec 32 := Scalar.subi c1_i32_11 v7
  ![v31.toNat]
def k0_off54 (i : grid0.Coords) : Fin 3 → Nat :=
  let c1_i32_10 : BitVec 32 := 1#32
  let arg0 : BitVec 32 := BitVec.ofNat 32 (i 0).val
  let c2_i32 : BitVec 32 := 2#32
  let v7 : BitVec 32 := Scalar.remsi arg0 c2_i32
  let v30 : BitVec 32 := Scalar.subi c1_i32_10 v7
  let c0_i32_58 : BitVec 32 := 0#32
  let c0_i32_59 : BitVec 32 := 0#32
  ![v30.toNat, 0, 0]
def k0_off55 (k0_t2 : Fin k0_t2_loop.trips) : Fin 2 → Nat :=
  let c0_i32_12 : BitVec 32 := 0#32
  let c1_i32_13 : BitVec 32 := 1#32
  let arg16 : BitVec 32 := Scf.iv c0_i32_12 c1_i32_13 k0_t2
  let c64_i32_15 : BitVec 32 := 64#32
  let v33 : BitVec 32 := Scalar.muli arg16 c64_i32_15
  let v34 : BitVec 32 := v33
  let c40_i32 : BitVec 32 := 40#32
  let v100 : BitVec 32 := Scalar.addi v34 c40_i32
  let c0_i32_60 : BitVec 32 := 0#32
  ![v100.toNat, 0]
def k0_off56 (v98 : BitVec 32) : Fin 2 → Nat :=
  let v99 : BitVec 32 := v98
  let c0_i32_61 : BitVec 32 := 0#32
  ![v99.toNat, 0]

def k0_chk14 (i : grid0.Coords) (v0 : BitVec 32) (v98 : BitVec 32) : Prop :=
  (∀ (k0_h2 : k0_cond2 i v0 = 1#1), 8 ∣ (k0_mult16 v98).toNat) ∧
  (∀ (k0_h2 : k0_cond2 i v0 = 1#1), ∀ a, (k0_off56 v98) a + S8x128.size a ≤ S262144x128.size a)
theorem k0_mult16_dvd : ∀ (i : grid0.Coords) (v0 : BitVec 32) (v98 : BitVec 32) (k0_hw14 : k0_chk14 i v0 v98), ∀ (k0_h2 : k0_cond2 i v0 = 1#1), 8 ∣ (k0_mult16 v98).toNat := fun i v0 v98 k0_hw14 k0_h2 => k0_hw14.1 k0_h2
theorem k0_off56_inb : ∀ (i : grid0.Coords) (v0 : BitVec 32) (v98 : BitVec 32) (k0_hw14 : k0_chk14 i v0 v98), ∀ (k0_h2 : k0_cond2 i v0 = 1#1), ∀ a, (k0_off56 v98) a + S8x128.size a ≤ S262144x128.size a := fun i v0 v98 k0_hw14 k0_h2 => k0_hw14.2 k0_h2

def k0_off57 (k0_t2 : Fin k0_t2_loop.trips) : Fin 3 → Nat :=
  let c0_63 : Index := 0#32
  let c0_64 : Index := 0#32
  let c0_i32_12 : BitVec 32 := 0#32
  let c1_i32_13 : BitVec 32 := 1#32
  let arg16 : BitVec 32 := Scf.iv c0_i32_12 c1_i32_13 k0_t2
  let c8_i32_62 : BitVec 32 := 8#32
  let v107 : BitVec 32 := Scalar.muli arg16 c8_i32_62
  let c6_i32 : BitVec 32 := 6#32
  let v108 : BitVec 32 := Scalar.addi v107 c6_i32
  let v109 : Index := Scalar.indexCast v108
  ![0, 0, v109.toNat]
def k0_mult17 (v110 : BitVec 32) : BitVec 32 :=
  v110

def k0_off58 (i : grid0.Coords) : Fin 1 → Nat :=
  let c1_i32_11 : BitVec 32 := 1#32
  let arg0 : BitVec 32 := BitVec.ofNat 32 (i 0).val
  let c2_i32 : BitVec 32 := 2#32
  let v7 : BitVec 32 := Scalar.remsi arg0 c2_i32
  let v31 : BitVec 32 := Scalar.subi c1_i32_11 v7
  ![v31.toNat]
def k0_off59 (i : grid0.Coords) : Fin 3 → Nat :=
  let c1_i32_10 : BitVec 32 := 1#32
  let arg0 : BitVec 32 := BitVec.ofNat 32 (i 0).val
  let c2_i32 : BitVec 32 := 2#32
  let v7 : BitVec 32 := Scalar.remsi arg0 c2_i32
  let v30 : BitVec 32 := Scalar.subi c1_i32_10 v7
  let c0_i32_65 : BitVec 32 := 0#32
  let c0_i32_66 : BitVec 32 := 0#32
  ![v30.toNat, 0, 0]
def k0_off60 (k0_t2 : Fin k0_t2_loop.trips) : Fin 2 → Nat :=
  let c0_i32_12 : BitVec 32 := 0#32
  let c1_i32_13 : BitVec 32 := 1#32
  let arg16 : BitVec 32 := Scf.iv c0_i32_12 c1_i32_13 k0_t2
  let c64_i32_15 : BitVec 32 := 64#32
  let v33 : BitVec 32 := Scalar.muli arg16 c64_i32_15
  let v34 : BitVec 32 := v33
  let c48_i32 : BitVec 32 := 48#32
  let v112 : BitVec 32 := Scalar.addi v34 c48_i32
  let c0_i32_67 : BitVec 32 := 0#32
  ![v112.toNat, 0]
def k0_off61 (v110 : BitVec 32) : Fin 2 → Nat :=
  let v111 : BitVec 32 := v110
  let c0_i32_68 : BitVec 32 := 0#32
  ![v111.toNat, 0]

def k0_chk15 (i : grid0.Coords) (v0 : BitVec 32) (v110 : BitVec 32) : Prop :=
  (∀ (k0_h2 : k0_cond2 i v0 = 1#1), 8 ∣ (k0_mult17 v110).toNat) ∧
  (∀ (k0_h2 : k0_cond2 i v0 = 1#1), ∀ a, (k0_off61 v110) a + S8x128.size a ≤ S262144x128.size a)
theorem k0_mult17_dvd : ∀ (i : grid0.Coords) (v0 : BitVec 32) (v110 : BitVec 32) (k0_hw15 : k0_chk15 i v0 v110), ∀ (k0_h2 : k0_cond2 i v0 = 1#1), 8 ∣ (k0_mult17 v110).toNat := fun i v0 v110 k0_hw15 k0_h2 => k0_hw15.1 k0_h2
theorem k0_off61_inb : ∀ (i : grid0.Coords) (v0 : BitVec 32) (v110 : BitVec 32) (k0_hw15 : k0_chk15 i v0 v110), ∀ (k0_h2 : k0_cond2 i v0 = 1#1), ∀ a, (k0_off61 v110) a + S8x128.size a ≤ S262144x128.size a := fun i v0 v110 k0_hw15 k0_h2 => k0_hw15.2 k0_h2

def k0_off62 (k0_t2 : Fin k0_t2_loop.trips) : Fin 3 → Nat :=
  let c0_70 : Index := 0#32
  let c0_71 : Index := 0#32
  let c0_i32_12 : BitVec 32 := 0#32
  let c1_i32_13 : BitVec 32 := 1#32
  let arg16 : BitVec 32 := Scf.iv c0_i32_12 c1_i32_13 k0_t2
  let c8_i32_69 : BitVec 32 := 8#32
  let v119 : BitVec 32 := Scalar.muli arg16 c8_i32_69
  let c7_i32 : BitVec 32 := 7#32
  let v120 : BitVec 32 := Scalar.addi v119 c7_i32
  let v121 : Index := Scalar.indexCast v120
  ![0, 0, v121.toNat]
def k0_mult18 (v122 : BitVec 32) : BitVec 32 :=
  v122

def k0_off63 (i : grid0.Coords) : Fin 1 → Nat :=
  let c1_i32_11 : BitVec 32 := 1#32
  let arg0 : BitVec 32 := BitVec.ofNat 32 (i 0).val
  let c2_i32 : BitVec 32 := 2#32
  let v7 : BitVec 32 := Scalar.remsi arg0 c2_i32
  let v31 : BitVec 32 := Scalar.subi c1_i32_11 v7
  ![v31.toNat]
def k0_off64 (i : grid0.Coords) : Fin 3 → Nat :=
  let c1_i32_10 : BitVec 32 := 1#32
  let arg0 : BitVec 32 := BitVec.ofNat 32 (i 0).val
  let c2_i32 : BitVec 32 := 2#32
  let v7 : BitVec 32 := Scalar.remsi arg0 c2_i32
  let v30 : BitVec 32 := Scalar.subi c1_i32_10 v7
  let c0_i32_72 : BitVec 32 := 0#32
  let c0_i32_73 : BitVec 32 := 0#32
  ![v30.toNat, 0, 0]
def k0_off65 (k0_t2 : Fin k0_t2_loop.trips) : Fin 2 → Nat :=
  let c0_i32_12 : BitVec 32 := 0#32
  let c1_i32_13 : BitVec 32 := 1#32
  let arg16 : BitVec 32 := Scf.iv c0_i32_12 c1_i32_13 k0_t2
  let c64_i32_15 : BitVec 32 := 64#32
  let v33 : BitVec 32 := Scalar.muli arg16 c64_i32_15
  let v34 : BitVec 32 := v33
  let c56_i32 : BitVec 32 := 56#32
  let v124 : BitVec 32 := Scalar.addi v34 c56_i32
  let c0_i32_74 : BitVec 32 := 0#32
  ![v124.toNat, 0]
def k0_off66 (v122 : BitVec 32) : Fin 2 → Nat :=
  let v123 : BitVec 32 := v122
  let c0_i32_75 : BitVec 32 := 0#32
  ![v123.toNat, 0]

def k0_chk16 (i : grid0.Coords) (v0 : BitVec 32) (v122 : BitVec 32) : Prop :=
  (∀ (k0_h2 : k0_cond2 i v0 = 1#1), 8 ∣ (k0_mult18 v122).toNat) ∧
  (∀ (k0_h2 : k0_cond2 i v0 = 1#1), ∀ a, (k0_off66 v122) a + S8x128.size a ≤ S262144x128.size a)
theorem k0_mult18_dvd : ∀ (i : grid0.Coords) (v0 : BitVec 32) (v122 : BitVec 32) (k0_hw16 : k0_chk16 i v0 v122), ∀ (k0_h2 : k0_cond2 i v0 = 1#1), 8 ∣ (k0_mult18 v122).toNat := fun i v0 v122 k0_hw16 k0_h2 => k0_hw16.1 k0_h2
theorem k0_off66_inb : ∀ (i : grid0.Coords) (v0 : BitVec 32) (v122 : BitVec 32) (k0_hw16 : k0_chk16 i v0 v122), ∀ (k0_h2 : k0_cond2 i v0 = 1#1), ∀ a, (k0_off66 v122) a + S8x128.size a ≤ S262144x128.size a := fun i v0 v122 k0_hw16 k0_h2 => k0_hw16.2 k0_h2

def k0_off67 (i : grid0.Coords) : Fin 1 → Nat :=
  let arg0 : BitVec 32 := BitVec.ofNat 32 (i 0).val
  let c2_i32 : BitVec 32 := 2#32
  let v7 : BitVec 32 := Scalar.remsi arg0 c2_i32
  ![v7.toNat]
def k0_off68 (i : grid0.Coords) : Fin 3 → Nat :=
  let arg0 : BitVec 32 := BitVec.ofNat 32 (i 0).val
  let c2_i32 : BitVec 32 := 2#32
  let v7 : BitVec 32 := Scalar.remsi arg0 c2_i32
  let c0_i32_10 : BitVec 32 := 0#32
  let c0_i32_11 : BitVec 32 := 0#32
  ![v7.toNat, 0, 0]
def k0_cond4 (i : grid0.Coords) (v0 : BitVec 32) : BitVec 1 :=
  let arg0 : BitVec 32 := BitVec.ofNat 32 (i 0).val
  let v20 : BitVec 1 := Scalar.cmpi .slt arg0 v0
  let c0_i32_6 : BitVec 32 := 0#32
  let v21 : BitVec 1 := Scalar.cmpi .eq arg0 c0_i32_6
  let v22 : BitVec 1 := Scalar.ori v20 v21
  let v23 : BitVec 32 := Scalar.extui v22
  let c0_i32_7 : BitVec 32 := 0#32
  let v24 : BitVec 1 := Scalar.cmpi .ne v23 c0_i32_7
  v24

def k0_cond5 (i : grid0.Coords) (v0 : BitVec 32) : BitVec 1 :=
  let arg0 : BitVec 32 := BitVec.ofNat 32 (i 0).val
  let v25 : BitVec 1 := Scalar.cmpi .sge arg0 v0
  let c0_i32_8 : BitVec 32 := 0#32
  let v26 : BitVec 1 := Scalar.cmpi .sgt arg0 c0_i32_8
  let v27 : BitVec 1 := Scalar.andi v25 v26
  let v28 : BitVec 32 := Scalar.extui v27
  let c0_i32_9 : BitVec 32 := 0#32
  let v29 : BitVec 1 := Scalar.cmpi .ne v28 c0_i32_9
  v29

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c287_i32 : BitVec 32 := 287#32
  let v1 : BitVec 32 := Scalar.minsi v0 c287_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32768x1024 : Shape := ⟨2, ![32768, 1024]⟩
abbrev S288x512 : Shape := ⟨2, ![288, 512]⟩
abbrev S288 : Shape := ⟨1, ![288]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩
abbrev S288x512x1 : Shape := ⟨3, ![288, 512, 1]⟩
abbrev S288x512x1024 : Shape := ⟨3, ![288, 512, 1024]⟩
abbrev S1x32x1024x2048 : Shape := ⟨4, ![1, 32, 1024, 2048]⟩
abbrev S32x1024x2048 : Shape := ⟨3, ![32, 1024, 2048]⟩
abbrev S288x1 : Shape := ⟨2, ![288, 1]⟩
abbrev S288x1024x2048 : Shape := ⟨3, ![288, 1024, 2048]⟩
abbrev S288x512x2048 : Shape := ⟨3, ![288, 512, 2048]⟩
abbrev S1x32x2048 : Shape := ⟨3, ![1, 32, 2048]⟩
abbrev S32x2048 : Shape := ⟨2, ![32, 2048]⟩
abbrev S288x2048 : Shape := ⟨2, ![288, 2048]⟩
abbrev S288x1x2048 : Shape := ⟨3, ![288, 1, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S1x32x1024 : Shape := ⟨3, ![1, 32, 1024]⟩
abbrev S32x1024 : Shape := ⟨2, ![32, 1024]⟩
abbrev S288x1024 : Shape := ⟨2, ![288, 1024]⟩
abbrev S288x1x1024 : Shape := ⟨3, ![288, 1, 1024]⟩
abbrev S288x1x1 : Shape := ⟨3, ![288, 1, 1]⟩
abbrev S1179648x128 : Shape := ⟨2, ![1179648, 128]⟩

abbrev nBuf : Space → Nat
  | .hbm => 113
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S288x512, .i32⟩
  | .hbm, ⟨2, _⟩ => ⟨S288x512, .f32⟩
  | .hbm, ⟨3, _⟩ => ⟨S288, .i32⟩
  | .hbm, ⟨4, _⟩ => ⟨S1, .i32⟩
  | .hbm, ⟨5, _⟩ => ⟨S2x32x1024x2048, .f32⟩
  | .hbm, ⟨6, _⟩ => ⟨S2x32x2048, .f32⟩
  | .hbm, ⟨7, _⟩ => ⟨S2x32x1024x1024, .f32⟩
  | .hbm, ⟨8, _⟩ => ⟨S2x32x1024, .f32⟩
  | .hbm, ⟨9, _⟩ => ⟨S_, .i32⟩
  | .hbm, ⟨10, _⟩ => ⟨S288x512, .i32⟩
  | .hbm, ⟨11, _⟩ => ⟨S288x512, .i1⟩
  | .hbm, ⟨12, _⟩ => ⟨S_, .i32⟩
  | .hbm, ⟨13, _⟩ => ⟨S288x512, .i32⟩
  | .hbm, ⟨14, _⟩ => ⟨S288x512, .i32⟩
  | .hbm, ⟨15, _⟩ => ⟨S288x512, .i32⟩
  | .hbm, ⟨16, _⟩ => ⟨S288x512x1, .i32⟩
  | .hbm, ⟨17, _⟩ => ⟨S288x512x1024, .f32⟩
  | .hbm, ⟨18, _⟩ => ⟨S1x32x1024x2048, .f32⟩
  | .hbm, ⟨19, _⟩ => ⟨S32x1024x2048, .f32⟩
  | .hbm, ⟨20, _⟩ => ⟨S_, .i32⟩
  | .hbm, ⟨21, _⟩ => ⟨S288, .i32⟩
  | .hbm, ⟨22, _⟩ => ⟨S288, .i1⟩
  | .hbm, ⟨23, _⟩ => ⟨S_, .i32⟩
  | .hbm, ⟨24, _⟩ => ⟨S288, .i32⟩
  | .hbm, ⟨25, _⟩ => ⟨S288, .i32⟩
  | .hbm, ⟨26, _⟩ => ⟨S288, .i32⟩
  | .hbm, ⟨27, _⟩ => ⟨S288x1, .i32⟩
  | .hbm, ⟨28, _⟩ => ⟨S288x1024x2048, .f32⟩
  | .hbm, ⟨29, _⟩ => ⟨S288x512x2048, .f32⟩
  | .hbm, ⟨30, _⟩ => ⟨S1x32x2048, .f32⟩
  | .hbm, ⟨31, _⟩ => ⟨S32x2048, .f32⟩
  | .hbm, ⟨32, _⟩ => ⟨S_, .i32⟩
  | .hbm, ⟨33, _⟩ => ⟨S288, .i32⟩
  | .hbm, ⟨34, _⟩ => ⟨S288, .i1⟩
  | .hbm, ⟨35, _⟩ => ⟨S_, .i32⟩
  | .hbm, ⟨36, _⟩ => ⟨S288, .i32⟩
  | .hbm, ⟨37, _⟩ => ⟨S288, .i32⟩
  | .hbm, ⟨38, _⟩ => ⟨S288, .i32⟩
  | .hbm, ⟨39, _⟩ => ⟨S288x1, .i32⟩
  | .hbm, ⟨40, _⟩ => ⟨S288x2048, .f32⟩
  | .hbm, ⟨41, _⟩ => ⟨S288x1x2048, .f32⟩
  | .hbm, ⟨42, _⟩ => ⟨S288x512x2048, .f32⟩
  | .hbm, ⟨43, _⟩ => ⟨S288x512x2048, .f32⟩
  | .hbm, ⟨44, _⟩ => ⟨S288x512x1024, .f32⟩
  | .hbm, ⟨45, _⟩ => ⟨S_, .f32⟩
  | .hbm, ⟨46, _⟩ => ⟨S288x512x1024, .f32⟩
  | .hbm, ⟨47, _⟩ => ⟨S288x512x1024, .f32⟩
  | .hbm, ⟨48, _⟩ => ⟨S288x512x1024, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S288x512x1024, .f32⟩
  | .hbm, ⟨53, _⟩ => ⟨S288x512x1024, .f32⟩
  | .hbm, ⟨54, _⟩ => ⟨S_, .f32⟩
  | .hbm, ⟨55, _⟩ => ⟨S288x512x1024, .f32⟩
  | .hbm, ⟨56, _⟩ => ⟨S288x512x1024, .f32⟩
  | .hbm, ⟨57, _⟩ => ⟨S_, .f32⟩
  | .hbm, ⟨58, _⟩ => ⟨S288x512x1024, .f32⟩
  | .hbm, ⟨59, _⟩ => ⟨S288x512x1024, .f32⟩
  | .hbm, ⟨60, _⟩ => ⟨S288x512x1024, .f32⟩
  | .hbm, ⟨61, _⟩ => ⟨S288x512x1024, .f32⟩
  | .hbm, ⟨62, _⟩ => ⟨S_, .f32⟩
  | .hbm, ⟨63, _⟩ => ⟨S288x512x1024, .f32⟩
  | .hbm, ⟨64, _⟩ => ⟨S288x512x1024, .f32⟩
  | .hbm, ⟨65, _⟩ => ⟨S_, .f32⟩
  | .hbm, ⟨66, _⟩ => ⟨S288x512x1024, .f32⟩
  | .hbm, ⟨67, _⟩ => ⟨S288x512x1024, .f32⟩
  | .hbm, ⟨68, _⟩ => ⟨S288x512x1024, .f32⟩
  | .hbm, ⟨69, _⟩ => ⟨S_, .f32⟩
  | .hbm, ⟨70, _⟩ => ⟨S288x512x1024, .f32⟩
  | .hbm, ⟨71, _⟩ => ⟨S288x512x1024, .f32⟩
  | .hbm, ⟨72, _⟩ => ⟨S288x512x1024, .f32⟩
  | .hbm, ⟨73, _⟩ => ⟨S1x32x1024x1024, .f32⟩
  | .hbm, ⟨74, _⟩ => ⟨S32x1024x1024, .f32⟩
  | .hbm, ⟨75, _⟩ => ⟨S_, .i32⟩
  | .hbm, ⟨76, _⟩ => ⟨S288, .i32⟩
  | .hbm, ⟨77, _⟩ => ⟨S288, .i1⟩
  | .hbm, ⟨78, _⟩ => ⟨S_, .i32⟩
  | .hbm, ⟨79, _⟩ => ⟨S288, .i32⟩
  | .hbm, ⟨80, _⟩ => ⟨S288, .i32⟩
  | .hbm, ⟨81, _⟩ => ⟨S288, .i32⟩
  | .hbm, ⟨82, _⟩ => ⟨S288x1, .i32⟩
  | .hbm, ⟨83, _⟩ => ⟨S288x1024x1024, .f32⟩
  | .hbm, ⟨84, _⟩ => ⟨S288x512x1024, .f32⟩
  | .hbm, ⟨85, _⟩ => ⟨S1x32x1024, .f32⟩
  | .hbm, ⟨86, _⟩ => ⟨S32x1024, .f32⟩
  | .hbm, ⟨87, _⟩ => ⟨S_, .i32⟩
  | .hbm, ⟨88, _⟩ => ⟨S288, .i32⟩
  | .hbm, ⟨89, _⟩ => ⟨S288, .i1⟩
  | .hbm, ⟨90, _⟩ => ⟨S_, .i32⟩
  | .hbm, ⟨91, _⟩ => ⟨S288, .i32⟩
  | .hbm, ⟨92, _⟩ => ⟨S288, .i32⟩
  | .hbm, ⟨93, _⟩ => ⟨S288, .i32⟩
  | .hbm, ⟨94, _⟩ => ⟨S288x1, .i32⟩
  | .hbm, ⟨95, _⟩ => ⟨S288x1024, .f32⟩
  | .hbm, ⟨96, _⟩ => ⟨S288x1x1024, .f32⟩
  | .hbm, ⟨97, _⟩ => ⟨S288x512x1024, .f32⟩
  | .hbm, ⟨98, _⟩ => ⟨S288x512x1024, .f32⟩
  | .hbm, ⟨99, _⟩ => ⟨S288, .i32⟩
  | .hbm, ⟨100, _⟩ => ⟨S288x1x1, .i32⟩
  | .hbm, ⟨101, _⟩ => ⟨S_, .i32⟩
  | .hbm, ⟨102, _⟩ => ⟨S288x1x1, .i32⟩
  | .hbm, ⟨103, _⟩ => ⟨S288x1x1, .i1⟩
  | .hbm, ⟨104, _⟩ => ⟨S288x512x1, .f32⟩
  | .hbm, ⟨105, _⟩ => ⟨S288x512x1024, .f32⟩
  | .hbm, ⟨106, _⟩ => ⟨S288x512x1024, .f32⟩
  | .hbm, ⟨107, _⟩ => ⟨S_, .f32⟩
  | .hbm, ⟨108, _⟩ => ⟨S_, .f32⟩
  | .hbm, ⟨109, _⟩ => ⟨S288x512x1024, .i1⟩
  | .hbm, ⟨110, _⟩ => ⟨S288x512x1024, .f32⟩
  | .hbm, ⟨111, _⟩ => ⟨S288x512x1024, .f32⟩
  | .hbm, ⟨112, _⟩ => ⟨S1179648x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_cst_6 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_11 : Ref sig .tc := ⟨.hbm, 75, rfl⟩
abbrev main_v48 : Ref sig .tc := ⟨.hbm, 76, rfl⟩
abbrev main_v49 : Ref sig .tc := ⟨.hbm, 77, rfl⟩
abbrev main_c_12 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_13 : Ref sig .tc := ⟨.hbm, 87, rfl⟩
abbrev main_v58 : Ref sig .tc := ⟨.hbm, 88, rfl⟩
abbrev main_v59 : Ref sig .tc := ⟨.hbm, 89, rfl⟩
abbrev main_c_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v76 : Ref sig .tc := ⟨.hbm, 111, rfl⟩
abbrev main_v77 : Ref sig .tc := ⟨.hbm, 112, rfl⟩

abbrev nD : Nat := 1
abbrev τ : Topo := Topo.v7x

variable {F : FTy → Type} [FloatOps F]
-- ==== InProj.lean ====
abbrev S8x4096x1024 : Shape := ⟨3, ![8, 4096, 1024]⟩
abbrev S1x1024x2560 : Shape := ⟨3, ![1, 1024, 2560]⟩
abbrev S1024x2560 : Shape := ⟨2, ![1024, 2560]⟩
abbrev S8x4096x2560 : Shape := ⟨3, ![8, 4096, 2560]⟩
abbrev S1x512x1024 : Shape := ⟨3, ![1, 512, 1024]⟩
abbrev S1x512x2560 : Shape := ⟨3, ![1, 512, 2560]⟩
abbrev S512x1024 : Shape := ⟨2, ![512, 1024]⟩
abbrev S512x2560 : Shape := ⟨2, ![512, 2560]⟩

abbrev nBuf : Space → Nat
  | .hbm => 5
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S1x1024x2560, .f32⟩
  | .hbm, ⟨2, _⟩ => ⟨S1024x2560, .f32⟩
  | .hbm, ⟨3, _⟩ => ⟨S1024x2560, .bf16⟩
  | .hbm, ⟨4, _⟩ => ⟨S8x4096x2560, .f32⟩
  | .local _ .vmem, ⟨0, _⟩ => ⟨S1x512x1024, .f32⟩
  | .local _ .vmem, ⟨1, _⟩ => ⟨S1x512x1024, .f32⟩
  | .local _ .vmem, ⟨2, _⟩ => ⟨S1024x2560, .bf16⟩
  | .local _ .vmem, ⟨3, _⟩ => ⟨S1x512x2560, .f32⟩
  | .local _ .vmem, ⟨4, _⟩ => ⟨S1x512x2560, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8x4096x1024 : Shape := ⟨3, ![8, 4096, 1024]⟩
abbrev S1x1024x2560 : Shape := ⟨3, ![1, 1024, 2560]⟩
abbrev S1024x2560 : Shape := ⟨2, ![1024, 2560]⟩
abbrev S8x4096x2560 : Shape := ⟨3, ![8, 4096, 2560]⟩

abbrev nBuf : Space → Nat
  | .hbm => 4
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x2560, .f32⟩
  | .hbm, ⟨2, _⟩ => ⟨S1024x2560, .f32⟩
  | .hbm, ⟨3, _⟩ => ⟨S8x4096x2560, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InProjTm.lean ====
abbrev S8x4096x1024 : Shape := ⟨3, ![8, 4096, 1024]⟩
abbrev S1x1024x1536 : Shape := ⟨3, ![1, 1024, 1536]⟩
abbrev S1024x1536 : Shape := ⟨2, ![1024, 1536]⟩
abbrev S32768x1536 : Shape := ⟨2, ![32768, 1536]⟩
abbrev S8x128x1024 : Shape := ⟨3, ![8, 128, 1024]⟩
abbrev S12x1024x128 : Shape := ⟨3, ![12, 1024, 128]⟩
abbrev S1x128x1024 : Shape := ⟨3, ![1, 128, 1024]⟩
abbrev S128x1024 : Shape := ⟨2, ![128, 1024]⟩
abbrev S128x1536 : Shape := ⟨2, ![128, 1536]⟩
abbrev S128x128 : Shape := ⟨2, ![128, 128]⟩
abbrev S1x128x128 : Shape := ⟨3, ![1, 128, 128]⟩
abbrev S1x1024x128 : Shape := ⟨3, ![1, 1024, 128]⟩
abbrev S1024x128 : Shape := ⟨2, ![1024, 128]⟩

abbrev nBuf : Space → Nat
  | .hbm => 5
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1x1024x1536, .f32⟩
  | .hbm, ⟨2, _⟩ => ⟨S1024x1536, .f32⟩
  | .hbm, ⟨3, _⟩ => ⟨S1024x1536, .bf16⟩
  | .hbm, ⟨4, _⟩ => ⟨S32768x1536, .f32⟩
  | .local _ .vmem, ⟨0, _⟩ => ⟨S8x128x1024, .f32⟩
  | .local _ .vmem, ⟨1, _⟩ => ⟨S8x128x1024, .f32⟩
  | .local _ .vmem, ⟨2, _⟩ => ⟨S1024x1536, .bf16⟩
  | .local _ .vmem, ⟨3, _⟩ => ⟨S1024x1536, .f32⟩
  | .local _ .vmem, ⟨4, _⟩ => ⟨S1024x1536, .f32⟩
  | .local _ .vmem, ⟨5, _⟩ => ⟨S12x1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InProjTmRefIdeal.lean ====
abbrev S8x4096x1024 : Shape := ⟨3, ![8, 4096, 1024]⟩
abbrev S1x1024x1536 : Shape := ⟨3, ![1, 1024, 1536]⟩
abbrev S1024x1536 : Shape := ⟨2, ![1024, 1536]⟩
abbrev S8x4096x1536 : Shape := ⟨3, ![8, 4096, 1536]⟩
abbrev S4096x8x1536 : Shape := ⟨3, ![4096, 8, 1536]⟩
abbrev S32768x1536 : Shape := ⟨2, ![32768, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x1536, .f32⟩
  | .hbm, ⟨2, _⟩ => ⟨S1024x1536, .f32⟩
  | .hbm, ⟨3, _⟩ => ⟨S8x4096x1536, .f32⟩
  | .hbm, ⟨4, _⟩ => ⟨S4096x8x1536, .f32⟩
  | .hbm, ⟨5, _⟩ => ⟨S32768x1536, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S8x4096x512 : Shape := ⟨3, ![8, 4096, 512]⟩
abbrev S8x4096x1024 : Shape := ⟨3, ![8, 4096, 1024]⟩
abbrev S1x1024x1024 : Shape := ⟨3, ![1, 1024, 1024]⟩
abbrev S1024 : Shape := ⟨1, ![1024]⟩
abbrev S1024x32 : Shape := ⟨2, ![1024, 32]⟩
abbrev S32 : Shape := ⟨1, ![32]⟩
abbrev S1024x1024 : Shape := ⟨2, ![1024, 1024]⟩
abbrev S512x1024 : Shape := ⟨2, ![512, 1024]⟩
abbrev S32x1024 : Shape := ⟨2, ![32, 1024]⟩
abbrev S_ : Shape := ⟨0, ![]⟩
abbrev S512x512 : Shape := ⟨2, ![512, 512]⟩
abbrev S1x1024 : Shape := ⟨2, ![1, 1024]⟩
abbrev S32x1 : Shape := ⟨2, ![32, 1]⟩
abbrev S262144x128 : Shape := ⟨2, ![262144, 128]⟩
abbrev S16x32768 : Shape := ⟨2, ![16, 32768]⟩
abbrev S1x512x512 : Shape := ⟨3, ![1, 512, 512]⟩
abbrev S1x512x1024 : Shape := ⟨3, ![1, 512, 1024]⟩
abbrev S4096x128 : Shape := ⟨2, ![4096, 128]⟩
abbrev S16x512 : Shape := ⟨2, ![16, 512]⟩
abbrev S512 : Shape := ⟨1, ![512]⟩
abbrev S512x1 : Shape := ⟨2, ![512, 1]⟩
abbrev S512x128 : Shape := ⟨2, ![512, 128]⟩
abbrev S32x512 : Shape := ⟨2, ![32, 512]⟩
abbrev S1x512 : Shape := ⟨2, ![1, 512]⟩

abbrev nBuf : Space → Nat
  | .hbm => 37
  | .vmem => 21
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S1x1024x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S8x4096x512, .bf16⟩
  | .hbm, ⟨9, _⟩ => ⟨S8x4096x512, .bf16⟩
  | .hbm, ⟨10, _⟩ => ⟨S1024x1024, .f32⟩
  | .hbm, ⟨11, _⟩ => ⟨S1024x1024, .bf16⟩
  | .hbm, ⟨12, _⟩ => ⟨S512x1024, .bf16⟩
  | .hbm, ⟨13, _⟩ => ⟨S512x1024, .bf16⟩
  | .hbm, ⟨14, _⟩ => ⟨S32x1024, .f32⟩
  | .hbm, ⟨15, _⟩ => ⟨S32x1024, .bf16⟩
  | .hbm, ⟨16, _⟩ => ⟨S32x1024, .f32⟩
  | .hbm, ⟨17, _⟩ => ⟨S32x1024, .f32⟩
  | .hbm, ⟨18, _⟩ => ⟨S32x1024, .bf16⟩
  | .hbm, ⟨19, _⟩ => ⟨S_, .bf16⟩
  | .hbm, ⟨20, _⟩ => ⟨S512x512, .bf16⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i32⟩
  | .hbm, ⟨25, _⟩ => ⟨S512x512, .i32⟩
  | .hbm, ⟨26, _⟩ => ⟨S512x512, .i1⟩
  | .hbm, ⟨27, _⟩ => ⟨S_, .bf16⟩
  | .hbm, ⟨28, _⟩ => ⟨S512x512, .bf16⟩
  | .hbm, ⟨29, _⟩ => ⟨S512x512, .bf16⟩
  | .hbm, ⟨30, _⟩ => ⟨S1x1024, .f32⟩
  | .hbm, ⟨31, _⟩ => ⟨S1x1024, .f32⟩
  | .hbm, ⟨32, _⟩ => ⟨S32x1, .f32⟩
  | .hbm, ⟨33, _⟩ => ⟨S8x4096x1024, .f32⟩
  | .hbm, ⟨34, _⟩ => ⟨S262144x128, .f32⟩
  | .hbm, ⟨35, _⟩ => ⟨S16x32768, .f32⟩
  | .hbm, ⟨36, _⟩ => ⟨S32x1, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1024, .f32⟩
  | .local _ .vmem, ⟨9, _⟩ => ⟨S1x1024, .f32⟩
  | .local _ .vmem, ⟨10, _⟩ => ⟨S32x1024, .bf16⟩
  | .local _ .vmem, ⟨11, _⟩ => ⟨S32x1024, .bf16⟩
  | .local _ .vmem, ⟨12, _⟩ => ⟨S32x1, .f32⟩
  | .local _ .vmem, ⟨13, _⟩ => ⟨S512x512, .bf16⟩
  | .local _ .vmem, ⟨14, _⟩ => ⟨S1x512x1024, .f32⟩
  | .local _ .vmem, ⟨15, _⟩ => ⟨S1x512x1024, .f32⟩
  | .local _ .vmem, ⟨16, _⟩ => ⟨S4096x128, .f32⟩
  | .local _ .vmem, ⟨17, _⟩ => ⟨S4096x128, .f32⟩
  | .local _ .vmem, ⟨18, _⟩ => ⟨S16x512, .f32⟩
  | .local _ .vmem, ⟨19, _⟩ => ⟨S16x512, .f32⟩
  | .local _ .vmem, ⟨20, _⟩ => ⟨S32x1, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_cst : Ref sig .tc := ⟨.hbm, 27, rfl⟩
abbrev main_call0_v5 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v16_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S32x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== OutProjRefIdeal.lean ====
abbrev S8x4096x512 : Shape := ⟨3, ![8, 4096, 512]⟩
abbrev S8x4096x1024 : Shape := ⟨3, ![8, 4096, 1024]⟩
abbrev S1x1024x1024 : Shape := ⟨3, ![1, 1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x1024 : Shape := ⟨2, ![1024, 1024]⟩
abbrev S8x4096 : Shape := ⟨2, ![8, 4096]⟩
abbrev S8x4096x1 : Shape := ⟨3, ![8, 4096, 1]⟩
abbrev S1x1x1024 : Shape := ⟨3, ![1, 1, 1024]⟩
abbrev S262144x128 : Shape := ⟨2, ![262144, 128]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S1x1024x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S_, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S1024x1024, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S8x4096x1, .f32⟩
  | .hbm, ⟨36, _⟩ => ⟨S8x4096x1024, .f32⟩
  | .hbm, ⟨37, _⟩ => ⟨S8x4096x1024, .f32⟩
  | .hbm, ⟨38, _⟩ => ⟨S1x1x1024, .f32⟩
  | .hbm, ⟨39, _⟩ => ⟨S8x4096x1024, .f32⟩
  | .hbm, ⟨40, _⟩ => ⟨S8x4096x1024, .f32⟩
  | .hbm, ⟨41, _⟩ => ⟨S1x1x1024, .f32⟩
  | .hbm, ⟨42, _⟩ => ⟨S8x4096x1024, .f32⟩
  | .hbm, ⟨43, _⟩ => ⟨S8x4096x1024, .f32⟩
  | .hbm, ⟨44, _⟩ => ⟨S262144x128, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== OutProjTm.lean ====
abbrev S4096x8x512 : Shape := ⟨3, ![4096, 8, 512]⟩
abbrev S8x4096x1024 : Shape := ⟨3, ![8, 4096, 1024]⟩
abbrev S1x1024x1024 : Shape := ⟨3, ![1, 1024, 1024]⟩
abbrev S1024 : Shape := ⟨1, ![1024]⟩
abbrev S1024x32 : Shape := ⟨2, ![1024, 32]⟩
abbrev S32 : Shape := ⟨1, ![32]⟩
abbrev S1024x1024 : Shape := ⟨2, ![1024, 1024]⟩
abbrev S512x1024 : Shape := ⟨2, ![512, 1024]⟩
abbrev S32x1024 : Shape := ⟨2, ![32, 1024]⟩
abbrev S_ : Shape := ⟨0, ![]⟩
abbrev S512x512 : Shape := ⟨2, ![512, 512]⟩
abbrev S4096x4096 : Shape := ⟨2, ![4096, 4096]⟩
abbrev S1x1024 : Shape := ⟨2, ![1, 1024]⟩
abbrev S32x1 : Shape := ⟨2, ![32, 1]⟩
abbrev S262144x128 : Shape := ⟨2, ![262144, 128]⟩
abbrev S16x32768 : Shape := ⟨2, ![16, 32768]⟩
abbrev S1x512x1024 : Shape := ⟨3, ![1, 512, 1024]⟩
abbrev S4096x128 : Shape := ⟨2, ![4096, 128]⟩
abbrev S16x512 : Shape := ⟨2, ![16, 512]⟩
abbrev S512 : Shape := ⟨1, ![512]⟩
abbrev S512x1 : Shape := ⟨2, ![512, 1]⟩
abbrev S512x128 : Shape := ⟨2, ![512, 128]⟩
abbrev S32x512 : Shape := ⟨2, ![32, 512]⟩
abbrev S1x512 : Shape := ⟨2, ![1, 512]⟩

abbrev nBuf : Space → Nat
  | .hbm => 39
  | .vmem => 21
  | .smem => 0
  | _ => 0

abbrev bufTy : (tb : Table) → Fin (tcTables nBuf tb) → BufTy
  | .hbm, ⟨0, _⟩ => ⟨S4096x8x512, .f32⟩
  | .hbm, ⟨1, _⟩ => ⟨S4096x8x512, .f32⟩
  | .hbm, ⟨2, _⟩ => ⟨S8x4096x1024, .f32⟩
  | .hbm, ⟨3, _⟩ => ⟨S1x1024x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S4096x8x512, .bf16⟩
  | .hbm, ⟨9, _⟩ => ⟨S4096x8x512, .bf16⟩
  | .hbm, ⟨10, _⟩ => ⟨S1024x1024, .f32⟩
  | .hbm, ⟨11, _⟩ => ⟨S1024x1024, .bf16⟩
  | .hbm, ⟨12, _⟩ => ⟨S512x1024, .bf16⟩
  | .hbm, ⟨13, _⟩ => ⟨S512x1024, .bf16⟩
  | .hbm, ⟨14, _⟩ => ⟨S32x1024, .f32⟩
  | .hbm, ⟨15, _⟩ => ⟨S32x1024, .bf16⟩
  | .hbm, ⟨16, _⟩ => ⟨S32x1024, .f32⟩
  | .hbm, ⟨17, _⟩ => ⟨S32x1024, .f32⟩
  | .hbm, ⟨18, _⟩ => ⟨S32x1024, .bf16⟩
  | .hbm, ⟨19, _⟩ => ⟨S_, .bf16⟩
  | .hbm, ⟨20, _⟩ => ⟨S512x512, .bf16⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i32⟩
  | .hbm, ⟨25, _⟩ => ⟨S512x512, .i32⟩
  | .hbm, ⟨26, _⟩ => ⟨S512x512, .i1⟩
  | .hbm, ⟨27, _⟩ => ⟨S_, .bf16⟩
  | .hbm, ⟨28, _⟩ => ⟨S512x512, .bf16⟩
  | .hbm, ⟨29, _⟩ => ⟨S512x512, .bf16⟩
  | .hbm, ⟨30, _⟩ => ⟨S4096x4096, .bf16⟩
  | .hbm, ⟨31, _⟩ => ⟨S4096x4096, .bf16⟩
  | .hbm, ⟨32, _⟩ => ⟨S1x1024, .f32⟩
  | .hbm, ⟨33, _⟩ => ⟨S1x1024, .f32⟩
  | .hbm, ⟨34, _⟩ => ⟨S32x1, .f32⟩
  | .hbm, ⟨35, _⟩ => ⟨S8x4096x1024, .f32⟩
  | .hbm, ⟨36, _⟩ => ⟨S262144x128, .f32⟩
  | .hbm, ⟨37, _⟩ => ⟨S16x32768, .f32⟩
  | .hbm, ⟨38, _⟩ => ⟨S32x1, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1024, .f32⟩
  | .local _ .vmem, ⟨9, _⟩ => ⟨S1x1024, .f32⟩
  | .local _ .vmem, ⟨10, _⟩ => ⟨S32x1024, .bf16⟩
  | .local _ .vmem, ⟨11, _⟩ => ⟨S32x1024, .bf16⟩
  | .local _ .vmem, ⟨12, _⟩ => ⟨S32x1, .f32⟩
  | .local _ .vmem, ⟨13, _⟩ => ⟨S512x512, .bf16⟩
  | .local _ .vmem, ⟨14, _⟩ => ⟨S1x512x1024, .f32⟩
  | .local _ .vmem, ⟨15, _⟩ => ⟨S1x512x1024, .f32⟩
  | .local _ .vmem, ⟨16, _⟩ => ⟨S4096x128, .f32⟩
  | .local _ .vmem, ⟨17, _⟩ => ⟨S4096x128, .f32⟩
  | .local _ .vmem, ⟨18, _⟩ => ⟨S16x512, .f32⟩
  | .local _ .vmem, ⟨19, _⟩ => ⟨S16x512, .f32⟩
  | .local _ .vmem, ⟨20, _⟩ => ⟨S32x1, .f32⟩
  | _, _ => ⟨S4096x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_cst : Ref sig .tc := ⟨.hbm, 27, rfl⟩
abbrev main_call0_v5 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev main_v18_2 : Ref sig .tc := ⟨.hbm, 37, rfl⟩
abbrev main_v18_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S32x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== OutProjTmRefIdeal.lean ====
abbrev S4096x8x512 : Shape := ⟨3, ![4096, 8, 512]⟩
abbrev S8x4096x1024 : Shape := ⟨3, ![8, 4096, 1024]⟩
abbrev S1x1024x1024 : Shape := ⟨3, ![1, 1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S4096x8x1024 : Shape := ⟨3, ![4096, 8, 1024]⟩
abbrev S1024x1024 : Shape := ⟨2, ![1024, 1024]⟩
abbrev S8x4096 : Shape := ⟨2, ![8, 4096]⟩
abbrev S8x4096x1 : Shape := ⟨3, ![8, 4096, 1]⟩
abbrev S1x1x1024 : Shape := ⟨3, ![1, 1, 1024]⟩
abbrev S262144x128 : Shape := ⟨2, ![262144, 128]⟩

abbrev nBuf : Space → Nat
  | .hbm => 46
  | .vmem => 0
  | .smem => 0
  | _ => 0

abbrev bufTy : (tb : Table) → Fin (tcTables nBuf tb) → BufTy
  | .hbm, ⟨0, _⟩ => ⟨S4096x8x512, .f32⟩
  | .hbm, ⟨1, _⟩ => ⟨S4096x8x512, .f32⟩
  | .hbm, ⟨2, _⟩ => ⟨S8x4096x1024, .f32⟩
  | .hbm, ⟨3, _⟩ => ⟨S1x1024x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S_, .f32⟩
  | .hbm, ⟨9, _⟩ => ⟨S8x4096x1024, .f32⟩
  | .hbm, ⟨10, _⟩ => ⟨S8x4096x1024, .f32⟩
  | .hbm, ⟨11, _⟩ => ⟨S4096x8x1024, .f32⟩
  | .hbm, ⟨12, _⟩ => ⟨S8x4096x1024, .f32⟩
  | .hbm, ⟨13, _⟩ => ⟨S1024x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S262144x128, .f32⟩
  | _, _ => ⟨S4096x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== CdPrep.lean ====
abbrev S8x4096x2560 : Shape := ⟨3, ![8, 4096, 2560]⟩
abbrev S8x4096 : Shape := ⟨2, ![8, 4096]⟩
abbrev S1x4x512 : Shape := ⟨3, ![1, 4, 512]⟩
abbrev S1x512 : Shape := ⟨2, ![1, 512]⟩
abbrev S1x4x128x128 : Shape := ⟨4, ![1, 4, 128, 128]⟩
abbrev S1x1536x8 : Shape := ⟨3, ![1, 1536, 8]⟩
abbrev S1x8 : Shape := ⟨2, ![1, 8]⟩
abbrev S4x512 : Shape := ⟨2, ![4, 512]⟩
abbrev S512 : Shape := ⟨1, ![512]⟩
abbrev S4x128x128 : Shape := ⟨3, ![4, 128, 128]⟩
abbrev S1536x8 : Shape := ⟨2, ![1536, 8]⟩
abbrev S8 : Shape := ⟨1, ![8]⟩
abbrev S16 : Shape := ⟨1, ![16]⟩
abbrev S_ : Shape := ⟨0, ![]⟩
abbrev S1x128 : Shape := ⟨2, ![1, 128]⟩
abbrev S1 : Shape := ⟨1, ![1]⟩
abbrev S2 : Shape := ⟨1, ![2]⟩
abbrev S3x512x128 : Shape := ⟨3, ![3, 512, 128]⟩
abbrev S3x512x8 : Shape := ⟨3, ![3, 512, 8]⟩
abbrev S8x4096x1 : Shape := ⟨3, ![8, 4096, 1]⟩
abbrev S4x1x512 : Shape := ⟨3, ![4, 1, 512]⟩
abbrev S4x128x1x128 : Shape := ⟨4, ![4, 128, 1, 128]⟩
abbrev S4x4 : Shape := ⟨2, ![4, 4]⟩
abbrev S4x1x4x1 : Shape := ⟨4, ![4, 1, 4, 1]⟩
abbrev S4x128x4x128 : Shape := ⟨4, ![4, 128, 4, 128]⟩
abbrev S512x512 : Shape := ⟨2, ![512, 512]⟩
abbrev S8x4096x512 : Shape := ⟨3, ![8, 4096, 512]⟩
abbrev S8x4096x128 : Shape := ⟨3, ![8, 4096, 128]⟩
abbrev S1x512x512 : Shape := ⟨3, ![1, 512, 512]⟩
abbrev S1x512x1 : Shape := ⟨3, ![1, 512, 1]⟩
abbrev S1x512x128 : Shape := ⟨3, ![1, 512, 128]⟩
abbrev S8x512 : Shape := ⟨2, ![8, 512]⟩
abbrev S520x512 : Shape := ⟨2, ![520, 512]⟩
abbrev S1x1x512 : Shape := ⟨3, ![1, 1, 512]⟩
abbrev S512x128 : Shape := ⟨2, ![512, 128]⟩
abbrev S512x1 : Shape := ⟨2, ![512, 1]⟩

abbrev nBuf : Space → Nat
  | .hbm => 104
  | .vmem => 29
  | .smem => 0
  | _ => 0

abbrev bufTy : (tb : Table) → Fin (tcTables nBuf tb) → BufTy
  | .hbm, ⟨0, _⟩ => ⟨S8x4096x2560, .f32⟩
  | .hbm, ⟨1, _⟩ => ⟨S8x4096, .i32⟩
  | .hbm, ⟨2, _⟩ => ⟨S1x4x512, .f32⟩
  | .hbm, ⟨3, _⟩ => ⟨S1x512, .f32⟩
  | .hbm, ⟨4, _⟩ => ⟨S1x4x128x128, .f32⟩
  | .hbm, ⟨5, _⟩ => ⟨S1x4x128x128, .f32⟩
  | .hbm, ⟨6, _⟩ => ⟨S1x4x128x128, .f32⟩
  | .hbm, ⟨7, _⟩ => ⟨S1x1536x8, .f32⟩
  | .hbm, ⟨8, _⟩ => ⟨S1x8, .f32⟩
  | .hbm, ⟨9, _⟩ => ⟨S4x512, .f32⟩
  | .hbm, ⟨10, _⟩ => ⟨S512, .f32⟩
  | .hbm, ⟨11, _⟩ => ⟨S4x128x128, .f32⟩
  | .hbm, ⟨12, _⟩ => ⟨S4x128x128, .f32⟩
  | .hbm, ⟨13, _⟩ => ⟨S4x128x128, .f32⟩
  | .hbm, ⟨14, _⟩ => ⟨S1536x8, .f32⟩
  | .hbm, ⟨15, _⟩ => ⟨S8, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S1x128, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S1x128, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x128, .f32⟩
  | .hbm, ⟨38, _⟩ => ⟨S_, .f32⟩
  | .hbm, ⟨39, _⟩ => ⟨S3x512x128, .f32⟩
  | .hbm, ⟨40, _⟩ => ⟨S3x512x8, .f32⟩
  | .hbm, ⟨41, _⟩ => ⟨S_, .i32⟩
  | .hbm, ⟨42, _⟩ => ⟨S1, .i32⟩
  | .hbm, ⟨43, _⟩ => ⟨S3x512x128, .f32⟩
  | .hbm, ⟨44, _⟩ => ⟨S_, .f32⟩
  | .hbm, ⟨45, _⟩ => ⟨S1x128, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S1x128, .f32⟩
  | .hbm, ⟨52, _⟩ => ⟨S8x4096x1, .i32⟩
  | .hbm, ⟨53, _⟩ => ⟨S4x1x512, .f32⟩
  | .hbm, ⟨54, _⟩ => ⟨S1x512, .f32⟩
  | .hbm, ⟨55, _⟩ => ⟨S4x128x1x128, .f32⟩
  | .hbm, ⟨56, _⟩ => ⟨S4x4, .i32⟩
  | .hbm, ⟨57, _⟩ => ⟨S4x4, .i32⟩
  | .hbm, ⟨58, _⟩ => ⟨S_, .i32⟩
  | .hbm, ⟨59, _⟩ => ⟨S4x4, .i32⟩
  | .hbm, ⟨60, _⟩ => ⟨S4x4, .i32⟩
  | .hbm, ⟨61, _⟩ => ⟨S4x4, .i1⟩
  | .hbm, ⟨62, _⟩ => ⟨S4x4, .f32⟩
  | .hbm, ⟨63, _⟩ => ⟨S4x1x4x1, .f32⟩
  | .hbm, ⟨64, _⟩ => ⟨S4x128x4x128, .f32⟩
  | .hbm, ⟨65, _⟩ => ⟨S4x128x4x128, .f32⟩
  | .hbm, ⟨66, _⟩ => ⟨S4x128x4x128, .f32⟩
  | .hbm, ⟨67, _⟩ => ⟨S512x512, .f32⟩
  | .hbm, ⟨68, _⟩ => ⟨S512x512, .bf16⟩
  | .hbm, ⟨69, _⟩ => ⟨S4x128x1x128, .f32⟩
  | .hbm, ⟨70, _⟩ => ⟨S4x4, .i32⟩
  | .hbm, ⟨71, _⟩ => ⟨S4x4, .i32⟩
  | .hbm, ⟨72, _⟩ => ⟨S_, .i32⟩
  | .hbm, ⟨73, _⟩ => ⟨S4x4, .i32⟩
  | .hbm, ⟨74, _⟩ => ⟨S4x4, .i32⟩
  | .hbm, ⟨75, _⟩ => ⟨S4x4, .i1⟩
  | .hbm, ⟨76, _⟩ => ⟨S4x4, .f32⟩
  | .hbm, ⟨77, _⟩ => ⟨S4x1x4x1, .f32⟩
  | .hbm, ⟨78, _⟩ => ⟨S4x128x4x128, .f32⟩
  | .hbm, ⟨79, _⟩ => ⟨S4x128x4x128, .f32⟩
  | .hbm, ⟨80, _⟩ => ⟨S4x128x4x128, .f32⟩
  | .hbm, ⟨81, _⟩ => ⟨S512x512, .f32⟩
  | .hbm, ⟨82, _⟩ => ⟨S512x512, .bf16⟩
  | .hbm, ⟨83, _⟩ => ⟨S4x128x1x128, .f32⟩
  | .hbm, ⟨84, _⟩ => ⟨S4x4, .i32⟩
  | .hbm, ⟨85, _⟩ => ⟨S4x4, .i32⟩
  | .hbm, ⟨86, _⟩ => ⟨S_, .i32⟩
  | .hbm, ⟨87, _⟩ => ⟨S4x4, .i32⟩
  | .hbm, ⟨88, _⟩ => ⟨S4x4, .i32⟩
  | .hbm, ⟨89, _⟩ => ⟨S4x4, .i1⟩
  | .hbm, ⟨90, _⟩ => ⟨S4x4, .f32⟩
  | .hbm, ⟨91, _⟩ => ⟨S4x1x4x1, .f32⟩
  | .hbm, ⟨92, _⟩ => ⟨S4x128x4x128, .f32⟩
  | .hbm, ⟨93, _⟩ => ⟨S4x128x4x128, .f32⟩
  | .hbm, ⟨94, _⟩ => ⟨S4x128x4x128, .f32⟩
  | .hbm, ⟨95, _⟩ => ⟨S512x512, .f32⟩
  | .hbm, ⟨96, _⟩ => ⟨S512x512, .bf16⟩
  | .hbm, ⟨97, _⟩ => ⟨S3x512x128, .bf16⟩
  | .hbm, ⟨98, _⟩ => ⟨S8x4096x512, .bf16⟩
  | .hbm, ⟨99, _⟩ => ⟨S8x4096x512, .bf16⟩
  | .hbm, ⟨100, _⟩ => ⟨S8x4096x512, .bf16⟩
  | .hbm, ⟨101, _⟩ => ⟨S8x4096x128, .f32⟩
  | .hbm, ⟨102, _⟩ => ⟨S8x4096x512, .f32⟩
  | .hbm, ⟨103, _⟩ => ⟨S8x4096x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x1, .i32⟩
  | .local _ .vmem, ⟨7, _⟩ => ⟨S1x512x1, .i32⟩
  | .local _ .vmem, ⟨8, _⟩ => ⟨S4x1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S3x512x128, .bf16⟩
  | .local _ .vmem, ⟨14, _⟩ => ⟨S1x128, .f32⟩
  | .local _ .vmem, ⟨15, _⟩ => ⟨S1x128, .f32⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x128, .f32⟩
  | .local _ .vmem, ⟨23, _⟩ => ⟨S1x512x128, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S8x512, .f32⟩
  | _, _ => ⟨S8x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_c_8 : Ref sig .tc := ⟨.hbm, 46, rfl⟩
abbrev main_v27 : Ref sig .tc := ⟨.hbm, 47, rfl⟩
abbrev main_c_9 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74_0 : Ref sig .tc := ⟨.hbm, 98, rfl⟩
abbrev main_v74_1 : Ref sig .tc := ⟨.hbm, 99, rfl⟩
abbrev main_v74_2 : Ref sig .tc := ⟨.hbm, 100, rfl⟩
abbrev main_v74_3 : Ref sig .tc := ⟨.hbm, 101, rfl⟩
abbrev main_v74_4 : Ref sig .tc := ⟨.hbm, 102, rfl⟩
abbrev main_v74_5 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== CdPrepRefIdeal.lean ====
abbrev S8x4096x2560 : Shape := ⟨3, ![8, 4096, 2560]⟩
abbrev S8x4096 : Shape := ⟨2, ![8, 4096]⟩
abbrev S1x4x512 : Shape := ⟨3, ![1, 4, 512]⟩
abbrev S1x512 : Shape := ⟨2, ![1, 512]⟩
abbrev S1x4x128x128 : Shape := ⟨4, ![1, 4, 128, 128]⟩
abbrev S1x1536x8 : Shape := ⟨3, ![1, 1536, 8]⟩
abbrev S1x8 : Shape := ⟨2, ![1, 8]⟩
abbrev S8x4096x512 : Shape := ⟨3, ![8, 4096, 512]⟩
abbrev S_ : Shape := ⟨0, ![]⟩
abbrev S8x4099x512 : Shape := ⟨3, ![8, 4099, 512]⟩
abbrev S512 : Shape := ⟨1, ![512]⟩
abbrev S1x1x512 : Shape := ⟨3, ![1, 1, 512]⟩
abbrev S8x4096x4x128 : Shape := ⟨4, ![8, 4096, 4, 128]⟩
abbrev S4x128x128 : Shape := ⟨3, ![4, 128, 128]⟩
abbrev S4x128x8x4096 : Shape := ⟨4, ![4, 128, 8, 4096]⟩

abbrev nBuf : Space → Nat
  | .hbm => 73
  | .vmem => 0
  | .smem => 0
  | _ => 0

abbrev bufTy : (tb : Table) → Fin (tcTables nBuf tb) → BufTy
  | .hbm, ⟨0, _⟩ => ⟨S8x4096x2560, .f32⟩
  | .hbm, ⟨1, _⟩ => ⟨S8x4096, .i32⟩
  | .hbm, ⟨2, _⟩ => ⟨S1x4x512, .f32⟩
  | .hbm, ⟨3, _⟩ => ⟨S1x512, .f32⟩
  | .hbm, ⟨4, _⟩ => ⟨S1x4x128x128, .f32⟩
  | .hbm, ⟨5, _⟩ => ⟨S1x4x128x128, .f32⟩
  | .hbm, ⟨6, _⟩ => ⟨S1x4x128x128, .f32⟩
  | .hbm, ⟨7, _⟩ => ⟨S1x1536x8, .f32⟩
  | .hbm, ⟨8, _⟩ => ⟨S1x8, .f32⟩
  | .hbm, ⟨9, _⟩ => ⟨S8x4096x512, .f32⟩
  | .hbm, ⟨10, _⟩ => ⟨S_, .i32⟩
  | .hbm, ⟨11, _⟩ => ⟨S_, .f32⟩
  | .hbm, ⟨12, _⟩ => ⟨S8x4099x512, .f32⟩
  | .hbm, ⟨13, _⟩ => ⟨S512, .f32⟩
  | .hbm, ⟨14, _⟩ => ⟨S8x4096x512, .f32⟩
  | .hbm, ⟨15, _⟩ => ⟨S1x1x512, .f32⟩
  | .hbm, ⟨16, _⟩ => ⟨S512, .f32⟩
  | .hbm, ⟨17, _⟩ => ⟨S1x1x512, .f32⟩
  | .hbm, ⟨18, _⟩ => ⟨S8x4096x512, .f32⟩
  | .hbm, ⟨19, _⟩ => ⟨S8x4096x512, .f32⟩
  | .hbm, ⟨20, _⟩ => ⟨S1x1x512, .f32⟩
  | .hbm, ⟨21, _⟩ => ⟨S8x4096x512, .f32⟩
  | .hbm, ⟨22, _⟩ => ⟨S8x4096x512, .f32⟩
  | .hbm, ⟨23, _⟩ => ⟨S8x4096x512, .f32⟩
  | .hbm, ⟨24, _⟩ => ⟨S1x1x512, .f32⟩
  | .hbm, ⟨25, _⟩ => ⟨S512, .f32⟩
  | .hbm, ⟨26, _⟩ => ⟨S1x1x512, .f32⟩
  | .hbm, ⟨27, _⟩ => ⟨S8x4096x512, .f32⟩
  | .hbm, ⟨28, _⟩ => ⟨S8x4096x512, .f32⟩
  | .hbm, ⟨29, _⟩ => ⟨S8x4096x512, .f32⟩
  | .hbm, ⟨30, _⟩ => ⟨S8x4096x512, .f32⟩
  | .hbm, ⟨31, _⟩ => ⟨S1x1x512, .f32⟩
  | .hbm, ⟨32, _⟩ => ⟨S512, .f32⟩
  | .hbm, ⟨33, _⟩ => ⟨S1x1x512, .f32⟩
  | .hbm, ⟨34, _⟩ => ⟨S8x4096x512, .f32⟩
  | .hbm, ⟨35, _⟩ => ⟨S8x4096x512, .f32⟩
  | .hbm, ⟨36, _⟩ => ⟨S8x4096x512, .f32⟩
  | .hbm, ⟨37, _⟩ => ⟨S8x4096x512, .f32⟩
  | .hbm, ⟨38, _⟩ => ⟨S1x1x512, .f32⟩
  | .hbm, ⟨39, _⟩ => ⟨S512, .f32⟩
  | .hbm, ⟨40, _⟩ => ⟨S1x1x512, .f32⟩
  | .hbm, ⟨41, _⟩ => ⟨S8x4096x512, .f32⟩
  | .hbm, ⟨42, _⟩ => ⟨S8x4096x512, .f32⟩
  | .hbm, ⟨43, _⟩ => ⟨S8x4096x512, .f32⟩
  | .hbm, ⟨44, _⟩ => ⟨S8x4096x512, .f32⟩
  | .hbm, ⟨45, _⟩ => ⟨S8x4096x512, .f32⟩
  | .hbm, ⟨46, _⟩ => ⟨S_, .f32⟩
  | .hbm, ⟨47, _⟩ => ⟨S8x4096x512, .f32⟩
  | .hbm, ⟨48, _⟩ => ⟨S8x4096x512, .f32⟩
  | .hbm, ⟨49, _⟩ => ⟨S_, .f32⟩
  | .hbm, ⟨50, _⟩ => ⟨S8x4096x512, .f32⟩
  | .hbm, ⟨51, _⟩ => ⟨S8x4096x512, .f32⟩
  | .hbm, ⟨52, _⟩ => ⟨S8x4096x512, .f32⟩
  | .hbm, ⟨53, _⟩ => ⟨S8x4096x4x128, .f32⟩
  | .hbm, ⟨54, _⟩ => ⟨S4x128x128, .f32⟩
  | .hbm, ⟨55, _⟩ => ⟨S4x128x8x4096, .f32⟩
  | .hbm, ⟨56, _⟩ => ⟨S8x4096x4x128, .f32⟩
  | .hbm, ⟨57, _⟩ => ⟨S4x128x128, .f32⟩
  | .hbm, ⟨58, _⟩ => ⟨S4x128x8x4096, .f32⟩
  | .hbm, ⟨59, _⟩ => ⟨S8x4096x4x128, .f32⟩
  | .hbm, ⟨60, _⟩ => ⟨S_, .f32⟩
  | .hbm, ⟨61, _⟩ => ⟨S8x4096x4x128, .f32⟩
  | .hbm, ⟨62, _⟩ => ⟨S8x4096x4x128, .f32⟩
  | .hbm, ⟨63, _⟩ => ⟨S8x4096x4x128, .f32⟩
  | .hbm, ⟨64, _⟩ => ⟨S4x128x128, .f32⟩
  | .hbm, ⟨65, _⟩ => ⟨S4x128x8x4096, .f32⟩
  | .hbm, ⟨66, _⟩ => ⟨S8x4096x4x128, .f32⟩
  | .hbm, ⟨67, _⟩ => ⟨S8x4096x512, .f32⟩
  | .hbm, ⟨68, _⟩ => ⟨S8x4096x512, .bf16⟩
  | .hbm, ⟨69, _⟩ => ⟨S8x4096x512, .f32⟩
  | .hbm, ⟨70, _⟩ => ⟨S8x4096x512, .bf16⟩
  | .hbm, ⟨71, _⟩ => ⟨S8x4096x512, .f32⟩
  | .hbm, ⟨72, _⟩ => ⟨S8x4096x512, .bf16⟩
  | _, _ => ⟨S8x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Proof.CdMath.lean ====
module

public import proofs.«01_k».proof.Proof.Gen.CdPrepIdeal.Skeleton
public import proofs.«01_k».proof.Proof.Gen.CdPrepRefIdeal.Run
public import proofs.«01_k».proof.Proof.Gen.CdPrepRefIdeal.Read
public import Idealize.ShloMosaic.Lib.Pipeline.ValueKit

/-! # Convolution, activation and head products: the tile's payloads and the reference, at an element -/

set_option maxRecDepth 16384

@[expose] public section

noncomputable section

open Idealize.ShloMosaic Idealize.ShloMosaic.TcCoe Idealize.SL.Sem
open Idealize.ShloMosaic.Pipeline (Dat)

namespace Cert.CdPrepIdeal.Heads

open Cert.CdPrepIdeal Cert.CdPrepIdeal.Gen

/-- One element of the causal convolution: the bias and four taps. -/
def conv4 (b e0 e1 e2 e3 w0 w1 w2 w3 : EReal) : EReal := b + e0 * w0 + e1 * w1 + e2 * w2 + e3 * w3

/-- The last rows of the tile before and the tile's rows. -/
abbrev cat (v5 : FVec Ideal S8x512 .f32) (v3 : FVec Ideal S1x512x512 .f32) : FVec Ideal S520x512 .f32 :=
  concatenate S520x512 0 [⟨S8x512, v5⟩, ⟨S512x512, k0_pay3 v3⟩] concatenates_S8x512_S512x512_S520x512_d0

theorem conv_at (v3 : FVec Ideal S1x512x512 .f32) (v5 : FVec Ideal S8x512 .f32) (v7 : FVec Ideal S1x512 .f32)
    (w0 w1 w2 w3 : FVec Ideal S1x1x512 .f32) (r n : Fin 512) :
    k0_pay4 (F := Ideal) v3 v5 v7 w0 w1 w2 w3 (ix2 r n)
      = conv4 (v7 (ix2 0 n)) (cat v5 v3 (ix2 ⟨5 + r.val, by omega⟩ n)) (cat v5 v3 (ix2 ⟨6 + r.val, by omega⟩ n))
        (cat v5 v3 (ix2 ⟨7 + r.val, by omega⟩ n)) (cat v5 v3 (ix2 ⟨8 + r.val, by omega⟩ n))
        (w0 (ix3 0 0 n)) (w1 (ix3 0 0 n)) (w2 (ix3 0 0 n)) (w3 (ix3 0 0 n)) := by
  unfold k0_pay4 conv4 cat
  generalize concatenate S520x512 0 [⟨S8x512, v5⟩, ⟨S512x512, k0_pay3 v3⟩] concatenates_S8x512_S512x512_S520x512_d0 = z
  pointwise []

theorem cat_lo (v5 : FVec Ideal S8x512 .f32) (v3 : FVec Ideal S1x512x512 .f32) (q : Fin 520) (n : Fin 512) (h : q.val < 8) :
    cat v5 v3 (ix2 q n) = v5 (ix2 ⟨q.val, h⟩ n) := by
  pointwise [cat]
  exact dif_pos h

theorem cat_hi (v5 : FVec Ideal S8x512 .f32) (v3 : FVec Ideal S1x512x512 .f32) (q : Fin 520) (n : Fin 512) (h : ¬q.val < 8) :
    cat v5 v3 (ix2 q n) = v3 (ix3 0 ⟨q.val - 8, by omega⟩ n) := by
  pointwise [cat, k0_pay3]
  exact dif_neg h

/-- The activation of the convolution. -/
def act (z : EReal) : EReal := z * Ideal.div (Ideal.ofBits .f32 0x3F800000#32) (Ideal.ofBits .f32 0x3F800000#32 + Ideal.exp (-z))

theorem mq_at (z : FVec Ideal S512x512 .f32) (w : FVec Ideal S512x512 .bf16) (u : Fin 1) (r n : Fin 512) :
    k0_pay11 (F := Ideal) z w (ix3 u r n) = ∑ k, act (z (ix2 r k)) * w (ix2 k n) := by
  unfold act
  pointwise [k0_pay11, k0_pay8, k0_pay7]
  rfl

theorem mk_at (z : FVec Ideal S512x512 .f32) (w : FVec Ideal S512x512 .bf16) (u : Fin 1) (r n : Fin 512) :
    k0_pay12 (F := Ideal) z w (ix3 u r n) = (∑ k, act (z (ix2 r k)) * w (ix2 k n)) * Ideal.ofBits .f32 0x3DB504F3#32 := by
  unfold act
  pointwise [k0_pay12, k0_pay9, k0_pay7]
  rfl

theorem mv_at (x : FVec Ideal S1x512x512 .f32) (w : FVec Ideal S512x512 .bf16) (u : Fin 1) (r n : Fin 512) :
    k0_pay13 (F := Ideal) (k0_pay3 x) w (ix3 u r n) = ∑ k, x (ix3 0 r k) * w (ix2 k n) := by
  pointwise [k0_pay13, k0_pay10, k0_pay3]

/-- The weights of four heads as one matrix, zero off the heads' blocks. -/
def diag (w : FVec Ideal S1x4x128x128 .f32) : FVec Ideal S512x512 .bf16 :=
  truncf (F := Ideal) .bf16 (shapeCast S512x512 (mulf (F := Ideal)
    (broadcastInDim S4x128x4x128 ![0, 1, 2, 3] bcast_S4x128x1x128_S4x128x4x128_0_1_2_3
      (broadcastInDim S4x128x1x128 ![0, 1, 3] bcast_S4x128x128_S4x128x1x128_0_1_3 (shapeCast S4x128x128 w shapeCasts_S1x4x128x128_S4x128x128)))
    (broadcastInDim S4x128x4x128 ![0, 1, 2, 3] bcast_S4x1x4x1_S4x128x4x128_0_1_2_3
      (broadcastInDim S4x1x4x1 ![0, 2] bcast_S4x4_S4x1x4x1_0_2
      (uitofp (F := Ideal) .f32 (cmpi .eq (addi (iotaInDim S4x4 32 0) (broadcastInDim S4x4 ![] bcast_S_S4x4 (constantI S_ 32 0#32))) (iotaInDim S4x4 32 1)))))
    ) shapeCasts_S4x128x4x128_S512x512) bitsLt_bf16_f32

/-- The identity matrix's entries. -/
theorem eye_at (h h' : Fin 4) : (FloatOps.uitofp (F := Ideal) FTy.f32
    (IntOp.cmpi CmpIPredicate.eq (IntOp.addi (BitVec.ofNat 32 h.val) 0#32) (BitVec.ofNat 32 h'.val)) : EReal) = if h = h' then 1 else 0 := by
  have e : IntOp.cmpi CmpIPredicate.eq (IntOp.addi (BitVec.ofNat 32 h.val) 0#32) (BitVec.ofNat 32 h'.val) = if h = h' then 1#1 else 0#1 := by
    revert h h'; decide
  rw [e]
  split_ifs
  · show (((1#1 : BitVec 1).toNat : ℝ) : EReal) = 1
    norm_num
  · show (((0#1 : BitVec 1).toNat : ℝ) : EReal) = 0
    norm_num

theorem diag_at (w : FVec Ideal S1x4x128x128 .f32) (h h' : Fin 4) (i j : Fin 128) :
    diag w (ix2 ⟨h.val * 128 + i.val, by omega⟩ ⟨h'.val * 128 + j.val, by omega⟩)
      = w (ix4 0 h i j) * (if h = h' then 1 else 0) := by
  rw [← eye_at]
  unfold diag
  pointwise []

/-- A product with the one matrix is, in a head's columns, the product with the head's weights. -/
theorem sum_diag (a : Fin 512 → EReal) (w : FVec Ideal S1x4x128x128 .f32) (h : Fin 4) (j : Fin 128) :
    ∑ k, a k * diag w (ix2 k ⟨h.val * 128 + j.val, by omega⟩) = ∑ i : Fin 128, w (ix4 0 h i j) * a ⟨h.val * 128 + i.val, by omega⟩ := by
  rw [← Equiv.sum_comp (finProdFinEquiv (m := 4) (n := 128)) (fun k : Fin 512 => a k * diag w (ix2 k ⟨h.val * 128 + j.val, by omega⟩)),
    Fintype.sum_prod_type, Finset.sum_eq_single h]
  · refine Finset.sum_congr rfl fun i _ => ?_
    have e : (finProdFinEquiv (m := 4) (n := 128) (h, i) : Fin 512) = ⟨h.val * 128 + i.val, by omega⟩ := Fin.ext (by show i.val + 128 * h.val = h.val * 128 + i.val; omega)
    rw [e, diag_at, if_pos rfl, mul_one, mul_comm]
  · intro g _ hg
    refine Finset.sum_eq_zero fun i _ => ?_
    have e : (finProdFinEquiv (m := 4) (n := 128) (g, i) : Fin 512) = ⟨g.val * 128 + i.val, by omega⟩ := Fin.ext (by show i.val + 128 * g.val = g.val * 128 + i.val; omega)
    rw [e, diag_at, if_neg hg, mul_zero, mul_zero]
  · exact fun hh => absurd (Finset.mem_univ h) hh

/-- The padded input of the reference: three rows of zeros, then the branch's columns. -/
theorem pad_lo (x : FVec Ideal S8x4096x2560 .f32) (b : Fin 8) (q : Fin 4099) (n : Fin 512) (h : q.val < 3) :
    Cert.CdPrepRefIdeal.Read.val_main_v1 (F := Ideal) x (ix3 b q n) = 0 := by
  open Cert.CdPrepRefIdeal.Read in
  pointwise [val_main_v1, val_main_v0, val_main_call0_v0, val_main_c]
  rw [dif_neg (fun h' => absurd h'.1 (by omega))]
  show (((0#32 : BitVec 32).toInt : ℝ) : EReal) = 0
  norm_num

theorem pad_hi (x : FVec Ideal S8x4096x2560 .f32) (b : Fin 8) (q : Fin 4099) (n : Fin 512) (h : ¬q.val < 3) :
    Cert.CdPrepRefIdeal.Read.val_main_v1 (F := Ideal) x (ix3 b q n) = x (ix3 b ⟨q.val - 3, by omega⟩ ⟨n.val, by omega⟩) := by
  open Cert.CdPrepRefIdeal.Read in
  pointwise [val_main_v1, val_main_v0, val_main_call0_v0, val_main_c]
  exact dif_pos ⟨by omega, by omega⟩

/-- The reference's convolution. -/
def rconv (x : FVec Ideal S8x4096x2560 .f32) (cw : FVec Ideal S1x4x512 .f32) (cb : FVec Ideal S1x512 .f32) (b : Fin 8) (s : Fin 4096) (n : Fin 512) : EReal :=
  conv4 (cb (ix2 0 n)) (Cert.CdPrepRefIdeal.Read.val_main_v1 (F := Ideal) x (ix3 b ⟨s.val, by omega⟩ n))
    (Cert.CdPrepRefIdeal.Read.val_main_v1 (F := Ideal) x (ix3 b ⟨1 + s.val, by omega⟩ n))
    (Cert.CdPrepRefIdeal.Read.val_main_v1 (F := Ideal) x (ix3 b ⟨2 + s.val, by omega⟩ n))
    (Cert.CdPrepRefIdeal.Read.val_main_v1 (F := Ideal) x (ix3 b ⟨3 + s.val, by omega⟩ n))
    (cw (ix3 0 0 n)) (cw (ix3 0 1 n)) (cw (ix3 0 2 n)) (cw (ix3 0 3 n))

theorem rconv_at (x : FVec Ideal S8x4096x2560 .f32) (cw : FVec Ideal S1x4x512 .f32) (cb : FVec Ideal S1x512 .f32) (b : Fin 8) (s : Fin 4096) (n : Fin 512) :
    Cert.CdPrepRefIdeal.Read.val_main_v32 (F := Ideal) x cw cb (ix3 b s n) = rconv x cw cb b s n := by
  unfold rconv conv4
  open Cert.CdPrepRefIdeal.Read in
  pointwise [val_main_v32, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3, val_main_v2]

theorem ract_at (x : FVec Ideal S8x4096x2560 .f32) (cw : FVec Ideal S1x4x512 .f32) (cb : FVec Ideal S1x512 .f32) (b : Fin 8) (s : Fin 4096) (h : Fin 4) (i : Fin 128) :
    Cert.CdPrepRefIdeal.Read.val_main_v34 (F := Ideal) x cw cb (ix4 b s h i) = act (rconv x cw cb b s ⟨h.val * 128 + i.val, by omega⟩) := by
  rw [← rconv_at]
  unfold act
  open Cert.CdPrepRefIdeal.Read in
  pointwise [val_main_v34, val_main_v33, val_main_call1_v0, val_main_call1_v1, val_main_call1_v2, val_main_call1_v3, val_main_call1_v4, val_main_call1_v5,
    val_main_call1_cst, val_main_call1_cst_0]

/-- The reference's queries, keys and values. -/
theorem rq_at (x : FVec Ideal S8x4096x2560 .f32) (cw : FVec Ideal S1x4x512 .f32) (cb : FVec Ideal S1x512 .f32) (w : FVec Ideal S1x4x128x128 .f32)
    (b : Fin 8) (s : Fin 4096) (h : Fin 4) (j : Fin 128) :
    Cert.CdPrepRefIdeal.Read.val_main_v48 (F := Ideal) x cw cb w (ix3 b s ⟨h.val * 128 + j.val, by omega⟩)
      = ∑ i : Fin 128, w (ix4 0 h i j) * act (rconv x cw cb b s ⟨h.val * 128 + i.val, by omega⟩) := by
  simp only [← ract_at]
  open Cert.CdPrepRefIdeal.Read in
  pointwise [val_main_v48, val_main_v47, val_main_v37, val_main_v36, val_main_v35]

theorem rk_at (x : FVec Ideal S8x4096x2560 .f32) (cw : FVec Ideal S1x4x512 .f32) (cb : FVec Ideal S1x512 .f32) (w : FVec Ideal S1x4x128x128 .f32)
    (b : Fin 8) (s : Fin 4096) (h : Fin 4) (j : Fin 128) :
    Cert.CdPrepRefIdeal.Read.val_main_v50 (F := Ideal) x cw cb w (ix3 b s ⟨h.val * 128 + j.val, by omega⟩)
      = (∑ i : Fin 128, w (ix4 0 h i j) * act (rconv x cw cb b s ⟨h.val * 128 + i.val, by omega⟩)) * Ideal.ofBits .f32 0x3DB504F3#32 := by
  simp only [← ract_at]
  open Cert.CdPrepRefIdeal.Read in
  pointwise [val_main_v50, val_main_v49, val_main_v42, val_main_v41, val_main_cst, val_main_v40, val_main_v39, val_main_v38]

theorem rv_at (x : FVec Ideal S8x4096x2560 .f32) (w : FVec Ideal S1x4x128x128 .f32) (b : Fin 8) (s : Fin 4096) (h : Fin 4) (j : Fin 128) :
    Cert.CdPrepRefIdeal.Read.val_main_v52 (F := Ideal) x w (ix3 b s ⟨h.val * 128 + j.val, by omega⟩)
      = ∑ i : Fin 128, w (ix4 0 h i j) * x (ix3 b s ⟨h.val * 128 + i.val, by omega⟩) := by
  open Cert.CdPrepRefIdeal.Read in
  pointwise [val_main_v52, val_main_v51, val_main_v46, val_main_v45, val_main_v44, val_main_v43, val_main_v0]

end Cert.CdPrepIdeal.Heads

end

end
-- ==== Proof.CdValue.lean ====
module

public import proofs.«01_k».proof.Proof.Gen.CdPrepIdeal.Frame
public import proofs.«01_k».proof.Proof.CdMath

/-! # The second layer's preparation: the queries, keys and values are the reference's -/

set_option maxRecDepth 16384

@[expose] public section

noncomputable section

open Idealize.ShloMosaic Idealize.ShloMosaic.TcCoe Idealize.SL.Sem
open Idealize.ShloMosaic.Pipeline (Dat)

namespace Cert.CdPrepIdeal.Heads

open Cert.CdPrepIdeal Cert.CdPrepIdeal.Gen

variable (m : (ℓ : Loc nD τ sig) → Buf (Elt Ideal) ℓ)

/-- The carried rows after any point: the last eight of the point's tile. -/
theorem tail_at (c : Dev nD) (n : ℕ) (hn : n < cfg0.N) : (outsAt0 m c n hn).2.2.2.2.2.2 = k0_pay6 (F := Ideal) (k0_pay5 (iblk m c 0 ⟨n, hn⟩)) := by
  funext y
  by_cases h : n % 8 = 0
  · have e := outsAt0_A m c ⟨n, hn⟩ h
    dsimp only at e
    rw [e]; dsimp only; unfold sout0_A_0 kernelRun0_A; frame_out
  · have e := outsAt0_B m c ⟨n, hn⟩ h
    dsimp only at e
    rw [e]; dsimp only; unfold sout0_B_0 kernelRun0_B; frame_out

/-- The rows carried into a point: zero at the start of a sequence, else the last of the tile before. -/
def prev (c : Dev nD) (t : Fin cfg0.N) : FVec Ideal S8x512 .f32 :=
  if t.val % 8 = 0 then k0_pay2 (F := Ideal) else k0_pay6 (k0_pay5 (iblk m c 0 ⟨t.val - 1, Nat.lt_of_le_of_lt (Nat.sub_le _ _) t.isLt⟩))

theorem prev_A (c : Dev nD) (t : Fin cfg0.N) (h : t.val % 8 = 0) : prev m c t = k0_pay2 (F := Ideal) := if_pos h

theorem prev_B (c : Dev nD) (t : Fin cfg0.N) (h : ¬t.val % 8 = 0) :
    prev m c t = k0_pay6 (k0_pay5 (iblk m c 0 ⟨t.val - 1, Nat.lt_of_le_of_lt (Nat.sub_le _ _) t.isLt⟩)) := if_neg h

/-- The convolution of a point's tile. -/
def conv (c : Dev nD) (t : Fin cfg0.N) : FVec Ideal S512x512 .f32 :=
  k0_pay4 (F := Ideal) (iblk m c 0 t) (prev m c t) (iblk m c 5 t)
    (View.ld (iblk m c 4 t) (Rect.unit ![0, 0, 0] ![1, 1, 512] inb_S4x1x512_S1x1x512_0_0_0))
    (View.ld (iblk m c 4 t) (Rect.unit ![1, 0, 0] ![1, 1, 512] inb_S4x1x512_S1x1x512_1_0_0))
    (View.ld (iblk m c 4 t) (Rect.unit ![2, 0, 0] ![1, 1, 512] inb_S4x1x512_S1x1x512_2_0_0))
    (View.ld (iblk m c 4 t) (Rect.unit ![3, 0, 0] ![1, 1, 512] inb_S4x1x512_S1x1x512_3_0_0))

/-- The queries after any point. -/
theorem row12 (c : Dev nD) (t : Fin cfg0.N) (y : S1x512x512.Idx) : (outsAt0 m c t.val t.isLt).1 y
    = k0_pay11 (F := Ideal) (conv m c t) (iblk m c 6 t) y := by
  by_cases h : t.val % 8 = 0
  · rw [conv, prev_A m c t h, outsAt0_A m c t h]; dsimp only; unfold out0_A_12 kernelRun0_A; frame_out; rfl
  · rw [conv, prev_B m c t h, outsAt0_B m c t h]; dsimp only; unfold out0_B_12 kernelRun0_B; frame_out
    rw [(Memref.isWhole_whole _).read_unread, tail_at]; rfl

/-- The keys after any point. -/
theorem row13 (c : Dev nD) (t : Fin cfg0.N) (y : S1x512x512.Idx) : (outsAt0 m c t.val t.isLt).2.1 y
    = k0_pay12 (F := Ideal) (conv m c t) (iblk m c 7 t) y := by
  by_cases h : t.val % 8 = 0
  · rw [conv, prev_A m c t h, outsAt0_A m c t h]; dsimp only; unfold out0_A_13 kernelRun0_A; frame_out; rfl
  · rw [conv, prev_B m c t h, outsAt0_B m c t h]; dsimp only; unfold out0_B_13 kernelRun0_B; frame_out
    rw [(Memref.isWhole_whole _).read_unread, tail_at]; rfl

/-- The values after any point. -/
theorem row14 (c : Dev nD) (t : Fin cfg0.N) (y : S1x512x512.Idx) : (outsAt0 m c t.val t.isLt).2.2.1 y
    = k0_pay13 (F := Ideal) (k0_pay3 (iblk m c 0 t)) (iblk m c 8 t) y := by
  by_cases h : t.val % 8 = 0
  · rw [outsAt0_A m c t h]; dsimp only; unfold out0_A_14 kernelRun0_A; frame_out
  · rw [outsAt0_B m c t h]; dsimp only; unfold out0_B_14 kernelRun0_B; frame_out

/-- The block indices of the windows: sequence and row tile, or the whole array. -/
theorem idx : ∀ t : Fin cfg0.N, win0_0.index t = ![t.val / 8, t.val % 8, 0] ∧ win0_4.index t = ![0, 0, 0] ∧ win0_5.index t = ![0, 0]
    ∧ win0_6.index t = ![0, 0] ∧ win0_7.index t = ![0, 0] ∧ win0_8.index t = ![0, 0] ∧ win0_12.index t = ![t.val / 8, t.val % 8, 0]
    ∧ win0_13.index t = ![t.val / 8, t.val % 8, 0] ∧ win0_14.index t = ![t.val / 8, t.val % 8, 0] :=
  (by decide +kernel : ∀ t : Fin grid0.N, _)

theorem V_v32 (c : Dev nD) : V m c main_v32 = shapeCast S4x1x512 (shapeCast S4x512 (m ((c : Thread nD τ).loc main_arg2)) shapeCasts_S1x4x512_S4x512) shapeCasts_S4x512_S4x1x512 := rfl

theorem V_v33 (c : Dev nD) : V m c main_v33 = shapeCast S1x512 (shapeCast S512 (m ((c : Thread nD τ).loc main_arg3)) shapeCasts_S1x512_S512) shapeCasts_S512_S1x512 := rfl

theorem V_v46 (c : Dev nD) : V m c main_v46 = diag (m ((c : Thread nD τ).loc main_arg4)) := rfl

theorem V_v59 (c : Dev nD) : V m c main_v59 = diag (m ((c : Thread nD τ).loc main_arg5)) := rfl

theorem V_v72 (c : Dev nD) : V m c main_v72 = diag (m ((c : Thread nD τ).loc main_arg6)) := rfl

/-- The windows' blocks at an element. -/
theorem x_at (c : Dev nD) (t : Fin cfg0.N) (r n : Fin 512) : (iblk m c 0 t : FVec Ideal S1x512x512 .f32) (ix3 0 r n)
    = (m ((c : Thread nD τ).loc main_arg0)) (ix3 (⟨t.val / 8, by have h : t.val < 64 := t.isLt; omega⟩ : Fin 8) (⟨512 * (t.val % 8) + r.val, by omega⟩ : Fin 4096) (⟨n.val, by omega⟩ : Fin 2560)) := by
  have h : t.val < 64 := t.isLt
  blk_point [iblk, V, idx t]

theorem tap_at (w : FVec Ideal S1x4x512 .f32) (k : Fin 4) (n : Fin 512) :
    shapeCast S4x1x512 (shapeCast S4x512 w shapeCasts_S1x4x512_S4x512) shapeCasts_S4x512_S4x1x512 (ix3 k 0 n) = w (ix3 0 k n) := by
  pointwise []

theorem cw_at (c : Dev nD) (t : Fin cfg0.N) (k : Fin 4) (n : Fin 512) :
    (iblk m c 4 t : FVec Ideal S4x1x512 .f32) (ix3 k 0 n) = (m ((c : Thread nD τ).loc main_arg2)) (ix3 (0 : Fin 1) k n) := by
  have e : ((cfg0.win 4).blk t).view.emb (ix3 k (0 : Fin 1) n) = ix3 k (0 : Fin 1) n := by blk_point [idx t]
  exact (congrArg (V m c main_v32) e).trans ((congrFun (V_v32 m c) _).trans (tap_at _ k n))

theorem bias_at (w : FVec Ideal S1x512 .f32) (n : Fin 512) :
    shapeCast S1x512 (shapeCast S512 w shapeCasts_S1x512_S512) shapeCasts_S512_S1x512 (ix2 0 n) = w (ix2 0 n) := by
  pointwise []

theorem cb_at (c : Dev nD) (t : Fin cfg0.N) (n : Fin 512) :
    (iblk m c 5 t : FVec Ideal S1x512 .f32) (ix2 0 n) = (m ((c : Thread nD τ).loc main_arg3)) (ix2 (0 : Fin 1) n) := by
  have e : ((cfg0.win 5).blk t).view.emb (ix2 (0 : Fin 1) n) = ix2 (0 : Fin 1) n := by blk_point [idx t]
  exact (congrArg (V m c main_v33) e).trans ((congrFun (V_v33 m c) _).trans (bias_at _ n))

theorem wq_at (c : Dev nD) (t : Fin cfg0.N) (k n : Fin 512) :
    (iblk m c 6 t : FVec Ideal S512x512 .bf16) (ix2 k n) = diag (m ((c : Thread nD τ).loc main_arg4)) (ix2 k n) := by
  have e : ((cfg0.win 6).blk t).view.emb (ix2 k n) = ix2 k n := by blk_point [idx t]
  exact (congrArg (V m c main_v46) e).trans (congrFun (V_v46 m c) _)

theorem wk_at (c : Dev nD) (t : Fin cfg0.N) (k n : Fin 512) :
    (iblk m c 7 t : FVec Ideal S512x512 .bf16) (ix2 k n) = diag (m ((c : Thread nD τ).loc main_arg5)) (ix2 k n) := by
  have e : ((cfg0.win 7).blk t).view.emb (ix2 k n) = ix2 k n := by blk_point [idx t]
  exact (congrArg (V m c main_v59) e).trans (congrFun (V_v59 m c) _)

theorem wv_at (c : Dev nD) (t : Fin cfg0.N) (k n : Fin 512) :
    (iblk m c 8 t : FVec Ideal S512x512 .bf16) (ix2 k n) = diag (m ((c : Thread nD τ).loc main_arg6)) (ix2 k n) := by
  have e : ((cfg0.win 8).blk t).view.emb (ix2 k n) = ix2 k n := by blk_point [idx t]
  exact (congrArg (V m c main_v72) e).trans (congrFun (V_v72 m c) _)

/-- The carried rows and the tile's rows are the padded input's. -/
theorem ext_at (c : Dev nD) (t : Fin cfg0.N) (q : Fin 520) (n : Fin 512) (hq : 5 ≤ q.val) (b : Fin 8) (s : Fin 4099) (hb : b.val = t.val / 8)
    (hs : s.val + 5 = 512 * (t.val % 8) + q.val) :
    cat (prev m c t) (iblk m c 0 t) (ix2 q n) = Cert.CdPrepRefIdeal.Read.val_main_v1 (F := Ideal) (m ((c : Thread nD τ).loc main_arg0)) (ix3 b s n) := by
  by_cases h : q.val < 8
  · rw [cat_lo _ _ _ _ h]
    by_cases h0 : t.val % 8 = 0
    · rw [prev_A m c t h0, pad_lo _ _ _ _ (by omega)]
      pointwise [k0_pay2]
    · rw [prev_B m c t h0, pad_hi _ _ _ _ (by omega)]
      obtain ⟨t', ht'⟩ : ∃ t' : Fin cfg0.N, t' = ⟨t.val - 1, Nat.lt_of_le_of_lt (Nat.sub_le _ _) t.isLt⟩ := ⟨_, rfl⟩
      have hv : t'.val = t.val - 1 := by rw [ht']
      rw [← ht']
      refine (show _ = (iblk m c 0 t' : FVec Ideal S1x512x512 .f32) (ix3 0 ⟨504 + q.val, by omega⟩ n) by
        generalize iblk m c 0 t' = z
        pointwise [k0_pay6, k0_pay5, k0_pay3]).trans ?_
      rw [x_at]
      refine congrArg (m ((c : Thread nD τ).loc main_arg0)) (congrArg₂ (fun (i : Fin 8) (j : Fin 4096) => ix3 i j (⟨n.val, by omega⟩ : Fin 2560)) (Fin.ext ?_) (Fin.ext ?_))
      · show t'.val / 8 = b.val
        omega
      · show 512 * (t'.val % 8) + (504 + q.val) = s.val - 3
        omega
  · rw [cat_hi _ _ _ _ h, pad_hi _ _ _ _ (by omega), x_at]
    refine congrArg (m ((c : Thread nD τ).loc main_arg0)) (congrArg₂ (fun (i : Fin 8) (j : Fin 4096) => ix3 i j (⟨n.val, by omega⟩ : Fin 2560)) (Fin.ext ?_) (Fin.ext ?_))
    · exact hb.symm
    · show 512 * (t.val % 8) + (q.val - 8) = s.val - 3
      omega

/-- The convolution of a tile is the reference's. -/
theorem conv_ref (c : Dev nD) (t : Fin cfg0.N) (r n : Fin 512) (b : Fin 8) (s : Fin 4096) (hb : b.val = t.val / 8) (hs : s.val = 512 * (t.val % 8) + r.val) :
    conv m c t (ix2 r n) = rconv (m ((c : Thread nD τ).loc main_arg0)) (m ((c : Thread nD τ).loc main_arg2)) (m ((c : Thread nD τ).loc main_arg3)) b s n := by
  unfold conv rconv
  rw [conv_at, cb_at, ext_at m c t _ n (by show 5 ≤ 5 + r.val; omega) b ⟨s.val, by omega⟩ hb (by show s.val + 5 = _ + (5 + r.val); omega),
    ext_at m c t _ n (by show 5 ≤ 6 + r.val; omega) b ⟨1 + s.val, by omega⟩ hb (by show 1 + s.val + 5 = _ + (6 + r.val); omega),
    ext_at m c t _ n (by show 5 ≤ 7 + r.val; omega) b ⟨2 + s.val, by omega⟩ hb (by show 2 + s.val + 5 = _ + (7 + r.val); omega),
    ext_at m c t _ n (by show 5 ≤ 8 + r.val; omega) b ⟨3 + s.val, by omega⟩ hb (by show 3 + s.val + 5 = _ + (8 + r.val); omega),
    ← cw_at m c t 0 n, ← cw_at m c t 1 n, ← cw_at m c t 2 n, ← cw_at m c t 3 n]
  generalize iblk m c 4 t = z
  unfold conv4
  pointwise []

/-- The reference's queries, over the kernel's argument arrays. -/
abbrev whole_q (x : FVec Ideal S8x4096x2560 .f32) (cw : FVec Ideal S1x4x512 .f32) (cb : FVec Ideal S1x512 .f32) (w : FVec Ideal S1x4x128x128 .f32) : FVec Ideal S8x4096x512 .bf16 :=
  Cert.CdPrepRefIdeal.Read.val_main_v48 (F := Ideal) x cw cb w

theorem tile_q (c : Dev nD) (t : Fin cfg0.N) (y : S1x512x512.Idx) : k0_pay11 (F := Ideal) (conv m c t) (iblk m c 6 t) y
    = whole_q (m ((c : Thread nD τ).loc main_arg0)) (m ((c : Thread nD τ).loc main_arg2)) (m ((c : Thread nD τ).loc main_arg3)) (m ((c : Thread nD τ).loc main_arg4)) (((cfg0.win 12).blk t).view.emb y) := by
  have ht : t.val < 64 := t.isLt
  idx_vars y
  have e : ((cfg0.win 12).blk t).view.emb (ix3 y0 y1 y2) = ix3 (⟨t.val / 8, by omega⟩ : Fin 8) (⟨512 * (t.val % 8) + y1.val, by omega⟩ : Fin 4096) y2 := by
    blk_point [idx t]
  rw [e]
  obtain ⟨h, j, hy⟩ : ∃ (h : Fin 4) (j : Fin 128), y2 = ⟨h.val * 128 + j.val, by omega⟩ :=
    ⟨⟨y2.val / 128, by omega⟩, ⟨y2.val % 128, by omega⟩, Fin.ext (by show y2.val = y2.val / 128 * 128 + y2.val % 128; omega)⟩
  subst hy
  refine Eq.trans ?_ (rq_at _ _ _ _ _ _ h j).symm
  rw [mq_at]
  refine ((Finset.sum_congr rfl fun k _ => congrArg₂ (· * ·) (congrArg act (conv_ref m c t y1 k (⟨t.val / 8, by omega⟩ : Fin 8) (⟨512 * (t.val % 8) + y1.val, by omega⟩ : Fin 4096) rfl rfl))
    (wq_at m c t k _)).trans ?_)
  exact sum_diag (fun k => act (rconv (m ((c : Thread nD τ).loc main_arg0)) (m ((c : Thread nD τ).loc main_arg2)) (m ((c : Thread nD τ).loc main_arg3)) (⟨t.val / 8, by omega⟩ : Fin 8) (⟨512 * (t.val % 8) + y1.val, by omega⟩ : Fin 4096) k)) _ h j

/-- The queries after the run. -/
theorem result_q (c : Dev nD) : (dats m 0 c).arrAt 12 cfg0.N = whole_q (m ((c : Thread nD τ).loc main_arg0)) (m ((c : Thread nD τ).loc main_arg2)) (m ((c : Thread nD τ).loc main_arg3)) (m ((c : Thread nD τ).loc main_arg4)) := by
  refine (dats m 0 c).arrAt_eq_of_covers 12 _ (by decide +kernel) fun t _ y => ?_
  blk_simp
  rw [after0_12]
  exact (row12 m c t y).trans (tile_q m c t y)

/-- The reference's keys, over the kernel's argument arrays. -/
abbrev whole_k (x : FVec Ideal S8x4096x2560 .f32) (cw : FVec Ideal S1x4x512 .f32) (cb : FVec Ideal S1x512 .f32) (w : FVec Ideal S1x4x128x128 .f32) : FVec Ideal S8x4096x512 .bf16 :=
  Cert.CdPrepRefIdeal.Read.val_main_v50 (F := Ideal) x cw cb w

theorem tile_k (c : Dev nD) (t : Fin cfg0.N) (y : S1x512x512.Idx) : k0_pay12 (F := Ideal) (conv m c t) (iblk m c 7 t) y
    = whole_k (m ((c : Thread nD τ).loc main_arg0)) (m ((c : Thread nD τ).loc main_arg2)) (m ((c : Thread nD τ).loc main_arg3)) (m ((c : Thread nD τ).loc main_arg5)) (((cfg0.win 13).blk t).view.emb y) := by
  have ht : t.val < 64 := t.isLt
  idx_vars y
  have e : ((cfg0.win 13).blk t).view.emb (ix3 y0 y1 y2) = ix3 (⟨t.val / 8, by omega⟩ : Fin 8) (⟨512 * (t.val % 8) + y1.val, by omega⟩ : Fin 4096) y2 := by
    blk_point [idx t]
  rw [e]
  obtain ⟨h, j, hy⟩ : ∃ (h : Fin 4) (j : Fin 128), y2 = ⟨h.val * 128 + j.val, by omega⟩ :=
    ⟨⟨y2.val / 128, by omega⟩, ⟨y2.val % 128, by omega⟩, Fin.ext (by show y2.val = y2.val / 128 * 128 + y2.val % 128; omega)⟩
  subst hy
  refine Eq.trans ?_ (rk_at _ _ _ _ _ _ h j).symm
  rw [mk_at]
  refine congrArg (· * _) ((Finset.sum_congr rfl fun k _ => congrArg₂ (· * ·) (congrArg act (conv_ref m c t y1 k (⟨t.val / 8, by omega⟩ : Fin 8) (⟨512 * (t.val % 8) + y1.val, by omega⟩ : Fin 4096) rfl rfl))
    (wk_at m c t k _)).trans ?_)
  exact sum_diag (fun k => act (rconv (m ((c : Thread nD τ).loc main_arg0)) (m ((c : Thread nD τ).loc main_arg2)) (m ((c : Thread nD τ).loc main_arg3)) (⟨t.val / 8, by omega⟩ : Fin 8) (⟨512 * (t.val % 8) + y1.val, by omega⟩ : Fin 4096) k)) _ h j

/-- The keys after the run. -/
theorem result_k (c : Dev nD) : (dats m 0 c).arrAt 13 cfg0.N = whole_k (m ((c : Thread nD τ).loc main_arg0)) (m ((c : Thread nD τ).loc main_arg2)) (m ((c : Thread nD τ).loc main_arg3)) (m ((c : Thread nD τ).loc main_arg5)) := by
  refine (dats m 0 c).arrAt_eq_of_covers 13 _ (by decide +kernel) fun t _ y => ?_
  blk_simp
  rw [after0_13]
  exact (row13 m c t y).trans (tile_k m c t y)

/-- The reference's values, over the kernel's argument arrays. -/
abbrev whole_v (x : FVec Ideal S8x4096x2560 .f32) (w : FVec Ideal S1x4x128x128 .f32) : FVec Ideal S8x4096x512 .bf16 :=
  Cert.CdPrepRefIdeal.Read.val_main_v52 (F := Ideal) x w

theorem tile_v (c : Dev nD) (t : Fin cfg0.N) (y : S1x512x512.Idx) : k0_pay13 (F := Ideal) (k0_pay3 (iblk m c 0 t)) (iblk m c 8 t) y
    = whole_v (m ((c : Thread nD τ).loc main_arg0)) (m ((c : Thread nD τ).loc main_arg6)) (((cfg0.win 14).blk t).view.emb y) := by
  have ht : t.val < 64 := t.isLt
  idx_vars y
  have e : ((cfg0.win 14).blk t).view.emb (ix3 y0 y1 y2) = ix3 (⟨t.val / 8, by omega⟩ : Fin 8) (⟨512 * (t.val % 8) + y1.val, by omega⟩ : Fin 4096) y2 := by
    blk_point [idx t]
  rw [e]
  obtain ⟨h, j, hy⟩ : ∃ (h : Fin 4) (j : Fin 128), y2 = ⟨h.val * 128 + j.val, by omega⟩ :=
    ⟨⟨y2.val / 128, by omega⟩, ⟨y2.val % 128, by omega⟩, Fin.ext (by show y2.val = y2.val / 128 * 128 + y2.val % 128; omega)⟩
  subst hy
  refine Eq.trans ?_ (rv_at _ _ _ _ h j).symm
  rw [mv_at]
  refine (Finset.sum_congr rfl fun k _ => congrArg₂ (fun a b : EReal => a * b) (x_at m c t y1 k) (wv_at m c t k _)).trans ?_
  exact sum_diag (fun k => (m ((c : Thread nD τ).loc main_arg0)) (ix3 (⟨t.val / 8, by omega⟩ : Fin 8) (⟨512 * (t.val % 8) + y1.val, by omega⟩ : Fin 4096) (⟨k.val, by omega⟩ : Fin 2560))) _ h j

/-- The values after the run. -/
theorem result_v (c : Dev nD) : (dats m 0 c).arrAt 14 cfg0.N = whole_v (m ((c : Thread nD τ).loc main_arg0)) (m ((c : Thread nD τ).loc main_arg6)) := by
  refine (dats m 0 c).arrAt_eq_of_covers 14 _ (by decide +kernel) fun t _ y => ?_
  blk_simp
  rw [after0_14]
  exact (row14 m c t y).trans (tile_v m c t y)

end Cert.CdPrepIdeal.Heads

end

end
-- ==== Proof.CdClaims.lean ====
module

public import proofs.«01_k».proof.Defs
public import proofs.«01_k».proof.Proof.CdValue
public import proofs.«01_k».proof.Proof.Gen.CdPrep.Frame
public import Idealize.ShloMosaic.Lib.Claim

/-! # The claims of the second layer's preparation -/

set_option maxRecDepth 16384

@[expose] public section

noncomputable section

namespace Cert.Proof.CdClaims

open Idealize.ShloMosaic Idealize.ShloMosaic.TcCoe Idealize.SL.Sem

/-- The reference runs, leaves its arguments alone, and has no semaphore to leave anything on. -/
theorem reference_frame : Cert.quiescent_CdPrepRefIdeal := fun m g _ =>
  (θ_run Cert.CdPrepRefIdeal.defs _ _).mono
    (fun r h => ⟨fun c => (h c).2.2.2, Idealize.ShloMosaic.sem_eq_zero_of_no_sems (by decide) r.2⟩)
    (Cert.CdPrepRefIdeal.Value.run (F := Ideal) m g)

/-- The kernel's queries, keys and values are the reference's. -/
theorem algebraic : Cert.algebraic_CdPrepIdeal_CdPrepRefIdeal := by
  intro m g m' g' _ hagree
  refine ⟨fun c => Cert.CdPrepIdeal.Heads.whole_q (m ((c.tc : Thread _ _).loc Cert.CdPrepIdeal.main_arg0))
      (m ((c.tc : Thread _ _).loc Cert.CdPrepIdeal.main_arg2)) (m ((c.tc : Thread _ _).loc Cert.CdPrepIdeal.main_arg3)) (m ((c.tc : Thread _ _).loc Cert.CdPrepIdeal.main_arg4)),
    fun c => Cert.CdPrepIdeal.Heads.whole_k (m ((c.tc : Thread _ _).loc Cert.CdPrepIdeal.main_arg0))
      (m ((c.tc : Thread _ _).loc Cert.CdPrepIdeal.main_arg2)) (m ((c.tc : Thread _ _).loc Cert.CdPrepIdeal.main_arg3)) (m ((c.tc : Thread _ _).loc Cert.CdPrepIdeal.main_arg5)),
    fun c => Cert.CdPrepIdeal.Heads.whole_v (m ((c.tc : Thread _ _).loc Cert.CdPrepIdeal.main_arg0))
      (m ((c.tc : Thread _ _).loc Cert.CdPrepIdeal.main_arg6)), ?_, ?_⟩
  · exact (θ_run Cert.CdPrepIdeal.defs _ _).mono
      (fun _ h c => ⟨((h.1 c).1 12).trans (Cert.CdPrepIdeal.Heads.result_q m c), ((h.1 c).1 13).trans (Cert.CdPrepIdeal.Heads.result_k m c),
        ((h.1 c).1 14).trans (Cert.CdPrepIdeal.Heads.result_v m c), h.2.1 c⟩)
      (θ_run_and (Cert.CdPrepIdeal.Gen.run_main m g) (Cert.CdPrepIdeal.Gen.frame m g))
  · refine (θ_run Cert.CdPrepRefIdeal.defs _ _).mono
      (fun _ h c => ⟨(h c).1.trans ?_, (h c).2.1.trans ?_, (h c).2.2.1.trans ?_, (h c).2.2.2⟩)
      (Cert.CdPrepRefIdeal.Value.run (F := Ideal) m' g')
    · obtain ⟨e0, e1, e2, e3, e4, e5, e6, e7, e8⟩ := hagree c
      refine (Cert.CdPrepRefIdeal.Read.val_main_v48_eq (F := Ideal) m' c).trans ?_
      rw [e0, e2, e3, e4]
    · obtain ⟨e0, e1, e2, e3, e4, e5, e6, e7, e8⟩ := hagree c
      refine (Cert.CdPrepRefIdeal.Read.val_main_v50_eq (F := Ideal) m' c).trans ?_
      rw [e0, e2, e3, e5]
    · obtain ⟨e0, e1, e2, e3, e4, e5, e6, e7, e8⟩ := hagree c
      refine (Cert.CdPrepRefIdeal.Read.val_main_v52_eq (F := Ideal) _ _).trans ?_
      rw [e0, e6]

end Cert.Proof.CdClaims

end

end
-- ==== Proof.InProjValue.lean ====
module

public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.ValueKit

/-! # The in-projection: the tiled product is the whole product -/

set_option maxRecDepth 16384

@[expose] public section

noncomputable section

open Idealize.ShloMosaic Idealize.ShloMosaic.TcCoe Idealize.SL.Sem
open Idealize.ShloMosaic.Pipeline (Dat)

namespace Cert.InProjIdeal.Tiled

open Cert.InProjIdeal Cert.InProjIdeal.Gen

variable (m : (ℓ : Loc nD τ sig) → Buf (Elt Ideal) ℓ)

/-- The product the reference computes, over the kernel's argument arrays. -/
abbrev whole (x : FVec Ideal S8x4096x1024 .f32) (w : FVec Ideal S1x1024x2560 .f32) : FVec Ideal S8x4096x2560 .f32 :=
  Cert.InProjRefIdeal.Read.val_main_v1 (F := Ideal) x w

/-- The block indices of the three windows: batch and row tile for the input and the result, the whole weights. -/
theorem idx : ∀ t : Fin cfg0.N, win0_0.index t = ![(grid0.coords t 0).val, (grid0.coords t 1).val, 0]
    ∧ win0_1.index t = ![0, 0] ∧ win0_2.index t = ![(grid0.coords t 0).val, (grid0.coords t 1).val, 0] :=
  (by decide +kernel : ∀ t : Fin grid0.N, _)

/-- One tile: what the body stores at a place of the tile is the whole product at the place's index. -/
theorem tile (c : Dev nD) (t : Fin cfg0.N) (y) : k0_pay1 (iblk m c 0 t) (iblk m c 1 t) y
    = whole (m ((c : Thread nD τ).loc main_arg0)) (m ((c : Thread nD τ).loc main_arg1)) (((cfg0.win 2).blk t).view.emb y) := by
  pointwise [k0_pay1, whole, Cert.InProjRefIdeal.Read.val_main_v1, Cert.InProjRefIdeal.Read.val_main_v0]
  blk_point [iblk, V, idx t]

/-- The result array after the run. -/
theorem result (c : Dev nD) : (dats m 0 c).arrAt 2 cfg0.N
    = whole (m ((c : Thread nD τ).loc main_arg0)) (m ((c : Thread nD τ).loc main_arg1)) := by
  refine (dats m 0 c).arrAt_eq_of_covers 2 _ (by decide +kernel) fun t _ y => ?_
  blk_simp
  rw [after0_2]; frame_out
  exact tile m c t y

end Cert.InProjIdeal.Tiled

end

end
-- ==== Proof.InProjClaims.lean ====
module

public import proofs.«01_k».proof.Defs
public import proofs.«01_k».proof.Proof.InProjValue
public import proofs.«01_k».proof.Proof.Gen.InProj.Frame
public import Idealize.ShloMosaic.Lib.Claim

/-! # The claims of the in-projection -/

set_option maxRecDepth 16384

@[expose] public section

noncomputable section

namespace Cert.Proof.InProjClaims

open Idealize.ShloMosaic Idealize.ShloMosaic.TcCoe Idealize.SL.Sem

/-- The reference runs, leaves its arguments alone, and has no semaphore to leave anything on. -/
theorem reference_frame : Cert.quiescent_InProjRefIdeal := fun m g _ =>
  (θ_run Cert.InProjRefIdeal.defs _ _).mono
    (fun r h => ⟨fun c => (h c).2, Idealize.ShloMosaic.sem_eq_zero_of_no_sems (by decide) r.2⟩)
    (Cert.InProjRefIdeal.Value.run (F := Ideal) m g)

/-- The kernel's result array is the reference's. -/
theorem algebraic : Cert.algebraic_InProjIdeal_InProjRefIdeal := by
  intro m g m' g' _ hagree
  refine ⟨fun c => Cert.InProjIdeal.Tiled.whole (m ((c.tc : Thread _ _).loc Cert.InProjIdeal.main_arg0))
      (m ((c.tc : Thread _ _).loc Cert.InProjIdeal.main_arg1)), ?_, ?_⟩
  · exact (θ_run Cert.InProjIdeal.defs _ _).mono
      (fun _ h c => ⟨(h c).1.trans (Cert.InProjIdeal.Tiled.result m c), (h c).2⟩)
      (Cert.InProjIdeal.Value.run_blocks m g)
  · refine (θ_run Cert.InProjRefIdeal.defs _ _).mono (fun _ h c => ⟨(h c).1.trans ?_, (h c).2⟩)
      (Cert.InProjRefIdeal.Value.run (F := Ideal) m' g')
    rw [(hagree c).1, (hagree c).2]
    rfl

end Cert.Proof.InProjClaims

end

end
-- ==== Proof.InProjTmValue.lean ====
module

public import proofs.«01_k».proof.Proof.Gen.InProjTmIdeal.Value
public import proofs.«01_k».proof.Proof.Gen.InProjTmRefIdeal.Run
public import proofs.«01_k».proof.Proof.Gen.InProjTmRefIdeal.Read
public import Idealize.ShloMosaic.Lib.Pipeline.ValueKit

/-! # The time-major in-projection: the tiles staged by strided rows are the whole product -/

set_option maxRecDepth 16384

@[expose] public section

noncomputable section

open Idealize.ShloMosaic Idealize.ShloMosaic.TcCoe Idealize.SL.Sem
open Idealize.ShloMosaic.Pipeline (Dat)

namespace Cert.InProjTmIdeal.Tiled

open Cert.InProjTmIdeal Cert.InProjTmIdeal.Gen

variable (m : (ℓ : Loc nD τ sig) → Buf (Elt Ideal) ℓ)

/-- The product of one row tile, rows in the order (position, batch): row `r` is batch `r % 8` at position `r / 8`. -/
def prod (x : FVec Ideal S8x128x1024 .f32) (w : FVec Ideal S1024x1536 .bf16) (r : Fin 1024) (j : Fin 1536) : EReal :=
  ∑ k : Fin 1024, x (ix3 ⟨r.val % 8, by omega⟩ ⟨r.val / 8, by omega⟩ k) * w (ix2 k j)

/-- What the scratch holds once every row has been stored: lane chunk, row, lane. -/
def chunks (x : FVec Ideal S8x128x1024 .f32) (w : FVec Ideal S1024x1536 .bf16) : FVec Ideal S12x1024x128 .f32 :=
  fun s => prod x w (s 1) ⟨(s 0).val * 128 + (s 2).val, by
    have h0 : (s 0).val < 12 := (s 0).isLt
    have h2 : (s 2).val < 128 := (s 2).isLt
    omega⟩

/-- The rows of batch `b` in lane chunk `c`, as the body stores them. -/
theorem row (x : FVec Ideal S8x128x1024 .f32) (w : FVec Ideal S1024x1536 .bf16) (c b o : ℕ) (hc : c < 12) (hb : b < 8)
    (ho : o = c * 128) (hs : S128x1536.Slices ![0, o] S128x128)
    (hl : ∀ a, (![b, 0, 0] : Fin 3 → ℕ) a + (![1, 128, 1024] : Fin 3 → ℕ) a ≤ S8x128x1024.size a)
    (u : Fin 1) (i j : Fin 128) :
    shapeCast S1x128x128 (extractStridedSlice S128x128 ![0, o]
        (k0_pay2 (F := Ideal) (View.ld x (Rect.unit (s := S8x128x1024) ![b, 0, 0] ![1, 128, 1024] hl)) w) hs)
        shapeCasts_S128x128_S1x128x128 (ix3 u i j)
      = prod x w ⟨b + 8 * i.val, by omega⟩ ⟨c * 128 + j.val, by omega⟩ := by
  subst ho
  pointwise [k0_pay2, prod]
  blk_point []

/-- A store of batch `b`'s rows in lane chunk `c` agrees with what the scratch is to hold. -/
theorem row_piece (x : FVec Ideal S8x128x1024 .f32) (w : FVec Ideal S1024x1536 .bf16) (c b o : ℕ)
    (hs : S128x1536.Slices ![0, o] S128x128)
    (hl : ∀ a, (![b, 0, 0] : Fin 3 → ℕ) a + (![1, 128, 1024] : Fin 3 → ℕ) a ≤ S8x128x1024.size a)
    (inb) (pos) (hc : c < 12) (hb : b < 8) (ho : o = c * 128) (q : S1x128x128.Idx) :
    shapeCast S1x128x128 (extractStridedSlice S128x128 ![0, o]
        (k0_pay2 (F := Ideal) (View.ld x (Rect.unit (s := S8x128x1024) ![b, 0, 0] ![1, 128, 1024] hl)) w) hs)
        shapeCasts_S128x128_S1x128x128 q
      = chunks x w (({ off := ![c, b, 0], size := ![1, 128, 128], stride := ![1, 8, 1], inb := inb, stride_pos := pos }
          : Rect S12x1024x128).emb q) := by
  idx_vars q
  rw [row x w c b o hc hb ho hs hl]
  unfold chunks
  refine congrArg₂ (prod x w) (Fin.ext ?_) (Fin.ext ?_)
  · show b + 8 * q1.val = b + 8 * q1.val; rfl
  · show c * 128 + q2.val = (c + 1 * q0.val) * 128 + (0 + 1 * q2.val); omega

/-- The stores of the scratch are complete: each is the rows of a batch in a lane chunk, and none is missing. -/
def Complete (x : FVec Ideal S8x128x1024 .f32) (w : FVec Ideal S1024x1536 .bf16)
    (L : List (View.Piece (Elt Ideal) S12x1024x128 .f32)) : Prop :=
  (∀ p ∈ L, (p.1.off 2 = 0 ∧ p.1.size = ![1, 128, 128] ∧ p.1.stride = ![1, 8, 1])
      ∧ ∀ q : p.1.shape.Idx, p.2 q = chunks x w (p.1.emb q))
    ∧ ∀ (c : Fin 12) (b : Fin 8), (c.val, b.val) ∈ L.map fun p => (p.1.off 0, p.1.off 1)

/-- Every place of the scratch is in a store of a complete list. -/
theorem covered (x : FVec Ideal S8x128x1024 .f32) (w : FVec Ideal S1024x1536 .bf16)
    (L : List (View.Piece (Elt Ideal) S12x1024x128 .f32)) (hL : Complete x w L) (s : S12x1024x128.Idx) :
    ∃ p ∈ L, s ∈ p.1.set := by
  have h0 : (s 0).val < 12 := (s 0).isLt
  have h1 : (s 1).val < 1024 := (s 1).isLt
  have h2 : (s 2).val < 128 := (s 2).isLt
  obtain ⟨p, hp, e⟩ := List.mem_map.1 (hL.2 ⟨(s 0).val, h0⟩ ⟨(s 1).val % 8, by omega⟩)
  obtain ⟨⟨eo, es, et⟩, -⟩ := hL.1 p hp
  have e0 : p.1.off 0 = (s 0).val := congrArg Prod.fst e
  have e1 : p.1.off 1 = (s 1).val % 8 := congrArg Prod.snd e
  refine ⟨p, hp, ?_⟩
  rw [LoadRect.mem_set]
  intro a
  rw [es, et]
  match a with
  | ⟨0, _⟩ => exact ⟨0, Nat.one_pos, show (s 0).val = p.1.off 0 + 1 * 0 by omega⟩
  | ⟨1, _⟩ => exact ⟨(s 1).val / 8, show (s 1).val / 8 < 128 by omega, show (s 1).val = p.1.off 1 + 8 * ((s 1).val / 8) by omega⟩
  | ⟨2, _⟩ => exact ⟨(s 2).val, h2, show (s 2).val = p.1.off 2 + 1 * (s 2).val by omega⟩

/-- A lane chunk read back is the columns of the product it stands for. -/
theorem chunk_read {sig : RefSig} {κ : Kind} {sp : Space} (v : View sig κ sp S12x1024x128 .f32)
    (x : FVec Ideal S8x128x1024 .f32) (w : FVec Ideal S1024x1536 .bf16)
    (L : List (View.Piece (Elt Ideal) S12x1024x128 .f32)) (hL : Complete x w L) (c o : ℕ)
    (inb : ∀ a, (![c, 0, 0] : Fin 3 → ℕ) a + (![1, 1024, 128] : Fin 3 → ℕ) a ≤ S12x1024x128.size a)
    (inb' : ∀ a, (![0, o] : Fin 2 → ℕ) a + (![1024, 128] : Fin 2 → ℕ) a ≤ S1024x1536.size a) (hc : c < 12)
    (ho : o = c * 128) (q : S1024x128.Idx) :
    shapeCast S1024x128 (v.readCov L (Rect.unit (s := S12x1024x128) ![c, 0, 0] ![1, 1024, 128] inb).toLoadRect)
        shapeCasts_S1x1024x128_S1024x128 q
      = prod x w ((Rect.unit (s := S1024x1536) ![0, o] ![1024, 128] inb').emb q 0)
        ((Rect.unit (s := S1024x1536) ![0, o] ![1024, 128] inb').emb q 1) := by
  subst ho
  have key : v.readCov L (Rect.unit (s := S12x1024x128) ![c, 0, 0] ![1, 1024, 128] inb).toLoadRect
      = fun z : S1x1024x128.Idx => chunks x w ((Rect.unit (s := S12x1024x128) ![c, 0, 0] ![1, 1024, 128] inb).emb z) := by
    rw [View.readCov_eq_canon']
    funext z
    exact View.canon_apply_of_pieces (chunks x w) L (fun p hp => (hL.1 p hp).2) _ (covered x w L hL _)
  rw [key]
  refine (shapeCast_apply (t := S1024x128) (s := S1x1024x128) _ shapeCasts_S1x1024x128_S1024x128 q
    (fun a => match a with | ⟨0, _⟩ => ⟨0, Nat.one_pos⟩ | ⟨1, _⟩ => q 0 | ⟨2, _⟩ => q 1) ?_).trans ?_
  · rw [Shape.rowMajor_val_three, Shape.rowMajor_val_two]
    show (0 * 1024 + (q 0).val) * 128 + (q 1).val = (q 0).val * 128 + (q 1).val
    omega
  · unfold chunks
    refine congrArg₂ (prod x w) (Fin.ext rfl) (Fin.ext ?_)
    show (c + 1 * 0) * 128 + (0 + 1 * (q 1).val) = c * 128 + 1 * (q 1).val
    omega

/-- One tile: what the body leaves is the product of its rows, read back from the scratch chunk by chunk. -/
theorem pieces (c : Dev nD) (t : Fin cfg0.N) (y : S1024x1536.Idx) :
    outsAt0 (F := Ideal) m c t y = prod (iblk m c 0 t) (iblk m c 1 t) (y 0) (y 1) := by
  unfold outsAt0
  frame_out
  generalize iblk m c 0 t = x
  generalize iblk m c 1 t = w
  refine View.canon_apply_of_pieces (Val := Elt Ideal) (e := .f32) (fun y : S1024x1536.Idx => prod x w (y 0) (y 1)) _ ?_ y ?_
  · simp only [List.forall_mem_cons]
    refine (fun h => ⟨fun q => chunk_read _ x w _ h _ _ _ _ (by decide) (by decide) q,
      fun q => chunk_read _ x w _ h _ _ _ _ (by decide) (by decide) q,
      fun q => chunk_read _ x w _ h _ _ _ _ (by decide) (by decide) q,
      fun q => chunk_read _ x w _ h _ _ _ _ (by decide) (by decide) q,
      fun q => chunk_read _ x w _ h _ _ _ _ (by decide) (by decide) q,
      fun q => chunk_read _ x w _ h _ _ _ _ (by decide) (by decide) q,
      fun q => chunk_read _ x w _ h _ _ _ _ (by decide) (by decide) q,
      fun q => chunk_read _ x w _ h _ _ _ _ (by decide) (by decide) q,
      fun q => chunk_read _ x w _ h _ _ _ _ (by decide) (by decide) q,
      fun q => chunk_read _ x w _ h _ _ _ _ (by decide) (by decide) q,
      fun q => chunk_read _ x w _ h _ _ _ _ (by decide) (by decide) q,
      fun q => chunk_read _ x w _ h _ _ _ _ (by decide) (by decide) q, fun _ h => absurd h List.not_mem_nil⟩) ?_
    refine ⟨?_, ?_⟩
    · repeat
        refine List.forall_mem_cons.2 ⟨⟨⟨rfl, rfl, rfl⟩, fun q => ?_⟩, ?_⟩
        · exact row_piece x w _ _ _ (by decide) (by decide) (by decide) (by decide) (by decide) (by decide)
            (by decide) q
      exact fun _ h => absurd h List.not_mem_nil
    · simp only [List.map_cons, List.map_nil]
      decide +kernel
  · exact View.cover_of_tiled_head _ _ _ (by rfl) y

/-- The product the reference computes, over the kernel's argument arrays. -/
abbrev whole (x : FVec Ideal S8x4096x1024 .f32) (w : FVec Ideal S1x1024x1536 .f32) : FVec Ideal S32768x1536 .f32 :=
  Cert.InProjTmRefIdeal.Read.val_main_v3 (F := Ideal) x w

/-- The block indices of the three windows: the positions' tile for the input and the result, the whole weights. -/
theorem idx : ∀ t : Fin cfg0.N, win0_0.index t = ![0, (grid0.coords t 0).val, 0]
    ∧ win0_1.index t = ![0, 0] ∧ win0_2.index t = ![(grid0.coords t 0).val, 0] :=
  (by decide +kernel : ∀ t : Fin grid0.N, _)

/-- A place of a tile holds the whole product at the place's index. -/
theorem tile (c : Dev nD) (t : Fin cfg0.N) (y : S1024x1536.Idx) : prod (iblk m c 0 t) (iblk m c 1 t) (y 0) (y 1)
    = whole (m ((c : Thread nD τ).loc main_arg0)) (m ((c : Thread nD τ).loc main_arg1)) (((cfg0.win 2).blk t).view.emb y) := by
  idx_vars y
  pointwise [prod, whole, Cert.InProjTmRefIdeal.Read.val_main_v3, Cert.InProjTmRefIdeal.Read.val_main_v2, Cert.InProjTmRefIdeal.Read.val_main_v1, Cert.InProjTmRefIdeal.Read.val_main_v0]
  blk_point [iblk, V, idx t]

/-- The result array after the run. -/
theorem result (c : Dev nD) : (dats m 0 c).arrAt 2 cfg0.N
    = whole (m ((c : Thread nD τ).loc main_arg0)) (m ((c : Thread nD τ).loc main_arg1)) := by
  refine (dats m 0 c).arrAt_eq_of_covers 2 _ (by decide +kernel) fun t _ y => ?_
  blk_simp
  rw [after0_2]
  exact (pieces m c t y).trans (tile m c t y)

end Cert.InProjTmIdeal.Tiled

end

end
-- ==== Proof.InProjTmClaims.lean ====
module

public import proofs.«01_k».proof.Defs
public import proofs.«01_k».proof.Proof.InProjTmValue
public import proofs.«01_k».proof.Proof.Gen.InProjTm.Frame
public import Idealize.ShloMosaic.Lib.Claim

/-! # The claims of the time-major in-projection -/

set_option maxRecDepth 16384

@[expose] public section

noncomputable section

namespace Cert.Proof.InProjTmClaims

open Idealize.ShloMosaic Idealize.ShloMosaic.TcCoe Idealize.SL.Sem

/-- The reference runs, leaves its arguments alone, and has no semaphore to leave anything on. -/
theorem reference_frame : Cert.quiescent_InProjTmRefIdeal := fun m g _ =>
  (θ_run Cert.InProjTmRefIdeal.defs _ _).mono
    (fun r h => ⟨fun c => (h c).2, Idealize.ShloMosaic.sem_eq_zero_of_no_sems (by decide) r.2⟩)
    (Cert.InProjTmRefIdeal.Value.run (F := Ideal) m g)

/-- The kernel's result array is the reference's. -/
theorem algebraic : Cert.algebraic_InProjTmIdeal_InProjTmRefIdeal := by
  intro m g m' g' _ hagree
  refine ⟨fun c => Cert.InProjTmIdeal.Tiled.whole (m ((c.tc : Thread _ _).loc Cert.InProjTmIdeal.main_arg0))
      (m ((c.tc : Thread _ _).loc Cert.InProjTmIdeal.main_arg1)), ?_, ?_⟩
  · exact (θ_run Cert.InProjTmIdeal.defs _ _).mono
      (fun _ h c => ⟨(h c).1.trans (Cert.InProjTmIdeal.Tiled.result m c), (h c).2⟩)
      (Cert.InProjTmIdeal.Value.run_blocks m g)
  · refine (θ_run Cert.InProjTmRefIdeal.defs _ _).mono (fun _ h c => ⟨(h c).1.trans ?_, (h c).2⟩)
      (Cert.InProjTmRefIdeal.Value.run (F := Ideal) m' g')
    rw [(hagree c).1, (hagree c).2]
    rfl

end Cert.Proof.InProjTmClaims

end

end
-- ==== Proof.MoeGather.lean ====
/-
  The expert kernel's gather: 512 token tiles (eight rows of 128 lanes each) copied out of the token array into one
  slot of a two-slot buffer, every copy completing on the slot's own DMA semaphore, and all of them awaited at once.
  A slot is idle, or has `j` of its 512 copies issued (`Gath`), or holds the gathered tiles (`filled`).
-/
module

public import proofs.«01_k».proof.Proof.Gen.KernelIdeal.Loops
public import proofs.«01_k».proof.Proof.Gen.KernelIdeal.Launch
public import Idealize.ShloMosaic.Lib.Pipeline.FrameBody
public import Idealize.ShloMosaic.Lib.Batch
public import Idealize.ShloMosaic.Lib.Ring
public import Idealize.ShloMosaic.Lib.Tactic

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two-slot buffer, the token array, and their contents. -/
abbrev xm : Memref sig .tc .vmem S2x4096x128 .f32 := Memref.whole cc0_scratch2
abbrev xh : Memref sig .tc .hbm S262144x128 .f32 := Memref.whole main_v0
abbrev SlotBuf (F : FTy → Type) : Type := S2x4096x128.Idx → Elt F .f32
abbrev XBuf (F : FTy → Type) : Type := S262144x128.Idx → Elt F .f32

/-- A multi-index of rank two or three, from its coordinates. -/
def i2 {n0 n1 : ℕ} (a : Fin n0) (b : Fin n1) : (⟨2, ![n0, n1]⟩ : Shape).Idx := fun | ⟨0, _⟩ => a | ⟨1, _⟩ => b
def i3 {n0 n1 n2 : ℕ} (a : Fin n0) (b : Fin n1) (d : Fin n2) : (⟨3, ![n0, n1, n2]⟩ : Shape).Idx :=
  fun | ⟨0, _⟩ => a | ⟨1, _⟩ => b | ⟨2, _⟩ => d

/-- The token array's element at row `n`, lane `l` (rows taken modulo their number). -/
def xAt (X : XBuf F) (n : ℕ) (l : Fin 128) : Elt F .f32 := X (i2 ⟨n % 262144, Nat.mod_lt _ (by decide)⟩ l)

/-- The gathered tiles: row `8 t + a` of either slot is row `rw t + a` of the token array. -/
def gath (X : XBuf F) (rw' : Fin 512 → ℕ) : SlotBuf F := fun y =>
  xAt X (rw' ⟨(y 1).val / 8, by have : (y 1).val < 4096 := (y 1).isLt; omega⟩ + (y 1).val % 8) (y 2)

/-- The elements of slot `s`, of its tile `t`, and of eight rows of the token array. -/
def slotS (s : Fin 2) : Finset S2x4096x128.Idx := Finset.univ.filter fun y => (y 0).val = s.val
def tileS (s : Fin 2) (t : Fin 512) : Finset S2x4096x128.Idx :=
  Finset.univ.filter fun y => (y 0).val = s.val ∧ (y 1).val / 8 = t.val
def rowS (r : ℕ) : Finset S262144x128.Idx := Finset.univ.filter fun y => r ≤ (y 0).val ∧ (y 0).val < r + 8

/-- A slot's semaphore. -/
def cell (s : Fin 2) : DmaSem sig := ![16, 17] s

/-- A tile of the buffer, and eight rows of the token array, as the copies name them. -/
abbrev dstV (os : Fin 3 → ℕ) (ot : Fin 2 → ℕ) (h1 : ∀ a, os a + S1x4096x128.size a ≤ S2x4096x128.size a)
    (h2 : ∀ a, ot a + S8x128.size a ≤ S4096x128.size a) : Memref sig .tc .vmem S8x128 .f32 :=
  ((xm.slice (Rect.unit (s := S2x4096x128) os S1x4096x128.size h1) (fun _ => rfl)).squeeze S4096x128 squeezes_S1x4096x128_S4096x128).slice
    (Rect.unit (s := S4096x128) ot S8x128.size h2) (fun _ => rfl)
abbrev srcV (o : Fin 2 → ℕ) (h : ∀ a, o a + S8x128.size a ≤ S262144x128.size a) : Memref sig .tc .hbm S8x128 .f32 :=
  xh.slice (Rect.unit (s := S262144x128) o S8x128.size h) (fun _ => rfl)
abbrev semV (oc : Fin 1 → ℕ) (h : ∀ a, oc a + S1.size a ≤ S2.size a) : DmaSem sig :=
  ((cc0_scratch3.slice (Rect.unit (s := S2) oc S1.size h)).squeeze S_ squeezes_S1_S_).sem

theorem semV_eq (s : Fin 2) {oc : Fin 1 → ℕ} (e : oc = ![s.val]) (h) : semV oc h = cell s := by
  subst e; revert h; revert s; decide

theorem srcV_emb (r : ℕ) (h) (x : S8x128.Idx) :
    (srcV ![r, 0] h).view.emb x = i2 ⟨r + (x 0).val, by have := h 0; have h' : (x 0).val < 8 := (x 0).isLt; change r + 8 ≤ 262144 at this; omega⟩ (x 1) := by
  funext a; apply Fin.ext
  fin_cases a
  · show r + 1 * (x 0).val = r + (x 0).val; omega
  · show 0 + 1 * (x 1).val = (x 1).val; omega

theorem dstV_emb (s : Fin 2) (t : Fin 512) (h1 h2) (x : S8x128.Idx) :
    (dstV ![s.val, 0, 0] ![8 * t.val, 0] h1 h2).view.emb x
      = i3 s ⟨8 * t.val + (x 0).val, by have h' : (x 0).val < 8 := (x 0).isLt; omega⟩ (x 1) := by
  have e := Shape.reshapeEquiv_cons_one (n := 2) (d := ![4096, 128]) squeezes_S1x4096x128_S4096x128.numel_eq
    ((Rect.unit (s := S4096x128) ![8 * t.val, 0] S8x128.size h2).emb x)
  show (Rect.unit (s := S2x4096x128) ![s.val, 0, 0] S1x4096x128.size h1).emb (Shape.reshapeEquiv squeezes_S1x4096x128_S4096x128.numel_eq
    ((Rect.unit (s := S4096x128) ![8 * t.val, 0] S8x128.size h2).emb x)) = _
  rw [show Shape.reshapeEquiv squeezes_S1x4096x128_S4096x128.numel_eq ((Rect.unit (s := S4096x128) ![8 * t.val, 0] S8x128.size h2).emb x) = _ from e]
  funext a; apply Fin.ext
  fin_cases a
  · show s.val + 1 * 0 = s.val; omega
  · show 0 + 1 * (8 * t.val + 1 * (x 0).val) = 8 * t.val + (x 0).val; omega
  · show 0 + 1 * (0 + 1 * (x 1).val) = (x 1).val; omega

theorem slot_tiles (s : Fin 2) : Finset.univ.biUnion (tileS s) = slotS s := by
  ext y
  simp only [Finset.mem_biUnion, tileS, slotS, Finset.mem_filter, Finset.mem_univ, true_and]
  constructor
  · rintro ⟨t, h, -⟩; exact h
  · intro h; exact ⟨⟨(y 1).val / 8, by have : (y 1).val < 4096 := (y 1).isLt; omega⟩, h, rfl⟩

theorem tiles_disjoint (s : Fin 2) : ∀ t t' : Fin 512, t ≠ t' → Disjoint (tileS s t) (tileS s t') := fun t t' hne => by
  rw [Finset.disjoint_left]; intro y hy hy'
  simp only [tileS, Finset.mem_filter, Finset.mem_univ, true_and] at hy hy'
  exact hne (Fin.ext (by omega))

theorem srcV_set (r : ℕ) (h) : (srcV ![r, 0] h).view.set = rowS r := by
  ext y
  simp only [View.set, Finset.mem_map, Finset.mem_univ, true_and, rowS, Finset.mem_filter]
  constructor
  · rintro ⟨x, rfl⟩
    rw [srcV_emb]
    have h' : (x 0).val < 8 := (x 0).isLt
    show r ≤ r + (x 0).val ∧ r + (x 0).val < r + 8
    omega
  · rintro ⟨ha, hb⟩
    refine ⟨(i2 ⟨(y 0).val - r, by omega⟩ (y 1) : S8x128.Idx), ?_⟩
    rw [srcV_emb]
    funext a; fin_cases a
    · apply Fin.ext; show r + ((y 0).val - r) = (y 0).val; omega
    · rfl

theorem dstV_set (s : Fin 2) (t : Fin 512) (h1 h2) : (dstV ![s.val, 0, 0] ![8 * t.val, 0] h1 h2).view.set = tileS s t := by
  ext y
  simp only [View.set, Finset.mem_map, Finset.mem_univ, true_and, tileS, Finset.mem_filter]
  constructor
  · rintro ⟨x, rfl⟩
    rw [dstV_emb]
    have h' : (x 0).val < 8 := (x 0).isLt
    show s.val = s.val ∧ (8 * t.val + (x 0).val) / 8 = t.val
    omega
  · rintro ⟨ha, hb⟩
    refine ⟨(i2 ⟨(y 1).val - 8 * t.val, by omega⟩ (y 2) : S8x128.Idx), ?_⟩
    rw [dstV_emb]
    funext a; fin_cases a
    · exact Fin.ext ha.symm
    · apply Fin.ext; show 8 * t.val + ((y 1).val - 8 * t.val) = (y 1).val; omega
    · rfl

/-! ## What is held of a slot -/

variable (c : Dev nD)

/-- The share of the token array that goes with slot `s`: a half each. -/
def half (s : Fin 2) : PosShare TreeShare := if s = 0 then (fullShare : PosShare TreeShare).left else (fullShare : PosShare TreeShare).right

/-- What copy `t` of a gather into slot `s` delivers: its tile holding the gathered rows, and the rows it read. -/
def dlv (s : Fin 2) (X : XBuf F) (rw' : Fin 512 → ℕ) (t : Fin 512) : sProp 𝕄 :=
  iprop((xm.view.loc (c : Thread nD τ) ↦[tileS s t]{fullShare} gath X rw') ∗ (xh.view.loc (c : Thread nD τ) ↦[rowS (rw' t)]{Transfers.shareTok (half s) 512 t} X))

instance dlv_storable (s : Fin 2) (X : XBuf F) (rw' : Fin 512 → ℕ) (t : Fin 512) : BI.Storable (upEmb : UEmb _ 𝕄) (dlv c s X rw' t) := by
  unfold dlv; infer_instance

/-- The slot's batch of 512 copies, `j` of them issued. -/
def bat (s : Fin 2) (X : XBuf F) (rw' : Fin 512 → ℕ) (j : ℕ) : sProp 𝕄 :=
  Transfers.Batch (countersEmb (U := Pipeline.UD sig nD τ)) (c : Thread nD τ) (SemLoc.dma (cell s)) () 128 (dlv c s X rw') j 0

/-- A slot at rest: its elements at some contents, its share of the token array, its counter at zero. -/
def idle (s : Fin 2) (X : XBuf F) : sProp 𝕄 :=
  iprop((∃ f : SlotBuf F, xm.view.loc (c : Thread nD τ) ↦[slotS s]{fullShare} f) ∗ (xh.view.loc (c : Thread nD τ) ↦{half s} X)
    ∗ semVal ((c : Thread nD τ), SemLoc.dma (cell s)) 0)

/-- A slot holding the gathered tiles. -/
def filled (s : Fin 2) (X : XBuf F) (rw' : Fin 512 → ℕ) : sProp 𝕄 :=
  iprop((xm.view.loc (c : Thread nD τ) ↦[slotS s]{fullShare} gath X rw') ∗ (xh.view.loc (c : Thread nD τ) ↦{half s} X)
    ∗ semVal ((c : Thread nD τ), SemLoc.dma (cell s)) 0)

/-- A slot with `j` of its copies issued: the tiles and read tokens not yet lent, the tokens' elements not lent, what
    remains of the share, and the batch. -/
def Gath (s : Fin 2) (X : XBuf F) (rw' : Fin 512 → ℕ) (j : ℕ) : sProp 𝕄 :=
  iprop(∃ f : SlotBuf F, bigSep (Transfers.pending j) (fun t : Fin 512 => xm.view.loc (c : Thread nD τ) ↦[tileS s t]{fullShare} f)
    ∗ bigSep (Transfers.pending j) (fun t : Fin 512 => xh.view.loc (c : Thread nD τ) ↦{Transfers.shareTok (half s) 512 t} X)
    ∗ bigSep (Transfers.issued j) (fun t : Fin 512 => xh.view.loc (c : Thread nD τ) ↦[Finset.univ \ rowS (rw' t)]{Transfers.shareTok (half s) 512 t} X)
    ∗ (xh.view.loc (c : Thread nD τ) ↦{Transfers.shareDrop (half s) 512} X)
    ∗ bat c s X rw' j)

theorem filled_idle (s : Fin 2) (X : XBuf F) (rw' : Fin 512 → ℕ) : (filled c s X rw' : sProp 𝕄) ⊢ idle c s X := by
  unfold filled idle
  iintro ⟨H, H2⟩
  isplitl [H]; · iexists _; iexact H
  iexact H2

theorem start (s : Fin 2) (X : XBuf F) (rw' : Fin 512 → ℕ) : (idle c s X : sProp 𝕄) ⊢ |={Set.univ}=> Gath c s X rw' 0 := by
  unfold idle Gath
  iintro ⟨⟨%f, Hx⟩, Hh, Hv⟩
  imod (Transfers.batch_alloc' (Lvl := ℕ) (countersEmb (U := Pipeline.UD sig nD τ)) (c : Thread nD τ) () 128 (dlv c s X rw') (sm := SemLoc.dma (cell s)) (E := Set.univ)) $$ Hv with HB
  imodintro
  ihave Hh' := (Transfers.pointsTo_toks_split (half s) 512) $$ Hh
  icases Hh' with ⟨Hd, Ht⟩
  ihave Hx' := (Entails.of_eq (Ring.pointsTo_sub_blocks (ℓ := xm.view.loc (c : Thread nD τ)) (tileS s) (tiles_disjoint s) (slotS s) (slot_tiles s) f)) $$ Hx
  iexists f
  isplitl [Hx']; · iapply (Entails.of_eq (Transfers.bigSep_pending_zero _)); iexact Hx'
  isplitl [Ht]; · iapply (Entails.of_eq (Transfers.bigSep_pending_zero _)); iexact Ht
  isplitr; · rw [Transfers.issued_zero, bigSep_empty]; iempintro
  isplitl [Hd]; · iexact Hd
  unfold bat; iexact HB

theorem collect (s : Fin 2) (X : XBuf F) (rw' : Fin 512 → ℕ) :
    iprop(bigSep Finset.univ (dlv c s X rw') ∗ bigSep Finset.univ (fun t : Fin 512 => xh.view.loc (c : Thread nD τ) ↦[Finset.univ \ rowS (rw' t)]{Transfers.shareTok (half s) 512 t} X)
      ∗ (xh.view.loc (c : Thread nD τ) ↦{Transfers.shareDrop (half s) 512} X) ∗ semVal ((c : Thread nD τ), SemLoc.dma (cell s)) 0) ⊢ (filled c s X rw' : sProp 𝕄) := by
  unfold filled
  iintro ⟨HD, Hr', Hd, Hv⟩
  ihave HD' := (show (bigSep Finset.univ (dlv c s X rw') : sProp 𝕄) ⊢ iprop(bigSep Finset.univ (fun t : Fin 512 => xm.view.loc (c : Thread nD τ) ↦[tileS s t]{fullShare} gath X rw')
      ∗ bigSep Finset.univ (fun t : Fin 512 => xh.view.loc (c : Thread nD τ) ↦[rowS (rw' t)]{Transfers.shareTok (half s) 512 t} X))
    from Entails.of_eq (BI.bigSep_sep _ _ _)) $$ HD
  icases HD' with ⟨Hx, Hr⟩
  isplitl [Hx]
  · iapply (Entails.of_eq (Ring.pointsTo_sub_blocks (ℓ := xm.view.loc (c : Thread nD τ)) (tileS s) (tiles_disjoint s) (slotS s) (slot_tiles s) (gath X rw')).symm)
    iexact Hx
  isplitr [Hv]
  · iapply (Transfers.pointsTo_toks_join (half s) 512)
    isplitl [Hd]; · iexact Hd
    iapply (show iprop(bigSep Finset.univ (fun t : Fin 512 => xh.view.loc (c : Thread nD τ) ↦[rowS (rw' t)]{Transfers.shareTok (half s) 512 t} X)
        ∗ bigSep Finset.univ (fun t : Fin 512 => xh.view.loc (c : Thread nD τ) ↦[Finset.univ \ rowS (rw' t)]{Transfers.shareTok (half s) 512 t} X))
        ⊢ (bigSep Finset.univ (fun t : Fin 512 => xh.view.loc (c : Thread nD τ) ↦{Transfers.shareTok (half s) 512 t} X) : sProp 𝕄)
      from (Entails.of_eq (BI.bigSep_sep _ _ _).symm).trans
        (BI.bigSep_mono (fun t _ => (pointsTo_split_subset (ℓ := xh.view.loc (c : Thread nD τ)) (Finset.subset_univ (rowS (rw' t)))).2)))
    isplitl [Hr]; · iexact Hr
    iexact Hr'
  iexact Hv

/-- A tile's element is the token array's. -/
theorem gath_tile (s : Fin 2) (X : XBuf F) (rw' : Fin 512 → ℕ) (t : Fin 512) (hb : rw' t + 8 ≤ 262144) (a : Fin 8) (l : Fin 128) :
    gath X rw' (i3 s ⟨8 * t.val + a.val, by omega⟩ l) = X (i2 ⟨rw' t + a.val, by omega⟩ l) := by
  unfold gath xAt
  have e1 : (⟨(8 * t.val + a.val) / 8, by omega⟩ : Fin 512) = t := Fin.ext (by show (8 * t.val + a.val) / 8 = t.val; omega)
  show X (i2 ⟨(rw' ⟨(8 * t.val + a.val) / 8, _⟩ + (8 * t.val + a.val) % 8) % 262144, _⟩ l) = _
  refine congrArg X (congrArg (fun r : Fin 262144 => (i2 r l : S262144x128.Idx)) (Fin.ext ?_))
  show (rw' ⟨(8 * t.val + a.val) / 8, _⟩ + (8 * t.val + a.val) % 8) % 262144 = rw' t + a.val
  rw [e1]; omega

/-- The elements a copy reads are the gathered ones at the elements it writes. -/
theorem gath_emb (s : Fin 2) (X : XBuf F) (rw' : Fin 512 → ℕ) (t : Fin 512) (h1 h2 h3) (x : S8x128.Idx) :
    X ((srcV ![rw' t, 0] h3).view.emb x) = gath X rw' ((dstV ![s.val, 0, 0] ![8 * t.val, 0] h1 h2).view.emb x) := by
  have hb : rw' t + 8 ≤ 262144 := h3 0
  refine Eq.trans ?_ (congrArg (gath X rw') (dstV_emb s t h1 h2 x)).symm
  refine Eq.trans ?_ (gath_tile s X rw' t hb (x 0) (x 1)).symm
  exact congrArg X (srcV_emb (rw' t) h3 x)

theorem issued_step (D : Fin 512 → sProp 𝕄) (j : ℕ) (hj : j < 512) :
    (bigSep (Transfers.issued (j + 1)) D : sProp 𝕄) = iprop(D ⟨j, hj⟩ ∗ bigSep (Transfers.issued j) D) := by
  rw [Transfers.issued_succ hj, bigSep_insert (Transfers.not_mem_issued hj)]; rfl

/-- ONE COPY ISSUED: transfer `j` of the slot's gather, the offsets the program computes equal to the tile's and the row's. -/
theorem issue {𝒱 : Variants} (s : Fin 2) (X : XBuf F) (rw' : Fin 512 → ℕ) (j : ℕ) (hj : j < 512)
    {os : Fin 3 → ℕ} {ot o : Fin 2 → ℕ} {oc : Fin 1 → ℕ} (es : os = ![s.val, 0, 0]) (et : ot = ![8 * j, 0]) (eo : o = ![rw' ⟨j, hj⟩, 0]) (ec : oc = ![s.val])
    {h1 h2 h3 h4} {hsrc hdst hsem} {α : Type} {k : PUnit → Prog (TpuEff nD τ sig (Elt F) Λ₀ .tc) α} {Q : α → sProp 𝕄} :
    Gath c s X rw' j ⊢ iprop((Gath c s X rw' (j + 1) -∗ wp frame (wpE defs₀ 𝒱 (c : Thread nD τ) none) Set.univ (k ⟨⟩) Q)
      -∗ wp frame (wpE defs₀ 𝒱 (c : Thread nD τ) none) Set.univ
          (.op (.enqueueDmaAs (srcV o h3) (.here (dstV os ot h1 h2)) .same (.dma (semV oc h4)) hsrc hdst hsem) k) Q) := by
  subst es et eo
  revert hsem
  rw [semV_eq s ec h4]
  intro hsem
  unfold Gath bat
  iintro ⟨%f, Hx, Ht, Hr, Hd, HB⟩ HK
  ihave Hx' := (Entails.of_eq (Transfers.bigSep_pending_step (fun t : Fin 512 => (xm.view.loc (c : Thread nD τ) ↦[tileS s t]{fullShare} f : sProp 𝕄)) j hj)) $$ Hx
  ihave Ht' := (Entails.of_eq (Transfers.bigSep_pending_step (fun t : Fin 512 => (xh.view.loc (c : Thread nD τ) ↦{Transfers.shareTok (half s) 512 t} X : sProp 𝕄)) j hj)) $$ Ht
  icases Hx' with ⟨Hx0, Hx⟩
  icases Ht' with ⟨Ht0, Ht⟩
  ihave Ht0' := (pointsTo_split_subset (Finset.subset_univ (rowS (rw' ⟨j, hj⟩)))).1 $$ Ht0
  icases Ht0' with ⟨Ha, Hb⟩
  iapply (Transfers.wp_dmaBatch (countersEmb (U := Pipeline.UD sig nD τ)) 𝒱 (c : Thread nD τ) none
    (src := srcV ![rw' ⟨j, hj⟩, 0] h3) (dst := dstV ![s.val, 0, 0] ![8 * j, 0] h1 h2) (fs := X) (fd := f) (q := Transfers.shareTok (half s) 512 ⟨j, hj⟩) () 128 rfl
    (Sd := tileS s ⟨j, hj⟩) (by rw [dstV_set s ⟨j, hj⟩]) (D := dlv c s X rw') (j := j) (u := 0) hj (Nat.zero_le _)
    (by
      unfold dlv
      rw [srcV_set]
      refine sep_mono_left (Entails.of_eq (pointsTo_congr fun y hy => ?_))
      rw [← dstV_set s ⟨j, hj⟩ h1 h2] at hy
      obtain ⟨x, -, rfl⟩ := Finset.mem_map.mp hy
      exact (View.write_emb_of_mem _ _ (Finset.mem_univ x)).trans (gath_emb s X rw' ⟨j, hj⟩ h1 h2 h3 x)) ) $$ [Ha Hx0 HB]
  · isplitl [Ha]; · rw [srcV_set]; iexact Ha
    isplitl [Hx0]; · iexact Hx0
    iexact HB
  iintro HB
  iapply HK
  iexists f
  isplitl [Hx]; · iexact Hx
  isplitl [Ht]; · iexact Ht
  isplitl [Hr Hb]
  · iapply (Entails.of_eq (issued_step (fun t : Fin 512 => (xh.view.loc (c : Thread nD τ) ↦[Finset.univ \ rowS (rw' t)]{Transfers.shareTok (half s) 512 t} X : sProp 𝕄)) j hj).symm)
    isplitl [Hb]; · iexact Hb
    iexact Hr
  isplitl [Hd]; · iexact Hd
  iexact HB

/-- A whole slot, as the wait names it. -/
abbrev slotV (os : Fin 3 → ℕ) (h1 : ∀ a, os a + S1x4096x128.size a ≤ S2x4096x128.size a) : Memref sig .tc .vmem S4096x128 .f32 :=
  (xm.slice (Rect.unit (s := S2x4096x128) os S1x4096x128.size h1) (fun _ => rfl)).squeeze S4096x128 squeezes_S1x4096x128_S4096x128

/-- THE WAIT: one wait for a whole slot's amount drains the 512 copies. -/
theorem await {𝒱 : Variants} (s : Fin 2) (X : XBuf F) (rw' : Fin 512 → ℕ)
    {os : Fin 3 → ℕ} {oc : Fin 1 → ℕ} (ec : oc = ![s.val]) {h1 h1' h4} {hsrc hdst} {W : Waits sig Unit}
    {α : Type} {k : PUnit → Prog (TpuEff nD τ sig (Elt F) Λ₀ .tc) α} {Q : α → sProp 𝕄} :
    iprop(Gath c s X rw' 512 ∗ owes (c : Thread nD τ) 0 W) ⊢ iprop((iprop(filled c s X rw' ∗ owes (c : Thread nD τ) 0 (insert (SemLoc.dma (cell s), ()) W)) -∗ wp frame (wpE defs₀ 𝒱 (c : Thread nD τ) none) Set.univ (k ⟨⟩) Q)
      -∗ wp frame (wpE defs₀ 𝒱 (c : Thread nD τ) none) Set.univ
          (.op (.waitDma2 (semV oc h4) (slotV os h1) (slotV os h1') hsrc hdst) k) Q) := by
  rw [semV_eq s ec h4]
  unfold Gath bat
  iintro ⟨⟨%f, Hx, Ht, Hr, Hd, HB⟩, HO⟩ HK
  iapply (Transfers.wp_waitBatchAll (countersEmb (U := Pipeline.UD sig nD τ)) 𝒱 (c : Thread nD τ) none () (N := 128) (J := 65536) (dstw := slotV os h1')
    (show cc0_scratch2.dmaCredit S4096x128 .f32 = 65536 from rfl) (by decide) (D := dlv c s X rw') (u := 0) (by decide)) $$ [HB HO]
  · isplitl [HB]; · iexact HB
    iexact HO
  iintro ⟨HD, Hv, HO⟩
  iapply HK
  isplitr [HO]
  · iapply (collect c s X rw')
    isplitl [HD]; · iexact HD
    isplitl [Hr]; · rw [Transfers.issued_all rfl]; iexact Hr
    isplitl [Hd]; · iexact Hd
    iexact Hv
  iexact HO

end Cert.KernelIdeal.Moe

end
-- ==== Proof.MoeLoops.lean ====
/-
  The expert kernel's two counted loops: each trip issues eight of a slot's 512 copies, at rows read from a staged table.
-/
module

public import proofs.«01_k».proof.Proof.MoeGather

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The rows a staged table of words names, and their range. -/
def rows (R : S1x1x512.Idx → Elt F .i32) (t : Fin 512) : ℕ := (R (i3 0 0 t) : BitVec 32).toNat
def InRange (R : S1x1x512.Idx → Elt F .i32) : Prop := ∀ t : Fin 512, 8 ∣ rows R t ∧ rows R t + 8 ≤ 262144

variable (c : Dev nD) (i : grid0.Coords) (arg1 : Memref sig .tc .smem S288 .i32) (harg1 : arg1.IsWhole) (arg2 : Memref sig .tc .smem S1 .i32) (harg2 : arg2.IsWhole)
  (arg3 : Memref sig .tc .smem S1x1x512 .i32) (harg3 : arg3.IsWhole) (arg4 : Memref sig .tc .smem S1x1x512 .i32) (harg4 : arg4.IsWhole)
  (arg6 : Memref sig .tc .vmem S1x8x128 .f32) (harg6 : arg6.IsWhole) (arg7 : Memref sig .tc .vmem S1x1x1024x2048 .f32) (harg7 : arg7.IsWhole)
  (arg8 : Memref sig .tc .vmem S1x1x1x2048 .f32) (harg8 : arg8.IsWhole) (arg9 : Memref sig .tc .vmem S1x1x1024x1024 .f32) (harg9 : arg9.IsWhole)
  (arg10 : Memref sig .tc .vmem S1x1x1x1024 .f32) (harg10 : arg10.IsWhole) (arg11 : Memref sig .tc .vmem S4096x128 .f32) (harg11 : arg11.IsWhole)

/-- A program that returns, followed by another, is the other. -/
theorem prog_ret {E : Type → Type} {α β : Type} (a : α) (k : α → Prog E β) : (Prog.ret a).bind k = k a := rfl

/-- Any word of the table is in range. -/
theorem any_of {R : S1x1x512.Idx → Elt F .i32} (hR : InRange R) (y : S1x1x512.Idx) :
    8 ∣ (R y : BitVec 32).toNat ∧ (R y : BitVec 32).toNat + 8 ≤ 262144 := by
  have e : y = i3 0 0 (y 2) := by
    funext a; fin_cases a
    · exact Subsingleton.elim (α := Fin 1) _ _
    · exact Subsingleton.elim (α := Fin 1) _ _
    · rfl
  rw [e]; exact hR (y 2)

/-- The word loaded at `(0, 0, j)` is the table's word `j`. -/
theorem word_at {m : Memref sig .tc .smem S1x1x512 .i32} {f : m.view.ty.Contents (Elt F)} {o : Fin 3 → ℕ} {h hh} (j : Fin 512) (e : o = ![0, 0, j.val]) :
    (![((m.view.readAt (Elt F) (Rect.unit (s := S1x1x512) o S1x1x1.size h).toLoadRect f (Shape.Idx.first hh) : Elt F .i32) : BitVec 32).toNat, 0] : Fin 2 → ℕ)
      = ![rows (F := F) (m.view.read (Elt F) f) j, 0] := by
  subst e
  have e : (Rect.unit (s := S1x1x512) ![0, 0, j.val] S1x1x1.size h).toLoadRect.idx (Shape.Idx.first hh) = i3 0 0 j := by
    funext a; fin_cases a
    · rfl
    · rfl
    · apply Fin.ext; show j.val + 0 = j.val; omega
  unfold rows
  rw [View.readAt_apply, e]

theorem chk1_of {R : S1x1x512.Idx → Elt F .i32} (hR : InRange R) (y : S1x1x512.Idx) : k0_chk1 i (R y) :=
  ⟨fun _ => (any_of hR y).1, fun _ a => by fin_cases a <;> [exact (any_of hR y).2; exact Nat.le_refl 128]⟩
theorem chk2_of {R : S1x1x512.Idx → Elt F .i32} (hR : InRange R) (y : S1x1x512.Idx) : k0_chk2 i (R y) :=
  ⟨fun _ => (any_of hR y).1, fun _ a => by fin_cases a <;> [exact (any_of hR y).2; exact Nat.le_refl 128]⟩
theorem chk3_of {R : S1x1x512.Idx → Elt F .i32} (hR : InRange R) (y : S1x1x512.Idx) : k0_chk3 i (R y) :=
  ⟨fun _ => (any_of hR y).1, fun _ a => by fin_cases a <;> [exact (any_of hR y).2; exact Nat.le_refl 128]⟩
theorem chk4_of {R : S1x1x512.Idx → Elt F .i32} (hR : InRange R) (y : S1x1x512.Idx) : k0_chk4 i (R y) :=
  ⟨fun _ => (any_of hR y).1, fun _ a => by fin_cases a <;> [exact (any_of hR y).2; exact Nat.le_refl 128]⟩
theorem chk5_of {R : S1x1x512.Idx → Elt F .i32} (hR : InRange R) (y : S1x1x512.Idx) : k0_chk5 i (R y) :=
  ⟨fun _ => (any_of hR y).1, fun _ a => by fin_cases a <;> [exact (any_of hR y).2; exact Nat.le_refl 128]⟩
theorem chk6_of {R : S1x1x512.Idx → Elt F .i32} (hR : InRange R) (y : S1x1x512.Idx) : k0_chk6 i (R y) :=
  ⟨fun _ => (any_of hR y).1, fun _ a => by fin_cases a <;> [exact (any_of hR y).2; exact Nat.le_refl 128]⟩
theorem chk7_of {R : S1x1x512.Idx → Elt F .i32} (hR : InRange R) (y : S1x1x512.Idx) : k0_chk7 i (R y) :=
  ⟨fun _ => (any_of hR y).1, fun _ a => by fin_cases a <;> [exact (any_of hR y).2; exact Nat.le_refl 128]⟩
theorem chk8_of {R : S1x1x512.Idx → Elt F .i32} (hR : InRange R) (y : S1x1x512.Idx) : k0_chk8 i (R y) :=
  ⟨fun _ => (any_of hR y).1, fun _ a => by fin_cases a <;> [exact (any_of hR y).2; exact Nat.le_refl 128]⟩
theorem chk9_of (v0 : Elt F .i32) {R : S1x1x512.Idx → Elt F .i32} (hR : InRange R) (y : S1x1x512.Idx) : k0_chk9 i v0 (R y) :=
  ⟨fun _ => (any_of hR y).1, fun _ a => by fin_cases a <;> [exact (any_of hR y).2; exact Nat.le_refl 128]⟩
theorem chk10_of (v0 : Elt F .i32) {R : S1x1x512.Idx → Elt F .i32} (hR : InRange R) (y : S1x1x512.Idx) : k0_chk10 i v0 (R y) :=
  ⟨fun _ => (any_of hR y).1, fun _ a => by fin_cases a <;> [exact (any_of hR y).2; exact Nat.le_refl 128]⟩
theorem chk11_of (v0 : Elt F .i32) {R : S1x1x512.Idx → Elt F .i32} (hR : InRange R) (y : S1x1x512.Idx) : k0_chk11 i v0 (R y) :=
  ⟨fun _ => (any_of hR y).1, fun _ a => by fin_cases a <;> [exact (any_of hR y).2; exact Nat.le_refl 128]⟩
theorem chk12_of (v0 : Elt F .i32) {R : S1x1x512.Idx → Elt F .i32} (hR : InRange R) (y : S1x1x512.Idx) : k0_chk12 i v0 (R y) :=
  ⟨fun _ => (any_of hR y).1, fun _ a => by fin_cases a <;> [exact (any_of hR y).2; exact Nat.le_refl 128]⟩
theorem chk13_of (v0 : Elt F .i32) {R : S1x1x512.Idx → Elt F .i32} (hR : InRange R) (y : S1x1x512.Idx) : k0_chk13 i v0 (R y) :=
  ⟨fun _ => (any_of hR y).1, fun _ a => by fin_cases a <;> [exact (any_of hR y).2; exact Nat.le_refl 128]⟩
theorem chk14_of (v0 : Elt F .i32) {R : S1x1x512.Idx → Elt F .i32} (hR : InRange R) (y : S1x1x512.Idx) : k0_chk14 i v0 (R y) :=
  ⟨fun _ => (any_of hR y).1, fun _ a => by fin_cases a <;> [exact (any_of hR y).2; exact Nat.le_refl 128]⟩
theorem chk15_of (v0 : Elt F .i32) {R : S1x1x512.Idx → Elt F .i32} (hR : InRange R) (y : S1x1x512.Idx) : k0_chk15 i v0 (R y) :=
  ⟨fun _ => (any_of hR y).1, fun _ a => by fin_cases a <;> [exact (any_of hR y).2; exact Nat.le_refl 128]⟩
theorem chk16_of (v0 : Elt F .i32) {R : S1x1x512.Idx → Elt F .i32} (hR : InRange R) (y : S1x1x512.Idx) : k0_chk16 i v0 (R y) :=
  ⟨fun _ => (any_of hR y).1, fun _ a => by fin_cases a <;> [exact (any_of hR y).2; exact Nat.le_refl 128]⟩

/-- The offsets a trip of the first loop computes. -/
theorem offs1 : ∀ k : Fin k0_t1_loop.trips, k0_off3 k = ![0, 0, 8 * k.val + 0] ∧ k0_off4 k = ![8 * (8 * k.val + 0), 0] ∧ k0_off6 k = ![0, 0, 8 * k.val + 1] ∧ k0_off7 k = ![8 * (8 * k.val + 1), 0] ∧ k0_off9 k = ![0, 0, 8 * k.val + 2] ∧ k0_off10 k = ![8 * (8 * k.val + 2), 0] ∧ k0_off12 k = ![0, 0, 8 * k.val + 3] ∧ k0_off13 k = ![8 * (8 * k.val + 3), 0] ∧ k0_off15 k = ![0, 0, 8 * k.val + 4] ∧ k0_off16 k = ![8 * (8 * k.val + 4), 0] ∧ k0_off18 k = ![0, 0, 8 * k.val + 5] ∧ k0_off19 k = ![8 * (8 * k.val + 5), 0] ∧ k0_off21 k = ![0, 0, 8 * k.val + 6] ∧ k0_off22 k = ![8 * (8 * k.val + 6), 0] ∧ k0_off24 k = ![0, 0, 8 * k.val + 7] ∧ k0_off25 k = ![8 * (8 * k.val + 7), 0] := fun k => ⟨funext ((by decide +kernel : ∀ k : Fin k0_t1_loop.trips, ∀ a, k0_off3 k a = (![0, 0, 8 * k.val + 0] : Fin _ → ℕ) a) k), funext ((by decide +kernel : ∀ k : Fin k0_t1_loop.trips, ∀ a, k0_off4 k a = (![8 * (8 * k.val + 0), 0] : Fin _ → ℕ) a) k), funext ((by decide +kernel : ∀ k : Fin k0_t1_loop.trips, ∀ a, k0_off6 k a = (![0, 0, 8 * k.val + 1] : Fin _ → ℕ) a) k), funext ((by decide +kernel : ∀ k : Fin k0_t1_loop.trips, ∀ a, k0_off7 k a = (![8 * (8 * k.val + 1), 0] : Fin _ → ℕ) a) k), funext ((by decide +kernel : ∀ k : Fin k0_t1_loop.trips, ∀ a, k0_off9 k a = (![0, 0, 8 * k.val + 2] : Fin _ → ℕ) a) k), funext ((by decide +kernel : ∀ k : Fin k0_t1_loop.trips, ∀ a, k0_off10 k a = (![8 * (8 * k.val + 2), 0] : Fin _ → ℕ) a) k), funext ((by decide +kernel : ∀ k : Fin k0_t1_loop.trips, ∀ a, k0_off12 k a = (![0, 0, 8 * k.val + 3] : Fin _ → ℕ) a) k), funext ((by decide +kernel : ∀ k : Fin k0_t1_loop.trips, ∀ a, k0_off13 k a = (![8 * (8 * k.val + 3), 0] : Fin _ → ℕ) a) k), funext ((by decide +kernel : ∀ k : Fin k0_t1_loop.trips, ∀ a, k0_off15 k a = (![0, 0, 8 * k.val + 4] : Fin _ → ℕ) a) k), funext ((by decide +kernel : ∀ k : Fin k0_t1_loop.trips, ∀ a, k0_off16 k a = (![8 * (8 * k.val + 4), 0] : Fin _ → ℕ) a) k), funext ((by decide +kernel : ∀ k : Fin k0_t1_loop.trips, ∀ a, k0_off18 k a = (![0, 0, 8 * k.val + 5] : Fin _ → ℕ) a) k), funext ((by decide +kernel : ∀ k : Fin k0_t1_loop.trips, ∀ a, k0_off19 k a = (![8 * (8 * k.val + 5), 0] : Fin _ → ℕ) a) k), funext ((by decide +kernel : ∀ k : Fin k0_t1_loop.trips, ∀ a, k0_off21 k a = (![0, 0, 8 * k.val + 6] : Fin _ → ℕ) a) k), funext ((by decide +kernel : ∀ k : Fin k0_t1_loop.trips, ∀ a, k0_off22 k a = (![8 * (8 * k.val + 6), 0] : Fin _ → ℕ) a) k), funext ((by decide +kernel : ∀ k : Fin k0_t1_loop.trips, ∀ a, k0_off24 k a = (![0, 0, 8 * k.val + 7] : Fin _ → ℕ) a) k), funext ((by decide +kernel : ∀ k : Fin k0_t1_loop.trips, ∀ a, k0_off25 k a = (![8 * (8 * k.val + 7), 0] : Fin _ → ℕ) a) k)⟩

/-- The offsets a trip of the second loop computes. -/
theorem offs2 : ∀ k : Fin k0_t2_loop.trips, k0_off27 k = ![0, 0, 8 * k.val + 0] ∧ k0_off30 k = ![8 * (8 * k.val + 0), 0] ∧ k0_off32 k = ![0, 0, 8 * k.val + 1] ∧ k0_off35 k = ![8 * (8 * k.val + 1), 0] ∧ k0_off37 k = ![0, 0, 8 * k.val + 2] ∧ k0_off40 k = ![8 * (8 * k.val + 2), 0] ∧ k0_off42 k = ![0, 0, 8 * k.val + 3] ∧ k0_off45 k = ![8 * (8 * k.val + 3), 0] ∧ k0_off47 k = ![0, 0, 8 * k.val + 4] ∧ k0_off50 k = ![8 * (8 * k.val + 4), 0] ∧ k0_off52 k = ![0, 0, 8 * k.val + 5] ∧ k0_off55 k = ![8 * (8 * k.val + 5), 0] ∧ k0_off57 k = ![0, 0, 8 * k.val + 6] ∧ k0_off60 k = ![8 * (8 * k.val + 6), 0] ∧ k0_off62 k = ![0, 0, 8 * k.val + 7] ∧ k0_off65 k = ![8 * (8 * k.val + 7), 0] := fun k => ⟨funext ((by decide +kernel : ∀ k : Fin k0_t2_loop.trips, ∀ a, k0_off27 k a = (![0, 0, 8 * k.val + 0] : Fin _ → ℕ) a) k), funext ((by decide +kernel : ∀ k : Fin k0_t2_loop.trips, ∀ a, k0_off30 k a = (![8 * (8 * k.val + 0), 0] : Fin _ → ℕ) a) k), funext ((by decide +kernel : ∀ k : Fin k0_t2_loop.trips, ∀ a, k0_off32 k a = (![0, 0, 8 * k.val + 1] : Fin _ → ℕ) a) k), funext ((by decide +kernel : ∀ k : Fin k0_t2_loop.trips, ∀ a, k0_off35 k a = (![8 * (8 * k.val + 1), 0] : Fin _ → ℕ) a) k), funext ((by decide +kernel : ∀ k : Fin k0_t2_loop.trips, ∀ a, k0_off37 k a = (![0, 0, 8 * k.val + 2] : Fin _ → ℕ) a) k), funext ((by decide +kernel : ∀ k : Fin k0_t2_loop.trips, ∀ a, k0_off40 k a = (![8 * (8 * k.val + 2), 0] : Fin _ → ℕ) a) k), funext ((by decide +kernel : ∀ k : Fin k0_t2_loop.trips, ∀ a, k0_off42 k a = (![0, 0, 8 * k.val + 3] : Fin _ → ℕ) a) k), funext ((by decide +kernel : ∀ k : Fin k0_t2_loop.trips, ∀ a, k0_off45 k a = (![8 * (8 * k.val + 3), 0] : Fin _ → ℕ) a) k), funext ((by decide +kernel : ∀ k : Fin k0_t2_loop.trips, ∀ a, k0_off47 k a = (![0, 0, 8 * k.val + 4] : Fin _ → ℕ) a) k), funext ((by decide +kernel : ∀ k : Fin k0_t2_loop.trips, ∀ a, k0_off50 k a = (![8 * (8 * k.val + 4), 0] : Fin _ → ℕ) a) k), funext ((by decide +kernel : ∀ k : Fin k0_t2_loop.trips, ∀ a, k0_off52 k a = (![0, 0, 8 * k.val + 5] : Fin _ → ℕ) a) k), funext ((by decide +kernel : ∀ k : Fin k0_t2_loop.trips, ∀ a, k0_off55 k a = (![8 * (8 * k.val + 5), 0] : Fin _ → ℕ) a) k), funext ((by decide +kernel : ∀ k : Fin k0_t2_loop.trips, ∀ a, k0_off57 k a = (![0, 0, 8 * k.val + 6] : Fin _ → ℕ) a) k), funext ((by decide +kernel : ∀ k : Fin k0_t2_loop.trips, ∀ a, k0_off60 k a = (![8 * (8 * k.val + 6), 0] : Fin _ → ℕ) a) k), funext ((by decide +kernel : ∀ k : Fin k0_t2_loop.trips, ∀ a, k0_off62 k a = (![0, 0, 8 * k.val + 7] : Fin _ → ℕ) a) k), funext ((by decide +kernel : ∀ k : Fin k0_t2_loop.trips, ∀ a, k0_off65 k a = (![8 * (8 * k.val + 7), 0] : Fin _ → ℕ) a) k)⟩

/-- The second loop's slot and semaphore are those of `s`. -/
def SlotOffs (s : Fin 2) : Prop :=
  k0_off28 i = ![s.val] ∧ k0_off29 i = ![s.val, 0, 0] ∧ k0_off33 i = ![s.val] ∧ k0_off34 i = ![s.val, 0, 0] ∧ k0_off38 i = ![s.val] ∧ k0_off39 i = ![s.val, 0, 0] ∧ k0_off43 i = ![s.val] ∧ k0_off44 i = ![s.val, 0, 0] ∧ k0_off48 i = ![s.val] ∧ k0_off49 i = ![s.val, 0, 0] ∧ k0_off53 i = ![s.val] ∧ k0_off54 i = ![s.val, 0, 0] ∧ k0_off58 i = ![s.val] ∧ k0_off59 i = ![s.val, 0, 0] ∧ k0_off63 i = ![s.val] ∧ k0_off64 i = ![s.val, 0, 0]

/-- ONE TRIP of loop 1: eight copies issued. -/
theorem trip1 (h1 : k0_cond1 i = 1#1) (X : XBuf F) (f3 : arg3.view.ty.Contents (Elt F)) (hR : InRange (F := F) (arg3.view.read (Elt F) f3)) (k : Fin k0_t1_loop.trips) :
    iprop(Gath c 0 X (rows (F := F) (arg3.view.read (Elt F) f3)) (8 * k.val) ∗ (arg3.view.loc (c : Thread nD τ) ↦[arg3.view.set]{fullShare} f3)) ⊢
      wp frame (wpE defs₀ Variants.none (c : Thread nD τ) none) Set.univ
        (k0_t1_body i arg1 harg1 arg2 harg2 arg3 harg3 arg4 harg4 xh (Memref.isWhole_whole _) arg6 harg6 arg7 harg7 arg8 harg8 arg9 harg9 arg10 harg10 arg11 harg11
          (Memref.whole cc0_scratch0) (Memref.isWhole_whole _) (Memref.whole cc0_scratch1) (Memref.isWhole_whole _) xm (Memref.isWhole_whole _) cc0_scratch3 h1 k ())
        (fun _ => iprop(Gath c 0 X (rows (F := F) (arg3.view.read (Elt F) f3)) (8 * (k.val + 1)) ∗ (arg3.view.loc (c : Thread nD τ) ↦[arg3.view.set]{fullShare} f3))) := by
  have hk : k.val < 64 := k.isLt
  have ho := offs1 k
  iintro ⟨HG, H3⟩
  dsimp only [k0_t1_body]
  sl_open_parts
  simp only [Prog.bind_assoc]
  sl_exec
  iapply (wp_assume _ _ _ _ (chk1_of i hR _))
  simp only [prog_ret]
  iapply (issue c 0 X (rows (F := F) (arg3.view.read (Elt F) f3)) (8 * k.val + 0) (by omega) (rfl) (ho.2.1) (word_at ⟨8 * k.val + 0, by omega⟩ (ho.1)) (rfl)) $$ HG
  iintro HG
  simp only [prog_ret]
  sl_exec
  iapply (wp_assume _ _ _ _ (chk2_of i hR _))
  simp only [prog_ret]
  iapply (issue c 0 X (rows (F := F) (arg3.view.read (Elt F) f3)) (8 * k.val + 1) (by omega) (rfl) (ho.2.2.2.1) (word_at ⟨8 * k.val + 1, by omega⟩ (ho.2.2.1)) (rfl)) $$ HG
  iintro HG
  simp only [prog_ret]
  sl_exec
  iapply (wp_assume _ _ _ _ (chk3_of i hR _))
  simp only [prog_ret]
  iapply (issue c 0 X (rows (F := F) (arg3.view.read (Elt F) f3)) (8 * k.val + 2) (by omega) (rfl) (ho.2.2.2.2.2.1) (word_at ⟨8 * k.val + 2, by omega⟩ (ho.2.2.2.2.1)) (rfl)) $$ HG
  iintro HG
  simp only [prog_ret]
  sl_exec
  iapply (wp_assume _ _ _ _ (chk4_of i hR _))
  simp only [prog_ret]
  iapply (issue c 0 X (rows (F := F) (arg3.view.read (Elt F) f3)) (8 * k.val + 3) (by omega) (rfl) (ho.2.2.2.2.2.2.2.1) (word_at ⟨8 * k.val + 3, by omega⟩ (ho.2.2.2.2.2.2.1)) (rfl)) $$ HG
  iintro HG
  simp only [prog_ret]
  sl_exec
  iapply (wp_assume _ _ _ _ (chk5_of i hR _))
  simp only [prog_ret]
  iapply (issue c 0 X (rows (F := F) (arg3.view.read (Elt F) f3)) (8 * k.val + 4) (by omega) (rfl) (ho.2.2.2.2.2.2.2.2.2.1) (word_at ⟨8 * k.val + 4, by omega⟩ (ho.2.2.2.2.2.2.2.2.1)) (rfl)) $$ HG
  iintro HG
  simp only [prog_ret]
  sl_exec
  iapply (wp_assume _ _ _ _ (chk6_of i hR _))
  simp only [prog_ret]
  iapply (issue c 0 X (rows (F := F) (arg3.view.read (Elt F) f3)) (8 * k.val + 5) (by omega) (rfl) (ho.2.2.2.2.2.2.2.2.2.2.2.1) (word_at ⟨8 * k.val + 5, by omega⟩ (ho.2.2.2.2.2.2.2.2.2.2.1)) (rfl)) $$ HG
  iintro HG
  simp only [prog_ret]
  sl_exec
  iapply (wp_assume _ _ _ _ (chk7_of i hR _))
  simp only [prog_ret]
  iapply (issue c 0 X (rows (F := F) (arg3.view.read (Elt F) f3)) (8 * k.val + 6) (by omega) (rfl) (ho.2.2.2.2.2.2.2.2.2.2.2.2.2.1) (word_at ⟨8 * k.val + 6, by omega⟩ (ho.2.2.2.2.2.2.2.2.2.2.2.2.1)) (rfl)) $$ HG
  iintro HG
  simp only [prog_ret]
  sl_exec
  iapply (wp_assume _ _ _ _ (chk8_of i hR _))
  simp only [prog_ret]
  iapply (issue c 0 X (rows (F := F) (arg3.view.read (Elt F) f3)) (8 * k.val + 7) (by omega) (rfl) (ho.2.2.2.2.2.2.2.2.2.2.2.2.2.2.2) (word_at ⟨8 * k.val + 7, by omega⟩ (ho.2.2.2.2.2.2.2.2.2.2.2.2.2.2.1)) (rfl)) $$ HG
  iintro HG
  simp only [prog_ret]
  sl_step
  isplitl [HG]; · iexact HG
  iexact H3

/-- ONE TRIP of loop 2: eight copies issued. -/
theorem trip2 (s : Fin 2) (v0 : Elt F .i32) (h2 : k0_cond2 i v0 = 1#1) (hs : SlotOffs i s) (X : XBuf F) (f3 : arg4.view.ty.Contents (Elt F)) (hR : InRange (F := F) (arg4.view.read (Elt F) f3)) (k : Fin k0_t2_loop.trips) :
    iprop(Gath c s X (rows (F := F) (arg4.view.read (Elt F) f3)) (8 * k.val) ∗ (arg4.view.loc (c : Thread nD τ) ↦[arg4.view.set]{fullShare} f3)) ⊢
      wp frame (wpE defs₀ Variants.none (c : Thread nD τ) none) Set.univ
        (k0_t2_body i arg1 harg1 arg2 harg2 arg3 harg3 arg4 harg4 xh (Memref.isWhole_whole _) arg6 harg6 arg7 harg7 arg8 harg8 arg9 harg9 arg10 harg10 arg11 harg11
          (Memref.whole cc0_scratch0) (Memref.isWhole_whole _) (Memref.whole cc0_scratch1) (Memref.isWhole_whole _) xm (Memref.isWhole_whole _) cc0_scratch3 v0 h2 k ())
        (fun _ => iprop(Gath c s X (rows (F := F) (arg4.view.read (Elt F) f3)) (8 * (k.val + 1)) ∗ (arg4.view.loc (c : Thread nD τ) ↦[arg4.view.set]{fullShare} f3))) := by
  have hk : k.val < 64 := k.isLt
  have ho := offs2 k
  unfold SlotOffs at hs
  iintro ⟨HG, H3⟩
  dsimp only [k0_t2_body]
  sl_open_parts
  simp only [Prog.bind_assoc]
  sl_exec
  iapply (wp_assume _ _ _ _ (chk9_of i v0 hR _))
  simp only [prog_ret]
  iapply (issue c s X (rows (F := F) (arg4.view.read (Elt F) f3)) (8 * k.val + 0) (by omega) (hs.2.1) (ho.2.1) (word_at ⟨8 * k.val + 0, by omega⟩ (ho.1)) (hs.1)) $$ HG
  iintro HG
  simp only [prog_ret]
  sl_exec
  iapply (wp_assume _ _ _ _ (chk10_of i v0 hR _))
  simp only [prog_ret]
  iapply (issue c s X (rows (F := F) (arg4.view.read (Elt F) f3)) (8 * k.val + 1) (by omega) (hs.2.2.2.1) (ho.2.2.2.1) (word_at ⟨8 * k.val + 1, by omega⟩ (ho.2.2.1)) (hs.2.2.1)) $$ HG
  iintro HG
  simp only [prog_ret]
  sl_exec
  iapply (wp_assume _ _ _ _ (chk11_of i v0 hR _))
  simp only [prog_ret]
  iapply (issue c s X (rows (F := F) (arg4.view.read (Elt F) f3)) (8 * k.val + 2) (by omega) (hs.2.2.2.2.2.1) (ho.2.2.2.2.2.1) (word_at ⟨8 * k.val + 2, by omega⟩ (ho.2.2.2.2.1)) (hs.2.2.2.2.1)) $$ HG
  iintro HG
  simp only [prog_ret]
  sl_exec
  iapply (wp_assume _ _ _ _ (chk12_of i v0 hR _))
  simp only [prog_ret]
  iapply (issue c s X (rows (F := F) (arg4.view.read (Elt F) f3)) (8 * k.val + 3) (by omega) (hs.2.2.2.2.2.2.2.1) (ho.2.2.2.2.2.2.2.1) (word_at ⟨8 * k.val + 3, by omega⟩ (ho.2.2.2.2.2.2.1)) (hs.2.2.2.2.2.2.1)) $$ HG
  iintro HG
  simp only [prog_ret]
  sl_exec
  iapply (wp_assume _ _ _ _ (chk13_of i v0 hR _))
  simp only [prog_ret]
  iapply (issue c s X (rows (F := F) (arg4.view.read (Elt F) f3)) (8 * k.val + 4) (by omega) (hs.2.2.2.2.2.2.2.2.2.1) (ho.2.2.2.2.2.2.2.2.2.1) (word_at ⟨8 * k.val + 4, by omega⟩ (ho.2.2.2.2.2.2.2.2.1)) (hs.2.2.2.2.2.2.2.2.1)) $$ HG
  iintro HG
  simp only [prog_ret]
  sl_exec
  iapply (wp_assume _ _ _ _ (chk14_of i v0 hR _))
  simp only [prog_ret]
  iapply (issue c s X (rows (F := F) (arg4.view.read (Elt F) f3)) (8 * k.val + 5) (by omega) (hs.2.2.2.2.2.2.2.2.2.2.2.1) (ho.2.2.2.2.2.2.2.2.2.2.2.1) (word_at ⟨8 * k.val + 5, by omega⟩ (ho.2.2.2.2.2.2.2.2.2.2.1)) (hs.2.2.2.2.2.2.2.2.2.2.1)) $$ HG
  iintro HG
  simp only [prog_ret]
  sl_exec
  iapply (wp_assume _ _ _ _ (chk15_of i v0 hR _))
  simp only [prog_ret]
  iapply (issue c s X (rows (F := F) (arg4.view.read (Elt F) f3)) (8 * k.val + 6) (by omega) (hs.2.2.2.2.2.2.2.2.2.2.2.2.2.1) (ho.2.2.2.2.2.2.2.2.2.2.2.2.2.1) (word_at ⟨8 * k.val + 6, by omega⟩ (ho.2.2.2.2.2.2.2.2.2.2.2.2.1)) (hs.2.2.2.2.2.2.2.2.2.2.2.2.1)) $$ HG
  iintro HG
  simp only [prog_ret]
  sl_exec
  iapply (wp_assume _ _ _ _ (chk16_of i v0 hR _))
  simp only [prog_ret]
  iapply (issue c s X (rows (F := F) (arg4.view.read (Elt F) f3)) (8 * k.val + 7) (by omega) (hs.2.2.2.2.2.2.2.2.2.2.2.2.2.2.2) (ho.2.2.2.2.2.2.2.2.2.2.2.2.2.2.2) (word_at ⟨8 * k.val + 7, by omega⟩ (ho.2.2.2.2.2.2.2.2.2.2.2.2.2.2.1)) (hs.2.2.2.2.2.2.2.2.2.2.2.2.2.2.1)) $$ HG
  iintro HG
  simp only [prog_ret]
  sl_step
  isplitl [HG]; · iexact HG
  iexact H3

end Cert.KernelIdeal.Moe

end
-- ==== Proof.MoeCompute.lean ====
/-
  One block of the expert kernel: the gathered tokens awaited, read back plane by plane, sent through the expert's two
  products, and the gated rows stored plane by plane.
-/
module

public import proofs.«01_k».proof.Proof.MoeLoops

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg1 : Memref sig .tc .smem S288 .i32) (harg1 : arg1.IsWhole) (arg2 : Memref sig .tc .smem S1 .i32) (harg2 : arg2.IsWhole)
  (arg3 : Memref sig .tc .smem S1x1x512 .i32) (harg3 : arg3.IsWhole) (arg4 : Memref sig .tc .smem S1x1x512 .i32) (harg4 : arg4.IsWhole)
  (arg6 : Memref sig .tc .vmem S1x8x128 .f32) (harg6 : arg6.IsWhole) (arg7 : Memref sig .tc .vmem S1x1x1024x2048 .f32) (harg7 : arg7.IsWhole)
  (arg8 : Memref sig .tc .vmem S1x1x1x2048 .f32) (harg8 : arg8.IsWhole) (arg9 : Memref sig .tc .vmem S1x1x1024x1024 .f32) (harg9 : arg9.IsWhole)
  (arg10 : Memref sig .tc .vmem S1x1x1x1024 .f32) (harg10 : arg10.IsWhole) (arg11 : Memref sig .tc .vmem S4096x128 .f32) (harg11 : arg11.IsWhole)
  (arg12 : Memref sig .tc .vmem S1024x2048 .bf16) (harg12 : arg12.IsWhole) (arg13 : Memref sig .tc .vmem S1024x1024 .bf16) (harg13 : arg13.IsWhole)

/-- Plane `j` of the gathered tokens: lanes `128 j …` of every one of the 512 tokens. -/
def plane (X : XBuf F) (rw' : Fin 512 → ℕ) (j : ℕ) : Vec F S512x128 .f32 := fun y => xAt X (rw' (y 0) + j) (y 1)

/-- The rows of a block as they lie in the result: plane `j` at every eighth row from `j`. -/
def strided (v : FVec F S512x1024 .f32) (g : Vec F S1x8x128 .f32) : Vec F S4096x128 .f32 := fun y =>
  (![k0_pay6 v g, k0_pay7 v g, k0_pay8 v g, k0_pay9 v g, k0_pay10 v g, k0_pay11 v g, k0_pay12 v g, k0_pay13 v g]
    ⟨(y 0).val % 8, Nat.mod_lt _ (by decide)⟩ : Vec F S512x128 .f32)
    (i2 ⟨(y 0).val / 8, by have : (y 0).val < 4096 := (y 0).isLt; omega⟩ (y 1))

/-- What a block's result is, of the token array, the block's rows, the cast weights, the biases and the gates. -/
def blkOut (X : XBuf F) (rw' : Fin 512 → ℕ) (w1 : Vec F S1024x2048 .bf16) (b1 : Vec F S1x1x1x2048 .f32) (w2 : Vec F S1024x1024 .bf16)
    (b2 : Vec F S1x1x1x1024 .f32) (g : Vec F S1x8x128 .f32) : Vec F S4096x128 .f32 :=
  strided (k0_pay4 (plane X rw' 0) (plane X rw' 1) (plane X rw' 2) (plane X rw' 3) (plane X rw' 4) (plane X rw' 5) (plane X rw' 6) (plane X rw' 7) w1 b1 w2 b2) g

theorem slotV_emb (s : Fin 2) (h) (x : S4096x128.Idx) : (slotV ![s.val, 0, 0] h).view.emb x = i3 s (x 0) (x 1) := by
  have e := Shape.reshapeEquiv_cons_one (n := 2) (d := ![4096, 128]) squeezes_S1x4096x128_S4096x128.numel_eq x
  show (Rect.unit (s := S2x4096x128) ![s.val, 0, 0] S1x4096x128.size h).emb (Shape.reshapeEquiv squeezes_S1x4096x128_S4096x128.numel_eq x) = _
  rw [show Shape.reshapeEquiv squeezes_S1x4096x128_S4096x128.numel_eq x = _ from e]
  funext a; apply Fin.ext
  fin_cases a
  · show s.val + 1 * 0 = s.val; omega
  · show 0 + 1 * (x 0).val = (x 0).val; omega
  · show 0 + 1 * (x 1).val = (x 1).val; omega

theorem slotV_set (s : Fin 2) (h) : (slotV ![s.val, 0, 0] h).view.set = slotS s := by
  ext y
  simp only [View.set, Finset.mem_map, Finset.mem_univ, true_and, slotS, Finset.mem_filter]
  constructor
  · rintro ⟨x, rfl⟩
    rw [slotV_emb]; rfl
  · intro ha
    refine ⟨(i2 (y 1) (y 2) : S4096x128.Idx), ?_⟩
    rw [slotV_emb]
    funext a; fin_cases a
    · exact Fin.ext ha.symm
    · rfl
    · rfl

theorem offV_set (s : Fin 2) (o : Fin 3 → ℕ) (h) (hs : o = ![s.val, 0, 0]) : (slotV o h).view.set = slotS s := by
  subst hs
  exact slotV_set s h

theorem xm_out (s : Fin 2) (i : grid0.Coords) (hs : k0_off68 i = ![s.val, 0, 0]) (f : SlotBuf F) :
    (xm.view.loc (c : Thread nD τ) ↦[slotS s]{fullShare} f : sProp 𝕄)
      ⊢ ((slotV (k0_off68 i) (k0_off68_inb i)).view.loc (c : Thread nD τ) ↦[(slotV (k0_off68 i) (k0_off68_inb i)).view.set]{fullShare} f) := by
  rw [offV_set s _ _ hs]

theorem xm_back (s : Fin 2) (i : grid0.Coords) (hs : k0_off68 i = ![s.val, 0, 0]) (f : SlotBuf F) :
    ((slotV (k0_off68 i) (k0_off68_inb i)).view.loc (c : Thread nD τ) ↦[(slotV (k0_off68 i) (k0_off68_inb i)).view.set]{fullShare} f : sProp 𝕄)
      ⊢ (xm.view.loc (c : Thread nD τ) ↦[slotS s]{fullShare} f) := by
  rw [offV_set s _ _ hs]

theorem strided_at (v : FVec F S512x1024 .f32) (g : Vec F S1x8x128 .f32) (j : Fin 8) (x : S512x128.Idx) (y : S4096x128.Idx)
    (h0 : (y 0).val = j.val + 8 * (x 0).val) (h1 : (y 1).val = 0 + 1 * (x 1).val) :
    (![k0_pay6 v g, k0_pay7 v g, k0_pay8 v g, k0_pay9 v g, k0_pay10 v g, k0_pay11 v g, k0_pay12 v g, k0_pay13 v g] j : Vec F S512x128 .f32) x
      = strided v g y := by
  have hj : (⟨(y 0).val % 8, Nat.mod_lt _ (by decide)⟩ : Fin 8) = j := Fin.ext (by show (y 0).val % 8 = j.val; have := j.isLt; omega)
  have hx : (i2 ⟨(y 0).val / 8, by have : (y 0).val < 4096 := (y 0).isLt; omega⟩ (y 1) : S512x128.Idx) = x := by
    funext a; fin_cases a
    · exact Fin.ext (by show (y 0).val / 8 = (x 0).val; have := j.isLt; omega)
    · exact Fin.ext (by show (y 1).val = (x 1).val; omega)
  unfold strided
  rw [hj, hx]

theorem stride_mem (j : ℕ) (y : S4096x128.Idx) (inb) (h : (y 0).val % 8 = j) :
    y ∈ (⟨(⟨![j, 0], S512x128.size, ![8, 1], inb⟩ : LoadRect S4096x128), spos_8_1⟩ : Rect S4096x128).set := by
  have h0 : (y 0).val < 4096 := (y 0).isLt
  rw [← Rect.map_emb_univ]
  refine Finset.mem_map.mpr ⟨(i2 ⟨(y 0).val / 8, by omega⟩ (y 1) : S512x128.Idx), Finset.mem_univ _, ?_⟩
  funext a; fin_cases a
  · exact Fin.ext (by show j + 8 * ((y 0).val / 8) = (y 0).val; omega)
  · exact Fin.ext (by show 0 + 1 * (y 1).val = (y 1).val; omega)

/-- Eight strided stores, one per plane, leave the block whose row `8 t + j` is row `t` of plane `j`. -/
theorem strided_read (m : Memref sig .tc .vmem S4096x128 .f32) (f : m.view.ty.Contents (Elt F)) (v : FVec F S512x1024 .f32) (g : Vec F S1x8x128 .f32)
    (p0 p1 p2 p3 p4 p5 p6 p7 : FVec F S512x128 .f32)
    (h : p0 = k0_pay6 v g ∧ p1 = k0_pay7 v g ∧ p2 = k0_pay8 v g ∧ p3 = k0_pay9 v g ∧ p4 = k0_pay10 v g ∧ p5 = k0_pay11 v g ∧ p6 = k0_pay12 v g ∧ p7 = k0_pay13 v g) :
    m.view.read (Elt F) (m.view.writes (Elt F) f
      [⟨⟨(⟨![7, 0], S512x128.size, ![8, 1], inb_S4096x128_S512x128_7_0_s_8_1⟩ : LoadRect S4096x128), spos_8_1⟩, p7⟩,
       ⟨⟨(⟨![6, 0], S512x128.size, ![8, 1], inb_S4096x128_S512x128_6_0_s_8_1⟩ : LoadRect S4096x128), spos_8_1⟩, p6⟩,
       ⟨⟨(⟨![5, 0], S512x128.size, ![8, 1], inb_S4096x128_S512x128_5_0_s_8_1⟩ : LoadRect S4096x128), spos_8_1⟩, p5⟩,
       ⟨⟨(⟨![4, 0], S512x128.size, ![8, 1], inb_S4096x128_S512x128_4_0_s_8_1⟩ : LoadRect S4096x128), spos_8_1⟩, p4⟩,
       ⟨⟨(⟨![3, 0], S512x128.size, ![8, 1], inb_S4096x128_S512x128_3_0_s_8_1⟩ : LoadRect S4096x128), spos_8_1⟩, p3⟩,
       ⟨⟨(⟨![2, 0], S512x128.size, ![8, 1], inb_S4096x128_S512x128_2_0_s_8_1⟩ : LoadRect S4096x128), spos_8_1⟩, p2⟩,
       ⟨⟨(⟨![1, 0], S512x128.size, ![8, 1], inb_S4096x128_S512x128_1_0_s_8_1⟩ : LoadRect S4096x128), spos_8_1⟩, p1⟩,
       ⟨⟨(⟨![0, 0], S512x128.size, ![8, 1], inb_S4096x128_S512x128_0_0_s_8_1⟩ : LoadRect S4096x128), spos_8_1⟩, p0⟩]) = strided v g := by
  obtain ⟨rfl, rfl, rfl, rfl, rfl, rfl, rfl, rfl⟩ := h
  funext y
  refine View.read_writes_apply_of_pieces m.view f (strided v g) _ ?_ y ?_
  · intro p hp x
    simp only [List.mem_cons, List.not_mem_nil, or_false] at hp
    rcases hp with rfl | rfl | rfl | rfl | rfl | rfl | rfl | rfl
    · exact strided_at v g 7 x _ rfl rfl
    · exact strided_at v g 6 x _ rfl rfl
    · exact strided_at v g 5 x _ rfl rfl
    · exact strided_at v g 4 x _ rfl rfl
    · exact strided_at v g 3 x _ rfl rfl
    · exact strided_at v g 2 x _ rfl rfl
    · exact strided_at v g 1 x _ rfl rfl
    · exact strided_at v g 0 x _ rfl rfl
  · have h0 : (y 0).val < 4096 := (y 0).isLt
    have hm := Nat.mod_lt (y 0).val (show 0 < 8 by decide)
    rcases (show (y 0).val % 8 = 7 ∨ (y 0).val % 8 = 6 ∨ (y 0).val % 8 = 5 ∨ (y 0).val % 8 = 4 ∨ (y 0).val % 8 = 3 ∨ (y 0).val % 8 = 2
      ∨ (y 0).val % 8 = 1 ∨ (y 0).val % 8 = 0 by omega) with h | h | h | h | h | h | h | h
    · exact ⟨_, .head _, stride_mem 7 y _ h⟩
    · exact ⟨_, .tail _ (.head _), stride_mem 6 y _ h⟩
    · exact ⟨_, .tail _ (.tail _ (.head _)), stride_mem 5 y _ h⟩
    · exact ⟨_, .tail _ (.tail _ (.tail _ (.head _))), stride_mem 4 y _ h⟩
    · exact ⟨_, .tail _ (.tail _ (.tail _ (.tail _ (.head _)))), stride_mem 3 y _ h⟩
    · exact ⟨_, .tail _ (.tail _ (.tail _ (.tail _ (.tail _ (.head _))))), stride_mem 2 y _ h⟩
    · exact ⟨_, .tail _ (.tail _ (.tail _ (.tail _ (.tail _ (.tail _ (.head _)))))), stride_mem 1 y _ h⟩
    · exact ⟨_, .tail _ (.tail _ (.tail _ (.tail _ (.tail _ (.tail _ (.tail _ (.head _))))))), stride_mem 0 y _ h⟩

/-- A load of a whole view reads what the view reads. -/
theorem full_read {κ : Kind} {sp : Space} {S : Shape} {e : EltTy} (m : View sig κ sp S e) (f : m.ty.Contents (Elt F)) (v : S.Idx → Elt F e)
    (h : m.read (Elt F) f = v) (off : Fin S.rank → ℕ) (h0 : ∀ a, off a = 0) (inb : ∀ a, off a + S.size a ≤ S.size a) :
    m.readAt (Elt F) (Rect.unit off S.size inb).toLoadRect f = v := by
  subst h
  funext x
  rw [View.readAt_apply]
  congr 1
  funext a
  apply Fin.ext
  show off a + 1 * (x a).val = (x a).val
  rw [h0]; omega

theorem plane_read (s : Fin 2) (o : Fin 3 → ℕ) (h) (hs : o = ![s.val, 0, 0]) (X : XBuf F) (R : Fin 512 → ℕ) (j : ℕ) (hj : j < 8) (inb) :
    (slotV o h).view.readAt (Elt F) (⟨![j, 0], S512x128.size, ![8, 1], inb⟩ : LoadRect S4096x128) (gath X R) = plane X R j := by
  subst hs
  funext y
  rw [View.readAt_apply]
  show gath X R ((slotV _ h).view.emb _) = _
  rw [slotV_emb]
  have e0 : (((⟨![j, 0], S512x128.size, ![8, 1], inb⟩ : LoadRect S4096x128).idx y) 0).val = j + 8 * (y 0).val := rfl
  have e1 : (((⟨![j, 0], S512x128.size, ![8, 1], inb⟩ : LoadRect S4096x128).idx y) 1) = y 1 := Fin.ext (by show 0 + 1 * (y 1).val = _; omega)
  have ht : (⟨(((⟨![j, 0], S512x128.size, ![8, 1], inb⟩ : LoadRect S4096x128).idx y) 0).val / 8,
      by rw [e0]; have : (y 0).val < 512 := (y 0).isLt; omega⟩ : Fin 512) = y 0 := Fin.ext (by show _ / 8 = (y 0).val; rw [e0]; omega)
  have hr : (((⟨![j, 0], S512x128.size, ![8, 1], inb⟩ : LoadRect S4096x128).idx y) 0).val % 8 = j := by rw [e0]; omega
  show xAt X (R ⟨(((⟨![j, 0], S512x128.size, ![8, 1], inb⟩ : LoadRect S4096x128).idx y) 0).val / 8, _⟩
    + (((⟨![j, 0], S512x128.size, ![8, 1], inb⟩ : LoadRect S4096x128).idx y) 0).val % 8) (((⟨![j, 0], S512x128.size, ![8, 1], inb⟩ : LoadRect S4096x128).idx y) 1) = xAt X (R (y 0) + j) (y 1)
  rw [ht, hr, e1]

theorem blk_eq {X : XBuf F} {R : Fin 512 → ℕ} {p0 p1 p2 p3 p4 p5 p6 p7 : FVec F S512x128 .f32} {w1 w1' : Vec F S1024x2048 .bf16}
    {b1 b1' : Vec F S1x1x1x2048 .f32} {w2 w2' : Vec F S1024x1024 .bf16} {b2 b2' : Vec F S1x1x1x1024 .f32} {g g' : Vec F S1x8x128 .f32}
    (h0 : p0 = plane X R 0) (h1 : p1 = plane X R 1) (h2 : p2 = plane X R 2) (h3 : p3 = plane X R 3) (h4 : p4 = plane X R 4) (h5 : p5 = plane X R 5)
    (h6 : p6 = plane X R 6) (h7 : p7 = plane X R 7) (hw1 : w1' = w1) (hb1 : b1' = b1) (hw2 : w2' = w2) (hb2 : b2' = b2) (hg : g' = g) :
    strided (k0_pay4 p0 p1 p2 p3 p4 p5 p6 p7 w1' b1' w2' b2') g' = blkOut X R w1 b1 w2 b2 g := by
  subst h0 h1 h2 h3 h4 h5 h6 h7 hw1 hb1 hw2 hb2 hg
  rfl

theorem compute (s : Fin 2) (hc : k0_off67 i = ![s.val]) (hs : k0_off68 i = ![s.val, 0, 0]) (X : XBuf F) (R : Fin 512 → ℕ) (W : Waits sig Unit)
    (w1 : Vec F S1024x2048 .bf16) (b1 : Vec F S1x1x1x2048 .f32) (w2 : Vec F S1024x1024 .bf16) (b2 : Vec F S1x1x1x1024 .f32) (g : Vec F S1x8x128 .f32) :
    iprop(Gath c s X R 512 ∗ owes (c : Thread nD τ) 0 W
      ∗ owns (c : Thread nD τ) arg12 fullShare w1 ∗ owns (c : Thread nD τ) arg13 fullShare w2
      ∗ owns (c : Thread nD τ) arg6 fullShare g ∗ owns (c : Thread nD τ) arg8 fullShare b1 ∗ owns (c : Thread nD τ) arg10 fullShare b2
      ∗ (∃ d, owns (c : Thread nD τ) arg11 fullShare d)) ⊢
      wp frame (wpE defs₀ Variants.none (c : Thread nD τ) none) Set.univ
        (do
          let v124 ← k0_part9 i arg1 harg1 arg2 harg2 arg3 harg3 arg4 harg4 xh (Memref.isWhole_whole _) arg6 harg6 arg7 harg7 arg8 harg8 arg9 harg9 arg10 harg10 arg11 harg11
            arg12 harg12 arg13 harg13 xm (Memref.isWhole_whole _) cc0_scratch3
          Prog.lift (.store arg11 ⟨(⟨![7, 0], S512x128.size, ![8, 1], inb_S4096x128_S512x128_7_0_s_8_1⟩ : LoadRect S4096x128), spos_8_1⟩ v124 Finset.univ (View.stores_vmem_bits_univ h_S512x128 rfl) (.inl rfl))
          pure (⟨⟩ : PUnit))
        (fun _ => iprop(filled c s X R ∗ (∃ W', owes (c : Thread nD τ) 0 W')
          ∗ owns (c : Thread nD τ) arg12 fullShare w1 ∗ owns (c : Thread nD τ) arg13 fullShare w2
          ∗ owns (c : Thread nD τ) arg6 fullShare g ∗ owns (c : Thread nD τ) arg8 fullShare b1 ∗ owns (c : Thread nD τ) arg10 fullShare b2
          ∗ owns (c : Thread nD τ) arg11 fullShare (blkOut X R w1 b1 w2 b2 g))) := by
  unfold owns
  iintro ⟨HG, HO, ⟨%f12, %h12, H12⟩, ⟨%f13, %h13, H13⟩, ⟨%f6, %h6, H6⟩, ⟨%f8, %h8, H8⟩, ⟨%f10, %h10, H10⟩, ⟨%d, %f11, -, H11⟩⟩
  sl_open_parts
  simp only [Prog.bind_assoc]
  iapply (await c s X R hc) $$ [HG HO]
  · isplitl [HG]; · iexact HG
    iexact HO
  iintro ⟨HF, HO⟩
  simp only [prog_ret]
  unfold filled
  icases HF with ⟨Hx, Hh, Hv⟩
  ihave Hx' := (xm_out c s i hs _) $$ Hx
  sl_exec
  iapply (le_wp_ret _ _)
  isplitl [Hx' Hh Hv]
  · isplitl [Hx']
    · iapply (xm_back c s i hs _)
      iexact Hx'
    isplitl [Hh]; · iexact Hh
    iexact Hv
  isplitl [HO]
  · iexists _; iexact HO
  isplitl [H12]
  · iexists _; isplitr; swap; · iexact H12
    ipureintro; exact h12
  isplitl [H13]
  · iexists _; isplitr; swap; · iexact H13
    ipureintro; exact h13
  isplitl [H6]
  · iexists _; isplitr; swap; · iexact H6
    ipureintro; exact h6
  isplitl [H8]
  · iexists _; isplitr; swap; · iexact H8
    ipureintro; exact h8
  isplitl [H10]
  · iexists _; isplitr; swap; · iexact H10
    ipureintro; exact h10
  iexists _; isplitr; swap; · iexact H11
  ipureintro
  refine (strided_read arg11 f11 _ _ _ _ _ _ _ _ _ _ ⟨rfl, rfl, rfl, rfl, rfl, rfl, rfl, rfl⟩).trans ?_
  dsimp only
  exact blk_eq (plane_read s _ _ hs X R 0 (by decide) _) (plane_read s _ _ hs X R 1 (by decide) _) (plane_read s _ _ hs X R 2 (by decide) _)
    (plane_read s _ _ hs X R 3 (by decide) _) (plane_read s _ _ hs X R 4 (by decide) _) (plane_read s _ _ hs X R 5 (by decide) _)
    (plane_read s _ _ hs X R 6 (by decide) _) (plane_read s _ _ hs X R 7 (by decide) _)
    (full_read _ f12 _ h12 _ (by decide) _) (full_read _ f8 _ h8 _ (by decide) _) (full_read _ f13 _ h13 _ (by decide) _)
    (full_read _ f10 _ h10 _ (by decide) _) (full_read _ f6 _ h6 _ (by decide) _)

end Cert.KernelIdeal.Moe

end
-- ==== Proof.MoeRef.lean ====
/-
  The reference's expert layer at an element: the gathers read the named token row, expert and bias, so an element is
  the expert's two products with the clamped gate between them, times the row's gate, or zero past the blocks in use.
-/
module

public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise
public import Idealize.ShloMosaic.Lib.StableHlo.Predicate

set_option maxRecDepth 16384

@[expose] public section

noncomputable section

open Idealize.ShloMosaic Idealize.ShloMosaic.TcCoe Idealize.SL.Sem

namespace Cert.Proof.MoeMath

/-- The first product at column `f`, with its bias. -/
def lin1 (x : Fin 1024 → EReal) (w : Fin 1024 → Fin 2048 → EReal) (b : Fin 2048 → EReal) (f : Fin 2048) : EReal := ∑ k : Fin 1024, x k * w k f + b f

/-- The gate of two columns of the first product: both clamped at seven, the first one's swish times the second plus one. -/
def act (g l : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) l) + 1)

/-- An expert applied to a token row, at column `d`. -/
def expert (x : Fin 1024 → EReal) (w1 : Fin 1024 → Fin 2048 → EReal) (b1 : Fin 2048 → EReal) (w2 : Fin 1024 → Fin 1024 → EReal) (b2 : Fin 1024 → EReal)
    (d : Fin 1024) : EReal :=
  ∑ f : Fin 1024, act (lin1 x w1 b1 ⟨f.val, by omega⟩) (lin1 x w1 b1 ⟨1024 + f.val, by omega⟩) * w2 f d + b2 d

end Cert.Proof.MoeMath

namespace Cert.ReferenceIdeal.Expert
open Cert.Proof.MoeMath
open Cert.ReferenceIdeal Cert.ReferenceIdeal.Read

/-- A word in range is not negative, so it is not wrapped. -/
theorem wrap (a b : BitVec 32) (h : a.toNat < 2 ^ 31) : Scalar.select (Scalar.cmpi .slt a 0#32) b a = a := by
  have : Scalar.cmpi .slt a 0#32 = 0#1 := by
    have := (StableHlo.Predicate.slt_bool_iff_toNat (a := a) (b := 0#32) h (by decide))
    show BitVec.ofBool (a.slt 0#32) = 0#1
    cases hs : a.slt 0#32
    · rfl
    · rw [hs] at this; exact absurd (this.mp rfl) (by simp)
  rw [this]; rfl

theorem clampTo (a : BitVec 32) (N : ℕ) (hN : N ≤ 2 ^ 31) (h : a.toNat < N) : min a.toInt.toNat (N - 1) = a.toNat := by
  rw [StableHlo.Predicate.toInt_eq_toNat_of_lt (by omega)]; simp; omega

theorem rows_at (x0 : FVec Ideal S32768x1024 .f32) (x1 : IVec S288x512 32) (h : ∀ y, (x1 y).toNat < 32768) (t : Fin 288) (n : Fin 512) (k : Fin 1024) :
    val_main_v6 (F := Ideal) x0 x1 (ix3 t n k) = x0 (ix2 ⟨(x1 (ix2 t n)).toNat, h _⟩ k) := by
  have e : val_main_v5 (F := Ideal) x1 (ix3 t n 0) = x1 (ix2 t n) := by
    pointwise [val_main_v5, val_main_v4, val_main_v1, val_main_v0, val_main_c, val_main_v3]
    exact wrap _ _ (by have := h (ix2 t n); omega)
  unfold val_main_v6
  show x0 (GatherDims.operandIdx _ _ _) = _
  refine congrArg x0 (funext fun a => Fin.ext ?_)
  match a with
  | ⟨0, _⟩ =>
    have es : gather_S32768x1024_S288x512x1_S288x512x1024_2_0_n_n_0_2_11024.siIdx (ix3 t n k) ⟨0, by decide⟩ = ix3 t n 0 := by
      funext b; fin_cases b <;> rfl
    show min (val_main_v5 (F := Ideal) x1 (gather_S32768x1024_S288x512x1_S288x512x1024_2_0_n_n_0_2_11024.siIdx (ix3 t n k) ⟨0, by decide⟩)).toInt.toNat (32768 - 1) + 0 + 0 = (x1 (ix2 t n)).toNat
    rw [es, e]
    exact clampTo _ 32768 (by decide) (h _)
  | ⟨1, _⟩ =>
    show 0 + 0 + k.val = k.val
    omega

theorem win_at (x3 : IVec S288 32) (x5 : FVec Ideal S2x32x1024x2048 .f32) (h : ∀ y, (x3 y).toNat < 32) (t : Fin 288) (k : Fin 1024) (f : Fin 2048) :
    val_main_v15 (F := Ideal) x3 x5 (ix3 t k f) = x5 (ix4 0 ⟨(x3 (ix1 t)).toNat, h _⟩ k f) := by
  have e : val_main_v14 (F := Ideal) x3 (ix2 t 0) = x3 (ix1 t) := by
    pointwise [val_main_v14, val_main_v13, val_main_v10, val_main_v9, val_main_c_1, val_main_v12]
    exact wrap _ _ (by have := h (ix1 t); omega)
  have es : gather_S32x1024x2048_S288x1_S288x1024x2048_12_0_n_n_0_1_110242048.siIdx (ix3 t k f) ⟨0, by decide⟩ = ix2 t 0 := by
    funext b; fin_cases b <;> rfl
  have eo : val_main_v15 (F := Ideal) x3 x5 (ix3 t k f) = val_main_v8 (F := Ideal) x5 (ix3 ⟨(x3 (ix1 t)).toNat, h _⟩ k f) := by
    unfold val_main_v15
    show val_main_v8 (F := Ideal) x5 (GatherDims.operandIdx _ _ _) = _
    refine congrArg (val_main_v8 (F := Ideal) x5) (funext fun a => Fin.ext ?_)
    match a with
    | ⟨0, _⟩ =>
      show min (val_main_v14 (F := Ideal) x3 (gather_S32x1024x2048_S288x1_S288x1024x2048_12_0_n_n_0_1_110242048.siIdx (ix3 t k f) ⟨0, by decide⟩)).toInt.toNat (32 - 1) + 0 + 0 = (x3 (ix1 t)).toNat
      rw [es, e]
      exact clampTo _ 32 (by decide) (h _)
    | ⟨1, _⟩ => show 0 + 0 + k.val = k.val; omega
    | ⟨2, _⟩ => show 0 + 0 + f.val = f.val; omega
  rw [eo]
  pointwise [val_main_v8, val_main_v7]

theorem bin_at (x3 : IVec S288 32) (x6 : FVec Ideal S2x32x2048 .f32) (h : ∀ y, (x3 y).toNat < 32) (t : Fin 288) (f : Fin 2048) :
    val_main_v25 (F := Ideal) x3 x6 (ix2 t f) = x6 (ix3 0 ⟨(x3 (ix1 t)).toNat, h _⟩ f) := by
  have e : val_main_v24 (F := Ideal) x3 (ix2 t 0) = x3 (ix1 t) := by
    pointwise [val_main_v24, val_main_v23, val_main_v20, val_main_v19, val_main_c_3, val_main_v22]
    exact wrap _ _ (by have := h (ix1 t); omega)
  have es : gather_S32x2048_S288x1_S288x2048_1_0_n_n_0_1_12048.siIdx (ix2 t f) ⟨0, by decide⟩ = ix2 t 0 := by
    funext b; fin_cases b <;> rfl
  have eo : val_main_v25 (F := Ideal) x3 x6 (ix2 t f) = val_main_v18 (F := Ideal) x6 (ix2 ⟨(x3 (ix1 t)).toNat, h _⟩ f) := by
    unfold val_main_v25
    show val_main_v18 (F := Ideal) x6 (GatherDims.operandIdx _ _ _) = _
    refine congrArg (val_main_v18 (F := Ideal) x6) (funext fun a => Fin.ext ?_)
    match a with
    | ⟨0, _⟩ =>
      show min (val_main_v24 (F := Ideal) x3 (gather_S32x2048_S288x1_S288x2048_1_0_n_n_0_1_12048.siIdx (ix2 t f) ⟨0, by decide⟩)).toInt.toNat (32 - 1) + 0 + 0 = (x3 (ix1 t)).toNat
      rw [es, e]
      exact clampTo _ 32 (by decide) (h _)
    | ⟨1, _⟩ => show 0 + 0 + f.val = f.val; omega
  rw [eo]
  pointwise [val_main_v18, val_main_v17]

theorem wout_at (x3 : IVec S288 32) (x7 : FVec Ideal S2x32x1024x1024 .f32) (h : ∀ y, (x3 y).toNat < 32) (t : Fin 288) (k : Fin 1024) (f : Fin 1024) :
    val_main_v54 (F := Ideal) x3 x7 (ix3 t k f) = x7 (ix4 0 ⟨(x3 (ix1 t)).toNat, h _⟩ k f) := by
  have e : val_main_v53 (F := Ideal) x3 (ix2 t 0) = x3 (ix1 t) := by
    pointwise [val_main_v53, val_main_v52, val_main_v49, val_main_v48, val_main_c_11, val_main_v51]
    exact wrap _ _ (by have := h (ix1 t); omega)
  have es : gather_S32x1024x1024_S288x1_S288x1024x1024_12_0_n_n_0_1_110241024.siIdx (ix3 t k f) ⟨0, by decide⟩ = ix2 t 0 := by
    funext b; fin_cases b <;> rfl
  have eo : val_main_v54 (F := Ideal) x3 x7 (ix3 t k f) = val_main_v47 (F := Ideal) x7 (ix3 ⟨(x3 (ix1 t)).toNat, h _⟩ k f) := by
    unfold val_main_v54
    show val_main_v47 (F := Ideal) x7 (GatherDims.operandIdx _ _ _) = _
    refine congrArg (val_main_v47 (F := Ideal) x7) (funext fun a => Fin.ext ?_)
    match a with
    | ⟨0, _⟩ =>
      show min (val_main_v53 (F := Ideal) x3 (gather_S32x1024x1024_S288x1_S288x1024x1024_12_0_n_n_0_1_110241024.siIdx (ix3 t k f) ⟨0, by decide⟩)).toInt.toNat (32 - 1) + 0 + 0 = (x3 (ix1 t)).toNat
      rw [es, e]
      exact clampTo _ 32 (by decide) (h _)
    | ⟨1, _⟩ => show 0 + 0 + k.val = k.val; omega
    | ⟨2, _⟩ => show 0 + 0 + f.val = f.val; omega
  rw [eo]
  pointwise [val_main_v47, val_main_v46]

theorem bout_at (x3 : IVec S288 32) (x8 : FVec Ideal S2x32x1024 .f32) (h : ∀ y, (x3 y).toNat < 32) (t : Fin 288) (f : Fin 1024) :
    val_main_v64 (F := Ideal) x3 x8 (ix2 t f) = x8 (ix3 0 ⟨(x3 (ix1 t)).toNat, h _⟩ f) := by
  have e : val_main_v63 (F := Ideal) x3 (ix2 t 0) = x3 (ix1 t) := by
    pointwise [val_main_v63, val_main_v62, val_main_v59, val_main_v58, val_main_c_13, val_main_v61]
    exact wrap _ _ (by have := h (ix1 t); omega)
  have es : gather_S32x1024_S288x1_S288x1024_1_0_n_n_0_1_11024.siIdx (ix2 t f) ⟨0, by decide⟩ = ix2 t 0 := by
    funext b; fin_cases b <;> rfl
  have eo : val_main_v64 (F := Ideal) x3 x8 (ix2 t f) = val_main_v57 (F := Ideal) x8 (ix2 ⟨(x3 (ix1 t)).toNat, h _⟩ f) := by
    unfold val_main_v64
    show val_main_v57 (F := Ideal) x8 (GatherDims.operandIdx _ _ _) = _
    refine congrArg (val_main_v57 (F := Ideal) x8) (funext fun a => Fin.ext ?_)
    match a with
    | ⟨0, _⟩ =>
      show min (val_main_v63 (F := Ideal) x3 (gather_S32x1024_S288x1_S288x1024_1_0_n_n_0_1_11024.siIdx (ix2 t f) ⟨0, by decide⟩)).toInt.toNat (32 - 1) + 0 + 0 = (x3 (ix1 t)).toNat
      rw [es, e]
      exact clampTo _ 32 (by decide) (h _)
    | ⟨1, _⟩ => show 0 + 0 + f.val = f.val; omega
  rw [eo]
  pointwise [val_main_v57, val_main_v56]

theorem hid_at (x0 : FVec Ideal S32768x1024 .f32) (x1 : IVec S288x512 32) (x3 : IVec S288 32) (x5 : FVec Ideal S2x32x1024x2048 .f32) (x6 : FVec Ideal S2x32x2048 .f32)
    (h1 : ∀ y, (x1 y).toNat < 32768) (h3 : ∀ y, (x3 y).toNat < 32) (t : Fin 288) (n : Fin 512) (f : Fin 2048) :
    val_main_v28 (F := Ideal) x0 x1 x3 x5 x6 (ix3 t n f)
      = lin1 (fun k => x0 (ix2 ⟨(x1 (ix2 t n)).toNat, h1 _⟩ k)) (fun k f => x5 (ix4 0 ⟨(x3 (ix1 t)).toNat, h3 _⟩ k f))
          (fun f => x6 (ix3 0 ⟨(x3 (ix1 t)).toNat, h3 _⟩ f)) f := by
  pointwise [val_main_v28, val_main_v27, val_main_v26, val_main_v16, lin1]
  refine congrArg₂ (· + ·) (Finset.sum_congr rfl fun k _ => ?_) (bin_at x3 x6 h3 t f)
  exact congrArg₂ (· * ·) (rows_at x0 x1 h1 t n k) (win_at x3 x5 h3 t k f)

theorem act_at (x0 : FVec Ideal S32768x1024 .f32) (x1 : IVec S288x512 32) (x3 : IVec S288 32) (x5 : FVec Ideal S2x32x1024x2048 .f32) (x6 : FVec Ideal S2x32x2048 .f32)
    (t : Fin 288) (n : Fin 512) (f : Fin 1024) :
    val_main_v45 (F := Ideal) x0 x1 x3 x5 x6 (ix3 t n f)
      = act (val_main_v28 (F := Ideal) x0 x1 x3 x5 x6 (ix3 t n ⟨f.val, by omega⟩)) (val_main_v28 (F := Ideal) x0 x1 x3 x5 x6 (ix3 t n ⟨1024 + f.val, by omega⟩)) := by
  pointwise [val_main_v45, val_main_v42, val_main_v41, val_main_v40, val_main_cst_9, val_main_v39, val_main_v38, val_main_cst_8, val_main_v37, val_main_v36,
    val_main_v35, val_main_v34, val_main_cst_7, val_main_v33, val_main_v31, val_main_v30, val_main_cst, val_main_v29, val_main_v32, val_main_v44, val_main_v43, val_main_cst_10,
    val_main_cst_5, val_main_cst_6, val_main_call0_v0, val_main_call0_v1, val_main_call0_v2, val_main_call0_v3, val_main_call0_v4]
  unfold act Ideal.logistic
  rfl

theorem out_at (x0 : FVec Ideal S32768x1024 .f32) (x1 : IVec S288x512 32) (x2 : FVec Ideal S288x512 .f32) (x3 : IVec S288 32) (x4 : IVec S1 32)
    (x5 : FVec Ideal S2x32x1024x2048 .f32) (x6 : FVec Ideal S2x32x2048 .f32) (x7 : FVec Ideal S2x32x1024x1024 .f32) (x8 : FVec Ideal S2x32x1024 .f32)
    (h1 : ∀ y, (x1 y).toNat < 32768) (h3 : ∀ y, (x3 y).toNat < 32) (h4 : (x4 (ix1 0)).toNat ≤ 288) (t : Fin 288) (n : Fin 512) (d : Fin 1024) :
    val_main_v76 (F := Ideal) x0 x1 x2 x3 x4 x5 x6 x7 x8 (ix3 t n d)
      = if t.val < (x4 (ix1 0)).toNat then
          expert (fun k => x0 (ix2 ⟨(x1 (ix2 t n)).toNat, h1 _⟩ k)) (fun k f => x5 (ix4 0 ⟨(x3 (ix1 t)).toNat, h3 _⟩ k f))
            (fun f => x6 (ix3 0 ⟨(x3 (ix1 t)).toNat, h3 _⟩ f)) (fun f d => x7 (ix4 0 ⟨(x3 (ix1 t)).toNat, h3 _⟩ f d))
            (fun d => x8 (ix3 0 ⟨(x3 (ix1 t)).toNat, h3 _⟩ d)) d * x2 (ix2 t n)
        else 0 := by
  pointwise [val_main_v76, val_main_call1_v0, val_main_call1_v1, val_main_cst_15, val_main_call1_v2, val_main_v75, val_main_v74, val_main_v73, val_main_v67, val_main_v66, val_main_v65, val_main_v55,
    val_main_v72, val_main_v71, val_main_v70, val_main_v69, val_main_v68, id]
  have hc : IntOp.cmpi CmpIPredicate.slt (BitVec.ofNat 32 t.val) (x4 (ix1 0)) = 1#1 ↔ t.val < (x4 (ix1 0)).toNat := by
    have ht := t.isLt
    have e : (BitVec.ofNat 32 t.val).toNat = t.val := by rw [BitVec.toNat_ofNat]; omega
    have := StableHlo.Predicate.slt_iff_toNat (a := BitVec.ofNat 32 t.val) (b := x4 (ix1 0)) (by omega) (by omega)
    rw [e] at this
    exact this
  by_cases ht : t.val < (x4 (ix1 0)).toNat
  · rw [if_pos ht, hc.mpr ht]
    refine congrArg₂ (· * ·) (congrArg₂ (· + ·) (Finset.sum_congr rfl fun f _ => congrArg₂ (· * ·) ?_ (wout_at x3 x7 h3 t f d)) (bout_at x3 x8 h3 t d)) rfl
    rw [act_at, hid_at x0 x1 x3 x5 x6 h1 h3, hid_at x0 x1 x3 x5 x6 h1 h3]
  · rw [if_neg ht, show IntOp.cmpi CmpIPredicate.slt (BitVec.ofNat 32 t.val) (x4 (ix1 0)) = 0#1 from by
      have := mt hc.mp ht; revert this; generalize IntOp.cmpi _ _ _ = w; revert w; decide]
    rfl

end Cert.ReferenceIdeal.Expert
-- ==== Proof.MoePure.lean ====
/-
  The expert kernel's arithmetic at an element: the eight gathered planes side by side are the token rows, the two
  products with the gate between them are the expert's, and the result's lines are the products' columns times the gates.
-/
module

public import proofs.«01_k».proof.Proof.MoeCompute
public import proofs.«01_k».proof.Proof.MoeRef

@[expose] public section

set_option maxRecDepth 16384

noncomputable section

open Idealize.ShloMosaic Idealize.ShloMosaic.TcCoe Idealize.SL.Sem

namespace Cert.KernelIdeal.Moe
open Cert.KernelIdeal Cert.KernelIdeal.Gen
open Cert.Proof.MoeMath

theorem pay4_at (p0 p1 p2 p3 p4 p5 p6 p7 : FVec Ideal S512x128 .f32) (w1 : FVec Ideal S1024x2048 .bf16) (b1 : FVec Ideal S1x1x1x2048 .f32)
    (w2 : FVec Ideal S1024x1024 .bf16) (b2 : FVec Ideal S1x1x1x1024 .f32) (X : Fin 512 → Fin 1024 → EReal)
    (hX : ∀ (n : Fin 512) (k : Fin 1024), (![p0, p1, p2, p3, p4, p5, p6, p7] ⟨k.val / 128, by omega⟩ : FVec Ideal S512x128 .f32) (ix2 n ⟨k.val % 128, by omega⟩) = X n k)
    (n : Fin 512) (d : Fin 1024) :
    k0_pay4 (F := Ideal) p0 p1 p2 p3 p4 p5 p6 p7 w1 b1 w2 b2 (ix2 n d)
      = expert (X n) (fun k f => w1 (ix2 k f)) (fun f => b1 (ix4 0 0 0 f)) (fun f d => w2 (ix2 f d)) (fun d => b2 (ix4 0 0 0 d)) d := by
  have hc : concatenate S512x1024 1 [⟨S512x128, p0⟩, ⟨S512x128, p1⟩, ⟨S512x128, p2⟩, ⟨S512x128, p3⟩, ⟨S512x128, p4⟩, ⟨S512x128, p5⟩, ⟨S512x128, p6⟩, ⟨S512x128, p7⟩]
      concatenates_S512x128_S512x128_S512x128_S512x128_S512x128_S512x128_S512x128_S512x128_S512x1024_d1 = fun y => X (y 0) (y 1) := by
    funext y
    idx_vars y
    show _ = X y0 y1
    rw [← hX y0 y1]
    pointwise
    have hy := y1.isLt
    by_cases h0 : y1.val < 128
    · rw [dif_pos h0]
      rw [show (⟨y1.val / 128, by omega⟩ : Fin 8) = 0 from Fin.ext (by show y1.val / 128 = 0; omega)]
      exact congrArg p0 ((ix2_inj ..).2 ⟨rfl, Fin.ext (by show y1.val = y1.val % 128; omega)⟩)
    rw [dif_neg h0]
    by_cases h1 : y1.val - 128 < 128
    · rw [dif_pos h1]
      rw [show (⟨y1.val / 128, by omega⟩ : Fin 8) = 1 from Fin.ext (by show y1.val / 128 = 1; omega)]
      exact congrArg p1 ((ix2_inj ..).2 ⟨rfl, Fin.ext (by show y1.val - 128 = y1.val % 128; omega)⟩)
    rw [dif_neg h1]
    by_cases h2 : y1.val - 128 - 128 < 128
    · rw [dif_pos h2]
      rw [show (⟨y1.val / 128, by omega⟩ : Fin 8) = 2 from Fin.ext (by show y1.val / 128 = 2; omega)]
      exact congrArg p2 ((ix2_inj ..).2 ⟨rfl, Fin.ext (by show y1.val - 128 - 128 = y1.val % 128; omega)⟩)
    rw [dif_neg h2]
    by_cases h3 : y1.val - 128 - 128 - 128 < 128
    · rw [dif_pos h3]
      rw [show (⟨y1.val / 128, by omega⟩ : Fin 8) = 3 from Fin.ext (by show y1.val / 128 = 3; omega)]
      exact congrArg p3 ((ix2_inj ..).2 ⟨rfl, Fin.ext (by show y1.val - 128 - 128 - 128 = y1.val % 128; omega)⟩)
    rw [dif_neg h3]
    by_cases h4 : y1.val - 128 - 128 - 128 - 128 < 128
    · rw [dif_pos h4]
      rw [show (⟨y1.val / 128, by omega⟩ : Fin 8) = 4 from Fin.ext (by show y1.val / 128 = 4; omega)]
      exact congrArg p4 ((ix2_inj ..).2 ⟨rfl, Fin.ext (by show y1.val - 128 - 128 - 128 - 128 = y1.val % 128; omega)⟩)
    rw [dif_neg h4]
    by_cases h5 : y1.val - 128 - 128 - 128 - 128 - 128 < 128
    · rw [dif_pos h5]
      rw [show (⟨y1.val / 128, by omega⟩ : Fin 8) = 5 from Fin.ext (by show y1.val / 128 = 5; omega)]
      exact congrArg p5 ((ix2_inj ..).2 ⟨rfl, Fin.ext (by show y1.val - 128 - 128 - 128 - 128 - 128 = y1.val % 128; omega)⟩)
    rw [dif_neg h5]
    by_cases h6 : y1.val - 128 - 128 - 128 - 128 - 128 - 128 < 128
    · rw [dif_pos h6]
      rw [show (⟨y1.val / 128, by omega⟩ : Fin 8) = 6 from Fin.ext (by show y1.val / 128 = 6; omega)]
      exact congrArg p6 ((ix2_inj ..).2 ⟨rfl, Fin.ext (by show y1.val - 128 - 128 - 128 - 128 - 128 - 128 = y1.val % 128; omega)⟩)
    rw [dif_neg h6]
    rw [show (⟨y1.val / 128, by omega⟩ : Fin 8) = 7 from Fin.ext (by show y1.val / 128 = 7; omega)]
    exact congrArg p7 ((ix2_inj ..).2 ⟨rfl, Fin.ext (by show y1.val - 128 - 128 - 128 - 128 - 128 - 128 - 128 = y1.val % 128; omega)⟩)
  unfold k0_pay4
  rw [hc]
  pointwise
  rfl

theorem pay5_at (v : FVec Ideal S512x1024 .f32) (g : FVec Ideal S1x8x128 .f32) (n : Fin 512) (d : Fin 1024) :
    k0_pay5 (F := Ideal) v g (ix2 n d) = v (ix2 n d) * g (ix3 0 ⟨n.val / 128, by omega⟩ ⟨n.val % 128, by omega⟩) := by
  pointwise [k0_pay5]
  have hn := n.isLt
  by_cases h0 : n.val < 128
  · rw [dif_pos h0]
    exact congrArg₂ (· * ·) (congrArg v ((ix2_inj ..).2 ⟨Fin.ext (by show n.val = n.val; omega), rfl⟩)) (congrArg g ((ix3_inj ..).2 ⟨rfl, Fin.ext (by show 0 = n.val / 128; omega), Fin.ext (by show n.val = n.val % 128; omega)⟩))
  rw [dif_neg h0]
  by_cases h1 : n.val - 128 < 128
  · rw [dif_pos h1]
    exact congrArg₂ (· * ·) (congrArg v ((ix2_inj ..).2 ⟨Fin.ext (by show 128 + (n.val - 128) = n.val; omega), rfl⟩)) (congrArg g ((ix3_inj ..).2 ⟨rfl, Fin.ext (by show 1 = n.val / 128; omega), Fin.ext (by show n.val - 128 = n.val % 128; omega)⟩))
  rw [dif_neg h1]
  by_cases h2 : n.val - 128 - 128 < 128
  · rw [dif_pos h2]
    exact congrArg₂ (· * ·) (congrArg v ((ix2_inj ..).2 ⟨Fin.ext (by show 256 + (n.val - 128 - 128) = n.val; omega), rfl⟩)) (congrArg g ((ix3_inj ..).2 ⟨rfl, Fin.ext (by show 2 = n.val / 128; omega), Fin.ext (by show n.val - 128 - 128 = n.val % 128; omega)⟩))
  rw [dif_neg h2]
  exact congrArg₂ (· * ·) (congrArg v ((ix2_inj ..).2 ⟨Fin.ext (by show 384 + (n.val - 128 - 128 - 128) = n.val; omega), rfl⟩)) (congrArg g ((ix3_inj ..).2 ⟨rfl, Fin.ext (by show 3 = n.val / 128; omega), Fin.ext (by show n.val - 128 - 128 - 128 = n.val % 128; omega)⟩))

/-- A block's result at a line: line `y` is row `y / 8`, columns `128 (y % 8) …`, of the expert's rows times their gates. -/
theorem blkOut_at (X : XBuf Ideal) (rw' : Fin 512 → ℕ) (w1 : FVec Ideal S1024x2048 .bf16) (b1 : FVec Ideal S1x1x1x2048 .f32)
    (w2 : FVec Ideal S1024x1024 .bf16) (b2 : FVec Ideal S1x1x1x1024 .f32) (g : FVec Ideal S1x8x128 .f32) (y : Fin 4096) (l : Fin 128) :
    blkOut (F := Ideal) X rw' w1 b1 w2 b2 g (ix2 y l)
      = expert (fun k => xAt X (rw' ⟨y.val / 8, by omega⟩ + k.val / 128) ⟨k.val % 128, by omega⟩) (fun k f => w1 (ix2 k f)) (fun f => b1 (ix4 0 0 0 f))
          (fun f d => w2 (ix2 f d)) (fun d => b2 (ix4 0 0 0 d)) ⟨128 * (y.val % 8) + l.val, by omega⟩
        * g (ix3 0 ⟨y.val / 8 / 128, by omega⟩ ⟨y.val / 8 % 128, by omega⟩) := by
  unfold blkOut strided
  generalize hv : k0_pay4 (F := Ideal) _ _ _ _ _ _ _ _ w1 b1 w2 b2 = v
  have e : ∀ (j : Fin 8) (n : Fin 512), (![k0_pay6 v g, k0_pay7 v g, k0_pay8 v g, k0_pay9 v g, k0_pay10 v g, k0_pay11 v g, k0_pay12 v g, k0_pay13 v g] j : FVec Ideal S512x128 .f32) (ix2 n l)
      = k0_pay5 (F := Ideal) v g (ix2 n ⟨128 * j.val + l.val, by omega⟩) := by
    intro j n
    fin_cases j
    · show k0_pay6 v g (ix2 n l) = _
      pointwise [k0_pay6]
    · show k0_pay7 v g (ix2 n l) = _
      pointwise [k0_pay7]
    · show k0_pay8 v g (ix2 n l) = _
      pointwise [k0_pay8]
    · show k0_pay9 v g (ix2 n l) = _
      pointwise [k0_pay9]
    · show k0_pay10 v g (ix2 n l) = _
      pointwise [k0_pay10]
    · show k0_pay11 v g (ix2 n l) = _
      pointwise [k0_pay11]
    · show k0_pay12 v g (ix2 n l) = _
      pointwise [k0_pay12]
    · show k0_pay13 v g (ix2 n l) = _
      pointwise [k0_pay13]
  refine (e ⟨y.val % 8, by omega⟩ ⟨y.val / 8, by omega⟩).trans ((pay5_at v g _ _).trans ?_)
  refine congrArg₂ (· * ·) ?_ rfl
  rw [← hv]
  refine pay4_at _ _ _ _ _ _ _ _ w1 b1 w2 b2 (fun n k => xAt X (rw' n + k.val / 128) ⟨k.val % 128, by omega⟩) (fun n k => ?_) _ _
  have hk : ∀ (j : Fin 8) (r : Fin 128), (![plane (F := Ideal) X rw' 0, plane X rw' 1, plane X rw' 2, plane X rw' 3, plane X rw' 4, plane X rw' 5, plane X rw' 6, plane X rw' 7] j : FVec Ideal S512x128 .f32) (ix2 n r)
      = xAt X (rw' n + j.val) r := by
    intro j r
    fin_cases j <;> rfl
  exact hk ⟨k.val / 128, by omega⟩ ⟨k.val % 128, by omega⟩

end Cert.KernelIdeal.Moe
-- ==== Proof.MoeBody.lean ====
/-
  The expert kernel's body at one grid point: its five conditionals one after another, and the state each leaves.
-/
module

public import proofs.«01_k».proof.Proof.MoeCompute
public import Idealize.ShloMosaic.Lib.VecWindow

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Phases

/-- The first gather, at the first grid point. -/
def ph1 (i : grid0.Coords) (arg1 : Memref sig .tc .smem S288 .i32) (harg1 : arg1.IsWhole) (arg2 : Memref sig .tc .smem S1 .i32) (harg2 : arg2.IsWhole) (arg3 : Memref sig .tc .smem S1x1x512 .i32) (harg3 : arg3.IsWhole) (arg4 : Memref sig .tc .smem S1x1x512 .i32) (harg4 : arg4.IsWhole) (arg5 : Memref sig .tc .hbm S262144x128 .f32) (harg5 : arg5.IsWhole) (arg6 : Memref sig .tc .vmem S1x8x128 .f32) (harg6 : arg6.IsWhole) (arg7 : Memref sig .tc .vmem S1x1x1024x2048 .f32) (harg7 : arg7.IsWhole) (arg8 : Memref sig .tc .vmem S1x1x1x2048 .f32) (harg8 : arg8.IsWhole) (arg9 : Memref sig .tc .vmem S1x1x1024x1024 .f32) (harg9 : arg9.IsWhole) (arg10 : Memref sig .tc .vmem S1x1x1x1024 .f32) (harg10 : arg10.IsWhole) (arg11 : Memref sig .tc .vmem S4096x128 .f32) (harg11 : arg11.IsWhole) (arg12 : Memref sig .tc .vmem S1024x2048 .bf16) (harg12 : arg12.IsWhole) (arg13 : Memref sig .tc .vmem S1024x1024 .bf16) (harg13 : arg13.IsWhole) (arg14 : Memref sig .tc .vmem S2x4096x128 .f32) (harg14 : arg14.IsWhole) (arg15 : DmaSems sig S2) : Prog (TpuEff nD τ sig (Elt F) Λ₀ .tc) PUnit :=
  if k0_h1 : k0_cond1 i = 1#1 then do
    Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 k0_h1)
    pure ⟨⟩
  else do
    pure ⟨⟩

/-- The next block's gather, while there is a next block. -/
def ph2 (i : grid0.Coords) (arg1 : Memref sig .tc .smem S288 .i32) (harg1 : arg1.IsWhole) (arg2 : Memref sig .tc .smem S1 .i32) (harg2 : arg2.IsWhole) (arg3 : Memref sig .tc .smem S1x1x512 .i32) (harg3 : arg3.IsWhole) (arg4 : Memref sig .tc .smem S1x1x512 .i32) (harg4 : arg4.IsWhole) (arg5 : Memref sig .tc .hbm S262144x128 .f32) (harg5 : arg5.IsWhole) (arg6 : Memref sig .tc .vmem S1x8x128 .f32) (harg6 : arg6.IsWhole) (arg7 : Memref sig .tc .vmem S1x1x1024x2048 .f32) (harg7 : arg7.IsWhole) (arg8 : Memref sig .tc .vmem S1x1x1x2048 .f32) (harg8 : arg8.IsWhole) (arg9 : Memref sig .tc .vmem S1x1x1024x1024 .f32) (harg9 : arg9.IsWhole) (arg10 : Memref sig .tc .vmem S1x1x1x1024 .f32) (harg10 : arg10.IsWhole) (arg11 : Memref sig .tc .vmem S4096x128 .f32) (harg11 : arg11.IsWhole) (arg12 : Memref sig .tc .vmem S1024x2048 .bf16) (harg12 : arg12.IsWhole) (arg13 : Memref sig .tc .vmem S1024x1024 .bf16) (harg13 : arg13.IsWhole) (arg14 : Memref sig .tc .vmem S2x4096x128 .f32) (harg14 : arg14.IsWhole) (arg15 : DmaSems sig S2) (v0 : Elt F .i32) : Prog (TpuEff nD τ sig (Elt F) Λ₀ .tc) PUnit :=
  if k0_h2 : k0_cond2 i v0 = 1#1 then do
    Scf.Loop.for k0_t2_loop k0_t2_ok ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 v0 k0_h2)
    pure ⟨⟩
  else do
    pure ⟨⟩

/-- Whether the expert's weights are cast anew. -/
def cond3 (i : grid0.Coords) (v2 v6 : Elt F .i32) : BitVec 1 :=
  let arg0 : BitVec 32 := BitVec.ofNat 32 (i 0).val
  let v15 : BitVec 1 := Scalar.cmpi .eq arg0 0#32
  let v16 : BitVec 1 := Scalar.cmpi .ne v2 v6
  let v17 : BitVec 1 := Scalar.ori v15 v16
  let v18 : BitVec 32 := Scalar.extui v17
  let v19 : BitVec 1 := Scalar.cmpi .ne v18 0#32
  v19

/-- The expert's weights cast. -/
def ph3 (i : grid0.Coords) (arg1 : Memref sig .tc .smem S288 .i32) (harg1 : arg1.IsWhole) (arg2 : Memref sig .tc .smem S1 .i32) (harg2 : arg2.IsWhole) (arg3 : Memref sig .tc .smem S1x1x512 .i32) (harg3 : arg3.IsWhole) (arg4 : Memref sig .tc .smem S1x1x512 .i32) (harg4 : arg4.IsWhole) (arg5 : Memref sig .tc .hbm S262144x128 .f32) (harg5 : arg5.IsWhole) (arg6 : Memref sig .tc .vmem S1x8x128 .f32) (harg6 : arg6.IsWhole) (arg7 : Memref sig .tc .vmem S1x1x1024x2048 .f32) (harg7 : arg7.IsWhole) (arg8 : Memref sig .tc .vmem S1x1x1x2048 .f32) (harg8 : arg8.IsWhole) (arg9 : Memref sig .tc .vmem S1x1x1024x1024 .f32) (harg9 : arg9.IsWhole) (arg10 : Memref sig .tc .vmem S1x1x1x1024 .f32) (harg10 : arg10.IsWhole) (arg11 : Memref sig .tc .vmem S4096x128 .f32) (harg11 : arg11.IsWhole) (arg12 : Memref sig .tc .vmem S1024x2048 .bf16) (harg12 : arg12.IsWhole) (arg13 : Memref sig .tc .vmem S1024x1024 .bf16) (harg13 : arg13.IsWhole) (arg14 : Memref sig .tc .vmem S2x4096x128 .f32) (harg14 : arg14.IsWhole) (arg15 : DmaSems sig S2) (v19 : BitVec 1) : Prog (TpuEff nD τ sig (Elt F) Λ₀ .tc) PUnit :=
  if v19 = 1#1 then do
    let v30 : Vec F S1x1x1024x2048 .f32 ← Prog.lift (.load arg7 (Rect.unit (s := S1x1x1024x2048) ![0, 0, 0, 0] S1x1x1024x2048.size inb_S1x1x1024x2048_S1x1x1024x2048_0_0_0_0).toLoadRect (View.loadsAt_vmem h_S1x1x1024x2048))
    let v33 : Vec F S1024x2048 .bf16 ← Prog.lift (.load arg12 (Rect.unit (s := S1024x2048) ![0, 0] S1024x2048.size inb_S1024x2048_S1024x2048_0_0).toLoadRect (View.loadsAt_vmem h_S1024x2048))
    Prog.lift (.store arg12 (Rect.unit (s := S1024x2048) ![0, 0] S1024x2048.size inb_S1024x2048_S1024x2048_0_0) (k0_pay1 v30) Finset.univ (View.stores_vmem h_S1024x2048 (harg12.storeExact_slice rfl _ packedbf16_S1024x2048_S1024x2048_0_0) (fun _ => rfl)) (.inl rfl))
    let v36 : Vec F S1x1x1024x1024 .f32 ← Prog.lift (.load arg9 (Rect.unit (s := S1x1x1024x1024) ![0, 0, 0, 0] S1x1x1024x1024.size inb_S1x1x1024x1024_S1x1x1024x1024_0_0_0_0).toLoadRect (View.loadsAt_vmem h_S1x1x1024x1024))
    let v39 : Vec F S1024x1024 .bf16 ← Prog.lift (.load arg13 (Rect.unit (s := S1024x1024) ![0, 0] S1024x1024.size inb_S1024x1024_S1024x1024_0_0).toLoadRect (View.loadsAt_vmem h_S1024x1024))
    Prog.lift (.store arg13 (Rect.unit (s := S1024x1024) ![0, 0] S1024x1024.size inb_S1024x1024_S1024x1024_0_0) (k0_pay2 v36) Finset.univ (View.stores_vmem h_S1024x1024 (harg13.storeExact_slice rfl _ packedbf16_S1024x1024_S1024x1024_0_0) (fun _ => rfl)) (.inl rfl))
    pure ⟨⟩
  else do
    pure ⟨⟩

/-- A block of tokens through its expert. -/
def ph4 (i : grid0.Coords) (arg1 : Memref sig .tc .smem S288 .i32) (harg1 : arg1.IsWhole) (arg2 : Memref sig .tc .smem S1 .i32) (harg2 : arg2.IsWhole) (arg3 : Memref sig .tc .smem S1x1x512 .i32) (harg3 : arg3.IsWhole) (arg4 : Memref sig .tc .smem S1x1x512 .i32) (harg4 : arg4.IsWhole) (arg5 : Memref sig .tc .hbm S262144x128 .f32) (harg5 : arg5.IsWhole) (arg6 : Memref sig .tc .vmem S1x8x128 .f32) (harg6 : arg6.IsWhole) (arg7 : Memref sig .tc .vmem S1x1x1024x2048 .f32) (harg7 : arg7.IsWhole) (arg8 : Memref sig .tc .vmem S1x1x1x2048 .f32) (harg8 : arg8.IsWhole) (arg9 : Memref sig .tc .vmem S1x1x1024x1024 .f32) (harg9 : arg9.IsWhole) (arg10 : Memref sig .tc .vmem S1x1x1x1024 .f32) (harg10 : arg10.IsWhole) (arg11 : Memref sig .tc .vmem S4096x128 .f32) (harg11 : arg11.IsWhole) (arg12 : Memref sig .tc .vmem S1024x2048 .bf16) (harg12 : arg12.IsWhole) (arg13 : Memref sig .tc .vmem S1024x1024 .bf16) (harg13 : arg13.IsWhole) (arg14 : Memref sig .tc .vmem S2x4096x128 .f32) (harg14 : arg14.IsWhole) (arg15 : DmaSems sig S2) (v0 : Elt F .i32) : Prog (TpuEff nD τ sig (Elt F) Λ₀ .tc) PUnit :=
  if k0_h4 : k0_cond4 i v0 = 1#1 then do
    let v124 : FVec F S512x128 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15
    Prog.lift (.store arg11 ⟨(⟨![7, 0], S512x128.size, ![8, 1], inb_S4096x128_S512x128_7_0_s_8_1⟩ : LoadRect S4096x128), spos_8_1⟩ v124 Finset.univ (View.stores_vmem_bits_univ h_S512x128 rfl) (.inl rfl))
    pure ⟨⟩
  else do
    pure ⟨⟩

/-- Zeros for a block that holds no tokens. -/
def ph5 (i : grid0.Coords) (arg1 : Memref sig .tc .smem S288 .i32) (harg1 : arg1.IsWhole) (arg2 : Memref sig .tc .smem S1 .i32) (harg2 : arg2.IsWhole) (arg3 : Memref sig .tc .smem S1x1x512 .i32) (harg3 : arg3.IsWhole) (arg4 : Memref sig .tc .smem S1x1x512 .i32) (harg4 : arg4.IsWhole) (arg5 : Memref sig .tc .hbm S262144x128 .f32) (harg5 : arg5.IsWhole) (arg6 : Memref sig .tc .vmem S1x8x128 .f32) (harg6 : arg6.IsWhole) (arg7 : Memref sig .tc .vmem S1x1x1024x2048 .f32) (harg7 : arg7.IsWhole) (arg8 : Memref sig .tc .vmem S1x1x1x2048 .f32) (harg8 : arg8.IsWhole) (arg9 : Memref sig .tc .vmem S1x1x1024x1024 .f32) (harg9 : arg9.IsWhole) (arg10 : Memref sig .tc .vmem S1x1x1x1024 .f32) (harg10 : arg10.IsWhole) (arg11 : Memref sig .tc .vmem S4096x128 .f32) (harg11 : arg11.IsWhole) (arg12 : Memref sig .tc .vmem S1024x2048 .bf16) (harg12 : arg12.IsWhole) (arg13 : Memref sig .tc .vmem S1024x1024 .bf16) (harg13 : arg13.IsWhole) (arg14 : Memref sig .tc .vmem S2x4096x128 .f32) (harg14 : arg14.IsWhole) (arg15 : DmaSems sig S2) (v0 : Elt F .i32) : Prog (TpuEff nD τ sig (Elt F) Λ₀ .tc) PUnit :=
  if k0_h5 : k0_cond5 i v0 = 1#1 then do
    let v31 : Vec F S4096x128 .f32 ← Prog.lift (.load arg11 (Rect.unit (s := S4096x128) ![0, 0] S4096x128.size inb_S4096x128_S4096x128_0_0).toLoadRect (View.loadsAt_vmem h_S4096x128))
    Prog.lift (.store arg11 (Rect.unit (s := S4096x128) ![0, 0] S4096x128.size inb_S4096x128_S4096x128_0_0) (k0_pay3 (F := F)) Finset.univ (View.stores_vmem_bits_univ h_S4096x128 rfl) (.inl rfl))
    pure ⟨⟩
  else do
    pure ⟨⟩

/-- The five conditionals, the words read. -/
def rest (i : grid0.Coords) (arg1 : Memref sig .tc .smem S288 .i32) (harg1 : arg1.IsWhole) (arg2 : Memref sig .tc .smem S1 .i32) (harg2 : arg2.IsWhole) (arg3 : Memref sig .tc .smem S1x1x512 .i32) (harg3 : arg3.IsWhole) (arg4 : Memref sig .tc .smem S1x1x512 .i32) (harg4 : arg4.IsWhole) (arg5 : Memref sig .tc .hbm S262144x128 .f32) (harg5 : arg5.IsWhole) (arg6 : Memref sig .tc .vmem S1x8x128 .f32) (harg6 : arg6.IsWhole) (arg7 : Memref sig .tc .vmem S1x1x1024x2048 .f32) (harg7 : arg7.IsWhole) (arg8 : Memref sig .tc .vmem S1x1x1x2048 .f32) (harg8 : arg8.IsWhole) (arg9 : Memref sig .tc .vmem S1x1x1024x1024 .f32) (harg9 : arg9.IsWhole) (arg10 : Memref sig .tc .vmem S1x1x1x1024 .f32) (harg10 : arg10.IsWhole) (arg11 : Memref sig .tc .vmem S4096x128 .f32) (harg11 : arg11.IsWhole) (arg12 : Memref sig .tc .vmem S1024x2048 .bf16) (harg12 : arg12.IsWhole) (arg13 : Memref sig .tc .vmem S1024x1024 .bf16) (harg13 : arg13.IsWhole) (arg14 : Memref sig .tc .vmem S2x4096x128 .f32) (harg14 : arg14.IsWhole) (arg15 : DmaSems sig S2) (v0 v2 v6 : Elt F .i32) : Prog (TpuEff nD τ sig (Elt F) Λ₀ .tc) PUnit := do
  ph1 (F := F) i arg1 harg1 arg2 harg2 arg3 harg3 arg4 harg4 arg5 harg5 arg6 harg6 arg7 harg7 arg8 harg8 arg9 harg9 arg10 harg10 arg11 harg11 arg12 harg12 arg13 harg13 arg14 harg14 arg15
  ph2 (F := F) i arg1 harg1 arg2 harg2 arg3 harg3 arg4 harg4 arg5 harg5 arg6 harg6 arg7 harg7 arg8 harg8 arg9 harg9 arg10 harg10 arg11 harg11 arg12 harg12 arg13 harg13 arg14 harg14 arg15 v0
  ph3 (F := F) i arg1 harg1 arg2 harg2 arg3 harg3 arg4 harg4 arg5 harg5 arg6 harg6 arg7 harg7 arg8 harg8 arg9 harg9 arg10 harg10 arg11 harg11 arg12 harg12 arg13 harg13 arg14 harg14 arg15 (cond3 (F := F) i v2 v6)
  ph4 (F := F) i arg1 harg1 arg2 harg2 arg3 harg3 arg4 harg4 arg5 harg5 arg6 harg6 arg7 harg7 arg8 harg8 arg9 harg9 arg10 harg10 arg11 harg11 arg12 harg12 arg13 harg13 arg14 harg14 arg15 v0
  ph5 (F := F) i arg1 harg1 arg2 harg2 arg3 harg3 arg4 harg4 arg5 harg5 arg6 harg6 arg7 harg7 arg8 harg8 arg9 harg9 arg10 harg10 arg11 harg11 arg12 harg12 arg13 harg13 arg14 harg14 arg15 v0
  pure ⟨⟩

theorem skel_phases (i : grid0.Coords) (arg1 : Memref sig .tc .smem S288 .i32) (harg1 : arg1.IsWhole) (arg2 : Memref sig .tc .smem S1 .i32) (harg2 : arg2.IsWhole) (arg3 : Memref sig .tc .smem S1x1x512 .i32) (harg3 : arg3.IsWhole) (arg4 : Memref sig .tc .smem S1x1x512 .i32) (harg4 : arg4.IsWhole) (arg5 : Memref sig .tc .hbm S262144x128 .f32) (harg5 : arg5.IsWhole) (arg6 : Memref sig .tc .vmem S1x8x128 .f32) (harg6 : arg6.IsWhole) (arg7 : Memref sig .tc .vmem S1x1x1024x2048 .f32) (harg7 : arg7.IsWhole) (arg8 : Memref sig .tc .vmem S1x1x1x2048 .f32) (harg8 : arg8.IsWhole) (arg9 : Memref sig .tc .vmem S1x1x1024x1024 .f32) (harg9 : arg9.IsWhole) (arg10 : Memref sig .tc .vmem S1x1x1x1024 .f32) (harg10 : arg10.IsWhole) (arg11 : Memref sig .tc .vmem S4096x128 .f32) (harg11 : arg11.IsWhole) (arg12 : Memref sig .tc .vmem S1024x2048 .bf16) (harg12 : arg12.IsWhole) (arg13 : Memref sig .tc .vmem S1024x1024 .bf16) (harg13 : arg13.IsWhole) (arg14 : Memref sig .tc .vmem S2x4096x128 .f32) (harg14 : arg14.IsWhole) (arg15 : DmaSems sig S2) : cc0_moe_experts_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 = (do
  let v0 : Elt F .i32 ← smemLoad arg2 (Rect.unit (s := S1) ![0] S1.size inb_S1_S1_0) numel1_S1 rfl
  let v2 : Elt F .i32 ← smemLoad arg1 (Rect.unit (s := S288) (k0_off1 i) S1.size (k0_off1_inb i)) numel1_S1 rfl
  let v6 : Elt F .i32 ← smemLoad arg1 (Rect.unit (s := S288) (k0_off2 i) S1.size (k0_off2_inb i)) numel1_S1 rfl
  rest (F := F) i arg1 harg1 arg2 harg2 arg3 harg3 arg4 harg4 arg5 harg5 arg6 harg6 arg7 harg7 arg8 harg8 arg9 harg9 arg10 harg10 arg11 harg11 arg12 harg12 arg13 harg13 arg14 harg14 arg15 v0 v2 v6) := by
  unfold cc0_moe_experts_skel
  refine congrArg (Prog.bind _) (funext fun v0 => congrArg (Prog.bind _) (funext fun v2 => congrArg (Prog.bind _) (funext fun v6 => ?_)))
  by_cases h1 : k0_cond1 i = 1#1 <;> by_cases h2 : k0_cond2 i v0 = 1#1 <;> by_cases h3 : cond3 (F := F) i v2 v6 = 1#1 <;> by_cases h4 : k0_cond4 i v0 = 1#1
    <;> by_cases h5 : k0_cond5 i v0 = 1#1
    <;> (have h3' := h3; unfold cond3 at h3'; simp only [rest, ph1, ph2, ph3, ph4, ph5, h1, h2, h3, h3', h4, h5, dite_true, dite_false, if_true, if_false, bind_assoc, pure_bind])

end Phases

variable (c : Dev nD) (i : grid0.Coords) (arg1 : Memref sig .tc .smem S288 .i32) (harg1 : arg1.IsWhole) (arg2 : Memref sig .tc .smem S1 .i32) (harg2 : arg2.IsWhole)
  (arg3 : Memref sig .tc .smem S1x1x512 .i32) (harg3 : arg3.IsWhole) (arg4 : Memref sig .tc .smem S1x1x512 .i32) (harg4 : arg4.IsWhole)
  (arg6 : Memref sig .tc .vmem S1x8x128 .f32) (harg6 : arg6.IsWhole) (arg7 : Memref sig .tc .vmem S1x1x1024x2048 .f32) (harg7 : arg7.IsWhole)
  (arg8 : Memref sig .tc .vmem S1x1x1x2048 .f32) (harg8 : arg8.IsWhole) (arg9 : Memref sig .tc .vmem S1x1x1024x1024 .f32) (harg9 : arg9.IsWhole)
  (arg10 : Memref sig .tc .vmem S1x1x1x1024 .f32) (harg10 : arg10.IsWhole) (arg11 : Memref sig .tc .vmem S4096x128 .f32) (harg11 : arg11.IsWhole)

/-- A slot that holds a whole gather of `R` if `b`, and is idle otherwise. -/
def slot (s : Fin 2) (X : XBuf F) (R : Fin 512 → ℕ) (b : Prop) [Decidable b] : sProp 𝕄 := if b then Gath c s X R 512 else idle c s X

theorem trips1 : k0_t1_loop.trips = 64 := by decide +kernel
theorem trips2 : k0_t2_loop.trips = 64 := by decide +kernel

theorem ph1_ok (s : Fin 2) (t0 tn : Prop) [Decidable t0] [Decidable tn] (hc : k0_cond1 i = 1#1 ↔ t0) (h0 : t0 → s = 0) (hn : t0 → tn) (X : XBuf F)
    (R3 : S1x1x512.Idx → Elt F .i32) (hR : InRange (F := F) R3) :
    iprop(slot c s X (rows (F := F) R3) (¬ t0 ∧ tn) ∗ owns (c : Thread nD τ) arg3 fullShare R3) ⊢
      wp frame (wpE defs₀ Variants.none (c : Thread nD τ) none) Set.univ (ph1 (F := F) i arg1 harg1 arg2 harg2 arg3 harg3 arg4 harg4 xh (Memref.isWhole_whole _) arg6 harg6 arg7 harg7 arg8 harg8 arg9 harg9 arg10 harg10 arg11 harg11 (Memref.whole cc0_scratch0) (Memref.isWhole_whole _) (Memref.whole cc0_scratch1) (Memref.isWhole_whole _) xm (Memref.isWhole_whole _) cc0_scratch3)
        (fun _ => iprop(slot c s X (rows (F := F) R3) tn ∗ owns (c : Thread nD τ) arg3 fullShare R3)) := by
  unfold ph1
  by_cases h : k0_cond1 i = 1#1
  · have ht := hc.mp h
    have hs := h0 ht
    have htn := hn ht
    subst hs
    rw [dif_pos h]
    unfold slot owns
    rw [if_neg (fun x => x.1 ht), if_pos htn]
    iintro ⟨HI, ⟨%f3, %e3, H3⟩⟩
    subst e3
    iapply (fupd_wp frame (wpE defs₀ Variants.none (c : Thread nD τ) none) Set.univ _ _)
    imod (start c 0 X (rows (F := F) (arg3.view.read (Elt F) f3))) $$ HI with HG
    imodintro
    iapply (Scf.wp_for_bind (M := 𝕄) frame (wpE defs₀ Variants.none (c : Thread nD τ) none) Set.univ _ _ _ _ _ _
      (fun k _ => iprop(Gath c 0 X (rows (F := F) (arg3.view.read (Elt F) f3)) (8 * k) ∗ (arg3.view.loc (c : Thread nD τ) ↦[arg3.view.set]{fullShare} f3)))
      (fun k _ => trip1 c i arg1 harg1 arg2 harg2 arg3 harg3 arg4 harg4 arg6 harg6 arg7 harg7 arg8 harg8 arg9 harg9 arg10 harg10 arg11 harg11 h X f3 hR k)) $$ [HG H3]
    · isplitl [HG]; · iexact HG
      iexact H3
    iintro %acc ⟨HG, H3⟩
    iapply (le_wp_ret _ _)
    isplitl [HG]
    · iapply (Entails.of_eq (show Gath c 0 X (rows (F := F) (arg3.view.read (Elt F) f3)) (8 * k0_t1_loop.trips) = Gath c 0 X (rows (F := F) (arg3.view.read (Elt F) f3)) 512 by rw [trips1]))
      iexact HG
    iexists f3
    isplitr; · ipureintro; rfl
    iexact H3
  · have ht : ¬ t0 := fun x => h (hc.mpr x)
    rw [dif_neg h]
    refine BIBase.Entails.trans ?_ (le_wp_ret _ _ _ _ _)
    rw [show slot c s X (rows (F := F) R3) (¬ t0 ∧ tn) = slot c s X (rows (F := F) R3) tn from by
      unfold slot; simp only [ht, not_false_eq_true, true_and]]

theorem ph2_ok (s : Fin 2) (hs : SlotOffs i s) (v0 : Elt F .i32) (tn : Prop) [Decidable tn] (hc : k0_cond2 i v0 = 1#1 ↔ tn) (X : XBuf F)
    (R4 : S1x1x512.Idx → Elt F .i32) (hR : InRange (F := F) R4) :
    iprop(idle c s X ∗ owns (c : Thread nD τ) arg4 fullShare R4) ⊢
      wp frame (wpE defs₀ Variants.none (c : Thread nD τ) none) Set.univ (ph2 (F := F) i arg1 harg1 arg2 harg2 arg3 harg3 arg4 harg4 xh (Memref.isWhole_whole _) arg6 harg6 arg7 harg7 arg8 harg8 arg9 harg9 arg10 harg10 arg11 harg11 (Memref.whole cc0_scratch0) (Memref.isWhole_whole _) (Memref.whole cc0_scratch1) (Memref.isWhole_whole _) xm (Memref.isWhole_whole _) cc0_scratch3 v0)
        (fun _ => iprop(slot c s X (rows (F := F) R4) tn ∗ owns (c : Thread nD τ) arg4 fullShare R4)) := by
  unfold ph2
  by_cases h : k0_cond2 i v0 = 1#1
  · rw [dif_pos h]
    unfold slot owns
    rw [if_pos (hc.mp h)]
    iintro ⟨HI, ⟨%f4, %e4, H4⟩⟩
    subst e4
    iapply (fupd_wp frame (wpE defs₀ Variants.none (c : Thread nD τ) none) Set.univ _ _)
    imod (start c s X (rows (F := F) (arg4.view.read (Elt F) f4))) $$ HI with HG
    imodintro
    iapply (Scf.wp_for_bind (M := 𝕄) frame (wpE defs₀ Variants.none (c : Thread nD τ) none) Set.univ _ _ _ _ _ _
      (fun k _ => iprop(Gath c s X (rows (F := F) (arg4.view.read (Elt F) f4)) (8 * k) ∗ (arg4.view.loc (c : Thread nD τ) ↦[arg4.view.set]{fullShare} f4)))
      (fun k _ => trip2 c i arg1 harg1 arg2 harg2 arg3 harg3 arg4 harg4 arg6 harg6 arg7 harg7 arg8 harg8 arg9 harg9 arg10 harg10 arg11 harg11 s v0 h hs X f4 hR k)) $$ [HG H4]
    · isplitl [HG]; · iexact HG
      iexact H4
    iintro %acc ⟨HG, H4⟩
    iapply (le_wp_ret _ _)
    isplitl [HG]
    · iapply (Entails.of_eq (show Gath c s X (rows (F := F) (arg4.view.read (Elt F) f4)) (8 * k0_t2_loop.trips) = Gath c s X (rows (F := F) (arg4.view.read (Elt F) f4)) 512 by rw [trips2]))
      iexact HG
    iexists f4
    isplitr; · ipureintro; rfl
    iexact H4
  · rw [dif_neg h]
    refine BIBase.Entails.trans ?_ (le_wp_ret _ _ _ _ _)
    rw [show slot c s X (rows (F := F) R4) tn = idle c s X from if_neg fun x => h (hc.mpr x)]

theorem ph3_ok (arg12 : Memref sig .tc .vmem S1024x2048 .bf16) (harg12 : arg12.IsWhole) (arg13 : Memref sig .tc .vmem S1024x1024 .bf16) (harg13 : arg13.IsWhole)
    (v19 : BitVec 1) (a : Vec F S1024x2048 .bf16) (b : Vec F S1024x1024 .bf16) (W1 : Vec F S1x1x1024x2048 .f32) (W2 : Vec F S1x1x1024x1024 .f32)
    (hc : v19 ≠ 1#1 → a = k0_pay1 W1 ∧ b = k0_pay2 W2) :
    (iprop(owns (c : Thread nD τ) arg12 fullShare a ∗ owns (c : Thread nD τ) arg13 fullShare b
      ∗ owns (c : Thread nD τ) arg7 fullShare W1 ∗ owns (c : Thread nD τ) arg9 fullShare W2) : sProp 𝕄) ⊢
      wp frame (wpE defs₀ Variants.none (c : Thread nD τ) none) Set.univ (ph3 (F := F) i arg1 harg1 arg2 harg2 arg3 harg3 arg4 harg4 xh (Memref.isWhole_whole _) arg6 harg6 arg7 harg7 arg8 harg8 arg9 harg9 arg10 harg10 arg11 harg11 arg12 harg12 arg13 harg13 xm (Memref.isWhole_whole _) cc0_scratch3 v19)
        (fun _ => iprop(owns (c : Thread nD τ) arg12 fullShare (k0_pay1 W1) ∗ owns (c : Thread nD τ) arg13 fullShare (k0_pay2 W2)
          ∗ owns (c : Thread nD τ) arg7 fullShare W1 ∗ owns (c : Thread nD τ) arg9 fullShare W2)) := by
  unfold ph3
  by_cases h : v19 = 1#1
  · rw [if_pos h]
    unfold owns
    iintro ⟨⟨%f12, -, H12⟩, ⟨%f13, -, H13⟩, ⟨%f7, %h7, H7⟩, ⟨%f9, %h9, H9⟩⟩
    sl_exec
    iapply (le_wp_ret _ _)
    isplitl [H12]
    · iexists _; isplitr; swap; · iexact H12
      ipureintro
      exact (View.read_writes_full _ _ _ _ _).trans (congrArg k0_pay1 (full_read _ f7 _ h7 _ (by decide) _))
    isplitl [H13]
    · iexists _; isplitr; swap; · iexact H13
      ipureintro
      exact (View.read_writes_full _ _ _ _ _).trans (congrArg k0_pay2 (full_read _ f9 _ h9 _ (by decide) _))
    isplitl [H7]
    · iexists _; isplitr; swap; · iexact H7
      ipureintro; exact h7
    · iexists _; isplitr; swap; · iexact H9
      ipureintro; exact h9
  · obtain ⟨rfl, rfl⟩ := hc h
    rw [if_neg h]
    refine BIBase.Entails.trans ?_ (le_wp_ret _ _ _ _ _)
    exact .rfl

theorem ph4_ok (s : Fin 2) (hw : k0_off67 i = ![s.val]) (hs : k0_off68 i = ![s.val, 0, 0]) (v0 : Elt F .i32) (tn : Prop) [Decidable tn]
    (hc : k0_cond4 i v0 = 1#1 ↔ tn) (X : XBuf F) (R : Fin 512 → ℕ) (W : Waits sig Unit)
    (w1 : Vec F S1024x2048 .bf16) (b1 : Vec F S1x1x1x2048 .f32) (w2 : Vec F S1024x1024 .bf16) (b2 : Vec F S1x1x1x1024 .f32) (g : Vec F S1x8x128 .f32) :
    iprop(slot c s X R tn ∗ owes (c : Thread nD τ) 0 W
      ∗ owns (c : Thread nD τ) (Memref.whole cc0_scratch0) fullShare w1 ∗ owns (c : Thread nD τ) (Memref.whole cc0_scratch1) fullShare w2
      ∗ owns (c : Thread nD τ) arg6 fullShare g ∗ owns (c : Thread nD τ) arg8 fullShare b1 ∗ owns (c : Thread nD τ) arg10 fullShare b2
      ∗ (∃ d, owns (c : Thread nD τ) arg11 fullShare d)) ⊢
      wp frame (wpE defs₀ Variants.none (c : Thread nD τ) none) Set.univ (ph4 (F := F) i arg1 harg1 arg2 harg2 arg3 harg3 arg4 harg4 xh (Memref.isWhole_whole _) arg6 harg6 arg7 harg7 arg8 harg8 arg9 harg9 arg10 harg10 arg11 harg11 (Memref.whole cc0_scratch0) (Memref.isWhole_whole _) (Memref.whole cc0_scratch1) (Memref.isWhole_whole _) xm (Memref.isWhole_whole _) cc0_scratch3 v0)
        (fun _ => iprop(idle c s X ∗ (∃ W', owes (c : Thread nD τ) 0 W')
          ∗ owns (c : Thread nD τ) (Memref.whole cc0_scratch0) fullShare w1 ∗ owns (c : Thread nD τ) (Memref.whole cc0_scratch1) fullShare w2
          ∗ owns (c : Thread nD τ) arg6 fullShare g ∗ owns (c : Thread nD τ) arg8 fullShare b1 ∗ owns (c : Thread nD τ) arg10 fullShare b2
          ∗ (∃ d, ⌜tn → d = blkOut X R w1 b1 w2 b2 g⌝ ∗ owns (c : Thread nD τ) arg11 fullShare d))) := by
  unfold ph4
  by_cases h : k0_cond4 i v0 = 1#1
  · rw [dif_pos h]
    unfold slot
    rw [if_pos (hc.mp h)]
    refine (compute c i arg1 harg1 arg2 harg2 arg3 harg3 arg4 harg4 arg6 harg6 arg7 harg7 arg8 harg8 arg9 harg9 arg10 harg10 arg11 harg11
      (Memref.whole cc0_scratch0) (Memref.isWhole_whole _) (Memref.whole cc0_scratch1) (Memref.isWhole_whole _) s hw hs X R W w1 b1 w2 b2 g).trans
      (wp_mono _ _ _ fun _ => ?_)
    iintro ⟨HF, HO, H12, H13, H6, H8, H10, H11⟩
    isplitl [HF]; · iapply (filled_idle c s X R); iexact HF
    isplitl [HO]; · iexact HO
    isplitl [H12]; · iexact H12
    isplitl [H13]; · iexact H13
    isplitl [H6]; · iexact H6
    isplitl [H8]; · iexact H8
    isplitl [H10]; · iexact H10
    iexists _
    isplitr; swap; · iexact H11
    ipureintro; exact fun _ => rfl
  · rw [dif_neg h]
    refine BIBase.Entails.trans ?_ (le_wp_ret _ _ _ _ _)
    unfold slot
    rw [if_neg fun x => h (hc.mpr x)]
    iintro ⟨HF, HO, H12, H13, H6, H8, H10, ⟨%d, H11⟩⟩
    isplitl [HF]; · iexact HF
    isplitl [HO]; · iexists _; iexact HO
    isplitl [H12]; · iexact H12
    isplitl [H13]; · iexact H13
    isplitl [H6]; · iexact H6
    isplitl [H8]; · iexact H8
    isplitl [H10]; · iexact H10
    iexists d
    isplitr; swap; · iexact H11
    ipureintro; exact fun x => absurd (hc.mpr x) h

theorem ph5_ok (v0 : Elt F .i32) (tn : Prop) [Decidable tn] (hc : k0_cond5 i v0 = 1#1 ↔ ¬ tn) (B : Vec F S4096x128 .f32) :
    (iprop(∃ d, ⌜tn → d = B⌝ ∗ owns (c : Thread nD τ) arg11 fullShare d) : sProp 𝕄) ⊢
      wp frame (wpE defs₀ Variants.none (c : Thread nD τ) none) Set.univ (ph5 (F := F) i arg1 harg1 arg2 harg2 arg3 harg3 arg4 harg4 xh (Memref.isWhole_whole _) arg6 harg6 arg7 harg7 arg8 harg8 arg9 harg9 arg10 harg10 arg11 harg11 (Memref.whole cc0_scratch0) (Memref.isWhole_whole _) (Memref.whole cc0_scratch1) (Memref.isWhole_whole _) xm (Memref.isWhole_whole _) cc0_scratch3 v0)
        (fun _ => owns (c : Thread nD τ) arg11 fullShare (if tn then B else k0_pay3 (F := F))) := by
  unfold ph5
  by_cases h : k0_cond5 i v0 = 1#1
  · rw [dif_pos h, if_neg (hc.mp h)]
    unfold owns
    iintro ⟨%d, -, ⟨%f11, -, H11⟩⟩
    sl_exec
    iapply (le_wp_ret _ _)
    iexists _; isplitr; swap; · iexact H11
    ipureintro
    exact View.read_writes_full arg11.view f11 _ _ _
  · have ht : tn := Classical.not_not.mp fun x => h (hc.mpr x)
    rw [dif_neg h, if_pos ht]
    refine BIBase.Entails.trans ?_ (le_wp_ret _ _ _ _ _)
    iintro ⟨%d, %e, H11⟩
    rw [e ht]
    iexact H11

theorem rest_ok (s s' : Fin 2) (t0 tn tn' : Prop) [Decidable t0] [Decidable tn] [Decidable tn'] (V0 V2 V6 : Elt F .i32)
    (c1 : k0_cond1 i = 1#1 ↔ t0) (h0 : t0 → s = 0) (hn : t0 → tn) (c2 : k0_cond2 i V0 = 1#1 ↔ tn') (hs' : SlotOffs i s')
    (c4 : k0_cond4 i V0 = 1#1 ↔ tn) (c5 : k0_cond5 i V0 = 1#1 ↔ ¬ tn)
    (ow : k0_off67 i = ![s.val]) (os : k0_off68 i = ![s.val, 0, 0]) (X : XBuf F) (R3 R4 : S1x1x512.Idx → Elt F .i32) (hR3 : InRange (F := F) R3) (hR4 : InRange (F := F) R4)
    (a : Vec F S1024x2048 .bf16) (b : Vec F S1024x1024 .bf16) (W1 : Vec F S1x1x1024x2048 .f32) (W2 : Vec F S1x1x1024x1024 .f32)
    (c3 : cond3 (F := F) i V2 V6 ≠ 1#1 → a = k0_pay1 W1 ∧ b = k0_pay2 W2)
    (b1 : Vec F S1x1x1x2048 .f32) (b2 : Vec F S1x1x1x1024 .f32) (g : Vec F S1x8x128 .f32) (W : Waits sig Unit) :
    (iprop((slot c s X (rows (F := F) R3) (¬ t0 ∧ tn) ∗ idle c s' X ∗ owes (c : Thread nD τ) 0 W
      ∗ owns (c : Thread nD τ) (Memref.whole cc0_scratch0) fullShare a ∗ owns (c : Thread nD τ) (Memref.whole cc0_scratch1) fullShare b)
      ∗ owns (c : Thread nD τ) arg3 fullShare R3 ∗ owns (c : Thread nD τ) arg4 fullShare R4
      ∗ owns (c : Thread nD τ) arg6 fullShare g ∗ owns (c : Thread nD τ) arg7 fullShare W1 ∗ owns (c : Thread nD τ) arg8 fullShare b1
      ∗ owns (c : Thread nD τ) arg9 fullShare W2 ∗ owns (c : Thread nD τ) arg10 fullShare b2
      ∗ (∃ d, owns (c : Thread nD τ) arg11 fullShare d)) : sProp 𝕄) ⊢
      wp frame (wpE defs₀ Variants.none (c : Thread nD τ) none) Set.univ (rest (F := F) i arg1 harg1 arg2 harg2 arg3 harg3 arg4 harg4 xh (Memref.isWhole_whole _) arg6 harg6 arg7 harg7 arg8 harg8 arg9 harg9 arg10 harg10 arg11 harg11 (Memref.whole cc0_scratch0) (Memref.isWhole_whole _) (Memref.whole cc0_scratch1) (Memref.isWhole_whole _) xm (Memref.isWhole_whole _) cc0_scratch3 V0 V2 V6)
        (fun _ => iprop((idle c s X ∗ slot c s' X (rows (F := F) R4) tn' ∗ (∃ W', owes (c : Thread nD τ) 0 W')
      ∗ owns (c : Thread nD τ) (Memref.whole cc0_scratch0) fullShare (k0_pay1 W1) ∗ owns (c : Thread nD τ) (Memref.whole cc0_scratch1) fullShare (k0_pay2 W2))
      ∗ owns (c : Thread nD τ) arg3 fullShare R3 ∗ owns (c : Thread nD τ) arg4 fullShare R4
      ∗ owns (c : Thread nD τ) arg6 fullShare g ∗ owns (c : Thread nD τ) arg7 fullShare W1 ∗ owns (c : Thread nD τ) arg8 fullShare b1
      ∗ owns (c : Thread nD τ) arg9 fullShare W2 ∗ owns (c : Thread nD τ) arg10 fullShare b2
      ∗ owns (c : Thread nD τ) arg11 fullShare (if tn then blkOut X (rows (F := F) R3) (k0_pay1 W1) b1 (k0_pay2 W2) b2 g else k0_pay3 (F := F)))) := by
  unfold rest
  simp only [wp_bind]
  iintro ⟨⟨HS, HS', HO, H12, H13⟩, H3, H4, H6, H7, H8, H9, H10, H11⟩
  iapply (wp_wand _ _ _) $$ [HS H3]
  · iapply (ph1_ok c i arg1 harg1 arg2 harg2 arg3 harg3 arg4 harg4 arg6 harg6 arg7 harg7 arg8 harg8 arg9 harg9 arg10 harg10 arg11 harg11 s t0 tn c1 h0 hn X R3 hR3)
    isplitl [HS]; · iexact HS
    iexact H3
  iintro %_ ⟨HS, H3⟩
  iapply (wp_wand _ _ _) $$ [HS' H4]
  · iapply (ph2_ok c i arg1 harg1 arg2 harg2 arg3 harg3 arg4 harg4 arg6 harg6 arg7 harg7 arg8 harg8 arg9 harg9 arg10 harg10 arg11 harg11 s' hs' V0 tn' c2 X R4 hR4)
    isplitl [HS']; · iexact HS'
    iexact H4
  iintro %_ ⟨HS', H4⟩
  iapply (wp_wand _ _ _) $$ [H12 H13 H7 H9]
  · iapply (ph3_ok c i arg1 harg1 arg2 harg2 arg3 harg3 arg4 harg4 arg6 harg6 arg7 harg7 arg8 harg8 arg9 harg9 arg10 harg10 arg11 harg11 (Memref.whole cc0_scratch0) (Memref.isWhole_whole _) (Memref.whole cc0_scratch1) (Memref.isWhole_whole _) (cond3 (F := F) i V2 V6) a b W1 W2 c3)
    isplitl [H12]; · iexact H12
    isplitl [H13]; · iexact H13
    isplitl [H7]; · iexact H7
    iexact H9
  iintro %_ ⟨H12, H13, H7, H9⟩
  iapply (wp_wand _ _ _) $$ [HS HO H12 H13 H6 H8 H10 H11]
  · iapply (ph4_ok c i arg1 harg1 arg2 harg2 arg3 harg3 arg4 harg4 arg6 harg6 arg7 harg7 arg8 harg8 arg9 harg9 arg10 harg10 arg11 harg11 s ow os V0 tn c4 X (rows (F := F) R3) W (k0_pay1 W1) b1 (k0_pay2 W2) b2 g)
    isplitl [HS]; · iexact HS
    isplitl [HO]; · iexact HO
    isplitl [H12]; · iexact H12
    isplitl [H13]; · iexact H13
    isplitl [H6]; · iexact H6
    isplitl [H8]; · iexact H8
    isplitl [H10]; · iexact H10
    iexact H11
  iintro %_ ⟨HS, HO, H12, H13, H6, H8, H10, H11⟩
  iapply (wp_wand _ _ _) $$ [H11]
  · iapply (ph5_ok c i arg1 harg1 arg2 harg2 arg3 harg3 arg4 harg4 arg6 harg6 arg7 harg7 arg8 harg8 arg9 harg9 arg10 harg10 arg11 harg11 V0 tn c5 (blkOut X (rows (F := F) R3) (k0_pay1 W1) b1 (k0_pay2 W2) b2 g))
    iexact H11
  iintro %_ H11
  iapply (le_wp_ret _ _)
  isplitl [HS HS' HO H12 H13]
  · isplitl [HS]; · iexact HS
    isplitl [HS']; · iexact HS'
    isplitl [HO]; · iexact HO
    isplitl [H12]; · iexact H12
    iexact H13
  isplitl [H3]; · iexact H3
  isplitl [H4]; · iexact H4
  isplitl [H6]; · iexact H6
  isplitl [H7]; · iexact H7
  isplitl [H8]; · iexact H8
  isplitl [H9]; · iexact H9
  isplitl [H10]; · iexact H10
  iexact H11

/-- A multi-index of rank one. -/
def i1 {n0 : ℕ} (a : Fin n0) : (⟨1, ![n0]⟩ : Shape).Idx := fun | ⟨0, _⟩ => a

/-- The word of a table at an index. -/
theorem word1 {κ : Kind} {sp : Space} {n0 : ℕ} (m : View sig κ sp (⟨1, ![n0]⟩ : Shape) .i32) (f : m.ty.Contents (Elt F)) (o : Fin 1 → ℕ) (inb) (n : Fin n0) (h : o = ![n.val])
    (x : (⟨1, ![1]⟩ : Shape).Idx) :
    m.readAt (Elt F) (Rect.unit (s := (⟨1, ![n0]⟩ : Shape)) o (⟨1, ![1]⟩ : Shape).size inb).toLoadRect f x = m.read (Elt F) f (i1 n) := by
  subst h
  rw [View.readAt_apply]
  congr 1
  funext a
  fin_cases a
  apply Fin.ext
  have hx : (x 0).val < 1 := (x 0).isLt
  show n.val + 1 * (x 0).val = n.val
  omega

theorem body_ok (be : S288.Idx → Elt F .i32) (nr : S1.Idx → Elt F .i32)
    (q : PosShare TreeShare) (n2 n6 : Fin 288) (e2 : k0_off1 i = ![n2.val]) (e6 : k0_off2 i = ![n6.val])
    (s s' : Fin 2) (t0 tn tn' : Prop) [Decidable t0] [Decidable tn] [Decidable tn']
    (c1 : k0_cond1 i = 1#1 ↔ t0) (h0 : t0 → s = 0) (hn : t0 → tn) (c2 : k0_cond2 i (nr (i1 0)) = 1#1 ↔ tn') (hs' : SlotOffs i s')
    (c4 : k0_cond4 i (nr (i1 0)) = 1#1 ↔ tn) (c5 : k0_cond5 i (nr (i1 0)) = 1#1 ↔ ¬ tn)
    (ow : k0_off67 i = ![s.val]) (os : k0_off68 i = ![s.val, 0, 0]) (X : XBuf F) (R3 R4 : S1x1x512.Idx → Elt F .i32) (hR3 : InRange (F := F) R3) (hR4 : InRange (F := F) R4)
    (a : Vec F S1024x2048 .bf16) (b : Vec F S1024x1024 .bf16) (W1 : Vec F S1x1x1024x2048 .f32) (W2 : Vec F S1x1x1024x1024 .f32)
    (c3 : cond3 (F := F) i (be (i1 n2)) (be (i1 n6)) ≠ 1#1 → a = k0_pay1 W1 ∧ b = k0_pay2 W2)
    (b1 : Vec F S1x1x1x2048 .f32) (b2 : Vec F S1x1x1x1024 .f32) (g : Vec F S1x8x128 .f32) (W : Waits sig Unit) :
    (iprop((slot c s X (rows (F := F) R3) (¬ t0 ∧ tn) ∗ idle c s' X ∗ owes (c : Thread nD τ) 0 W
      ∗ owns (c : Thread nD τ) arg1 q be ∗ owns (c : Thread nD τ) arg2 q nr
      ∗ owns (c : Thread nD τ) (Memref.whole cc0_scratch0) fullShare a ∗ owns (c : Thread nD τ) (Memref.whole cc0_scratch1) fullShare b)
      ∗ owns (c : Thread nD τ) arg3 fullShare R3 ∗ owns (c : Thread nD τ) arg4 fullShare R4
      ∗ owns (c : Thread nD τ) arg6 fullShare g ∗ owns (c : Thread nD τ) arg7 fullShare W1 ∗ owns (c : Thread nD τ) arg8 fullShare b1
      ∗ owns (c : Thread nD τ) arg9 fullShare W2 ∗ owns (c : Thread nD τ) arg10 fullShare b2
      ∗ (∃ d, owns (c : Thread nD τ) arg11 fullShare d)) : sProp 𝕄) ⊢
      wp frame (wpE defs₀ Variants.none (c : Thread nD τ) none) Set.univ (cc0_moe_experts (F := F) i arg1 harg1 arg2 harg2 arg3 harg3 arg4 harg4 xh (Memref.isWhole_whole _) arg6 harg6 arg7 harg7 arg8 harg8 arg9 harg9 arg10 harg10 arg11 harg11 (Memref.whole cc0_scratch0) (Memref.isWhole_whole _) (Memref.whole cc0_scratch1) (Memref.isWhole_whole _) xm (Memref.isWhole_whole _) cc0_scratch3)
        (fun _ => iprop((idle c s X ∗ slot c s' X (rows (F := F) R4) tn' ∗ (∃ W', owes (c : Thread nD τ) 0 W')
      ∗ owns (c : Thread nD τ) arg1 q be ∗ owns (c : Thread nD τ) arg2 q nr
      ∗ owns (c : Thread nD τ) (Memref.whole cc0_scratch0) fullShare (k0_pay1 W1) ∗ owns (c : Thread nD τ) (Memref.whole cc0_scratch1) fullShare (k0_pay2 W2))
      ∗ owns (c : Thread nD τ) arg3 fullShare R3 ∗ owns (c : Thread nD τ) arg4 fullShare R4
      ∗ owns (c : Thread nD τ) arg6 fullShare g ∗ owns (c : Thread nD τ) arg7 fullShare W1 ∗ owns (c : Thread nD τ) arg8 fullShare b1
      ∗ owns (c : Thread nD τ) arg9 fullShare W2 ∗ owns (c : Thread nD τ) arg10 fullShare b2
      ∗ owns (c : Thread nD τ) arg11 fullShare (if tn then blkOut X (rows (F := F) R3) (k0_pay1 W1) b1 (k0_pay2 W2) b2 g else k0_pay3 (F := F)))) := by
  rw [cc0_moe_experts_eq_skeleton, skel_phases]
  iintro ⟨⟨HS, HS', HO, HT1, HT2, H12, H13⟩, HR⟩
  ihave HT1' := (show (owns (c : Thread nD τ) arg1 q be : sProp 𝕄) ⊢ iprop(∃ f, ⌜arg1.view.read (Elt F) f = be⌝ ∗ arg1.view.loc (c : Thread nD τ) ↦[arg1.view.set]{q} f) from .rfl) $$ HT1
  ihave HT2' := (show (owns (c : Thread nD τ) arg2 q nr : sProp 𝕄) ⊢ iprop(∃ f, ⌜arg2.view.read (Elt F) f = nr⌝ ∗ arg2.view.loc (c : Thread nD τ) ↦[arg2.view.set]{q} f) from .rfl) $$ HT2
  icases HT1' with ⟨%f1, %e1, HT1⟩
  icases HT2' with ⟨%f2, %e22, HT2⟩
  subst e1 e22
  sl_exec
  iapply (Entails.of_eq (wp_bind _ _ _ _ _ _))
  have E0 : body_ok.sl.r (F := F) arg2 f2 = arg2.view.read (Elt F) f2 (i1 0) := word1 arg2.view f2 _ _ 0 rfl _
  have E2 : body_ok.sl.r_1 (F := F) i arg1 f1 = arg1.view.read (Elt F) f1 (i1 n2) := word1 arg1.view f1 _ _ n2 e2 _
  have E6 : body_ok.sl.r_2 (F := F) i arg1 f1 = arg1.view.read (Elt F) f1 (i1 n6) := word1 arg1.view f1 _ _ n6 e6 _
  generalize body_ok.sl.r (F := F) arg2 f2 = z0 at E0 ⊢
  generalize body_ok.sl.r_1 (F := F) i arg1 f1 = z2 at E2 ⊢
  generalize body_ok.sl.r_2 (F := F) i arg1 f1 = z6 at E6 ⊢
  subst E0 E2 E6
  iapply (wp_wand _ _ _) $$ [HS HS' HO H12 H13 HR]
  · iapply (rest_ok c i arg1 harg1 arg2 harg2 arg3 harg3 arg4 harg4 arg6 harg6 arg7 harg7 arg8 harg8 arg9 harg9 arg10 harg10 arg11 harg11 s s' t0 tn tn' _ _ _ c1 h0 hn c2 hs' c4 c5 ow os X R3 R4 hR3 hR4 a b W1 W2 c3 b1 b2 g W)
    isplitl [HS HS' HO H12 H13]
    · isplitl [HS]; · iexact HS
      isplitl [HS']; · iexact HS'
      isplitl [HO]; · iexact HO
      isplitl [H12]; · iexact H12
      iexact H13
    iexact HR
  iintro %_ ⟨⟨HS, HS', HO, H12, H13⟩, HR⟩
  isplitl [HS HS' HO HT1 HT2 H12 H13]
  · isplitl [HS]; · iexact HS
    isplitl [HS']; · iexact HS'
    isplitl [HO]; · iexact HO
    isplitl [HT1]
    · unfold owns; iexists f1; isplitr; · ipureintro; rfl
      iexact HT1
    isplitl [HT2]
    · unfold owns; iexists f2; isplitr; · ipureintro; rfl
      iexact HT2
    isplitl [H12]; · iexact H12
    iexact H13
  iexact HR

end Cert.KernelIdeal.Moe

end
-- ==== Proof.MoeGrid.lean ====
/-
  The expert kernel's grid: what its offsets and conditions are at each of the 288 points, of tables whose words are in
  range — and that such tables put every weight block inside its array.
-/
module

public import proofs.«01_k».proof.Proof.MoeBody
public import Idealize.ShloMosaic.Lib.StableHlo.Predicate

@[expose] public section

set_option maxRecDepth 16384

noncomputable section

namespace Cert.KernelIdeal.Moe

open Cert.KernelIdeal Cert.KernelIdeal.Gen
open Idealize.ShloMosaic Idealize.ShloMosaic.TcCoe
open Idealize.ShloMosaic.StableHlo.Predicate

variable {F : FTy → Type} [FloatOps F]

/-! ## Coordinates and offsets -/

theorem coord : ∀ t : Fin grid0.N, (grid0.coords t 0).val = t.val := by decide +kernel
theorem t_lt (t : Fin grid0.N) : t.val < 288 := lt_of_lt_of_eq t.isLt N_0

/-- The slot point `t` gathers into, and the other one. -/
def par (t : ℕ) : Fin 2 := ⟨t % 2, Nat.mod_lt _ (by decide)⟩
theorem par_zero : par 0 = 0 := rfl

theorem off1 (t : Fin grid0.N) : k0_off1 (grid0.coords t) = ![t.val] :=
  funext ((by decide +kernel : ∀ t : Fin grid0.N, ∀ a, k0_off1 (grid0.coords t) a = (![t.val] : Fin 1 → ℕ) a) t)
theorem off2 (t : Fin grid0.N) : k0_off2 (grid0.coords t) = ![t.val - 1] :=
  funext ((by decide +kernel : ∀ t : Fin grid0.N, ∀ a, k0_off2 (grid0.coords t) a = (![t.val - 1] : Fin 1 → ℕ) a) t)
theorem off67 (t : Fin grid0.N) : k0_off67 (grid0.coords t) = ![(par t.val).val] :=
  funext ((by decide +kernel : ∀ t : Fin grid0.N, ∀ a, k0_off67 (grid0.coords t) a = (![(par t.val).val] : Fin 1 → ℕ) a) t)
theorem off68 (t : Fin grid0.N) : k0_off68 (grid0.coords t) = ![(par t.val).val, 0, 0] :=
  funext ((by decide +kernel : ∀ t : Fin grid0.N, ∀ a, k0_off68 (grid0.coords t) a = (![(par t.val).val, 0, 0] : Fin 3 → ℕ) a) t)

theorem offN (t : Fin grid0.N) : k0_off28 (grid0.coords t) = ![(par (t.val + 1)).val] :=
  funext ((by decide +kernel : ∀ t : Fin grid0.N, ∀ a, k0_off28 (grid0.coords t) a = (![(par (t.val + 1)).val] : Fin 1 → ℕ) a) t)
theorem offN' (t : Fin grid0.N) : k0_off29 (grid0.coords t) = ![(par (t.val + 1)).val, 0, 0] :=
  funext ((by decide +kernel : ∀ t : Fin grid0.N, ∀ a, k0_off29 (grid0.coords t) a = (![(par (t.val + 1)).val, 0, 0] : Fin 3 → ℕ) a) t)

theorem slotOffs (t : Fin grid0.N) : SlotOffs (grid0.coords t) (par (t.val + 1)) :=
  ⟨offN t, offN' t, offN t, offN' t, offN t, offN' t, offN t, offN' t, offN t, offN' t, offN t, offN' t, offN t, offN' t, offN t, offN' t⟩

/-! ## Conditions -/

theorem c1 : ∀ t : Fin grid0.N, k0_cond1 (grid0.coords t) = 1#1 ↔ t.val = 0 := by decide +kernel

theorem ne_zero_iff : ∀ b : BitVec 1, IntOp.cmpi .ne (b.setWidth 32) (0#32) = 1#1 ↔ b = 1#1 := by decide
theorem or_iff : ∀ a b : BitVec 1, a ||| b = 1#1 ↔ (a = 1#1 ∨ b = 1#1) := by decide
theorem and_iff : ∀ a b : BitVec 1, a &&& b = 1#1 ↔ (a = 1#1 ∧ b = 1#1) := by decide

theorem c2 (t : Fin grid0.N) (w : BitVec 32) (hw : w.toNat ≤ 288) : k0_cond2 (grid0.coords t) w = 1#1 ↔ t.val + 1 < w.toNat := by
  have ht := t_lt t
  refine (ne_zero_iff (IntOp.cmpi .slt (BitVec.ofNat 32 (grid0.coords t 0).val + 1#32) w)).trans ?_
  rw [coord]
  have e : (BitVec.ofNat 32 t.val + 1#32).toNat = t.val + 1 := by
    rw [BitVec.toNat_add, BitVec.toNat_ofNat]; simp; omega
  rw [slt_iff_toNat (by omega) (by omega), e]

theorem c4 (t : Fin grid0.N) (w : BitVec 32) (hw : w.toNat ≤ 288) (h1 : 1 ≤ w.toNat) : k0_cond4 (grid0.coords t) w = 1#1 ↔ t.val < w.toNat := by
  have ht := t_lt t
  refine (ne_zero_iff (IntOp.cmpi .slt (BitVec.ofNat 32 (grid0.coords t 0).val) w ||| IntOp.cmpi .eq (BitVec.ofNat 32 (grid0.coords t 0).val) 0#32)).trans ?_
  rw [coord]
  have e : (BitVec.ofNat 32 t.val).toNat = t.val := by rw [BitVec.toNat_ofNat]; omega
  rw [or_iff, slt_iff_toNat (by omega) (by omega), e, cmpi_eq_iff]
  constructor
  · rintro (h | h)
    · exact h
    · have := congrArg BitVec.toNat h; rw [e] at this; simp at this; omega
  · exact Or.inl

theorem c5 (t : Fin grid0.N) (w : BitVec 32) (hw : w.toNat ≤ 288) (h1 : 1 ≤ w.toNat) : k0_cond5 (grid0.coords t) w = 1#1 ↔ ¬ t.val < w.toNat := by
  have ht := t_lt t
  refine (ne_zero_iff (IntOp.cmpi .sge (BitVec.ofNat 32 (grid0.coords t 0).val) w &&& IntOp.cmpi .sgt (BitVec.ofNat 32 (grid0.coords t 0).val) 0#32)).trans ?_
  rw [coord]
  have e : (BitVec.ofNat 32 t.val).toNat = t.val := by rw [BitVec.toNat_ofNat]; omega
  rw [and_iff, sge_iff_toNat (by omega) (by omega), sgt_iff_toNat (by omega) (by simp), e]
  simp; omega

theorem c3 (t : Fin grid0.N) (v2 v6 : BitVec 32) (h : cond3 (F := F) (grid0.coords t) v2 v6 ≠ 1#1) : 0 < t.val ∧ v2 = v6 := by
  have ht := t_lt t
  have h' := mt (ne_zero_iff (IntOp.cmpi .eq (BitVec.ofNat 32 (grid0.coords t 0).val) 0#32 ||| IntOp.cmpi .ne v2 v6)).2 h
  rw [coord, or_iff, cmpi_eq_iff] at h'
  push Not at h'
  obtain ⟨ha, hb⟩ := h'
  constructor
  · rcases Nat.eq_zero_or_pos t.val with h0 | h0
    · exact absurd (by rw [h0]) ha
    · exact h0
  · by_contra hne
    exact hb (by show BitVec.ofBool (v2 != v6) = 1#1; rw [show (v2 != v6) = true from bne_iff_ne.2 hne]; rfl)

/-! ## The tables -/

/-- Every weight block the table of experts names is inside its array. -/
theorem ok_of (pf : pre0.Contents (Elt F)) (h : ∀ x, (pf 0 x : BitVec 32).toNat < 32) : ok0 pf := by
  refine ⟨fun i => ⟨fun a => ?_, .inl rfl⟩, fun i => ⟨fun a => ?_, .inl rfl⟩, fun i => ⟨fun a => ?_, .inl rfl⟩, fun i => ⟨fun a => ?_, .inl rfl⟩⟩
  · have hw := h ((Rect.unit (s := S288) (k0_off1 i) S1.size (k0_off1_inb i)).emb (Shape.Idx.first (numel1_S1.symm ▸ Nat.one_pos)))
    fin_cases a
    · exact (by decide : (0 + 1) * 1 ≤ 2)
    · show (BitVec.toNat _ + 1) * 1 ≤ 32; exact (Nat.mul_one _).trans_le hw
    · exact (by decide : (0 + 1) * 1024 ≤ 1024)
    · exact (by decide : (0 + 1) * 2048 ≤ 2048)
  · have hw := h ((Rect.unit (s := S288) (k0_off1 i) S1.size (k0_off1_inb i)).emb (Shape.Idx.first (numel1_S1.symm ▸ Nat.one_pos)))
    fin_cases a
    · exact (by decide : (0 + 1) * 1 ≤ 2)
    · show (BitVec.toNat _ + 1) * 1 ≤ 32; exact (Nat.mul_one _).trans_le hw
    · exact (by decide : (0 + 1) * 1 ≤ 1)
    · exact (by decide : (0 + 1) * 2048 ≤ 2048)
  · have hw := h ((Rect.unit (s := S288) (k0_off1 i) S1.size (k0_off1_inb i)).emb (Shape.Idx.first (numel1_S1.symm ▸ Nat.one_pos)))
    fin_cases a
    · exact (by decide : (0 + 1) * 1 ≤ 2)
    · show (BitVec.toNat _ + 1) * 1 ≤ 32; exact (Nat.mul_one _).trans_le hw
    · exact (by decide : (0 + 1) * 1024 ≤ 1024)
    · exact (by decide : (0 + 1) * 1024 ≤ 1024)
  · have hw := h ((Rect.unit (s := S288) (k0_off1 i) S1.size (k0_off1_inb i)).emb (Shape.Idx.first (numel1_S1.symm ▸ Nat.one_pos)))
    fin_cases a
    · exact (by decide : (0 + 1) * 1 ≤ 2)
    · show (BitVec.toNat _ + 1) * 1 ≤ 32; exact (Nat.mul_one _).trans_le hw
    · exact (by decide : (0 + 1) * 1 ≤ 1)
    · exact (by decide : (0 + 1) * 1024 ≤ 1024)

end Cert.KernelIdeal.Moe

end
-- ==== Proof.MoeEntry.lean ====
/-
  What the expert kernel's region is entered with: the buffers the host operations leave, the tables, and each window's
  block at each of the 288 points, element by element.
-/
module

public import proofs.«01_k».proof.Proof.MoeGrid
public import Idealize.ShloMosaic.Lib.Claim
public import Idealize.ShloMosaic.Lib.Pipeline.ValueKit

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- The launch memory's integer arguments, at their own types. -/
def tokW (c : Dev nD) : S288x512.Idx → BitVec 32 := m ((c : Thread nD τ).loc main_arg1)
def expW (c : Dev nD) : S288.Idx → BitVec 32 := m ((c : Thread nD τ).loc main_arg3)
def cntW (c : Dev nD) : S1.Idx → BitVec 32 := m ((c : Thread nD τ).loc main_arg4)

/-- The range of the integer arguments: row numbers, expert numbers, and the count of blocks in use. -/
structure Good : Prop where
  tok : ∀ c x, (tokW m c x).toNat < 32768
  exp : ∀ c x, (expW m c x).toNat < 32
  pos : ∀ c x, 1 ≤ (cntW m c x).toNat
  cnt : ∀ c x, (cntW m c x).toNat ≤ 288

/-- The buffers at the region's entry, and the tables as the region reads them. -/
abbrev V (c : Dev nD) (b : Ref sig .tc) : Buf (Elt F) ((c : Thread nD τ).loc b) :=
  StableHlo.after (List.flatten [hostOps0, hostOps0_1, hostOps0_2]) (fun b => m (c, b)) b

def pf : pre0.Contents (Elt F) := fun k => m (((0 : Dev nD) : Thread nD τ).loc (pre0.ref k))

variable {m} in
def ad (hg : Good m) : (pcfg0 (F := F)).Adm := ⟨pf m, ok_of (pf m) (hg.exp 0)⟩
variable {m} in
abbrev adm (hg : Good m) : (p : Fin 1) → (pcfgs (F := F) p).Adm := fun _ => ad hg

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefixes (pcfgs (F := F)) 0 defs₀ 𝒱₀ m main [hostOps0, hostOps0_1, hostOps0_2] ⟨hostOps0_sub, hostOps0_1_sub, hostOps0_2_sub⟩
    ⟨hostOps0_fresh, hostOps0_1_fresh, hostOps0_2_fresh⟩ main_chain

/-- An argument array is at the region's entry as it was launched. -/
theorem V_of (c : Dev nD) (b : Ref sig .tc)
    (h : b = main_arg0 ∨ b = main_arg1 ∨ b = main_arg2 ∨ b = main_arg3 ∨ b = main_arg4 ∨ b = main_arg5 ∨ b = main_arg6 ∨ b = main_arg7 ∨ b = main_arg8) :
    V m c b = m ((c : Thread nD τ).loc b) := by
  refine StableHlo.after_of_forall_not_mem (b := Proc.devRef .tc b) _ _ (List.forall_iff_forall_mem.mp ?_)
  simp only [hostOps0, hostOps0_1, hostOps0_2, List.flatten_cons, List.flatten_nil, List.append_nil, List.cons_append, List.nil_append, List.Forall,
    StableHlo.TRef.unary, StableHlo.TRef.binary,
    StableHlo.nullary_writes, StableHlo.unary_writes, StableHlo.binary_writes, StableHlo.reshape_writes, Finset.mem_singleton]
  rcases h with rfl | rfl | rfl | rfl | rfl | rfl | rfl | rfl | rfl
  all_goals
    repeat' apply And.intro
    all_goals exact StableHlo.devRef_ne_of_ne (by decide)

variable {m} (hg : Good m)

/-- Window `w`'s block at point `t`, read off its array at the region's entry. -/
def iblk (c : Dev nD) (w : Fin 8) (t : Fin grid0.N) :
    (((cfg0 (ad hg)).win w).block.Idx → Elt F ((cfg0 (ad hg)).win w).elt) :=
  (((cfg0 (ad hg)).win w).blk t).view.read (Elt F) (V m c (Pipeline.arrRef spec0 w))

/-- The expert of block `t`. -/
def ex (c : Dev nD) (t : ℕ) : BitVec 32 := expW m c (i1 ⟨min t 287, by omega⟩)

def i4 {n0 n1 n2 n3 : ℕ} (a : Fin n0) (b : Fin n1) (d : Fin n2) (e : Fin n3) : (⟨4, ![n0, n1, n2, n3]⟩ : Shape).Idx :=
  fun | ⟨0, _⟩ => a | ⟨1, _⟩ => b | ⟨2, _⟩ => d | ⟨3, _⟩ => e

theorem tr0 : ∀ t : Fin grid0.N, ∀ a, cc0_transform_0 (grid0.coords t) a = (![t.val, 0, 0] : Fin 3 → ℕ) a := by decide +kernel
theorem tr1 : ∀ t : Fin grid0.N, ∀ a, cc0_transform_1 (grid0.coords t) a = (![min (t.val + 1) 287, 0, 0] : Fin 3 → ℕ) a := by decide +kernel
theorem tr3 : ∀ t : Fin grid0.N, ∀ a, cc0_transform_3 (grid0.coords t) a = (![t.val, 0, 0] : Fin 3 → ℕ) a := by decide +kernel
theorem tr8 : ∀ t : Fin grid0.N, ∀ a, cc0_transform_8 (grid0.coords t) a = (![t.val, 0] : Fin 2 → ℕ) a := by decide +kernel

theorem row_lt (n : ℕ) : min n 287 < 288 := by omega

theorem iblk0 (c : Dev nD) (t : Fin grid0.N) (y : S1x1x512.Idx) :
    iblk hg c 0 t y = (V m c main_v3 : S288x1x512.Idx → Elt F .i32) (i3 ⟨min t.val 287, row_lt _⟩ 0 (y 2)) := by
  have ht := t_lt t
  refine congrArg (V m c main_v3 : S288x1x512.Idx → Elt F .i32) (funext fun a => Fin.ext ?_)
  have h0 : (y 0).val < 1 := (y 0).isLt
  have h1 : (y 1).val < 1 := (y 1).isLt
  fin_cases a
  · have e := tr0 t 0
    show cc0_transform_0 (grid0.coords t) 0 * 1 + 1 * (y 0).val = min t.val 287
    rw [e]; show t.val * 1 + _ = _; omega
  · have e := tr0 t 1
    show cc0_transform_0 (grid0.coords t) 1 * 1 + 1 * (y 1).val = 0
    rw [e]; show 0 * 1 + _ = _; omega
  · have e := tr0 t 2
    show cc0_transform_0 (grid0.coords t) 2 * 512 + 1 * (y 2).val = (y 2).val
    rw [e]; show 0 * 512 + _ = _; omega

theorem iblk1 (c : Dev nD) (t : Fin grid0.N) (y : S1x1x512.Idx) :
    iblk hg c 1 t y = (V m c main_v3 : S288x1x512.Idx → Elt F .i32) (i3 ⟨min (t.val + 1) 287, row_lt _⟩ 0 (y 2)) := by
  have ht := t_lt t
  refine congrArg (V m c main_v3 : S288x1x512.Idx → Elt F .i32) (funext fun a => Fin.ext ?_)
  have h0 : (y 0).val < 1 := (y 0).isLt
  have h1 : (y 1).val < 1 := (y 1).isLt
  fin_cases a
  · have e := tr1 t 0
    show cc0_transform_1 (grid0.coords t) 0 * 1 + 1 * (y 0).val = min (t.val + 1) 287
    rw [e]; show min (t.val + 1) 287 * 1 + _ = _; omega
  · have e := tr1 t 1
    show cc0_transform_1 (grid0.coords t) 1 * 1 + 1 * (y 1).val = 0
    rw [e]; show 0 * 1 + _ = _; omega
  · have e := tr1 t 2
    show cc0_transform_1 (grid0.coords t) 2 * 512 + 1 * (y 2).val = (y 2).val
    rw [e]; show 0 * 512 + _ = _; omega

theorem iblk2 (c : Dev nD) (t : Fin grid0.N) (y : S1x8x128.Idx) :
    iblk hg c 2 t y = (V m c main_v5 : S288x8x128.Idx → Elt F .f32) (i3 ⟨min t.val 287, row_lt _⟩ (y 1) (y 2)) := by
  have ht := t_lt t
  refine congrArg (V m c main_v5 : S288x8x128.Idx → Elt F .f32) (funext fun a => Fin.ext ?_)
  have h0 : (y 0).val < 1 := (y 0).isLt
  fin_cases a
  · have e := tr3 t 0
    show cc0_transform_3 (grid0.coords t) 0 * 1 + 1 * (y 0).val = min t.val 287
    rw [e]; show t.val * 1 + _ = _; omega
  · have e := tr3 t 1
    show cc0_transform_3 (grid0.coords t) 1 * 8 + 1 * (y 1).val = (y 1).val
    rw [e]; show 0 * 8 + _ = _; omega
  · have e := tr3 t 2
    show cc0_transform_3 (grid0.coords t) 2 * 128 + 1 * (y 2).val = (y 2).val
    rw [e]; show 0 * 128 + _ = _; omega

/-- The word the weight windows' index maps read. -/
theorem word (t : Fin grid0.N) : (pf m).at 0 (Rect.unit (s := S288) (k0_off1 (grid0.coords t)) S1.size (k0_off1_inb (grid0.coords t))) numel1_S1
    = ex (m := m) 0 t.val := by
  have ht := t_lt t
  refine congrArg (expW m 0) (funext fun a => Fin.ext ?_)
  fin_cases a
  have e := congrFun (off1 t) 0
  show k0_off1 (grid0.coords t) 0 + 1 * 0 = min t.val 287
  rw [e]; show t.val + _ = _; omega

include hg in
theorem ex_lt (c : Dev nD) (t : ℕ) : (ex (m := m) c t).toNat < 32 := hg.exp c _

theorem iblk3 (c : Dev nD) (t : Fin grid0.N) (y : S1x1x1024x2048.Idx) :
    iblk hg c 3 t y = (V m c main_arg5 : S2x32x1024x2048.Idx → Elt F .f32) (i4 0 ⟨(ex (m := m) 0 t.val).toNat, ex_lt hg 0 t.val⟩ (y 2) (y 3)) := by
  refine congrArg (V m c main_arg5 : S2x32x1024x2048.Idx → Elt F .f32) (funext fun a => Fin.ext ?_)
  have h0 : (y 0).val < 1 := (y 0).isLt
  have h1 : (y 1).val < 1 := (y 1).isLt
  fin_cases a
  · show 0 * 1 + 1 * (y 0).val = 0; omega
  · show BitVec.toNat ((pf m).at 0 (Rect.unit (s := S288) (k0_off1 (grid0.coords t)) S1.size (k0_off1_inb (grid0.coords t))) numel1_S1) * 1 + 1 * (y 1).val = (ex (m := m) 0 t.val).toNat
    rw [word t]; omega
  · show 0 * 1024 + 1 * (y 2).val = (y 2).val; omega
  · show 0 * 2048 + 1 * (y 3).val = (y 3).val; omega

theorem iblk4 (c : Dev nD) (t : Fin grid0.N) (y : S1x1x1x2048.Idx) :
    iblk hg c 4 t y = (V m c main_v6 : S2x32x1x2048.Idx → Elt F .f32) (i4 0 ⟨(ex (m := m) 0 t.val).toNat, ex_lt hg 0 t.val⟩ 0 (y 3)) := by
  refine congrArg (V m c main_v6 : S2x32x1x2048.Idx → Elt F .f32) (funext fun a => Fin.ext ?_)
  have h0 : (y 0).val < 1 := (y 0).isLt
  have h1 : (y 1).val < 1 := (y 1).isLt
  have h2 : (y 2).val < 1 := (y 2).isLt
  fin_cases a
  · show 0 * 1 + 1 * (y 0).val = 0; omega
  · show BitVec.toNat ((pf m).at 0 (Rect.unit (s := S288) (k0_off1 (grid0.coords t)) S1.size (k0_off1_inb (grid0.coords t))) numel1_S1) * 1 + 1 * (y 1).val = (ex (m := m) 0 t.val).toNat
    rw [word t]; omega
  · show 0 * 1 + 1 * (y 2).val = 0; omega
  · show 0 * 2048 + 1 * (y 3).val = (y 3).val; omega

theorem iblk5 (c : Dev nD) (t : Fin grid0.N) (y : S1x1x1024x1024.Idx) :
    iblk hg c 5 t y = (V m c main_arg7 : S2x32x1024x1024.Idx → Elt F .f32) (i4 0 ⟨(ex (m := m) 0 t.val).toNat, ex_lt hg 0 t.val⟩ (y 2) (y 3)) := by
  refine congrArg (V m c main_arg7 : S2x32x1024x1024.Idx → Elt F .f32) (funext fun a => Fin.ext ?_)
  have h0 : (y 0).val < 1 := (y 0).isLt
  have h1 : (y 1).val < 1 := (y 1).isLt
  fin_cases a
  · show 0 * 1 + 1 * (y 0).val = 0; omega
  · show BitVec.toNat ((pf m).at 0 (Rect.unit (s := S288) (k0_off1 (grid0.coords t)) S1.size (k0_off1_inb (grid0.coords t))) numel1_S1) * 1 + 1 * (y 1).val = (ex (m := m) 0 t.val).toNat
    rw [word t]; omega
  · show 0 * 1024 + 1 * (y 2).val = (y 2).val; omega
  · show 0 * 1024 + 1 * (y 3).val = (y 3).val; omega

theorem iblk6 (c : Dev nD) (t : Fin grid0.N) (y : S1x1x1x1024.Idx) :
    iblk hg c 6 t y = (V m c main_v7 : S2x32x1x1024.Idx → Elt F .f32) (i4 0 ⟨(ex (m := m) 0 t.val).toNat, ex_lt hg 0 t.val⟩ 0 (y 3)) := by
  refine congrArg (V m c main_v7 : S2x32x1x1024.Idx → Elt F .f32) (funext fun a => Fin.ext ?_)
  have h0 : (y 0).val < 1 := (y 0).isLt
  have h1 : (y 1).val < 1 := (y 1).isLt
  have h2 : (y 2).val < 1 := (y 2).isLt
  fin_cases a
  · show 0 * 1 + 1 * (y 0).val = 0; omega
  · show BitVec.toNat ((pf m).at 0 (Rect.unit (s := S288) (k0_off1 (grid0.coords t)) S1.size (k0_off1_inb (grid0.coords t))) numel1_S1) * 1 + 1 * (y 1).val = (ex (m := m) 0 t.val).toNat
    rw [word t]; omega
  · show 0 * 1 + 1 * (y 2).val = 0; omega
  · show 0 * 1024 + 1 * (y 3).val = (y 3).val; omega

theorem emb7 (t : Fin grid0.N) (y : S4096x128.Idx) :
    (((cfg0 (ad hg)).win 7).blk t).view.emb y = (i2 ⟨4096 * t.val + (y 0).val, by have := t_lt t; have h : (y 0).val < 4096 := (y 0).isLt; omega⟩ (y 1) : S1179648x128.Idx) := by
  refine funext fun a => Fin.ext ?_
  fin_cases a
  · have e := tr8 t 0
    show cc0_transform_8 (grid0.coords t) 0 * 4096 + 1 * (y 0).val = 4096 * t.val + (y 0).val
    rw [e]; show t.val * 4096 + _ = _; omega
  · have e := tr8 t 1
    show cc0_transform_8 (grid0.coords t) 1 * 128 + 1 * (y 1).val = (y 1).val
    rw [e]; show 0 * 128 + _ = _; omega

/-! ## What the host operations leave -/

omit hg in
theorem V_v0 (c : Dev nD) : (V m c main_v0 : S262144x128.Idx → Elt F .f32)
    = shapeCast S262144x128 (m ((c : Thread nD τ).loc main_arg0) : S32768x1024.Idx → Elt F .f32) shapeCasts_S32768x1024_S262144x128 := by
  unfold V
  simp only [List.flatten_cons, List.flatten_nil, List.append_nil, List.cons_append, List.nil_append, hostOps0, hostOps0_1, hostOps0_2]
  after_results
  rfl

omit hg in
theorem V_v3 (c : Dev nD) : (V m c main_v3 : S288x1x512.Idx → Elt F .i32)
    = shapeCast S288x1x512 (muli (tokW m c) (broadcastInDim S288x512 ![] bcast_S_S288x512 (constantI S_ 32 8#32))) shapeCasts_S288x512_S288x1x512 := by
  unfold V
  simp only [List.flatten_cons, List.flatten_nil, List.append_nil, List.cons_append, List.nil_append, hostOps0, hostOps0_1, hostOps0_2]
  after_results
  rfl

omit hg in
theorem V_v5 (c : Dev nD) : (V m c main_v5 : S288x8x128.Idx → Elt F .f32)
    = pad S288x8x128 ![0, 0, 0] ![0, 4, 0] ![0, 0, 0]
        (shapeCast S288x4x128 (m ((c : Thread nD τ).loc main_arg2) : S288x512.Idx → Elt F .f32) shapeCasts_S288x512_S288x4x128)
        (sitofp .f32 (constantI S_ 32 0#32)) pads_S288x4x128_S288x8x128_000_040_000 h_S_ := by
  unfold V
  simp only [List.flatten_cons, List.flatten_nil, List.append_nil, List.cons_append, List.nil_append, hostOps0, hostOps0_1, hostOps0_2]
  after_results
  rfl

omit hg in
theorem V_v6 (c : Dev nD) : (V m c main_v6 : S2x32x1x2048.Idx → Elt F .f32)
    = shapeCast S2x32x1x2048 (m ((c : Thread nD τ).loc main_arg6) : S2x32x2048.Idx → Elt F .f32) shapeCasts_S2x32x2048_S2x32x1x2048 := by
  unfold V
  simp only [List.flatten_cons, List.flatten_nil, List.append_nil, List.cons_append, List.nil_append, hostOps0, hostOps0_1, hostOps0_2]
  after_results
  rfl

omit hg in
theorem V_v7 (c : Dev nD) : (V m c main_v7 : S2x32x1x1024.Idx → Elt F .f32)
    = shapeCast S2x32x1x1024 (m ((c : Thread nD τ).loc main_arg8) : S2x32x1024.Idx → Elt F .f32) shapeCasts_S2x32x1024_S2x32x1x1024 := by
  unfold V
  simp only [List.flatten_cons, List.flatten_nil, List.append_nil, List.cons_append, List.nil_append, hostOps0, hostOps0_1, hostOps0_2]
  after_results
  rfl

/-- Row numbers of tiles: eight times the token's row. -/
theorem V_rows (c : Dev nD) (r : Fin 288) (j : Fin 512) :
    (V m c main_v3 : S288x1x512.Idx → Elt F .i32) (i3 r 0 j) = tokW m c (i2 r j) * 8#32 := by
  rw [V_v3]
  refine (shapeCast_apply _ _ _ (i2 r j) (by
    rw [Shape.rowMajor_val_two, Shape.rowMajor_val_three]
    show r.val * 512 + j.val = (r.val * 1 + 0) * 512 + j.val
    omega)).trans rfl

/-- Point `t`'s row numbers: row `t` of the table, the last one repeated. -/
def R (m : (ℓ : Loc nD τ sig) → Buf (Elt F) ℓ) (c : Dev nD) (t : ℕ) : S1x1x512.Idx → Elt F .i32 :=
  fun y => (V m c main_v3 : S288x1x512.Idx → Elt F .i32) (i3 ⟨min t 287, row_lt _⟩ 0 (y 2))

include hg in
theorem rows_R (c : Dev nD) (t : ℕ) (j : Fin 512) : rows (F := F) (R m c t) j = 8 * (tokW m c (i2 ⟨min t 287, row_lt _⟩ j)).toNat := by
  have h := hg.tok c (i2 ⟨min t 287, row_lt _⟩ j)
  show BitVec.toNat ((V m c main_v3 : S288x1x512.Idx → BitVec 32) (i3 ⟨min t 287, row_lt _⟩ 0 j)) = _
  rw [show (V m c main_v3 : S288x1x512.Idx → BitVec 32) (i3 ⟨min t 287, row_lt _⟩ 0 j) = _ from V_rows (m := m) c _ j, BitVec.toNat_mul]
  show (_ * 8) % 2 ^ 32 = _
  omega

include hg in
theorem inRange_R (c : Dev nD) (t : ℕ) : InRange (F := F) (R m c t) := fun j => by
  have h := hg.tok c (i2 ⟨min t 287, row_lt _⟩ j)
  rw [rows_R hg c t j]
  exact ⟨⟨_, rfl⟩, by omega⟩

end Cert.KernelIdeal.Moe

end
-- ==== Proof.MoeRun.lean ====
/-
  The expert kernel's run: what is held between points (one slot's copies in flight, the other idle, the converted
  weights of the block before), the body's obligation at every point, and the frame.
-/
module

public import proofs.«01_k».proof.Proof.MoeEntry

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {m : (ℓ : Loc nD τ sig) → Buf (Elt F) ℓ} (hg : Good m) (ρ : Dev nD → PrngReg)

/-- How many blocks are in use. -/
def cnt (m : (ℓ : Loc nD τ sig) → Buf (Elt F) ℓ) (c : Dev nD) : ℕ := (cntW m c (i1 0)).toNat

/-- The token array at the region's entry. -/
abbrev X0 (m : (ℓ : Loc nD τ sig) → Buf (Elt F) ℓ) (c : Dev nD) : XBuf F := V m c main_v0

/-- The weight blocks of point `t`, at their own types. -/
def w1 (c : Dev nD) (t : Fin grid0.N) : Vec F S1x1x1024x2048 .f32 := iblk hg c 3 t
def b1 (c : Dev nD) (t : Fin grid0.N) : Vec F S1x1x1x2048 .f32 := iblk hg c 4 t
def w2 (c : Dev nD) (t : Fin grid0.N) : Vec F S1x1x1024x1024 .f32 := iblk hg c 5 t
def b2 (c : Dev nD) (t : Fin grid0.N) : Vec F S1x1x1x1024 .f32 := iblk hg c 6 t
def gt (c : Dev nD) (t : Fin grid0.N) : Vec F S1x8x128 .f32 := iblk hg c 2 t

/-- What point `t` leaves in the result's block. -/
def res (c : Dev nD) (t : Fin grid0.N) : Vec F S4096x128 .f32 :=
  if t.val < cnt m c then blkOut (X0 m c) (rows (F := F) (R m c t.val)) (k0_pay1 (w1 hg c t)) (b1 hg c t) (k0_pay2 (w2 hg c t)) (b2 hg c t) (gt hg c t)
  else k0_pay3 (F := F)

/-- The converted weights held before point `t`: after the first point, those of the point before. -/
def WOk (c : Dev nD) (t : ℕ) (a : Vec F S1024x2048 .bf16) (b : Vec F S1024x1024 .bf16) : Prop :=
  ∀ s : Fin grid0.N, s.val + 1 = t → a = k0_pay1 (w1 hg c s) ∧ b = k0_pay2 (w2 hg c s)

/-- What is held before point `t`. -/
def Φt (c : Dev nD) (t : ℕ) : sProp 𝕄 :=
  iprop((slot c (par t) (X0 m c) (rows (F := F) (R m c t)) (¬ t = 0 ∧ t < cnt m c) ∗ idle c (par (t + 1)) (X0 m c))
    ∗ (owns (c : Thread nD τ) (Memref.whole main_arg3) (fullShare : PosShare TreeShare).right (expW m c : S288.Idx → Elt F .i32)
      ∗ owns (c : Thread nD τ) (Memref.whole main_arg4) (fullShare : PosShare TreeShare).right (cntW m c : S1.Idx → Elt F .i32))
    ∗ (∃ a b, ⌜WOk hg c t a b⌝ ∗ owns (c : Thread nD τ) (Memref.whole cc0_scratch0) fullShare a ∗ owns (c : Thread nD τ) (Memref.whole cc0_scratch1) fullShare b)
    ∗ ∃ r, prngReg c r)

/-- The proof data of the pipeline. -/
def dats (_ : Fin 1) (c : Dev nD) : Dat τ (Elt F) Unit ℕ (Pipeline.UD sig nD τ) ℕ (cfg0 (ad hg)) c where
  A w := V m c (Pipeline.arrRef spec0 w)
  after w t := match w with
    | ⟨0, _⟩ => iblk hg c 0 t
    | ⟨1, _⟩ => iblk hg c 1 t
    | ⟨2, _⟩ => iblk hg c 2 t
    | ⟨3, _⟩ => iblk hg c 3 t
    | ⟨4, _⟩ => iblk hg c 4 t
    | ⟨5, _⟩ => iblk hg c 5 t
    | ⟨6, _⟩ => iblk hg c 6 t
    | ⟨7, _⟩ => res hg c t
  Φ t := Φt hg c t.val
  q w := Pipeline.shareOf spec0 w
  owed _ := 0

theorem A_eq (c : Dev nD) (w : Fin 8) : (dats hg 0 c).A w = V m c (Pipeline.arrRef spec0 w) := by
  dsimp only [dats]

theorem after0_0 (c : Dev nD) (t : Fin (cfg0 (ad hg)).N) : (dats hg 0 c).after 0 t = iblk hg c 0 t := rfl
theorem after0_1 (c : Dev nD) (t : Fin (cfg0 (ad hg)).N) : (dats hg 0 c).after 1 t = iblk hg c 1 t := rfl
theorem after0_2 (c : Dev nD) (t : Fin (cfg0 (ad hg)).N) : (dats hg 0 c).after 2 t = iblk hg c 2 t := rfl
theorem after0_3 (c : Dev nD) (t : Fin (cfg0 (ad hg)).N) : (dats hg 0 c).after 3 t = iblk hg c 3 t := rfl
theorem after0_4 (c : Dev nD) (t : Fin (cfg0 (ad hg)).N) : (dats hg 0 c).after 4 t = iblk hg c 4 t := rfl
theorem after0_5 (c : Dev nD) (t : Fin (cfg0 (ad hg)).N) : (dats hg 0 c).after 5 t = iblk hg c 5 t := rfl
theorem after0_6 (c : Dev nD) (t : Fin (cfg0 (ad hg)).N) : (dats hg 0 c).after 6 t = iblk hg c 6 t := rfl
theorem after0_7 (c : Dev nD) (t : Fin (cfg0 (ad hg)).N) : (dats hg 0 c).after 7 t = res hg c t := rfl

/-- Each input's staging buffer holds its block at every point. -/
theorem before0_0 (c : Dev nD) (t : Fin (cfg0 (ad hg)).N) (d) : (dats hg 0 c).before 0 t d = iblk hg c 0 t :=
  ((dats hg 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (ad hg)).N) (d) : (dats hg 0 c).before 1 t d = iblk hg c 1 t :=
  ((dats hg 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (ad hg)).N) (d) : (dats hg 0 c).before 2 t d = iblk hg c 2 t :=
  ((dats hg 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 (ad hg)).N) (d) : (dats hg 0 c).before 3 t d = iblk hg c 3 t :=
  ((dats hg 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 (ad hg)).N) (d) : (dats hg 0 c).before 4 t d = iblk hg c 4 t :=
  ((dats hg 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfg0 (ad hg)).N) (d) : (dats hg 0 c).before 5 t d = iblk hg c 5 t :=
  ((dats hg 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin (cfg0 (ad hg)).N) (d) : (dats hg 0 c).before 6 t d = iblk hg c 6 t :=
  ((dats hg 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-! ## The body's obligation -/

theorem R_eq0 (c : Dev nD) (t : Fin grid0.N) : (iblk hg c 0 t : S1x1x512.Idx → Elt F .i32) = R m c t.val := funext fun y => iblk0 hg c t y
theorem R_eq1 (c : Dev nD) (t : Fin grid0.N) : (iblk hg c 1 t : S1x1x512.Idx → Elt F .i32) = R m c (t.val + 1) := funext fun y => iblk1 hg c t y

/-- Two points on one expert have the same weights. -/
theorem w1_congr (c : Dev nD) (t s : Fin grid0.N) (h : ex (m := m) 0 t.val = ex (m := m) 0 s.val) : w1 hg c t = w1 hg c s := by
  funext y
  refine (iblk3 hg c t y).trans (.trans ?_ (iblk3 hg c s y).symm)
  congr 1; congr 1; exact Fin.ext (congrArg BitVec.toNat h)
theorem w2_congr (c : Dev nD) (t s : Fin grid0.N) (h : ex (m := m) 0 t.val = ex (m := m) 0 s.val) : w2 hg c t = w2 hg c s := by
  funext y
  refine (iblk5 hg c t y).trans (.trans ?_ (iblk5 hg c s y).symm)
  congr 1; congr 1; exact Fin.ext (congrArg BitVec.toNat h)

theorem slot_congr (c : Dev nD) (s : Fin 2) (X : XBuf F) (R) (b b' : Prop) [Decidable b] [Decidable b'] (h : b ↔ b') :
    (slot c s X R b : sProp 𝕄) = slot c s X R b' := by
  unfold slot
  by_cases hb : b
  · rw [if_pos hb, if_pos (h.1 hb)]
  · rw [if_neg hb, if_neg (mt h.2 hb)]

abbrev bodyAt (t : Fin (cfg0 (ad hg)).N) : Prog (TpuEff nD τ sig (Elt F) Λ₀ .tc) PUnit :=
  defs₀ (F := F) .tc (cfg0 (ad hg)).body ((cfg0 (ad hg)).bodyArgs t ((cfg0 (ad hg)).slots t))

theorem nD_eq (c : Dev nD) : c = 0 := Subsingleton.elim _ _

abbrev st (t : Fin (cfg0 (ad hg)).N) (w : Fin 8) := ((cfg0 (ad hg)).win w).stage ((cfg0 (ad hg)).slots t w)

def bodyPre (c : Dev nD) (t : Fin (cfg0 (ad hg)).N) : sProp 𝕄 :=
  iprop((dats hg 0 c).Φ t.castSucc ∗ (dats hg 0 c).owesAt () t.castSucc
    ∗ (∃ d, owns (c : Thread nD τ) (st hg t 0) fullShare ((dats hg 0 c).before 0 t d))
    ∗ (∃ d, owns (c : Thread nD τ) (st hg t 1) fullShare ((dats hg 0 c).before 1 t d))
    ∗ (∃ d, owns (c : Thread nD τ) (st hg t 2) fullShare ((dats hg 0 c).before 2 t d))
    ∗ (∃ d, owns (c : Thread nD τ) (st hg t 3) fullShare ((dats hg 0 c).before 3 t d))
    ∗ (∃ d, owns (c : Thread nD τ) (st hg t 4) fullShare ((dats hg 0 c).before 4 t d))
    ∗ (∃ d, owns (c : Thread nD τ) (st hg t 5) fullShare ((dats hg 0 c).before 5 t d))
    ∗ (∃ d, owns (c : Thread nD τ) (st hg t 6) fullShare ((dats hg 0 c).before 6 t d))
    ∗ (∃ d, owns (c : Thread nD τ) (st hg t 7) fullShare ((dats hg 0 c).before 7 t d)))

def bodyPost (c : Dev nD) (t : Fin (cfg0 (ad hg)).N) : sProp 𝕄 :=
  iprop((dats hg 0 c).Φ t.succ ∗ (dats hg 0 c).owesAt () t.succ
    ∗ owns (c : Thread nD τ) (st hg t 0) fullShare ((dats hg 0 c).after 0 t)
    ∗ owns (c : Thread nD τ) (st hg t 1) fullShare ((dats hg 0 c).after 1 t)
    ∗ owns (c : Thread nD τ) (st hg t 2) fullShare ((dats hg 0 c).after 2 t)
    ∗ owns (c : Thread nD τ) (st hg t 3) fullShare ((dats hg 0 c).after 3 t)
    ∗ owns (c : Thread nD τ) (st hg t 4) fullShare ((dats hg 0 c).after 4 t)
    ∗ owns (c : Thread nD τ) (st hg t 5) fullShare ((dats hg 0 c).after 5 t)
    ∗ owns (c : Thread nD τ) (st hg t 6) fullShare ((dats hg 0 c).after 6 t)
    ∗ owns (c : Thread nD τ) (st hg t 7) fullShare ((dats hg 0 c).after 7 t))

/-- The body at a point, from what is held there, the owed tally apart. -/
theorem point (c : Dev nD) (t : Fin grid0.N)
    (arg3 : Memref sig .tc .smem S1x1x512 .i32) (harg3 : arg3.IsWhole) (arg4 : Memref sig .tc .smem S1x1x512 .i32) (harg4 : arg4.IsWhole)
    (arg6 : Memref sig .tc .vmem S1x8x128 .f32) (harg6 : arg6.IsWhole) (arg7 : Memref sig .tc .vmem S1x1x1024x2048 .f32) (harg7 : arg7.IsWhole)
    (arg8 : Memref sig .tc .vmem S1x1x1x2048 .f32) (harg8 : arg8.IsWhole) (arg9 : Memref sig .tc .vmem S1x1x1024x1024 .f32) (harg9 : arg9.IsWhole)
    (arg10 : Memref sig .tc .vmem S1x1x1x1024 .f32) (harg10 : arg10.IsWhole) (arg11 : Memref sig .tc .vmem S4096x128 .f32) (harg11 : arg11.IsWhole)
    (W : Waits sig Unit) :
    (iprop((Φt hg c t.val ∗ owes (c : Thread nD τ) 0 W)
      ∗ owns (c : Thread nD τ) arg3 fullShare (R m c t.val) ∗ owns (c : Thread nD τ) arg4 fullShare (R m c (t.val + 1))
      ∗ owns (c : Thread nD τ) arg6 fullShare (gt hg c t) ∗ owns (c : Thread nD τ) arg7 fullShare (w1 hg c t) ∗ owns (c : Thread nD τ) arg8 fullShare (b1 hg c t)
      ∗ owns (c : Thread nD τ) arg9 fullShare (w2 hg c t) ∗ owns (c : Thread nD τ) arg10 fullShare (b2 hg c t)
      ∗ (∃ d, owns (c : Thread nD τ) arg11 fullShare d)) : sProp 𝕄) ⊢
      wp frame (wpE defs₀ Variants.none (c : Thread nD τ) none) Set.univ (cc0_moe_experts (F := F) (grid0.coords t) (Memref.whole main_arg3) (Memref.isWhole_whole _) (Memref.whole main_arg4) (Memref.isWhole_whole _) arg3 harg3 arg4 harg4 xh (Memref.isWhole_whole _) arg6 harg6 arg7 harg7 arg8 harg8 arg9 harg9 arg10 harg10 arg11 harg11 (Memref.whole cc0_scratch0) (Memref.isWhole_whole _) (Memref.whole cc0_scratch1) (Memref.isWhole_whole _) xm (Memref.isWhole_whole _) cc0_scratch3)
        (fun _ => iprop((Φt hg c (t.val + 1) ∗ ∃ W', owes (c : Thread nD τ) 0 W')
          ∗ owns (c : Thread nD τ) arg3 fullShare (R m c t.val) ∗ owns (c : Thread nD τ) arg4 fullShare (R m c (t.val + 1))
          ∗ owns (c : Thread nD τ) arg6 fullShare (gt hg c t) ∗ owns (c : Thread nD τ) arg7 fullShare (w1 hg c t) ∗ owns (c : Thread nD τ) arg8 fullShare (b1 hg c t)
          ∗ owns (c : Thread nD τ) arg9 fullShare (w2 hg c t) ∗ owns (c : Thread nD τ) arg10 fullShare (b2 hg c t)
          ∗ owns (c : Thread nD τ) arg11 fullShare (res hg c t))) := by
  have ht := t_lt t
  have hc1 := hg.pos c (i1 0)
  have hc2 := hg.cnt c (i1 0)
  have e0 : c = 0 := nD_eq c
  unfold Φt
  iintro ⟨⟨⟨⟨HS, HI⟩, ⟨HT1, HT2⟩, ⟨%a, %b, %hab, HA, HB⟩, Hr⟩, HO⟩, HR⟩
  iapply (wp_wand _ _ _) $$ [HS HI HT1 HT2 HA HB HO HR]
  · iapply (body_ok c (grid0.coords t) (Memref.whole main_arg3) (Memref.isWhole_whole _) (Memref.whole main_arg4) (Memref.isWhole_whole _) arg3 harg3 arg4 harg4 arg6 harg6 arg7 harg7 arg8 harg8 arg9 harg9 arg10 harg10 arg11 harg11
      (expW m c) (cntW m c) (fullShare : PosShare TreeShare).right ⟨min t.val 287, row_lt _⟩ ⟨min (t.val - 1) 287, row_lt _⟩
      ((off1 t).trans (by congr 1; show t.val = min t.val 287; omega)) ((off2 t).trans (by congr 1; show t.val - 1 = min (t.val - 1) 287; omega))
      (par t.val) (par (t.val + 1)) (t.val = 0) (t.val < cnt m c) (t.val + 1 < cnt m c)
      (c1 t) (fun h => by rw [h]; rfl) (fun h => by unfold cnt; omega) (c2 t _ hc2) (slotOffs t) (c4 t _ hc2 hc1) (c5 t _ hc2 hc1) (off67 t) (off68 t)
      (X0 m c) (R m c t.val) (R m c (t.val + 1)) (inRange_R hg c _) (inRange_R hg c _) a b (w1 hg c t) (w2 hg c t)
      (fun h => by
        obtain ⟨h0, hw⟩ := c3 (F := F) t _ _ h
        have hs : t.val - 1 < grid0.N := lt_of_le_of_lt (Nat.sub_le _ _) t.isLt
        obtain ⟨ha, hb⟩ := hab ⟨t.val - 1, hs⟩ (by show t.val - 1 + 1 = t.val; omega)
        have hx : ex (m := m) 0 t.val = ex (m := m) 0 (t.val - 1) := by subst e0; exact hw
        exact ⟨ha.trans (congrArg k0_pay1 (w1_congr hg c t ⟨t.val - 1, hs⟩ hx).symm), hb.trans (congrArg k0_pay2 (w2_congr hg c t ⟨t.val - 1, hs⟩ hx).symm)⟩)
      (b1 hg c t) (b2 hg c t) (gt hg c t) W)
    isplitl [HS HI HT1 HT2 HA HB HO]
    · isplitl [HS]; · iexact HS
      isplitl [HI]; · iexact HI
      isplitl [HO]; · iexact HO
      isplitl [HT1]; · iexact HT1
      isplitl [HT2]; · iexact HT2
      isplitl [HA]; · iexact HA
      iexact HB
    iexact HR
  iintro %_ ⟨⟨HI, HS, HO, HT1, HT2, HA, HB⟩, HR⟩
  isplitl [HI HS HO HT1 HT2 HA HB Hr]
  · isplitr [HO]
    · isplitl [HS HI]
      · isplitl [HS]
        · iapply (Entails.of_eq (slot_congr c (par (t.val + 1)) (X0 m c) (rows (F := F) (R m c (t.val + 1))) (t.val + 1 < cnt m c) (¬ t.val + 1 = 0 ∧ t.val + 1 < cnt m c) (by omega)))
          iexact HS
        · rw [show par (t.val + 1 + 1) = par t.val from Fin.ext (by show (t.val + 1 + 1) % 2 = t.val % 2; omega)]
          iexact HI
      isplitl [HT1 HT2]
      · isplitl [HT1]; · iexact HT1
        iexact HT2
      isplitl [HA HB]
      · iexists k0_pay1 (w1 hg c t), k0_pay2 (w2 hg c t)
        isplitr
        · ipureintro
          intro s hs
          have e : s = t := Fin.ext (by omega)
          subst e; exact ⟨rfl, rfl⟩
        isplitl [HA]; · iexact HA
        iexact HB
      iexact Hr
    iexact HO
  unfold res
  iexact HR

theorem sound_body (c : Dev nD) (t : Fin (cfg0 (ad hg)).N) :
    bodyPre hg c t ⊢ wp frame (wpE (defs₀ (F := F)) Variants.none c none) Set.univ (bodyAt hg t) (fun _ => bodyPost hg c t) := by
  unfold bodyPre bodyPost
  simp only [before0_0, before0_1, before0_2, before0_3, before0_4, before0_5, before0_6]
  rw [after0_0, after0_1, after0_2, after0_3, after0_4, after0_5, after0_6, after0_7]
  rw [show (dats hg 0 c).Φ t.castSucc = Φt hg c t.val from rfl, show (dats hg 0 c).Φ t.succ = Φt hg c (t.val + 1) from rfl]
  unfold Dat.owesAt Pipeline.owesWithin
  rw [show (dats hg 0 c).owed t.castSucc = 0 from rfl, show (dats hg 0 c).owed t.succ = 0 from rfl]
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand _ _ _) $$ [HΦ HW H0 H1 H2 H3 H4 H5 H6 H7]
  · iapply (point hg c t (st hg t 0) (hstage0_0 (((cfg0 (ad hg)).slots t 0).cast nbuf0_0)) (st hg t 1) (hstage0_1 (((cfg0 (ad hg)).slots t 1).cast nbuf0_1))
      (st hg t 2) (hstage0_2 (((cfg0 (ad hg)).slots t 2).cast nbuf0_2)) (st hg t 3) (hstage0_3 (((cfg0 (ad hg)).slots t 3).cast nbuf0_3))
      (st hg t 4) (hstage0_4 (((cfg0 (ad hg)).slots t 4).cast nbuf0_4)) (st hg t 5) (hstage0_5 (((cfg0 (ad hg)).slots t 5).cast nbuf0_5))
      (st hg t 6) (hstage0_6 (((cfg0 (ad hg)).slots t 6).cast nbuf0_6)) (st hg t 7) (hstage0_7 (((cfg0 (ad hg)).slots t 7).cast nbuf0_7)) W)
    isplitl [HΦ HW]
    · isplitl [HΦ]; · iexact HΦ
      iexact HW
    isplitl [H0]; · iapply (Entails.of_eq (congrArg (owns (c : Thread nD τ) (st hg t 0) fullShare) (R_eq0 hg c t))); iexact H0
    isplitl [H1]; · iapply (Entails.of_eq (congrArg (owns (c : Thread nD τ) (st hg t 1) fullShare) (R_eq1 hg c t))); iexact H1
    isplitl [H2]; · iexact H2
    isplitl [H3]; · iexact H3
    isplitl [H4]; · iexact H4
    isplitl [H5]; · iexact H5
    isplitl [H6]; · iexact H6
    iexists _; iexact H7
  iintro %_ ⟨⟨HΦ, ⟨%W', HW'⟩⟩, H0, H1, H2, H3, H4, H5, H6, H7⟩
  isplitl [HΦ]; · iexact HΦ
  isplitl [HW']
  · iexists W'; isplitr; · ipureintro; exact fun _ _ => Or.inl trivial
    iexact HW'
  isplitl [H0]; · iapply (Entails.of_eq (congrArg (owns (c : Thread nD τ) (st hg t 0) fullShare) (R_eq0 hg c t).symm)); iexact H0
  isplitl [H1]; · iapply (Entails.of_eq (congrArg (owns (c : Thread nD τ) (st hg t 1) fullShare) (R_eq1 hg c t).symm)); iexact H1
  isplitl [H2]; · iexact H2
  isplitl [H3]; · iexact H3
  isplitl [H4]; · iexact H4
  isplitl [H5]; · iexact H5
  isplitl [H6]; · iexact H6
  iexact H7

theorem defs₀_row (t : Fin (cfg0 (F := F) (ad hg)).N) :
    defs₀ (F := F) .tc (cfg0 (ad hg)).body ((cfg0 (ad hg)).bodyArgs t ((cfg0 (ad hg)).slots t)) = bodyAt hg t := rfl

theorem word_cnt : (pf m).atD 1 ![0] = cntW m 0 (i1 0) := by
  unfold Pipeline.Prefetch.Contents.atD
  rw [dif_pos (by decide)]
  exact congrArg (cntW m 0) (funext fun a => by fin_cases a; rfl)

theorem busy (t : Fin grid0.N) (w : BitVec 32) (hw : w.toNat ≤ 288) (h1 : 1 ≤ w.toNat) :
    (!(k0_cond4 (grid0.coords t) w == 1#1) && !(k0_cond5 (grid0.coords t) w == 1#1)) = false := by
  by_cases h : t.val < w.toNat
  · rw [(c4 t _ hw h1).2 h]; rfl
  · rw [(c5 t _ hw h1).2 h]; cases (k0_cond4 (grid0.coords t) w == 1#1) <;> rfl

/-- The result's block is written at every point, used or not. -/
theorem idle7 (t : Fin (cfg0 (F := F) (ad hg)).N) : (cfg0 (F := F) (ad hg)).idle 7 ((cfg0 (F := F) (ad hg)).grid.coords t) = false := by
  have hc1 := hg.pos 0 (i1 0)
  have hc2 := hg.cnt 0 (i1 0)
  have e : (cfg0 (F := F) (ad hg)).idle 7 ((cfg0 (F := F) (ad hg)).grid.coords t)
    = (!(k0_cond4 (grid0.coords t) ((pf m).atD 1 ![0]) == 1#1) && !(k0_cond5 (grid0.coords t) ((pf m).atD 1 ![0]) == 1#1)) := rfl
  rw [e, word_cnt]
  exact busy t _ hc2 hc1

theorem body_obligation (c : Dev nD) : BodyObligation (dats hg 0 c) (defs₀ (F := F)) Variants.none () Set.univ := fun t => by
  rw [bigSep_W0, bigSep_W0, defs₀_row]
  simp only [idle7 hg t]
  refine triple_restated (sound_body hg c t) rfl .rfl fun _ => ?_
  have h7 : idle0 (ad hg).1 7 ((pcfg0.gridAt (ad hg).1).coords t) = false := idle7 hg t
  rw [h7]
  exact Entails.of_eq rfl

/-! ## The region's two ends -/

theorem slots_disjoint : ∀ s s' : Fin 2, s ≠ s' → Disjoint (slotS s) (slotS s') := by
  intro s s' h
  refine Finset.disjoint_left.2 fun y h1 h2 => h (Fin.ext ?_)
  simp only [slotS, Finset.mem_filter, Finset.mem_univ, true_and] at h1 h2
  exact h1.symm.trans h2

theorem slots_cover : Finset.univ.biUnion slotS = Finset.univ := by
  ext y
  simp only [Finset.mem_biUnion, slotS, Finset.mem_filter, Finset.mem_univ, true_and, iff_true]
  exact ⟨⟨(y 0).val, (y 0).isLt⟩, rfl⟩

/-- Both slots idle are the buffer, the token array and the two cells. -/
theorem idle_both (c : Dev nD) (X : XBuf F) :
    (iprop((∃ f, (c : Thread nD τ).loc cc0_scratch2 ↦{fullShare} f) ∗ ((c : Thread nD τ).loc main_v0 ↦{fullShare} X)
      ∗ semVal ((c : Thread nD τ), SemLoc.dma 16) 0 ∗ semVal ((c : Thread nD τ), SemLoc.dma 17) 0) : sProp 𝕄) ⊢ iprop(idle c 0 X ∗ idle c 1 X) := by
  unfold idle
  iintro ⟨Hx, Hh, H0, H1⟩
  ihave Hx' := (Ring.slots2_split (ℓ := (c : Thread nD τ).loc cc0_scratch2) (q := fullShare) slotS slots_disjoint slots_cover
    (fun f => xm.view.loc (c : Thread nD τ) ↦[slotS 0]{fullShare} f) (fun f => xm.view.loc (c : Thread nD τ) ↦[slotS 1]{fullShare} f) (fun _ => rfl) (fun _ => rfl)) $$ Hx
  icases Hx' with ⟨Hx0, Hx1⟩
  ihave Hh' := (pointsTo_share (Ix := Unit) (Name := ℕ) (U := Pipeline.UD sig nD τ) (Lvl := ℕ) (PosShare.mem_left_op_right (fullShare : PosShare TreeShare))).1 $$ Hh
  icases Hh' with ⟨Hh0, Hh1⟩
  isplitl [Hx0 Hh0 H0]
  · isplitl [Hx0]; · iexact Hx0
    isplitl [Hh0]; · iexact Hh0
    iexact H0
  isplitl [Hx1]; · iexact Hx1
  isplitl [Hh1]; · iexact Hh1
  iexact H1

theorem idle_join (c : Dev nD) (X : XBuf F) :
    (iprop(idle c 0 X ∗ idle c 1 X) : sProp 𝕄) ⊢ (iprop((∃ f, (c : Thread nD τ).loc cc0_scratch2 ↦{fullShare} f) ∗ ((c : Thread nD τ).loc main_v0 ↦{fullShare} X)
      ∗ semVal ((c : Thread nD τ), SemLoc.dma 16) 0 ∗ semVal ((c : Thread nD τ), SemLoc.dma 17) 0) : sProp 𝕄) := by
  unfold idle
  iintro ⟨⟨Hx0, Hh0, H0⟩, ⟨Hx1, Hh1, H1⟩⟩
  isplitl [Hx0 Hx1]
  · iapply (Ring.slots2_join (ℓ := (c : Thread nD τ).loc cc0_scratch2) (q := fullShare) slotS slots_disjoint slots_cover
      (fun f => xm.view.loc (c : Thread nD τ) ↦[slotS 0]{fullShare} f) (fun f => xm.view.loc (c : Thread nD τ) ↦[slotS 1]{fullShare} f) (fun _ => rfl) (fun _ => rfl))
    isplitl [Hx0]; · iexact Hx0
    iexact Hx1
  isplitl [Hh0 Hh1]
  · iapply (pointsTo_share (Ix := Unit) (Name := ℕ) (U := Pipeline.UD sig nD τ) (Lvl := ℕ) (PosShare.mem_left_op_right (fullShare : PosShare TreeShare))).2
    isplitl [Hh0]; · iexact Hh0
    iexact Hh1
  isplitl [H0]; · iexact H0
  iexact H1

def osem0 : Fin 2 → SemLoc sig := fun j => (![SemLoc.dma 16, SemLoc.dma 17] : Fin 2 → SemLoc sig) j

theorem ownSemFacts0 : Pipeline.OwnSemFacts spec0 osem0 := by decide

theorem ownSems0_two (c : Dev nD) : (Pipeline.ownSems0 osem0 c : sProp 𝕄) = iprop(semVal ((c : Thread nD τ), SemLoc.dma 16) 0 ∗ semVal ((c : Thread nD τ), SemLoc.dma 17) 0) := by
  rw [Pipeline.ownSems0_eq_of_list c osem0 [0, 1] (by decide) (by decide)]; rfl

def H0 : Finset (Ref sig .tc) := {main_v0}

theorem H0_sub : H0 ⊆ Pipeline.restRefsP sig pre0 spec0 := by decide

theorem tokens_eq (m : (ℓ : Loc nD τ sig) → Buf (Elt F) ℓ) (c : Dev nD) :
    (bigSep H0 (fun b => (c : Thread nD τ).loc b ↦{fullShare} V m c b) : sProp 𝕄) = iprop((c : Thread nD τ).loc main_v0 ↦{fullShare} X0 m c) := by
  rw [BI.bigSep_eq_bigSepL_of_eq [main_v0] (by decide) (by decide)]; rfl

theorem tables_eq (c : Dev nD) (q) (v : pre0.Contents (Elt F)) :
    (Pipeline.prefHeld pre0 c (fun _ => q) v : sProp 𝕄) = iprop(((c : Thread nD τ).loc main_arg3 ↦{q} v 0) ∗ ((c : Thread nD τ).loc main_arg4 ↦{q} v 1)) := by
  unfold Pipeline.prefHeld
  rw [Ring.bigSep_fin2]; rfl

theorem hpf (c : Dev nD) (k : Fin 2) : V m c (pre0.ref k) = (ad hg).1 k := by
  have e := nD_eq c; subst e
  match k with
  | ⟨0, _⟩ => exact V_of m 0 main_arg3 (by simp)
  | ⟨1, _⟩ => exact V_of m 0 main_arg4 (by simp)

theorem hin (c : Dev nD) : iprop(Pipeline.ΦD osem0 spec0 H0 (V m) c ∗ Pipeline.ΦT pre0 (ad hg).1 c) ⊢ ((dats hg 0 c).Φ 0 : sProp 𝕄) := by
  rw [show (dats hg 0 c).Φ 0 = Φt hg c 0 from rfl, show Pipeline.ΦT pre0 (ad hg).1 c = (Pipeline.prefHeld pre0 c (fun _ => (fullShare : PosShare TreeShare).right) (ad hg).1 : sProp 𝕄) from rfl,
    Pipeline.ΦD_eq, scopedRest0_eq, ownSems0_two, tokens_eq, tables_eq]
  unfold Φt slot
  rw [if_neg (by omega)]
  simp only [owns_whole]
  iintro ⟨⟨⟨⟨%fa, HA⟩, ⟨%fb, HB⟩, Hx⟩, Hr, ⟨Hq0, Hq1⟩, Hh⟩, HT1, HT2⟩
  ihave Hi := (idle_both c (X0 m c)) $$ [Hx Hh Hq0 Hq1]
  · isplitl [Hx]; · iexact Hx
    isplitl [Hh]; · iexact Hh
    isplitl [Hq0]; · iexact Hq0
    iexact Hq1
  isplitl [Hi]; · iexact Hi
  isplitl [HT1 HT2]
  · isplitl [HT1]
    · iapply (Entails.of_eq (congrArg (fun v => ((c : Thread nD τ).loc main_arg3 ↦{(fullShare : PosShare TreeShare).right} v : sProp 𝕄)) (show (ad hg).1 0 = expW m c by have e := nD_eq c; subst e; rfl)))
      iexact HT1
    · iapply (Entails.of_eq (congrArg (fun v => ((c : Thread nD τ).loc main_arg4 ↦{(fullShare : PosShare TreeShare).right} v : sProp 𝕄)) (show (ad hg).1 1 = cntW m c by have e := nD_eq c; subst e; rfl)))
      iexact HT2
  isplitl [HA HB]
  · iexists fa, fb
    isplitr
    · ipureintro
      intro s hs
      exact absurd hs (Nat.succ_ne_zero _)
    isplitl [HA]; · iexact HA
    iexact HB
  iexact Hr

theorem hout (c : Dev nD) : ((dats hg 0 c).Φ (Fin.last (cfg0 (F := F) (ad hg)).N) : sProp 𝕄) ⊢ Pipeline.ΦD osem0 spec0 H0 (V m) c := by
  have hc2 := hg.cnt c (i1 0)
  rw [show (dats hg 0 c).Φ (Fin.last (cfg0 (F := F) (ad hg)).N) = Φt hg c grid0.N from rfl, N_0,
    Pipeline.ΦD_eq, scopedRest0_eq, ownSems0_two, tokens_eq]
  unfold Φt slot
  rw [if_neg (by unfold cnt; omega), show par 288 = 0 from rfl, show par (288 + 1) = 1 from rfl]
  simp only [owns_whole]
  iintro ⟨Hi, -, ⟨%a, %b, -, HA, HB⟩, Hr⟩
  ihave Hi' := (idle_join c (X0 m c)) $$ Hi
  icases Hi' with ⟨Hx, Hh, Hq⟩
  isplitl [HA HB Hx]
  · isplitl [HA]; · iexists _; iexact HA
    isplitl [HB]; · iexists _; iexact HB
    iexact Hx
  isplitl [Hr]; · iexact Hr
  isplitl [Hq]; · iexact Hq
  iexact Hh

/-! ## The run -/

set_option maxHeartbeats 800000 in
set_option backward.isDefEq.respectTransparency.types false in
theorem run_main : θ_run defs (onTc (τ := τ) (main (F := F))) (s₀ m ρ)
    (fun r => Pipeline.FramePost (Pipeline.pin (pcfgs (F := F)) (adm hg)) (dats hg) 0 (V m) r ∧ r.2.sem = fun _ => 0) :=
  Pipeline.θ_run_frameP_dma_shared (Q' := _) (pcfgs (F := F)) (adm hg) (dats hg) (0 : Fin 1) launch₀0 osem0 defs₀ Variants.none ownSemFacts0 H0 H0_sub m ρ main
    (hbody := fun c => (body_obligation hg c).loose) (hq := fun _ _ _ => rfl)
    (howed := fun _ _ => rfl) (V := V m) (hmain := hmain m Variants.none) (hA := A_eq hg) (hpf := hpf hg)
    (hin := hin hg) (hout := hout hg)

/-- The arguments, read off the state the run ends in. -/
theorem args_of (m : (ℓ : Loc nD τ sig) → Buf (Elt F) ℓ) (hg : Good m) (r)
    (h : Pipeline.FramePost (Pipeline.pin pcfgs (adm hg)) (dats hg) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine ⟨?_, ?_, ?_, ?_, ?_, ?_, ?_, ?_, ?_⟩
  · exact ((h c).2 main_arg0 (Pipeline.mem_restRefs_of main_arg0 (by decide) (show ∀ w : Fin 8, (spec0 w).arr.view.ref ≠ main_arg0 by decide))).trans (V_of m c main_arg0 (by simp))
  · exact ((h c).2 main_arg1 (Pipeline.mem_restRefs_of main_arg1 (by decide) (show ∀ w : Fin 8, (spec0 w).arr.view.ref ≠ main_arg1 by decide))).trans (V_of m c main_arg1 (by simp))
  · exact ((h c).2 main_arg2 (Pipeline.mem_restRefs_of main_arg2 (by decide) (show ∀ w : Fin 8, (spec0 w).arr.view.ref ≠ main_arg2 by decide))).trans (V_of m c main_arg2 (by simp))
  · exact ((h c).2 main_arg3 (Pipeline.mem_restRefs_of main_arg3 (by decide) (show ∀ w : Fin 8, (spec0 w).arr.view.ref ≠ main_arg3 by decide))).trans (V_of m c main_arg3 (by simp))
  · exact ((h c).2 main_arg4 (Pipeline.mem_restRefs_of main_arg4 (by decide) (show ∀ w : Fin 8, (spec0 w).arr.view.ref ≠ main_arg4 by decide))).trans (V_of m c main_arg4 (by simp))
  · exact ((h c).1 3).trans (((dats hg 0 c).arrAt_in 3 rfl _).trans ((A_eq hg c 3).trans (V_of m c main_arg5 (by simp))))
  · exact ((h c).2 main_arg6 (Pipeline.mem_restRefs_of main_arg6 (by decide) (show ∀ w : Fin 8, (spec0 w).arr.view.ref ≠ main_arg6 by decide))).trans (V_of m c main_arg6 (by simp))
  · exact ((h c).1 5).trans (((dats hg 0 c).arrAt_in 5 rfl _).trans ((A_eq hg c 5).trans (V_of m c main_arg7 (by simp))))
  · exact ((h c).2 main_arg8 (Pipeline.mem_restRefs_of main_arg8 (by decide) (show ∀ w : Fin 8, (spec0 w).arr.view.ref ≠ main_arg8 by decide))).trans (V_of m c main_arg8 (by simp))

theorem frame_main (m : (ℓ : Loc nD τ sig) → Buf (Elt F) ℓ) (hg : Good m) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  exact (θ_run defs _ _).mono (fun r h => ⟨args_of m hg r h.1, h.2⟩) (run_main hg ρ)

end Cert.KernelIdeal.Moe

end
-- ==== Proof.MoeValue.lean ====
/-
  The expert kernel's value: every block the pipeline writes back is the reference's rows, so the result array is the
  reference's whole result.
-/
module

public import proofs.«01_k».proof.Proof.MoePure
public import proofs.«01_k».proof.Proof.MoeRun
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Moe
open Cert.KernelIdeal Cert.KernelIdeal.Gen
open Cert.Proof.MoeMath

theorem i1_eq {n0 : ℕ} (a : Fin n0) : i1 a = ix1 a := by funext i; fin_cases i; rfl
theorem i2_eq {n0 n1 : ℕ} (a : Fin n0) (b : Fin n1) : i2 a b = ix2 a b := by funext i; fin_cases i <;> rfl
theorem i3_eq {n0 n1 n2 : ℕ} (a : Fin n0) (b : Fin n1) (d : Fin n2) : i3 a b d = ix3 a b d := by funext i; fin_cases i <;> rfl
theorem i4_eq {n0 n1 n2 n3 : ℕ} (a : Fin n0) (b : Fin n1) (d : Fin n2) (e : Fin n3) : i4 a b d e = ix4 a b d e := by funext i; fin_cases i <;> rfl

variable {m : (ℓ : Loc nD τ sig) → Buf (Elt Ideal) ℓ} (hg : Good m)

/-- The arguments as arrays. -/
abbrev a0 (m : (ℓ : Loc nD τ sig) → Buf (Elt Ideal) ℓ) (c : Dev nD) : FVec Ideal S32768x1024 .f32 := m ((c : Thread nD τ).loc main_arg0)
abbrev a2 (m : (ℓ : Loc nD τ sig) → Buf (Elt Ideal) ℓ) (c : Dev nD) : FVec Ideal S288x512 .f32 := m ((c : Thread nD τ).loc main_arg2)
abbrev a5 (m : (ℓ : Loc nD τ sig) → Buf (Elt Ideal) ℓ) (c : Dev nD) : FVec Ideal S2x32x1024x2048 .f32 := m ((c : Thread nD τ).loc main_arg5)
abbrev a6 (m : (ℓ : Loc nD τ sig) → Buf (Elt Ideal) ℓ) (c : Dev nD) : FVec Ideal S2x32x2048 .f32 := m ((c : Thread nD τ).loc main_arg6)
abbrev a7 (m : (ℓ : Loc nD τ sig) → Buf (Elt Ideal) ℓ) (c : Dev nD) : FVec Ideal S2x32x1024x1024 .f32 := m ((c : Thread nD τ).loc main_arg7)
abbrev a8 (m : (ℓ : Loc nD τ sig) → Buf (Elt Ideal) ℓ) (c : Dev nD) : FVec Ideal S2x32x1024 .f32 := m ((c : Thread nD τ).loc main_arg8)

/-- The token array's rows of eight lines are the tokens. -/
theorem X0_at (c : Dev nD) (n : ℕ) (hn : n < 32768) (k : Fin 1024) :
    xAt (F := Ideal) (X0 m c) (8 * n + k.val / 128) ⟨k.val % 128, by omega⟩ = a0 m c (ix2 ⟨n, hn⟩ k) := by
  unfold xAt
  show (V m c main_v0 : S262144x128.Idx → Elt Ideal .f32) _ = _
  rw [V_v0]
  have hk := k.isLt
  show shapeCast S262144x128 (a0 m c) shapeCasts_S32768x1024_S262144x128 (i2 ⟨(8 * n + k.val / 128) % 262144, _⟩ ⟨k.val % 128, _⟩) = _
  generalize a0 m c = z
  refine shapeCast_apply z _ _ (ix2 ⟨n, hn⟩ k) ?_
  rw [Shape.rowMajor_val_two, Shape.rowMajor_val_two]
  show n * 1024 + k.val = (8 * n + k.val / 128) % 262144 * 128 + k.val % 128
  omega

theorem w1_at (c : Dev nD) (t : Fin grid0.N) (k : Fin 1024) (f : Fin 2048) :
    k0_pay1 (F := Ideal) (w1 hg c t) (ix2 k f) = a5 m c (ix4 0 ⟨(ex (m := m) 0 t.val).toNat, ex_lt hg 0 t.val⟩ k f) := by
  have e : k0_pay1 (F := Ideal) (w1 hg c t) (ix2 k f) = w1 hg c t (ix4 0 0 k f) := by
    generalize w1 hg c t = w
    pointwise [k0_pay1]
  rw [e, ← i4_eq 0 (⟨(ex (m := m) 0 t.val).toNat, ex_lt hg 0 t.val⟩ : Fin 32) k f]
  refine (iblk3 hg c t (ix4 0 0 k f)).trans ?_
  rw [V_of m c main_arg5 (by simp)]
  rfl

theorem w2_at (c : Dev nD) (t : Fin grid0.N) (f : Fin 1024) (d : Fin 1024) :
    k0_pay2 (F := Ideal) (w2 hg c t) (ix2 f d) = a7 m c (ix4 0 ⟨(ex (m := m) 0 t.val).toNat, ex_lt hg 0 t.val⟩ f d) := by
  have e : k0_pay2 (F := Ideal) (w2 hg c t) (ix2 f d) = w2 hg c t (ix4 0 0 f d) := by
    generalize w2 hg c t = w
    pointwise [k0_pay2]
  rw [e, ← i4_eq 0 (⟨(ex (m := m) 0 t.val).toNat, ex_lt hg 0 t.val⟩ : Fin 32) f d]
  refine (iblk5 hg c t (ix4 0 0 f d)).trans ?_
  rw [V_of m c main_arg7 (by simp)]
  rfl

theorem b1_at (c : Dev nD) (t : Fin grid0.N) (f : Fin 2048) :
    b1 hg c t (ix4 0 0 0 f) = a6 m c (ix3 0 ⟨(ex (m := m) 0 t.val).toNat, ex_lt hg 0 t.val⟩ f) := by
  refine (iblk4 hg c t (ix4 0 0 0 f)).trans ?_
  rw [V_v6]
  show shapeCast S2x32x1x2048 (a6 m c) shapeCasts_S2x32x2048_S2x32x1x2048 (i4 0 ⟨(ex (m := m) 0 t.val).toNat, _⟩ 0 f) = _
  generalize a6 m c = z
  refine shapeCast_apply z _ _ (ix3 0 ⟨(ex (m := m) 0 t.val).toNat, ex_lt hg 0 t.val⟩ f) ?_
  rw [Shape.rowMajor_val_three, Shape.rowMajor_val_four]
  show (0 * 32 + (ex (m := m) 0 t.val).toNat) * 2048 + f.val = ((0 * 32 + (ex (m := m) 0 t.val).toNat) * 1 + 0) * 2048 + f.val
  omega

theorem b2_at (c : Dev nD) (t : Fin grid0.N) (d : Fin 1024) :
    b2 hg c t (ix4 0 0 0 d) = a8 m c (ix3 0 ⟨(ex (m := m) 0 t.val).toNat, ex_lt hg 0 t.val⟩ d) := by
  refine (iblk6 hg c t (ix4 0 0 0 d)).trans ?_
  rw [V_v7]
  show shapeCast S2x32x1x1024 (a8 m c) shapeCasts_S2x32x1024_S2x32x1x1024 (i4 0 ⟨(ex (m := m) 0 t.val).toNat, _⟩ 0 d) = _
  generalize a8 m c = z
  refine shapeCast_apply z _ _ (ix3 0 ⟨(ex (m := m) 0 t.val).toNat, ex_lt hg 0 t.val⟩ d) ?_
  rw [Shape.rowMajor_val_three, Shape.rowMajor_val_four]
  show (0 * 32 + (ex (m := m) 0 t.val).toNat) * 1024 + d.val = ((0 * 32 + (ex (m := m) 0 t.val).toNat) * 1 + 0) * 1024 + d.val
  omega

theorem gt_at (c : Dev nD) (t : Fin grid0.N) (n : Fin 512) :
    gt hg c t (ix3 0 ⟨n.val / 128, by omega⟩ ⟨n.val % 128, by omega⟩) = a2 m c (ix2 ⟨t.val, t_lt t⟩ n) := by
  refine (iblk2 hg c t _).trans ?_
  have ht := t_lt t
  have em : (⟨min t.val 287, row_lt _⟩ : Fin 288) = ⟨t.val, ht⟩ := Fin.ext (by show min t.val 287 = t.val; omega)
  rw [V_v5, em]
  have hn := n.isLt
  show pad S288x8x128 ![0, 0, 0] ![0, 4, 0] ![0, 0, 0] (shapeCast S288x4x128 (a2 m c) shapeCasts_S288x512_S288x4x128)
    (sitofp .f32 (constantI S_ 32 0#32)) pads_S288x4x128_S288x8x128_000_040_000 h_S_ (i3 ⟨t.val, ht⟩ ⟨n.val / 128, _⟩ ⟨n.val % 128, _⟩) = _
  rw [i3_eq]
  generalize a2 m c = g
  pointwise
  exact dif_pos ⟨by omega, by omega⟩

/-- The reference's result, over the kernel's argument arrays. -/
abbrev whole (m : (ℓ : Loc nD τ sig) → Buf (Elt Ideal) ℓ) (c : Dev nD) : FVec Ideal S1179648x128 .f32 :=
  Cert.ReferenceIdeal.Read.val_main_v77 (F := Ideal) (a0 m c) (tokW m c) (a2 m c) (expW m c) (cntW m c) (a5 m c) (a6 m c) (a7 m c) (a8 m c)

/-- A block's line is the reference's. -/
theorem res_at (c : Dev nD) (t : Fin grid0.N) (y : Fin 4096) (l : Fin 128) :
    res hg c t (ix2 y l) = whole m c (ix2 ⟨4096 * t.val + y.val, by have := t_lt t; omega⟩ l) := by
  have ht := t_lt t
  have ec : c = 0 := Subsingleton.elim _ _
  have hi : Cert.ReferenceIdeal.Read.idx_main_v77 (ix2 ⟨4096 * t.val + y.val, by omega⟩ l)
      = ix3 ⟨t.val, ht⟩ ⟨y.val / 8, by omega⟩ ⟨128 * (y.val % 8) + l.val, by omega⟩ := by
    have hy := y.isLt
    have hl := l.isLt
    funext a
    refine Fin.ext ?_
    match a with
    | ⟨0, _⟩ => show ((4096 * t.val + y.val) * 128 + l.val) / 524288 = t.val; omega
    | ⟨1, _⟩ => show ((4096 * t.val + y.val) * 128 + l.val) / 1024 % 512 = y.val / 8; omega
    | ⟨2, _⟩ => show ((4096 * t.val + y.val) * 128 + l.val) % 1024 = 128 * (y.val % 8) + l.val; omega
  refine Eq.trans ?_ (Cert.ReferenceIdeal.Read.val_main_v77_apply (F := Ideal) _ _ _ _ _ _ _ _ _ _).symm
  rw [hi]
  refine Eq.trans ?_ (Cert.ReferenceIdeal.Expert.out_at (a0 m c) (tokW m c) (a2 m c) (expW m c) (cntW m c) (a5 m c) (a6 m c) (a7 m c) (a8 m c)
    (hg.tok c) (hg.exp c) (hg.cnt c _) ⟨t.val, ht⟩ ⟨y.val / 8, by omega⟩ ⟨128 * (y.val % 8) + l.val, by omega⟩).symm
  have en : cnt m c = (cntW m c (ix1 0)).toNat := by unfold cnt; rw [i1_eq]
  have et : min t.val 287 = t.val := by omega
  have ee : (⟨(ex (m := m) 0 t.val).toNat, ex_lt hg 0 t.val⟩ : Fin 32) = ⟨(expW m c (ix1 ⟨t.val, ht⟩)).toNat, hg.exp c _⟩ := by
    refine Fin.ext ?_
    show (expW m 0 (i1 ⟨min t.val 287, _⟩)).toNat = _
    rw [i1_eq, ec]
    exact congrArg (fun r : Fin 288 => (expW m 0 (ix1 r)).toNat) (Fin.ext et)
  unfold res
  by_cases h : t.val < cnt m c
  · rw [if_pos h, if_pos (by rw [← en]; exact h)]
    refine (blkOut_at (X0 m c) _ _ _ _ _ _ y l).trans (congrArg₂ (· * ·) ?_ ?_)
    · congr 1
      · funext k
        have hr := rows_R hg c t.val ⟨y.val / 8, by omega⟩
        rw [hr]
        have er : (⟨min t.val 287, row_lt _⟩ : Fin 288) = ⟨t.val, ht⟩ := Fin.ext et
        rw [er, i2_eq]
        exact X0_at c _ (hg.tok c _) k
      · funext k f
        rw [← ee]
        exact w1_at hg c t k f
      · funext f
        rw [← ee]
        exact b1_at hg c t f
      · funext f d
        rw [← ee]
        exact w2_at hg c t f d
      · funext d
        rw [← ee]
        exact b2_at hg c t d
    · exact gt_at hg c t ⟨y.val / 8, by omega⟩
  · rw [if_neg h, if_neg (by rw [← en]; exact h)]
    pointwise [k0_pay3]

theorem flush7 : ∀ t : Fin grid0.N, Pipeline.Window.flushOf grid0 true cc0_transform_8 t = true := by decide +kernel

theorem tile (c : Dev nD) (t : Fin grid0.N) (y : S4096x128.Idx) :
    res hg c t y = whole m c ((((cfg0 (F := Ideal) (ad hg)).win 7).blk t).view.emb y) := by
  have e : y = ix2 (y 0 : Fin 4096) (y 1 : Fin 128) := by funext a; fin_cases a <;> rfl
  refine (congrArg (res hg c t) e).trans ((res_at hg c t (y 0) (y 1)).trans (congrArg (whole m c) ?_))
  exact (i2_eq _ _).symm.trans (emb7 hg t y).symm

/-- Every element of the result lies in the block of its line's point, and every point writes its block back. -/
theorem cover (i : S1179648x128.Idx) :
    ∃ t : Fin grid0.N, ((cfg0 (F := Ideal) (ad hg)).win 7).flush t = true ∧ i ∈ (((cfg0 (F := Ideal) (ad hg)).win 7).blk t).view.set := by
  have h0 : (i 0).val < 1179648 := (i 0).isLt
  have hN : (i 0).val / 4096 < grid0.N := by show _ < 288; omega
  refine ⟨⟨(i 0).val / 4096, hN⟩, flush7 ⟨_, hN⟩, ?_⟩
  have e : i = (((cfg0 (F := Ideal) (ad hg)).win 7).blk ⟨(i 0).val / 4096, hN⟩).view.emb (i2 ⟨(i 0).val % 4096, by omega⟩ (i 1) : S4096x128.Idx) := by
    refine Eq.trans ?_ (emb7 hg _ _).symm
    funext a
    refine Fin.ext ?_
    fin_cases a
    · show (i 0).val = 4096 * ((i 0).val / 4096) + (i 0).val % 4096
      omega
    · rfl
  have mem : ∀ (S : Finset S1179648x128.Idx) (j : S1179648x128.Idx), i = j → j ∈ S → i ∈ S := fun S j h hj => h ▸ hj
  exact mem _ _ e (View.emb_mem_set _ _)

/-- The result array after the run. -/
theorem result (c : Dev nD) : (dats hg 0 c).arrAt 7 (cfg0 (F := Ideal) (ad hg)).N = whole m c := by
  refine (dats hg 0 c).arrAt_eq_of_emb 7 (whole m c) (fun t _ y => ?_) (fun i => cover hg i)
  rw [after0_7]
  exact tile hg c t y

/-- The run, its result and its arguments. -/
theorem run_value (m : (ℓ : Loc nD τ sig) → Buf (Elt Ideal) ℓ) (hg : Good m) (ρ : Dev nD → PrngReg) :
    θ_run defs (onTc (τ := τ) (main (F := Ideal))) ⟨m, fun _ => 0, ρ⟩ (fun r => ∀ c : Dev nD,
      r.2.mem ((c.tc : Thread nD τ).loc main_v8) = whole m c ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)) :=
  (θ_run defs _ _).mono (fun r h c => ⟨((h.1 c).1 7).trans (result hg c), args_of m hg r h.1 c⟩) (run_main hg ρ)

end Cert.KernelIdeal.Moe
-- ==== Proof.MoeClaims.lean ====
module

public import proofs.«01_k».proof.Defs
public import proofs.«01_k».proof.Proof.MoeValue
public import proofs.«01_k».proof.Proof.BitsRun
public import proofs.«01_k».proof.Proof.Gen.Pre_tables_in_range
public import proofs.«01_k».proof.Proof.Gen.ReferenceIdeal.Run
public import Idealize.ShloMosaic.Lib.StableHlo.Predicate

/-! # The expert kernel's claims: the range of the tables read from the precondition, the frames, and the value -/

set_option maxRecDepth 16384

@[expose] public section

noncomputable section

namespace Cert.Proof.MoeClaims

open Idealize.ShloMosaic Idealize.ShloMosaic.TcCoe Idealize.SL.Sem

/-- A word at least `a` and below `b`, as signed words, is so as a natural number. -/
theorem word_range (w a b : BitVec 32) (h : IntOp.cmpi .sge w a &&& IntOp.cmpi .slt w b = 1#1) (ha : a.toNat < 2 ^ 31) (hb : b.toNat < 2 ^ 31) :
    a.toNat ≤ w.toNat ∧ w.toNat < b.toNat := by
  have two : ∀ a b : BitVec 1, a &&& b = 1#1 → a = 1#1 ∧ b = 1#1 := by decide
  have one : ∀ b : Bool, BitVec.ofBool b = 1#1 → b = true := by decide
  obtain ⟨h1, h2⟩ := two _ _ h
  have h1 := one _ h1
  have h2 := one _ h2
  simp only [BitVec.sle_eq_decide, BitVec.slt_eq_decide, decide_eq_true_eq, BitVec.toInt_eq_toNat_cond] at h1 h2
  have hw := w.isLt
  split_ifs at h1 h2 <;> omega

/-- The same with the upper end included. -/
theorem word_range' (w a b : BitVec 32) (h : IntOp.cmpi .sge w a &&& IntOp.cmpi .sle w b = 1#1) (ha : a.toNat < 2 ^ 31) (hb : b.toNat < 2 ^ 31) :
    a.toNat ≤ w.toNat ∧ w.toNat ≤ b.toNat := by
  have two : ∀ a b : BitVec 1, a &&& b = 1#1 → a = 1#1 ∧ b = 1#1 := by decide
  have one : ∀ b : Bool, BitVec.ofBool b = 1#1 → b = true := by decide
  obtain ⟨h1, h2⟩ := two _ _ h
  have h1 := one _ h1
  have h2 := one _ h2
  simp only [BitVec.sle_eq_decide, decide_eq_true_eq, BitVec.toInt_eq_toNat_cond] at h1 h2
  have hw := w.isLt
  split_ifs at h1 h2 <;> omega

/-- The precondition's three arrays of ones, read at an element: the tables' ranges. -/
theorem ranges {F : FTy → Type} [FloatOps F] (x : FVec F Cert.Pre_tables_in_range.S32768x1024 .f32) (tok : IVec Cert.Pre_tables_in_range.S288x512 32) (g : FVec F Cert.Pre_tables_in_range.S288x512 .f32)
    (be : IVec Cert.Pre_tables_in_range.S288 32) (nr : IVec Cert.Pre_tables_in_range.S1 32) (a5 a6 a7 a8)
    (h1 : (Cert.Pre_tables_in_range.fn (F := F) x tok g be nr a5 a6 a7 a8).1 = fun _ => 1#1)
    (h2 : (Cert.Pre_tables_in_range.fn (F := F) x tok g be nr a5 a6 a7 a8).2.1 = fun _ => 1#1)
    (h3 : (Cert.Pre_tables_in_range.fn (F := F) x tok g be nr a5 a6 a7 a8).2.2 = fun _ => 1#1) :
    (∀ y, (tok y).toNat < 32768) ∧ (∀ y, (be y).toNat < 32) ∧ (∀ y, 1 ≤ (nr y).toNat) ∧ (∀ y, (nr y).toNat ≤ 288) :=
  ⟨fun y => (word_range (tok y) 0#32 32768#32 (congrFun h1 y) (by decide) (by decide)).2,
    fun y => (word_range (be y) 0#32 32#32 (congrFun h2 y) (by decide) (by decide)).2,
    fun y => (word_range' (nr y) 1#32 288#32 (congrFun h3 y) (by decide) (by decide)).1,
    fun y => (word_range' (nr y) 1#32 288#32 (congrFun h3 y) (by decide) (by decide)).2⟩

theorem good_ideal (m : (ℓ : Loc Cert.KernelIdeal.nD Cert.KernelIdeal.τ Cert.KernelIdeal.sig) → Buf (Elt Ideal) ℓ) (h : Cert.Pre_KernelIdeal m) :
    Cert.KernelIdeal.Moe.Good m := by
  have hr := fun c => ranges _ _ _ _ _ _ _ _ _ (h c).1 (h c).2.1 (h c).2.2
  exact ⟨fun c y => (hr c).1 y, fun c y => (hr c).2.1 y, fun c y => (hr c).2.2.1 y, fun c y => (hr c).2.2.2 y⟩

theorem good_bits (m : (ℓ : Loc Cert.Kernel.nD Cert.Kernel.τ Cert.Kernel.sig) → Buf (Elt Bits) ℓ) (h : Cert.Pre_Kernel m) :
    Cert.Kernel.Moe.Good m := by
  have hr := fun c => ranges _ _ _ _ _ _ _ _ _ (h c).1 (h c).2.1 (h c).2.2
  exact ⟨fun c y => (hr c).1 y, fun c y => (hr c).2.1 y, fun c y => (hr c).2.2.1 y, fun c y => (hr c).2.2.2 y⟩

theorem kernel_ideal_frame : Cert.quiescent_KernelIdeal := fun m g h => Cert.KernelIdeal.Moe.frame_main m (good_ideal m h) g

theorem kernel_frame : Cert.quiescent_Kernel := fun m g h => Cert.Kernel.Moe.frame_main m (good_bits m h) g

/-- The reference runs, leaves its arguments alone, and has no semaphore to leave anything on. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem reference_frame_pre : Cert.quiescent_ReferenceIdeal_pre_tables_in_range := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The kernel's result array is the reference's. -/
theorem algebraic : Cert.algebraic_KernelIdeal_ReferenceIdeal := by
  intro m g m' g' hpre hagree
  refine ⟨fun c => Cert.KernelIdeal.Moe.whole m c, Cert.KernelIdeal.Moe.run_value m (good_ideal m hpre) g, ?_⟩
  refine (θ_run Cert.ReferenceIdeal.defs _ _).mono (fun _ h c => ⟨(h c).1.trans ?_, (h c).2⟩) (Cert.ReferenceIdeal.Value.run (F := Ideal) m' g')
  obtain ⟨e0, e1, e2, e3, e4, e5, e6, e7, e8⟩ := hagree c
  refine (Cert.ReferenceIdeal.Read.val_main_v77_eq (F := Ideal) m' c).trans ?_
  rw [e0, e1, e2, e3, e4, e5, e6, e7, e8]
  rfl

end Cert.Proof.MoeClaims

end
-- ==== Proof.OutBody.lean ====
/-
  The out-projection's body: what it leaves in its outputs at a point, as the stores it makes.
-/
module

public import proofs.«01_k».proof.Proof.Gen.OutProjIdeal.Skeleton
public import proofs.«01_k».proof.Proof.Gen.OutProjIdeal.Frame

@[expose] public section

set_option maxRecDepth 16384

noncomputable section

namespace Cert.OutProjIdeal.Out

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch: the first point of the grid. -/
abbrev first (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

theorem first_iff : ∀ t : Fin cfg0.N, first (grid0.coords t) ↔ t.val = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [first, e0, e1]
    word_cmp
   : ∀ t : Fin grid0.N, first (grid0.coords t) ↔ t.val = 0)

set_option maxHeartbeats 1600000 in
/-- What the body leaves in each output at the first point, where the counts start from zero: the stores of each output, last first, and that the body runs to them. -/
noncomputable def runA (c : Dev nD) (i : grid0.Coords)
    (arg2 : Memref sig .tc .vmem S1x512x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S32x1024 .bf16) (harg9 : arg9.IsWhole) (arg10 : Memref sig .tc .vmem S32x1024 .bf16) (harg10 : arg10.IsWhole) (arg11 : Memref sig .tc .vmem S32x1 .f32) (harg11 : arg11.IsWhole) (arg12 : Memref sig .tc .vmem S512x512 .bf16) (harg12 : arg12.IsWhole) (arg13 : Memref sig .tc .vmem S1x512x1024 .f32) (harg13 : arg13.IsWhole) (arg14 : Memref sig .tc .vmem S4096x128 .f32) (harg14 : arg14.IsWhole) (arg15 : Memref sig .tc .vmem S16x512 .f32) (harg15 : arg15.IsWhole) (arg16 : Memref sig .tc .vmem S32x1 .f32) (harg16 : arg16.IsWhole) (hc : first i)
    (x0 : Vec F S1x512x512 .bf16) (x1 : Vec F S1x512x512 .bf16) (x2 : Vec F S512x1024 .bf16) (x3 : Vec F S512x1024 .bf16) (x4 : Vec F S1x512x1024 .f32) (x5 : Vec F S1x1024 .f32) (x6 : Vec F S1x1024 .f32) (x7 : Vec F S32x1024 .bf16) (x8 : Vec F S32x1024 .bf16) (x9 : Vec F S32x1 .f32) (x10 : Vec F S512x512 .bf16) :
    Σ' (L11 : List (View.Piece (Elt F) S1x512x1024 .f32)), Σ' (L12 : List (View.Piece (Elt F) S4096x128 .f32)),
      Σ' (L13 : List (View.Piece (Elt F) S16x512 .f32)), { L14 : List (View.Piece (Elt F) S32x1 .f32) //
      ∀ (E : Set ℕ) (K : PUnit → sProp 𝕄),
        iprop(owns (c : Thread nD τ) arg2 fullShare x0 ∗
            owns (c : Thread nD τ) arg3 fullShare x1 ∗
            owns (c : Thread nD τ) arg4 fullShare x2 ∗
            owns (c : Thread nD τ) arg5 fullShare x3 ∗
            owns (c : Thread nD τ) arg6 fullShare x4 ∗
            owns (c : Thread nD τ) arg7 fullShare x5 ∗
            owns (c : Thread nD τ) arg8 fullShare x6 ∗
            owns (c : Thread nD τ) arg9 fullShare x7 ∗
            owns (c : Thread nD τ) arg10 fullShare x8 ∗
            owns (c : Thread nD τ) arg11 fullShare x9 ∗
            owns (c : Thread nD τ) arg12 fullShare x10 ∗
            (∃ d, owns (c : Thread nD τ) arg13 fullShare d) ∗
            (∃ d, owns (c : Thread nD τ) arg14 fullShare d) ∗
            (∃ d, owns (c : Thread nD τ) arg15 fullShare d) ∗
            (∃ d, owns (c : Thread nD τ) arg16 fullShare d) ∗
            (iprop(owns (c : Thread nD τ) arg2 fullShare x0 ∗
            owns (c : Thread nD τ) arg3 fullShare x1 ∗
            owns (c : Thread nD τ) arg4 fullShare x2 ∗
            owns (c : Thread nD τ) arg5 fullShare x3 ∗
            owns (c : Thread nD τ) arg6 fullShare x4 ∗
            owns (c : Thread nD τ) arg7 fullShare x5 ∗
            owns (c : Thread nD τ) arg8 fullShare x6 ∗
            owns (c : Thread nD τ) arg9 fullShare x7 ∗
            owns (c : Thread nD τ) arg10 fullShare x8 ∗
            owns (c : Thread nD τ) arg11 fullShare x9 ∗
            owns (c : Thread nD τ) arg12 fullShare x10 ∗
            (∃ f, arg13.view.loc (c : Thread nD τ) ↦[arg13.view.set]{fullShare} arg13.view.writes (Elt F) f L11) ∗
            (∃ f, arg14.view.loc (c : Thread nD τ) ↦[arg14.view.set]{fullShare} arg14.view.writes (Elt F) f L12) ∗
            (∃ f, arg15.view.loc (c : Thread nD τ) ↦[arg15.view.set]{fullShare} arg15.view.writes (Elt F) f L13) ∗
            (∃ f, arg16.view.loc (c : Thread nD τ) ↦[arg16.view.set]{fullShare} arg16.view.writes (Elt F) f L14)) -∗ K ⟨⟩))
          ⊢ wp frame (wpE (defs₀ (F := F)) Variants.none c none) E (cc0_out_proj_ln_router i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_out_proj_ln_router_eq_skeleton]; unfold cc0_out_proj_ln_router_skel
    simp only [k0_part1_eq_skeleton, k0_part2_eq_skeleton, k0_part3_eq_skeleton, k0_part4_eq_skeleton, k0_part5_eq_skeleton,
      k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    iexists _; iexact H14

set_option maxHeartbeats 1600000 in
/-- The same at a later point, where the counts go on from `n`. -/
noncomputable def runB (c : Dev nD) (i : grid0.Coords)
    (arg2 : Memref sig .tc .vmem S1x512x512 .bf16) (harg2 : arg2.IsWhole) (arg3 : Memref sig .tc .vmem S1x512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S32x1024 .bf16) (harg9 : arg9.IsWhole) (arg10 : Memref sig .tc .vmem S32x1024 .bf16) (harg10 : arg10.IsWhole) (arg11 : Memref sig .tc .vmem S32x1 .f32) (harg11 : arg11.IsWhole) (arg12 : Memref sig .tc .vmem S512x512 .bf16) (harg12 : arg12.IsWhole) (arg13 : Memref sig .tc .vmem S1x512x1024 .f32) (harg13 : arg13.IsWhole) (arg14 : Memref sig .tc .vmem S4096x128 .f32) (harg14 : arg14.IsWhole) (arg15 : Memref sig .tc .vmem S16x512 .f32) (harg15 : arg15.IsWhole) (arg16 : Memref sig .tc .vmem S32x1 .f32) (harg16 : arg16.IsWhole) (hc : ¬first i)
    (x0 : Vec F S1x512x512 .bf16) (x1 : Vec F S1x512x512 .bf16) (x2 : Vec F S512x1024 .bf16) (x3 : Vec F S512x1024 .bf16) (x4 : Vec F S1x512x1024 .f32) (x5 : Vec F S1x1024 .f32) (x6 : Vec F S1x1024 .f32) (x7 : Vec F S32x1024 .bf16) (x8 : Vec F S32x1024 .bf16) (x9 : Vec F S32x1 .f32) (x10 : Vec F S512x512 .bf16) (n : Vec F S32x1 .f32) :
    Σ' (L11 : List (View.Piece (Elt F) S1x512x1024 .f32)), Σ' (L12 : List (View.Piece (Elt F) S4096x128 .f32)),
      Σ' (L13 : List (View.Piece (Elt F) S16x512 .f32)), { L14 : List (View.Piece (Elt F) S32x1 .f32) //
      ∀ (E : Set ℕ) (K : PUnit → sProp 𝕄),
        iprop(owns (c : Thread nD τ) arg2 fullShare x0 ∗
            owns (c : Thread nD τ) arg3 fullShare x1 ∗
            owns (c : Thread nD τ) arg4 fullShare x2 ∗
            owns (c : Thread nD τ) arg5 fullShare x3 ∗
            owns (c : Thread nD τ) arg6 fullShare x4 ∗
            owns (c : Thread nD τ) arg7 fullShare x5 ∗
            owns (c : Thread nD τ) arg8 fullShare x6 ∗
            owns (c : Thread nD τ) arg9 fullShare x7 ∗
            owns (c : Thread nD τ) arg10 fullShare x8 ∗
            owns (c : Thread nD τ) arg11 fullShare x9 ∗
            owns (c : Thread nD τ) arg12 fullShare x10 ∗
            (∃ d, owns (c : Thread nD τ) arg13 fullShare d) ∗
            (∃ d, owns (c : Thread nD τ) arg14 fullShare d) ∗
            (∃ d, owns (c : Thread nD τ) arg15 fullShare d) ∗
            owns (c : Thread nD τ) arg16 fullShare n ∗
            (iprop(owns (c : Thread nD τ) arg2 fullShare x0 ∗
            owns (c : Thread nD τ) arg3 fullShare x1 ∗
            owns (c : Thread nD τ) arg4 fullShare x2 ∗
            owns (c : Thread nD τ) arg5 fullShare x3 ∗
            owns (c : Thread nD τ) arg6 fullShare x4 ∗
            owns (c : Thread nD τ) arg7 fullShare x5 ∗
            owns (c : Thread nD τ) arg8 fullShare x6 ∗
            owns (c : Thread nD τ) arg9 fullShare x7 ∗
            owns (c : Thread nD τ) arg10 fullShare x8 ∗
            owns (c : Thread nD τ) arg11 fullShare x9 ∗
            owns (c : Thread nD τ) arg12 fullShare x10 ∗
            (∃ f, arg13.view.loc (c : Thread nD τ) ↦[arg13.view.set]{fullShare} arg13.view.writes (Elt F) f L11) ∗
            (∃ f, arg14.view.loc (c : Thread nD τ) ↦[arg14.view.set]{fullShare} arg14.view.writes (Elt F) f L12) ∗
            (∃ f, arg15.view.loc (c : Thread nD τ) ↦[arg15.view.set]{fullShare} arg15.view.writes (Elt F) f L13) ∗
            (∃ f, arg16.view.loc (c : Thread nD τ) ↦[arg16.view.set]{fullShare} arg16.view.writes (Elt F) f L14)) -∗ K ⟨⟩))
          ⊢ wp frame (wpE (defs₀ (F := F)) Variants.none c none) E (cc0_out_proj_ln_router i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_out_proj_ln_router_eq_skeleton]; unfold cc0_out_proj_ln_router_skel
    simp only [k0_part1_eq_skeleton, k0_part2_eq_skeleton, k0_part3_eq_skeleton, k0_part4_eq_skeleton, k0_part5_eq_skeleton,
      k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg16.eq_unread hf14
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    iexists _; iexact H14

end Cert.OutProjIdeal.Out

end

end
-- ==== Proof.OutFrame.lean ====
/-
  The out-projection's run: what every output holds after every point, the body's obligation, and the frame.
-/
module

public import proofs.«01_k».proof.Proof.OutBody
public import Idealize.ShloMosaic.Lib.Claim

@[expose] public section

set_option maxRecDepth 16384

noncomputable section

namespace Cert.OutProjIdeal.Out

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs' contents are stated through one buffer of each; which does not matter. -/
abbrev VO11 : View sig .tc .vmem S1x512x1024 .f32 := (Memref.whole cc0_stg11_0 : Memref sig .tc .vmem S1x512x1024 .f32).view
abbrev VO12 : View sig .tc .vmem S4096x128 .f32 := (Memref.whole cc0_stg12_0 : Memref sig .tc .vmem S4096x128 .f32).view
abbrev VO13 : View sig .tc .vmem S16x512 .f32 := (Memref.whole cc0_stg13_0 : Memref sig .tc .vmem S16x512 .f32).view
abbrev VO14 : View sig .tc .vmem S32x1 .f32 := (Memref.whole cc0_stg14_0 : Memref sig .tc .vmem S32x1 .f32).view

/-- The body's run at point `t`, on the staged blocks: the first point, -/
abbrev runAAt (c : Dev nD) (t : Fin cfg0.N) (h : first (grid0.coords t)) :=
  runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11))
    (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) h
    (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- and a later one, over the counts `n`. -/
abbrev runBAt (c : Dev nD) (t : Fin cfg0.N) (h : ¬first (grid0.coords t)) (n : Vec F S32x1 .f32) :=
  runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11))
    (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) h
    (iblk m c 0 t) (iblk m c 1 t) (iblk m c 2 t) (iblk m c 3 t) (iblk m c 4 t) (iblk m c 5 t) (iblk m c 6 t) (iblk m c 7 t) (iblk m c 8 t) (iblk m c 9 t) (iblk m c 10 t) n

/-- Eight stores with a row stride of 8, one from each of the first eight rows, leave no row out. -/
theorem strided_cover (L : List (View.Piece (Elt F) S4096x128 .f32))
    (h : L.map (fun p => (p.1.off 0, p.1.off 1, p.1.size 0, p.1.size 1, p.1.stride 0, p.1.stride 1))
      = [(7, 0, 512, 128, 8, 1), (6, 0, 512, 128, 8, 1), (5, 0, 512, 128, 8, 1), (4, 0, 512, 128, 8, 1),
        (3, 0, 512, 128, 8, 1), (2, 0, 512, 128, 8, 1), (1, 0, 512, 128, 8, 1), (0, 0, 512, 128, 8, 1)])
    (y : S4096x128.Idx) : ∃ p ∈ L, y ∈ p.1.set := by
  have h0 : (y 0).val < 4096 := (y 0).isLt
  have h1 : (y 1).val < 128 := (y 1).isLt
  have hm : ((y 0).val % 8, 0, 512, 128, 8, 1) ∈ L.map (fun p => (p.1.off 0, p.1.off 1, p.1.size 0, p.1.size 1, p.1.stride 0, p.1.stride 1)) := by
    rw [h]
    exact (by decide : ∀ j : Fin 8, (j.val, 0, 512, 128, 8, 1) ∈ [(7, 0, 512, 128, 8, 1), (6, 0, 512, 128, 8, 1), (5, 0, 512, 128, 8, 1),
      (4, 0, 512, 128, 8, 1), (3, 0, 512, 128, 8, 1), (2, 0, 512, 128, 8, 1), (1, 0, 512, 128, 8, 1), (0, 0, 512, 128, 8, 1)])
      ⟨(y 0).val % 8, by omega⟩
  obtain ⟨p, hp, e⟩ := List.mem_map.1 hm
  simp only [Prod.mk.injEq] at e
  obtain ⟨e0, e1, e2, e3, e4, e5⟩ := e
  refine ⟨p, hp, ?_⟩
  rw [LoadRect.mem_set]
  intro a
  match a with
  | ⟨0, _⟩ => exact ⟨(y 0).val / 8, show (y 0).val / 8 < p.1.size 0 by omega, show (y 0).val = p.1.off 0 + p.1.stride 0 * ((y 0).val / 8) by rw [e0, e4]; omega⟩
  | ⟨1, _⟩ => exact ⟨(y 1).val, show (y 1).val < p.1.size 1 by omega, show (y 1).val = p.1.off 1 + p.1.stride 1 * (y 1).val by rw [e1, e5]; omega⟩

theorem coverA11 (c : Dev nD) (t : Fin cfg0.N) (h : first (grid0.coords t)) (y : S1x512x1024.Idx) : ∃ p ∈ (runAAt m c t h).1, y ∈ p.1.set :=
  View.cover_of_tiledL (runAAt m c t h).1 S1x512x1024.size (by sl_kernel_rfl) y

theorem coverA12 (c : Dev nD) (t : Fin cfg0.N) (h : first (grid0.coords t)) (y : S4096x128.Idx) : ∃ p ∈ (runAAt m c t h).2.1, y ∈ p.1.set :=
  strided_cover _ (by sl_kernel_rfl) y

theorem coverA13 (c : Dev nD) (t : Fin cfg0.N) (h : first (grid0.coords t)) (y : S16x512.Idx) : ∃ p ∈ (runAAt m c t h).2.2.1, y ∈ p.1.set :=
  View.cover_of_tiledL (runAAt m c t h).2.2.1 S16x512.size (by sl_kernel_rfl) y

theorem coverA14 (c : Dev nD) (t : Fin cfg0.N) (h : first (grid0.coords t)) (y : S32x1.Idx) : ∃ p ∈ (runAAt m c t h).2.2.2.1, y ∈ p.1.set :=
  View.cover_of_tiledL (runAAt m c t h).2.2.2.1 S32x1.size (by sl_kernel_rfl) y

theorem coverB11 (c : Dev nD) (t : Fin cfg0.N) (h : ¬first (grid0.coords t)) (n : Vec F S32x1 .f32) (y : S1x512x1024.Idx) : ∃ p ∈ (runBAt m c t h n).1, y ∈ p.1.set :=
  View.cover_of_tiledL (runBAt m c t h n).1 S1x512x1024.size (by sl_kernel_rfl) y

theorem coverB12 (c : Dev nD) (t : Fin cfg0.N) (h : ¬first (grid0.coords t)) (n : Vec F S32x1 .f32) (y : S4096x128.Idx) : ∃ p ∈ (runBAt m c t h n).2.1, y ∈ p.1.set :=
  strided_cover _ (by sl_kernel_rfl) y

theorem coverB13 (c : Dev nD) (t : Fin cfg0.N) (h : ¬first (grid0.coords t)) (n : Vec F S32x1 .f32) (y : S16x512.Idx) : ∃ p ∈ (runBAt m c t h n).2.2.1, y ∈ p.1.set :=
  View.cover_of_tiledL (runBAt m c t h n).2.2.1 S16x512.size (by sl_kernel_rfl) y

theorem coverB14 (c : Dev nD) (t : Fin cfg0.N) (h : ¬first (grid0.coords t)) (n : Vec F S32x1 .f32) (y : S32x1.Idx) : ∃ p ∈ (runBAt m c t h n).2.2.2.1, y ∈ p.1.set :=
  View.cover_of_tiledL (runBAt m c t h n).2.2.2.1 S32x1.size (by sl_kernel_rfl) y

/-- The four outputs' blocks: the normed rows, the rows as tiles, the routes, the counts. -/
abbrev Outs (F : FTy → Type) [FloatOps F] := Vec F S1x512x1024 .f32 × Vec F S4096x128 .f32 × Vec F S16x512 .f32 × Vec F S32x1 .f32

def outA (c : Dev nD) (t : Fin cfg0.N) (h : first (grid0.coords t)) : Outs F :=
  ⟨VO11.read (Elt F) (VO11.writes (Elt F) VO11.junk (runAAt m c t h).1),
    VO12.read (Elt F) (VO12.writes (Elt F) VO12.junk (runAAt m c t h).2.1),
    VO13.read (Elt F) (VO13.writes (Elt F) VO13.junk (runAAt m c t h).2.2.1),
    VO14.read (Elt F) (VO14.writes (Elt F) VO14.junk (runAAt m c t h).2.2.2.1)⟩

def outB (c : Dev nD) (t : Fin cfg0.N) (h : ¬first (grid0.coords t)) (n : Vec F S32x1 .f32) : Outs F :=
  ⟨VO11.read (Elt F) (VO11.writes (Elt F) VO11.junk (runBAt m c t h n).1),
    VO12.read (Elt F) (VO12.writes (Elt F) VO12.junk (runBAt m c t h n).2.1),
    VO13.read (Elt F) (VO13.writes (Elt F) VO13.junk (runBAt m c t h n).2.2.1),
    VO14.read (Elt F) (VO14.writes (Elt F) VO14.junk (runBAt m c t h n).2.2.2.1)⟩

/-- What the outputs hold after each point, the counts going on from the point before. -/
def outsAt (c : Dev nD) : (n : ℕ) → n < cfg0.N → Outs F
  | 0, hn => outA m c ⟨0, hn⟩ ((first_iff ⟨0, hn⟩).mpr rfl)
  | n + 1, hn => outB m c ⟨n + 1, hn⟩ (fun h => absurd ((first_iff ⟨n + 1, hn⟩).mp h) (Nat.succ_ne_zero n))
      (outsAt c n (Nat.lt_of_succ_lt hn)).2.2.2

theorem outsAt_A (c : Dev nD) (t : Fin cfg0.N) (h : t.val = 0) :
    outsAt m c t.val t.isLt = outA m c t ((first_iff t).mpr h) := by
  obtain ⟨n, hn⟩ := t
  cases n with
  | zero => rfl
  | succ n => exact absurd h (Nat.succ_ne_zero n)

theorem outsAt_B (c : Dev nD) (t : Fin cfg0.N) (h : ¬t.val = 0) :
    outsAt m c t.val t.isLt = outB m c t (fun h' => h ((first_iff t).mp h'))
      (outsAt m c (t.val - 1) (Nat.lt_of_le_of_lt (Nat.sub_le _ _) t.isLt)).2.2.2 := by
  obtain ⟨n, hn⟩ := t
  cases n with
  | zero => exact absurd rfl h
  | succ n => rfl

/-- The pipeline's data: the inputs' blocks stay, the outputs hold `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt m c t.val t.isLt).1
    | ⟨12, _⟩ => (outsAt m c t.val t.isLt).2.1
    | ⟨13, _⟩ => (outsAt m c t.val t.isLt).2.2.1
    | ⟨14, _⟩ => (outsAt m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = (outsAt m c t.val t.isLt).1 := by dsimp only [dats]
theorem after12 (c : Dev nD) (t : Fin cfg0.N) : (dats m 0 c).after 12 t = (outsAt m c t.val t.isLt).2.1 := by dsimp only [dats]
theorem after13 (c : Dev nD) (t : Fin cfg0.N) : (dats m 0 c).after 13 t = (outsAt m c t.val t.isLt).2.2.1 := by dsimp only [dats]
theorem after14 (c : Dev nD) (t : Fin cfg0.N) : (dats m 0 c).after 14 t = (outsAt m c t.val t.isLt).2.2.2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-- After the first point the counts' buffer holds what the point before left. -/
theorem before14 (c : Dev nD) (t : Fin cfg0.N) (h0 : ¬t.val = 0) (d) :
    (dats m 0 c).before 14 t d = (outsAt m c (t.val - 1) (Nat.lt_of_le_of_lt (Nat.sub_le _ _) t.isLt)).2.2.2 := by
  have hN : t.val < 64 := lt_of_lt_of_eq t.isLt (show cfg0.N = 64 from N_0)
  rw [Dat.before_out_kept _ 14 rfl t (by omega) (Bool.eq_false_iff.mpr fun h => by have := (flush0_14 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14]
  by_cases h0 : t.val = 0
  · rw [outsAt_A m c t h0]
    unfold outA; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runAAt m c t ((first_iff t).mpr h0)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, H10, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (coverA11 m c t _)
    isplitl [H12]
    · unfold owns; iexists _; isplitr
      swap; · iexact H12
      ipureintro; exact View.read_writes_of_cover _ _ _ _ _ (coverA12 m c t _)
    isplitl [H13]
    · unfold owns; iexists _; isplitr
      swap; · iexact H13
      ipureintro; exact View.read_writes_of_cover _ _ _ _ _ (coverA13 m c t _)
    unfold owns; iexists _; isplitr
    swap; · iexact H14
    ipureintro; exact View.read_writes_of_cover _ _ _ _ _ (coverA14 m c t _)
  · rw [outsAt_B m c t h0]
    simp only [before14 m c t h0]
    unfold outB; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runBAt m c t (fun h => h0 ((first_iff t).mp h)) _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexact H14
    iintro ⟨H0, H1, H2, H3, H4, H5, H6, H7, H8, H9, H10, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (coverB11 m c t _ _)
    isplitl [H12]
    · unfold owns; iexists _; isplitr
      swap; · iexact H12
      ipureintro; exact View.read_writes_of_cover _ _ _ _ _ (coverB12 m c t _ _)
    isplitl [H13]
    · unfold owns; iexists _; isplitr
      swap; · iexact H13
      ipureintro; exact View.read_writes_of_cover _ _ _ _ _ (coverB13 m c t _ _)
    unfold owns; iexists _; isplitr
    swap; · iexact H14
    ipureintro; exact View.read_writes_of_cover _ _ _ _ _ (coverB14 m c t _ _)

/-- The body table's row at point `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run, every semaphore at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.OutProjIdeal.Out

end

end
-- ==== Proof.OutValue.lean ====
module

public import proofs.«01_k».proof.Proof.OutFrame
public import proofs.«01_k».proof.Proof.Gen.OutProjRefIdeal.Run
public import proofs.«01_k».proof.Proof.Gen.OutProjRefIdeal.Read
public import Idealize.ShloMosaic.Lib.Pipeline.ValueKit

/-! # The out-projection: the normed rows and their token tiles are the reference's -/

set_option maxRecDepth 16384

@[expose] public section

noncomputable section

open Idealize.ShloMosaic Idealize.ShloMosaic.TcCoe Idealize.SL.Sem
open Idealize.ShloMosaic.Pipeline (Dat)

namespace Cert.OutProjIdeal.Out

open Cert.OutProjIdeal Cert.OutProjIdeal.Gen

variable (m : (ℓ : Loc nD τ sig) → Buf (Elt Ideal) ℓ)

/-- The mean of a row. -/
def mean (z : Fin 1024 → EReal) : EReal := Ideal.div (∑ k, z k) (Ideal.ofBits .f32 0x44800000#32)

/-- One element of the layer norm of a row `z`, with gain `g` and bias `b`. -/
def norm (z : Fin 1024 → EReal) (g b : EReal) (d : Fin 1024) : EReal :=
  (z d - mean z) * Ideal.rsqrt (mean (fun k => (z k - mean z) * (z k - mean z)) + Ideal.ofBits .f32 0x3727C5AC#32) * g + b

/-- An element of the row before the norm: the scaled input and the two halves of the product. -/
def pre (x : EReal) (ya yb wa wb : Fin 512 → EReal) : EReal :=
  Ideal.ofBits .f32 0x3FB504F3#32 * x + ((∑ k, ya k * wa k) + ∑ k, yb k * wb k)

/-- What the body stores of the normed rows. -/
theorem pay_at (x0 x1 : FVec Ideal S1x512x512 .bf16) (x2 x3 : FVec Ideal S512x1024 .bf16) (x4 : FVec Ideal S1x512x1024 .f32)
    (x5 x6 : FVec Ideal S1x1024 .f32) (u : Fin 1) (r : Fin 512) (d : Fin 1024) :
    k0_pay8 (F := Ideal) (k0_pay3 x5) (k0_pay4 x6) (k0_pay5 x0 x2 x1 x3 x4) (k0_pay6 x0 x2 x1 x3 x4) (ix3 u r d)
      = norm (fun d => pre (x4 (ix3 0 r d)) (fun k => x0 (ix3 0 r k)) (fun k => x1 (ix3 0 r k)) (fun k => x2 (ix2 k d)) (fun k => x3 (ix2 k d)))
        (x5 (ix2 0 d)) (x6 (ix2 0 d)) d := by
  unfold norm mean pre
  pointwise [k0_pay8, k0_pay7, k0_pay6, k0_pay5, k0_pay4, k0_pay3]

/-- The reference's result, over the kernel's argument arrays. -/
abbrev whole (ya yb : FVec Ideal S8x4096x512 .f32) (x : FVec Ideal S8x4096x1024 .f32) (w : FVec Ideal S1x1024x1024 .f32)
    (g b : FVec Ideal S1024 .f32) : FVec Ideal S8x4096x1024 .f32 :=
  Cert.OutProjRefIdeal.Read.val_main_v29 (F := Ideal) ya yb x w g b

/-- The product with the two branches side by side is the sum of the two branches' products. -/
theorem prod_at (ya yb : FVec Ideal S8x4096x512 .f32) (w : FVec Ideal S1x1024x1024 .f32) (p : Fin 8) (s : Fin 4096) (d : Fin 1024) :
    Cert.OutProjRefIdeal.Read.val_main_v4 (F := Ideal) ya yb w (ix3 p s d)
      = (∑ k : Fin 512, ya (ix3 p s k) * w (ix3 0 ⟨k.val, by omega⟩ d)) + ∑ k : Fin 512, yb (ix3 p s k) * w (ix3 0 ⟨512 + k.val, by omega⟩ d) := by
  rw [Cert.OutProjRefIdeal.Read.val_main_v4_apply]
  refine (Fin.sum_univ_add (a := 512) (b := 512) _).trans (congrArg₂ (· + ·) ?_ ?_)
  · refine Finset.sum_congr rfl fun k _ => congrArg₂ (· * ·) ?_ ?_
    · pointwise [Cert.OutProjRefIdeal.Read.val_main_v2]
      exact dif_pos k.isLt
    · pointwise [Cert.OutProjRefIdeal.Read.val_main_v3]
      rfl
  · refine Finset.sum_congr rfl fun k _ => congrArg₂ (· * ·) ?_ ?_
    · pointwise [Cert.OutProjRefIdeal.Read.val_main_v2]
      refine (dif_neg (Nat.not_lt.2 (Nat.le_add_right 512 k.val))).trans (congrArg (fun j => yb (ix3 p s j)) (Fin.ext ?_))
      show 512 + k.val - 512 = k.val
      omega
    · pointwise [Cert.OutProjRefIdeal.Read.val_main_v3]
      rfl

theorem whole_at (ya yb : FVec Ideal S8x4096x512 .f32) (x : FVec Ideal S8x4096x1024 .f32) (w : FVec Ideal S1x1024x1024 .f32)
    (g b : FVec Ideal S1024 .f32) (p : Fin 8) (s : Fin 4096) (d : Fin 1024) :
    whole ya yb x w g b (ix3 p s d) = norm (fun d => pre (x (ix3 p s d)) (fun k => ya (ix3 p s k)) (fun k => yb (ix3 p s k))
      (fun k => w (ix3 0 ⟨k.val, by omega⟩ d)) (fun k => w (ix3 0 ⟨512 + k.val, by omega⟩ d))) (g (ix1 d)) (b (ix1 d)) d := by
  unfold norm mean pre
  simp only [← prod_at]
  unfold whole
  open Cert.OutProjRefIdeal.Read in
  pointwise [val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v7, val_main_v6, val_main_v5, val_main_v1, val_main_v0, val_main_cst,
    val_main_cst_0, val_main_cst_1, val_main_cst_2, val_main_cst_3, val_main_cst_4]

/-- The block indices of the windows: batch and row tile, or the whole array. -/
theorem idx : ∀ t : Fin cfg0.N, win0_0.index t = ![(grid0.coords t 0).val, (grid0.coords t 1).val, 0]
    ∧ win0_1.index t = ![(grid0.coords t 0).val, (grid0.coords t 1).val, 0] ∧ win0_2.index t = ![0, 0] ∧ win0_3.index t = ![0, 0]
    ∧ win0_4.index t = ![(grid0.coords t 0).val, (grid0.coords t 1).val, 0] ∧ win0_5.index t = ![0, 0] ∧ win0_6.index t = ![0, 0]
    ∧ win0_11.index t = ![(grid0.coords t 0).val, (grid0.coords t 1).val, 0] :=
  (by decide +kernel : ∀ t : Fin grid0.N, _)

theorem V_v4 (c : Dev nD) : V m c main_v4 = extractStridedSlice S512x1024 ![0, 0]
    (truncf (F := Ideal) .bf16 (shapeCast S1024x1024 (m ((c : Thread nD τ).loc main_arg3)) shapeCasts_S1x1024x1024_S1024x1024) bitsLt_bf16_f32)
    slices_S1024x1024_S512x1024_0_0 := rfl

theorem V_v5 (c : Dev nD) : V m c main_v5 = extractStridedSlice S512x1024 ![512, 0]
    (truncf (F := Ideal) .bf16 (shapeCast S1024x1024 (m ((c : Thread nD τ).loc main_arg3)) shapeCasts_S1x1024x1024_S1024x1024) bitsLt_bf16_f32)
    slices_S1024x1024_S512x1024_512_0 := rfl

theorem V_v13 (c : Dev nD) : V m c main_v13 = shapeCast S1x1024 (m ((c : Thread nD τ).loc main_arg4)) shapeCasts_S1024_S1x1024 := rfl

theorem V_v14 (c : Dev nD) : V m c main_v14 = shapeCast S1x1024 (m ((c : Thread nD τ).loc main_arg5)) shapeCasts_S1024_S1x1024 := rfl

/-- The halves of the weights, read at an element. -/
theorem half_a (w : FVec Ideal S1x1024x1024 .f32) (k : Fin 512) (d : Fin 1024) :
    extractStridedSlice S512x1024 ![0, 0] (truncf (F := Ideal) .bf16 (shapeCast S1024x1024 w shapeCasts_S1x1024x1024_S1024x1024) bitsLt_bf16_f32)
      slices_S1024x1024_S512x1024_0_0 (ix2 k d) = w (ix3 0 ⟨k.val, by omega⟩ d) := by
  pointwise []

theorem half_b (w : FVec Ideal S1x1024x1024 .f32) (k : Fin 512) (d : Fin 1024) :
    extractStridedSlice S512x1024 ![512, 0] (truncf (F := Ideal) .bf16 (shapeCast S1024x1024 w shapeCasts_S1x1024x1024_S1024x1024) bitsLt_bf16_f32)
      slices_S1024x1024_S512x1024_512_0 (ix2 k d) = w (ix3 0 ⟨512 + k.val, by omega⟩ d) := by
  pointwise []

theorem wa_at (c : Dev nD) (t : Fin cfg0.N) (k : Fin 512) (d : Fin 1024) :
    (iblk m c 2 t (ix2 k d) : EReal) = m ((c : Thread nD τ).loc main_arg3) (ix3 (0 : Fin 1) (⟨k.val, by omega⟩ : Fin 1024) d) := by
  have e : ((cfg0.win 2).blk t).view.emb (ix2 k d) = ix2 k d := by blk_point [idx t]
  exact (congrArg (V m c main_v4) e).trans ((congrFun (V_v4 m c) _).trans (half_a _ k d))

theorem wb_at (c : Dev nD) (t : Fin cfg0.N) (k : Fin 512) (d : Fin 1024) :
    (iblk m c 3 t (ix2 k d) : EReal) = m ((c : Thread nD τ).loc main_arg3) (ix3 (0 : Fin 1) (⟨512 + k.val, by omega⟩ : Fin 1024) d) := by
  have e : ((cfg0.win 3).blk t).view.emb (ix2 k d) = ix2 k d := by blk_point [idx t]
  exact (congrArg (V m c main_v5) e).trans ((congrFun (V_v5 m c) _).trans (half_b _ k d))

theorem g_at (c : Dev nD) (t : Fin cfg0.N) (d : Fin 1024) :
    (iblk m c 5 t : FVec Ideal S1x1024 .f32) (ix2 0 d) = m ((c : Thread nD τ).loc main_arg4) (ix1 d) := by
  have e : ((cfg0.win 5).blk t).view.emb (ix2 (0 : Fin 1) d) = ix2 (0 : Fin 1) d := by blk_point [idx t]
  show V m c main_v13 (((cfg0.win 5).blk t).view.emb (ix2 (0 : Fin 1) d)) = _
  rw [e, V_v13]
  generalize m ((c : Thread nD τ).loc main_arg4) = w
  pointwise []

theorem b_at (c : Dev nD) (t : Fin cfg0.N) (d : Fin 1024) :
    (iblk m c 6 t : FVec Ideal S1x1024 .f32) (ix2 0 d) = m ((c : Thread nD τ).loc main_arg5) (ix1 d) := by
  have e : ((cfg0.win 6).blk t).view.emb (ix2 (0 : Fin 1) d) = ix2 (0 : Fin 1) d := by blk_point [idx t]
  show V m c main_v14 (((cfg0.win 6).blk t).view.emb (ix2 (0 : Fin 1) d)) = _
  rw [e, V_v14]
  generalize m ((c : Thread nD τ).loc main_arg5) = w
  pointwise []

/-- A place of a block holds the reference's value at the place's index. -/
theorem tile (c : Dev nD) (t : Fin cfg0.N) (y : S1x512x1024.Idx) :
    k0_pay8 (F := Ideal) (k0_pay3 (iblk m c 5 t)) (k0_pay4 (iblk m c 6 t)) (k0_pay5 (iblk m c 0 t) (iblk m c 2 t) (iblk m c 1 t) (iblk m c 3 t) (iblk m c 4 t))
        (k0_pay6 (iblk m c 0 t) (iblk m c 2 t) (iblk m c 1 t) (iblk m c 3 t) (iblk m c 4 t)) y
      = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 11).blk t).view.emb y) := by
  idx_vars y
  have h0 : (grid0.coords t 0).val < 8 := (grid0.coords t 0).isLt
  have h1 : (grid0.coords t 1).val < 8 := (grid0.coords t 1).isLt
  have e : ((cfg0.win 11).blk t).view.emb (ix3 y0 y1 y2) = ix3 (⟨(grid0.coords t 0).val, h0⟩ : Fin 8) (⟨512 * (grid0.coords t 1).val + y1.val, by omega⟩ : Fin 4096) y2 := by
    blk_point [idx t]
  rw [pay_at, e, whole_at]
  congr 1
  · funext d
    congr 1
    · blk_point [iblk, V, idx t]
    · funext k; blk_point [iblk, V, idx t]
    · funext k; blk_point [iblk, V, idx t]
    · funext k; exact wa_at m c t k d
    · funext k; exact wb_at m c t k d
  · exact g_at m c t y2
  · exact b_at m c t y2

/-- The normed rows after any point are the body's payload. -/
theorem rows (c : Dev nD) (t : Fin cfg0.N) (y : S1x512x1024.Idx) : (outsAt m c t.val t.isLt).1 y
    = k0_pay8 (F := Ideal) (k0_pay3 (iblk m c 5 t)) (k0_pay4 (iblk m c 6 t)) (k0_pay5 (iblk m c 0 t) (iblk m c 2 t) (iblk m c 1 t) (iblk m c 3 t) (iblk m c 4 t))
        (k0_pay6 (iblk m c 0 t) (iblk m c 2 t) (iblk m c 1 t) (iblk m c 3 t) (iblk m c 4 t)) y := by
  by_cases h : t.val = 0
  · rw [outsAt_A m c t h]; unfold outA; dsimp only; unfold runAAt runA; frame_out
  · rw [outsAt_B m c t h]; unfold outB; dsimp only; unfold runBAt runB; frame_out

/-- The result array after the run. -/
theorem result (c : Dev nD) : (dats m 0 c).arrAt 11 cfg0.N
    = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 11 _ (by decide +kernel) fun t _ y => ?_
  blk_simp
  rw [after11]
  exact (rows m c t y).trans (tile m c t y)

/-- A block of rows as token tiles: eight lines of 128 lanes for each row. -/
def tok (v : FVec Ideal S1x512x1024 .f32) : FVec Ideal S4096x128 .f32 := fun z =>
  v (ix3 (0 : Fin 1) (⟨(z 0).val / 8, by have h : (z 0).val < 4096 := (z 0).isLt; omega⟩ : Fin 512)
    (⟨(z 0).val % 8 * 128 + (z 1).val, by have h : (z 1).val < 128 := (z 1).isLt; omega⟩ : Fin 1024))

/-- A store of the columns of one line of every token agrees with the tiles. -/
theorem tok_piece (a b : FVec Ideal S1x1024 .f32) (z : FVec Ideal S512x1024 .f32) (u : FVec Ideal S512x1024 .f32) (j o : ℕ)
    (hs : S512x1024.Slices ![0, o] S512x128) (inb) (pos) (hj : j < 8) (ho : o = j * 128) (q : S512x128.Idx) :
    extractStridedSlice S512x128 ![0, o] (k0_pay7 (F := Ideal) a b z u) hs q
      = tok (k0_pay8 (F := Ideal) a b z u) (({ off := ![j, 0], size := ![512, 128], stride := ![8, 1], inb := inb, stride_pos := pos }
          : Rect S4096x128).emb q) := by
  subst ho
  idx_vars q
  unfold tok k0_pay8
  generalize k0_pay7 (F := Ideal) a b z u = w
  pointwise []
  refine congrArg₂ (fun r d => w (ix2 r d)) (Fin.ext ?_) (Fin.ext ?_)
  · show q0.val = (j + 8 * q0.val) / 8; omega
  · show j * 128 + q1.val = (j + 8 * q0.val) % 8 * 128 + (0 + 1 * q1.val); omega

/-- The token tiles after any point are the payload's. -/
theorem tiles (c : Dev nD) (t : Fin cfg0.N) (y : S4096x128.Idx) : (outsAt m c t.val t.isLt).2.1 y
    = tok (k0_pay8 (F := Ideal) (k0_pay3 (iblk m c 5 t)) (k0_pay4 (iblk m c 6 t)) (k0_pay5 (iblk m c 0 t) (iblk m c 2 t) (iblk m c 1 t) (iblk m c 3 t) (iblk m c 4 t))
        (k0_pay6 (iblk m c 0 t) (iblk m c 2 t) (iblk m c 1 t) (iblk m c 3 t) (iblk m c 4 t))) y := by
  by_cases h : t.val = 0
  · rw [outsAt_A m c t h]; unfold outA; dsimp only; unfold runAAt runA; frame_out
    refine View.canon_apply_of_pieces (Val := Elt Ideal) (e := .f32) (tok _) _ ?_ y (strided_cover _ rfl y)
    repeat
      refine List.forall_mem_cons.2 ⟨fun q => ?_, ?_⟩
      · exact tok_piece _ _ _ _ _ _ (by decide) (by decide) (by decide) (by decide) (by decide) q
    exact fun _ h => absurd h List.not_mem_nil
  · rw [outsAt_B m c t h]; unfold outB; dsimp only; unfold runBAt runB; frame_out
    refine View.canon_apply_of_pieces (Val := Elt Ideal) (e := .f32) (tok _) _ ?_ y (strided_cover _ rfl y)
    repeat
      refine List.forall_mem_cons.2 ⟨fun q => ?_, ?_⟩
      · exact tok_piece _ _ _ _ _ _ (by decide) (by decide) (by decide) (by decide) (by decide) q
    exact fun _ h => absurd h List.not_mem_nil

/-- The reference's second result, over the kernel's argument arrays. -/
abbrev lines (ya yb : FVec Ideal S8x4096x512 .f32) (x : FVec Ideal S8x4096x1024 .f32) (w : FVec Ideal S1x1024x1024 .f32)
    (g b : FVec Ideal S1024 .f32) : FVec Ideal S262144x128 .f32 :=
  Cert.OutProjRefIdeal.Read.val_main_v30 (F := Ideal) ya yb x w g b

/-- The block index of the token tiles. -/
theorem idx12 : ∀ t : Fin cfg0.N, win0_12.index t = ![8 * (grid0.coords t 0).val + (grid0.coords t 1).val, 0] :=
  (by decide +kernel : ∀ t : Fin grid0.N, _)

/-- The second result array after the run. -/
theorem result12 (c : Dev nD) : (dats m 0 c).arrAt 12 cfg0.N
    = lines (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 12 _ (by decide +kernel) fun t _ y => ?_
  blk_simp
  rw [after12]
  refine (tiles m c t y).trans ((tile m c t _).trans ?_)
  refine Eq.trans ?_ (Cert.OutProjRefIdeal.Read.val_main_v30_apply (F := Ideal) _ _ _ _ _ _ _).symm
  idx_vars y
  have h0 : (grid0.coords t 0).val < 8 := (grid0.coords t 0).isLt
  have h1 : (grid0.coords t 1).val < 8 := (grid0.coords t 1).isLt
  have e : ((cfg0.win 12).blk t).view.emb (ix2 y0 y1)
      = ix2 (⟨4096 * (8 * (grid0.coords t 0).val + (grid0.coords t 1).val) + y0.val, by omega⟩ : Fin 262144) y1 := by
    blk_point [idx12 t]
  rw [e]
  refine congrArg (whole _ _ _ _ _ _) ?_
  blk_point [idx t]

end Cert.OutProjIdeal.Out

end

end
-- ==== Proof.OutClaims.lean ====
module

public import proofs.«01_k».proof.Defs
public import proofs.«01_k».proof.Proof.OutValue
public import proofs.«01_k».proof.Proof.OutPrintedFrame
public import Idealize.ShloMosaic.Lib.Claim

/-! # The claims of the out-projection -/

set_option maxRecDepth 16384

@[expose] public section

noncomputable section

namespace Cert.Proof.OutClaims

open Idealize.ShloMosaic Idealize.ShloMosaic.TcCoe Idealize.SL.Sem

theorem kernel_frame : Cert.quiescent_OutProj := fun m g _ => Cert.OutProj.Out.frame_main m g

theorem kernel_ideal_frame : Cert.quiescent_OutProjIdeal := fun m g _ => Cert.OutProjIdeal.Out.frame_main m g

/-- The reference runs, leaves its arguments alone, and has no semaphore to leave anything on. -/
theorem reference_frame : Cert.quiescent_OutProjRefIdeal := fun m g _ =>
  (θ_run Cert.OutProjRefIdeal.defs _ _).mono
    (fun r h => ⟨fun c => (h c).2.2, Idealize.ShloMosaic.sem_eq_zero_of_no_sems (by decide) r.2⟩)
    (Cert.OutProjRefIdeal.Value.run (F := Ideal) m g)

/-- The kernel's normed rows and their token tiles are the reference's. -/
theorem algebraic : Cert.algebraic_OutProjIdeal_OutProjRefIdeal := by
  intro m g m' g' _ hagree
  refine ⟨fun c => Cert.OutProjIdeal.Out.whole (m ((c.tc : Thread _ _).loc Cert.OutProjIdeal.main_arg0))
      (m ((c.tc : Thread _ _).loc Cert.OutProjIdeal.main_arg1)) (m ((c.tc : Thread _ _).loc Cert.OutProjIdeal.main_arg2))
      (m ((c.tc : Thread _ _).loc Cert.OutProjIdeal.main_arg3)) (m ((c.tc : Thread _ _).loc Cert.OutProjIdeal.main_arg4))
      (m ((c.tc : Thread _ _).loc Cert.OutProjIdeal.main_arg5)),
    fun c => Cert.OutProjIdeal.Out.lines (m ((c.tc : Thread _ _).loc Cert.OutProjIdeal.main_arg0))
      (m ((c.tc : Thread _ _).loc Cert.OutProjIdeal.main_arg1)) (m ((c.tc : Thread _ _).loc Cert.OutProjIdeal.main_arg2))
      (m ((c.tc : Thread _ _).loc Cert.OutProjIdeal.main_arg3)) (m ((c.tc : Thread _ _).loc Cert.OutProjIdeal.main_arg4))
      (m ((c.tc : Thread _ _).loc Cert.OutProjIdeal.main_arg5)), ?_, ?_⟩
  · exact (θ_run Cert.OutProjIdeal.defs _ _).mono
      (fun _ h c => ⟨((h.1 c).1 11).trans (Cert.OutProjIdeal.Out.result m c),
        ((h.1 c).1 12).trans (Cert.OutProjIdeal.Out.result12 m c), h.2.1 c⟩)
      (θ_run_and (Cert.OutProjIdeal.Out.run_main m g) (Cert.OutProjIdeal.Out.frame_main m g))
  · refine (θ_run Cert.OutProjRefIdeal.defs _ _).mono (fun _ h c => ⟨(h c).1.trans ?_, (h c).2.1.trans ?_, (h c).2.2⟩)
      (Cert.OutProjRefIdeal.Value.run (F := Ideal) m' g')
    · obtain ⟨e0, e1, e2, e3, e4, e5, e6, e7⟩ := hagree c
      refine (Cert.OutProjRefIdeal.Read.val_main_v29_eq (F := Ideal) m' c).trans ?_
      rw [e0, e1, e2, e3, e4, e5]
    · obtain ⟨e0, e1, e2, e3, e4, e5, e6, e7⟩ := hagree c
      refine (Cert.OutProjRefIdeal.Read.val_main_v30_eq (F := Ideal) m' c).trans ?_
      rw [e0, e1, e2, e3, e4, e5]

end Cert.Proof.OutClaims

end

end
-- ==== Proof.OutTmBody.lean ====
/-
  The time-major out-projection's body: what it leaves in its outputs at a point, as the stores it makes.
-/
module

public import proofs.«01_k».proof.Proof.Gen.OutProjTmIdeal.Skeleton
public import proofs.«01_k».proof.Proof.Gen.OutProjTmIdeal.Frame

@[expose] public section

set_option maxRecDepth 16384

noncomputable section

namespace Cert.OutProjTmIdeal.Out

open Cert.OutProjTmIdeal Cert.OutProjTmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch: the first point of the grid. -/
abbrev first (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

theorem first_iff : ∀ t : Fin cfg0.N, first (grid0.coords t) ↔ t.val = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [first, e0, e1]
    word_cmp
   : ∀ t : Fin grid0.N, first (grid0.coords t) ↔ t.val = 0)

set_option maxHeartbeats 1600000 in
/-- What the body leaves in each output at the first point, where the counts start from zero: the stores of each output, last first, and that the body runs to them. -/
noncomputable def runA (c : Dev nD) (i : grid0.Coords)
    (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S32x1024 .bf16) (harg9 : arg9.IsWhole) (arg10 : Memref sig .tc .vmem S32x1024 .bf16) (harg10 : arg10.IsWhole) (arg11 : Memref sig .tc .vmem S32x1 .f32) (harg11 : arg11.IsWhole) (arg12 : Memref sig .tc .vmem S512x512 .bf16) (harg12 : arg12.IsWhole) (arg13 : Memref sig .tc .vmem S1x512x1024 .f32) (harg13 : arg13.IsWhole) (arg14 : Memref sig .tc .vmem S4096x128 .f32) (harg14 : arg14.IsWhole) (arg15 : Memref sig .tc .vmem S16x512 .f32) (harg15 : arg15.IsWhole) (arg16 : Memref sig .tc .vmem S32x1 .f32) (harg16 : arg16.IsWhole) (hc : first i)
    (x0 : Vec F S512x512 .bf16) (x1 : Vec F S512x512 .bf16) (x2 : Vec F S512x1024 .bf16) (x3 : Vec F S512x1024 .bf16) (x4 : Vec F S1x512x1024 .f32) (x5 : Vec F S1x1024 .f32) (x6 : Vec F S1x1024 .f32) (x7 : Vec F S32x1024 .bf16) (x8 : Vec F S32x1024 .bf16) (x9 : Vec F S32x1 .f32) (x10 : Vec F S512x512 .bf16) :
    Σ' (L11 : List (View.Piece (Elt F) S1x512x1024 .f32)), Σ' (L12 : List (View.Piece (Elt F) S4096x128 .f32)),
      Σ' (L13 : List (View.Piece (Elt F) S16x512 .f32)), { L14 : List (View.Piece (Elt F) S32x1 .f32) //
      ∀ (E : Set ℕ) (K : PUnit → sProp 𝕄),
        iprop(owns (c : Thread nD τ) arg2 fullShare x0 ∗
            owns (c : Thread nD τ) arg3 fullShare x1 ∗
            owns (c : Thread nD τ) arg4 fullShare x2 ∗
            owns (c : Thread nD τ) arg5 fullShare x3 ∗
            owns (c : Thread nD τ) arg6 fullShare x4 ∗
            owns (c : Thread nD τ) arg7 fullShare x5 ∗
            owns (c : Thread nD τ) arg8 fullShare x6 ∗
            owns (c : Thread nD τ) arg9 fullShare x7 ∗
            owns (c : Thread nD τ) arg10 fullShare x8 ∗
            owns (c : Thread nD τ) arg11 fullShare x9 ∗
            owns (c : Thread nD τ) arg12 fullShare x10 ∗
            (∃ d, owns (c : Thread nD τ) arg13 fullShare d) ∗
            (∃ d, owns (c : Thread nD τ) arg14 fullShare d) ∗
            (∃ d, owns (c : Thread nD τ) arg15 fullShare d) ∗
            (∃ d, owns (c : Thread nD τ) arg16 fullShare d) ∗
            (iprop(owns (c : Thread nD τ) arg2 fullShare x0 ∗
            owns (c : Thread nD τ) arg3 fullShare x1 ∗
            owns (c : Thread nD τ) arg4 fullShare x2 ∗
            owns (c : Thread nD τ) arg5 fullShare x3 ∗
            owns (c : Thread nD τ) arg6 fullShare x4 ∗
            owns (c : Thread nD τ) arg7 fullShare x5 ∗
            owns (c : Thread nD τ) arg8 fullShare x6 ∗
            owns (c : Thread nD τ) arg9 fullShare x7 ∗
            owns (c : Thread nD τ) arg10 fullShare x8 ∗
            owns (c : Thread nD τ) arg11 fullShare x9 ∗
            owns (c : Thread nD τ) arg12 fullShare x10 ∗
            (∃ f, arg13.view.loc (c : Thread nD τ) ↦[arg13.view.set]{fullShare} arg13.view.writes (Elt F) f L11) ∗
            (∃ f, arg14.view.loc (c : Thread nD τ) ↦[arg14.view.set]{fullShare} arg14.view.writes (Elt F) f L12) ∗
            (∃ f, arg15.view.loc (c : Thread nD τ) ↦[arg15.view.set]{fullShare} arg15.view.writes (Elt F) f L13) ∗
            (∃ f, arg16.view.loc (c : Thread nD τ) ↦[arg16.view.set]{fullShare} arg16.view.writes (Elt F) f L14)) -∗ K ⟨⟩))
          ⊢ wp frame (wpE (defs₀ (F := F)) Variants.none c none) E (cc0_out_proj_ln_router i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_out_proj_ln_router_eq_skeleton]; unfold cc0_out_proj_ln_router_skel
    simp only [k0_part1_eq_skeleton, k0_part2_eq_skeleton, k0_part3_eq_skeleton, k0_part4_eq_skeleton, k0_part5_eq_skeleton,
      k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    iexists _; iexact H14

set_option maxHeartbeats 1600000 in
/-- The same at a later point, where the counts go on from `n`. -/
noncomputable def runB (c : Dev nD) (i : grid0.Coords)
    (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S32x1024 .bf16) (harg9 : arg9.IsWhole) (arg10 : Memref sig .tc .vmem S32x1024 .bf16) (harg10 : arg10.IsWhole) (arg11 : Memref sig .tc .vmem S32x1 .f32) (harg11 : arg11.IsWhole) (arg12 : Memref sig .tc .vmem S512x512 .bf16) (harg12 : arg12.IsWhole) (arg13 : Memref sig .tc .vmem S1x512x1024 .f32) (harg13 : arg13.IsWhole) (arg14 : Memref sig .tc .vmem S4096x128 .f32) (harg14 : arg14.IsWhole) (arg15 : Memref sig .tc .vmem S16x512 .f32) (harg15 : arg15.IsWhole) (arg16 : Memref sig .tc .vmem S32x1 .f32) (harg16 : arg16.IsWhole) (hc : ¬first i)
    (x0 : Vec F S512x512 .bf16) (x1 : Vec F S512x512 .bf16) (x2 : Vec F S512x1024 .bf16) (x3 : Vec F S512x1024 .bf16) (x4 : Vec F S1x512x1024 .f32) (x5 : Vec F S1x1024 .f32) (x6 : Vec F S1x1024 .f32) (x7 : Vec F S32x1024 .bf16) (x8 : Vec F S32x1024 .bf16) (x9 : Vec F S32x1 .f32) (x10 : Vec F S512x512 .bf16) (n : Vec F S32x1 .f32) :
    Σ' (L11 : List (View.Piece (Elt F) S1x512x1024 .f32)), Σ' (L12 : List (View.Piece (Elt F) S4096x128 .f32)),
      Σ' (L13 : List (View.Piece (Elt F) S16x512 .f32)), { L14 : List (View.Piece (Elt F) S32x1 .f32) //
      ∀ (E : Set ℕ) (K : PUnit → sProp 𝕄),
        iprop(owns (c : Thread nD τ) arg2 fullShare x0 ∗
            owns (c : Thread nD τ) arg3 fullShare x1 ∗
            owns (c : Thread nD τ) arg4 fullShare x2 ∗
            owns (c : Thread nD τ) arg5 fullShare x3 ∗
            owns (c : Thread nD τ) arg6 fullShare x4 ∗
            owns (c : Thread nD τ) arg7 fullShare x5 ∗
            owns (c : Thread nD τ) arg8 fullShare x6 ∗
            owns (c : Thread nD τ) arg9 fullShare x7 ∗
            owns (c : Thread nD τ) arg10 fullShare x8 ∗
            owns (c : Thread nD τ) arg11 fullShare x9 ∗
            owns (c : Thread nD τ) arg12 fullShare x10 ∗
            (∃ d, owns (c : Thread nD τ) arg13 fullShare d) ∗
            (∃ d, owns (c : Thread nD τ) arg14 fullShare d) ∗
            (∃ d, owns (c : Thread nD τ) arg15 fullShare d) ∗
            owns (c : Thread nD τ) arg16 fullShare n ∗
            (iprop(owns (c : Thread nD τ) arg2 fullShare x0 ∗
            owns (c : Thread nD τ) arg3 fullShare x1 ∗
            owns (c : Thread nD τ) arg4 fullShare x2 ∗
            owns (c : Thread nD τ) arg5 fullShare x3 ∗
            owns (c : Thread nD τ) arg6 fullShare x4 ∗
            owns (c : Thread nD τ) arg7 fullShare x5 ∗
            owns (c : Thread nD τ) arg8 fullShare x6 ∗
            owns (c : Thread nD τ) arg9 fullShare x7 ∗
            owns (c : Thread nD τ) arg10 fullShare x8 ∗
            owns (c : Thread nD τ) arg11 fullShare x9 ∗
            owns (c : Thread nD τ) arg12 fullShare x10 ∗
            (∃ f, arg13.view.loc (c : Thread nD τ) ↦[arg13.view.set]{fullShare} arg13.view.writes (Elt F) f L11) ∗
            (∃ f, arg14.view.loc (c : Thread nD τ) ↦[arg14.view.set]{fullShare} arg14.view.writes (Elt F) f L12) ∗
            (∃ f, arg15.view.loc (c : Thread nD τ) ↦[arg15.view.set]{fullShare} arg15.view.writes (Elt F) f L13) ∗
            (∃ f, arg16.view.loc (c : Thread nD τ) ↦[arg16.view.set]{fullShare} arg16.view.writes (Elt F) f L14)) -∗ K ⟨⟩))
          ⊢ wp frame (wpE (defs₀ (F := F)) Variants.none c none) E (cc0_out_proj_ln_router i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_out_proj_ln_router_eq_skeleton]; unfold cc0_out_proj_ln_router_skel
    simp only [k0_part1_eq_skeleton, k0_part2_eq_skeleton, k0_part3_eq_skeleton, k0_part4_eq_skeleton, k0_part5_eq_skeleton,
      k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg16.eq_unread hf14
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    iexists _; iexact H14

end Cert.OutProjTmIdeal.Out

end

end
-- ==== Proof.OutTmFrame.lean ====
/-
  The time-major out-projection's run: what every output holds after every point, the body's obligation, and the frame.
-/
module

public import proofs.«01_k».proof.Proof.OutTmBody
public import Idealize.ShloMosaic.Lib.Claim

@[expose] public section

set_option maxRecDepth 16384

noncomputable section

namespace Cert.OutProjTmIdeal.Out

open Cert.OutProjTmIdeal Cert.OutProjTmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs' contents are stated through one buffer of each; which does not matter. -/
abbrev VO11 : View sig .tc .vmem S1x512x1024 .f32 := (Memref.whole cc0_stg11_0 : Memref sig .tc .vmem S1x512x1024 .f32).view
abbrev VO12 : View sig .tc .vmem S4096x128 .f32 := (Memref.whole cc0_stg12_0 : Memref sig .tc .vmem S4096x128 .f32).view
abbrev VO13 : View sig .tc .vmem S16x512 .f32 := (Memref.whole cc0_stg13_0 : Memref sig .tc .vmem S16x512 .f32).view
abbrev VO14 : View sig .tc .vmem S32x1 .f32 := (Memref.whole cc0_stg14_0 : Memref sig .tc .vmem S32x1 .f32).view

/-- The body's run at point `t`, on the staged blocks: the first point, -/
abbrev runAAt (c : Dev nD) (t : Fin cfg0.N) (h : first (grid0.coords t)) :=
  runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11))
    (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) h
    (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- and a later one, over the counts `n`. -/
abbrev runBAt (c : Dev nD) (t : Fin cfg0.N) (h : ¬first (grid0.coords t)) (n : Vec F S32x1 .f32) :=
  runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11))
    (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) h
    (iblk m c 0 t) (iblk m c 1 t) (iblk m c 2 t) (iblk m c 3 t) (iblk m c 4 t) (iblk m c 5 t) (iblk m c 6 t) (iblk m c 7 t) (iblk m c 8 t) (iblk m c 9 t) (iblk m c 10 t) n

/-- Eight stores with a row stride of 8, one from each of the first eight rows, leave no row out. -/
theorem strided_cover (L : List (View.Piece (Elt F) S4096x128 .f32))
    (h : L.map (fun p => (p.1.off 0, p.1.off 1, p.1.size 0, p.1.size 1, p.1.stride 0, p.1.stride 1))
      = [(7, 0, 512, 128, 8, 1), (6, 0, 512, 128, 8, 1), (5, 0, 512, 128, 8, 1), (4, 0, 512, 128, 8, 1),
        (3, 0, 512, 128, 8, 1), (2, 0, 512, 128, 8, 1), (1, 0, 512, 128, 8, 1), (0, 0, 512, 128, 8, 1)])
    (y : S4096x128.Idx) : ∃ p ∈ L, y ∈ p.1.set := by
  have h0 : (y 0).val < 4096 := (y 0).isLt
  have h1 : (y 1).val < 128 := (y 1).isLt
  have hm : ((y 0).val % 8, 0, 512, 128, 8, 1) ∈ L.map (fun p => (p.1.off 0, p.1.off 1, p.1.size 0, p.1.size 1, p.1.stride 0, p.1.stride 1)) := by
    rw [h]
    exact (by decide : ∀ j : Fin 8, (j.val, 0, 512, 128, 8, 1) ∈ [(7, 0, 512, 128, 8, 1), (6, 0, 512, 128, 8, 1), (5, 0, 512, 128, 8, 1),
      (4, 0, 512, 128, 8, 1), (3, 0, 512, 128, 8, 1), (2, 0, 512, 128, 8, 1), (1, 0, 512, 128, 8, 1), (0, 0, 512, 128, 8, 1)])
      ⟨(y 0).val % 8, by omega⟩
  obtain ⟨p, hp, e⟩ := List.mem_map.1 hm
  simp only [Prod.mk.injEq] at e
  obtain ⟨e0, e1, e2, e3, e4, e5⟩ := e
  refine ⟨p, hp, ?_⟩
  rw [LoadRect.mem_set]
  intro a
  match a with
  | ⟨0, _⟩ => exact ⟨(y 0).val / 8, show (y 0).val / 8 < p.1.size 0 by omega, show (y 0).val = p.1.off 0 + p.1.stride 0 * ((y 0).val / 8) by rw [e0, e4]; omega⟩
  | ⟨1, _⟩ => exact ⟨(y 1).val, show (y 1).val < p.1.size 1 by omega, show (y 1).val = p.1.off 1 + p.1.stride 1 * (y 1).val by rw [e1, e5]; omega⟩

theorem coverA11 (c : Dev nD) (t : Fin cfg0.N) (h : first (grid0.coords t)) (y : S1x512x1024.Idx) : ∃ p ∈ (runAAt m c t h).1, y ∈ p.1.set :=
  View.cover_of_tiledL (runAAt m c t h).1 S1x512x1024.size (by sl_kernel_rfl) y

theorem coverA12 (c : Dev nD) (t : Fin cfg0.N) (h : first (grid0.coords t)) (y : S4096x128.Idx) : ∃ p ∈ (runAAt m c t h).2.1, y ∈ p.1.set :=
  strided_cover _ (by sl_kernel_rfl) y

theorem coverA13 (c : Dev nD) (t : Fin cfg0.N) (h : first (grid0.coords t)) (y : S16x512.Idx) : ∃ p ∈ (runAAt m c t h).2.2.1, y ∈ p.1.set :=
  View.cover_of_tiledL (runAAt m c t h).2.2.1 S16x512.size (by sl_kernel_rfl) y

theorem coverA14 (c : Dev nD) (t : Fin cfg0.N) (h : first (grid0.coords t)) (y : S32x1.Idx) : ∃ p ∈ (runAAt m c t h).2.2.2.1, y ∈ p.1.set :=
  View.cover_of_tiledL (runAAt m c t h).2.2.2.1 S32x1.size (by sl_kernel_rfl) y

theorem coverB11 (c : Dev nD) (t : Fin cfg0.N) (h : ¬first (grid0.coords t)) (n : Vec F S32x1 .f32) (y : S1x512x1024.Idx) : ∃ p ∈ (runBAt m c t h n).1, y ∈ p.1.set :=
  View.cover_of_tiledL (runBAt m c t h n).1 S1x512x1024.size (by sl_kernel_rfl) y

theorem coverB12 (c : Dev nD) (t : Fin cfg0.N) (h : ¬first (grid0.coords t)) (n : Vec F S32x1 .f32) (y : S4096x128.Idx) : ∃ p ∈ (runBAt m c t h n).2.1, y ∈ p.1.set :=
  strided_cover _ (by sl_kernel_rfl) y

theorem coverB13 (c : Dev nD) (t : Fin cfg0.N) (h : ¬first (grid0.coords t)) (n : Vec F S32x1 .f32) (y : S16x512.Idx) : ∃ p ∈ (runBAt m c t h n).2.2.1, y ∈ p.1.set :=
  View.cover_of_tiledL (runBAt m c t h n).2.2.1 S16x512.size (by sl_kernel_rfl) y

theorem coverB14 (c : Dev nD) (t : Fin cfg0.N) (h : ¬first (grid0.coords t)) (n : Vec F S32x1 .f32) (y : S32x1.Idx) : ∃ p ∈ (runBAt m c t h n).2.2.2.1, y ∈ p.1.set :=
  View.cover_of_tiledL (runBAt m c t h n).2.2.2.1 S32x1.size (by sl_kernel_rfl) y

/-- The four outputs' blocks: the normed rows, the rows as tiles, the routes, the counts. -/
abbrev Outs (F : FTy → Type) [FloatOps F] := Vec F S1x512x1024 .f32 × Vec F S4096x128 .f32 × Vec F S16x512 .f32 × Vec F S32x1 .f32

def outA (c : Dev nD) (t : Fin cfg0.N) (h : first (grid0.coords t)) : Outs F :=
  ⟨VO11.read (Elt F) (VO11.writes (Elt F) VO11.junk (runAAt m c t h).1),
    VO12.read (Elt F) (VO12.writes (Elt F) VO12.junk (runAAt m c t h).2.1),
    VO13.read (Elt F) (VO13.writes (Elt F) VO13.junk (runAAt m c t h).2.2.1),
    VO14.read (Elt F) (VO14.writes (Elt F) VO14.junk (runAAt m c t h).2.2.2.1)⟩

def outB (c : Dev nD) (t : Fin cfg0.N) (h : ¬first (grid0.coords t)) (n : Vec F S32x1 .f32) : Outs F :=
  ⟨VO11.read (Elt F) (VO11.writes (Elt F) VO11.junk (runBAt m c t h n).1),
    VO12.read (Elt F) (VO12.writes (Elt F) VO12.junk (runBAt m c t h n).2.1),
    VO13.read (Elt F) (VO13.writes (Elt F) VO13.junk (runBAt m c t h n).2.2.1),
    VO14.read (Elt F) (VO14.writes (Elt F) VO14.junk (runBAt m c t h n).2.2.2.1)⟩

/-- What the outputs hold after each point, the counts going on from the point before. -/
def outsAt (c : Dev nD) : (n : ℕ) → n < cfg0.N → Outs F
  | 0, hn => outA m c ⟨0, hn⟩ ((first_iff ⟨0, hn⟩).mpr rfl)
  | n + 1, hn => outB m c ⟨n + 1, hn⟩ (fun h => absurd ((first_iff ⟨n + 1, hn⟩).mp h) (Nat.succ_ne_zero n))
      (outsAt c n (Nat.lt_of_succ_lt hn)).2.2.2

theorem outsAt_A (c : Dev nD) (t : Fin cfg0.N) (h : t.val = 0) :
    outsAt m c t.val t.isLt = outA m c t ((first_iff t).mpr h) := by
  obtain ⟨n, hn⟩ := t
  cases n with
  | zero => rfl
  | succ n => exact absurd h (Nat.succ_ne_zero n)

theorem outsAt_B (c : Dev nD) (t : Fin cfg0.N) (h : ¬t.val = 0) :
    outsAt m c t.val t.isLt = outB m c t (fun h' => h ((first_iff t).mp h'))
      (outsAt m c (t.val - 1) (Nat.lt_of_le_of_lt (Nat.sub_le _ _) t.isLt)).2.2.2 := by
  obtain ⟨n, hn⟩ := t
  cases n with
  | zero => exact absurd rfl h
  | succ n => rfl

/-- The pipeline's data: the inputs' blocks stay, the outputs hold `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt m c t.val t.isLt).1
    | ⟨12, _⟩ => (outsAt m c t.val t.isLt).2.1
    | ⟨13, _⟩ => (outsAt m c t.val t.isLt).2.2.1
    | ⟨14, _⟩ => (outsAt m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = (outsAt m c t.val t.isLt).1 := by dsimp only [dats]
theorem after12 (c : Dev nD) (t : Fin cfg0.N) : (dats m 0 c).after 12 t = (outsAt m c t.val t.isLt).2.1 := by dsimp only [dats]
theorem after13 (c : Dev nD) (t : Fin cfg0.N) : (dats m 0 c).after 13 t = (outsAt m c t.val t.isLt).2.2.1 := by dsimp only [dats]
theorem after14 (c : Dev nD) (t : Fin cfg0.N) : (dats m 0 c).after 14 t = (outsAt m c t.val t.isLt).2.2.2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-- After the first point the counts' buffer holds what the point before left. -/
theorem before14 (c : Dev nD) (t : Fin cfg0.N) (h0 : ¬t.val = 0) (d) :
    (dats m 0 c).before 14 t d = (outsAt m c (t.val - 1) (Nat.lt_of_le_of_lt (Nat.sub_le _ _) t.isLt)).2.2.2 := by
  have hN : t.val < 64 := lt_of_lt_of_eq t.isLt (show cfg0.N = 64 from N_0)
  rw [Dat.before_out_kept _ 14 rfl t (by omega) (Bool.eq_false_iff.mpr fun h => by have := (flush0_14 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14]
  by_cases h0 : t.val = 0
  · rw [outsAt_A m c t h0]
    unfold outA; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runAAt m c t ((first_iff t).mpr h0)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, H10, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (coverA11 m c t _)
    isplitl [H12]
    · unfold owns; iexists _; isplitr
      swap; · iexact H12
      ipureintro; exact View.read_writes_of_cover _ _ _ _ _ (coverA12 m c t _)
    isplitl [H13]
    · unfold owns; iexists _; isplitr
      swap; · iexact H13
      ipureintro; exact View.read_writes_of_cover _ _ _ _ _ (coverA13 m c t _)
    unfold owns; iexists _; isplitr
    swap; · iexact H14
    ipureintro; exact View.read_writes_of_cover _ _ _ _ _ (coverA14 m c t _)
  · rw [outsAt_B m c t h0]
    simp only [before14 m c t h0]
    unfold outB; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runBAt m c t (fun h => h0 ((first_iff t).mp h)) _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexact H14
    iintro ⟨H0, H1, H2, H3, H4, H5, H6, H7, H8, H9, H10, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (coverB11 m c t _ _)
    isplitl [H12]
    · unfold owns; iexists _; isplitr
      swap; · iexact H12
      ipureintro; exact View.read_writes_of_cover _ _ _ _ _ (coverB12 m c t _ _)
    isplitl [H13]
    · unfold owns; iexists _; isplitr
      swap; · iexact H13
      ipureintro; exact View.read_writes_of_cover _ _ _ _ _ (coverB13 m c t _ _)
    unfold owns; iexists _; isplitr
    swap; · iexact H14
    ipureintro; exact View.read_writes_of_cover _ _ _ _ _ (coverB14 m c t _ _)

/-- The body table's row at point `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run, every semaphore at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.OutProjTmIdeal.Out

end

end
-- ==== Proof.OutTmValue.lean ====
module

public import proofs.«01_k».proof.Proof.OutTmFrame
public import proofs.«01_k».proof.Proof.Gen.OutProjTmRefIdeal.Run
public import proofs.«01_k».proof.Proof.Gen.OutProjTmRefIdeal.Read
public import Idealize.ShloMosaic.Lib.Pipeline.ValueKit

/-! # The time-major out-projection: the normed rows and their token tiles are the reference's -/

set_option maxRecDepth 16384

@[expose] public section

noncomputable section

open Idealize.ShloMosaic Idealize.ShloMosaic.TcCoe Idealize.SL.Sem
open Idealize.ShloMosaic.Pipeline (Dat)

namespace Cert.OutProjTmIdeal.Out

open Cert.OutProjTmIdeal Cert.OutProjTmIdeal.Gen

variable (m : (ℓ : Loc nD τ sig) → Buf (Elt Ideal) ℓ)

/-- The mean of a row. -/
def mean (z : Fin 1024 → EReal) : EReal := Ideal.div (∑ k, z k) (Ideal.ofBits .f32 0x44800000#32)

/-- One element of the layer norm of a row `z`, with gain `g` and bias `b`. -/
def norm (z : Fin 1024 → EReal) (g b : EReal) (d : Fin 1024) : EReal :=
  (z d - mean z) * Ideal.rsqrt (mean (fun k => (z k - mean z) * (z k - mean z)) + Ideal.ofBits .f32 0x3727C5AC#32) * g + b

/-- An element of the row before the norm: the scaled input and the two halves of the product. -/
def pre (x : EReal) (ya yb wa wb : Fin 512 → EReal) : EReal :=
  Ideal.ofBits .f32 0x3FB504F3#32 * x + ((∑ k, ya k * wa k) + ∑ k, yb k * wb k)

/-- What the body stores of the normed rows. -/
theorem pay_at (x0 x1 : FVec Ideal S512x512 .bf16) (x2 x3 : FVec Ideal S512x1024 .bf16) (x4 : FVec Ideal S1x512x1024 .f32)
    (x5 x6 : FVec Ideal S1x1024 .f32) (u : Fin 1) (r : Fin 512) (d : Fin 1024) :
    k0_pay8 (F := Ideal) (k0_pay3 x5) (k0_pay4 x6) (k0_pay5 x0 x2 x1 x3 x4) (k0_pay6 x0 x2 x1 x3 x4) (ix3 u r d)
      = norm (fun d => pre (x4 (ix3 0 r d)) (fun k => x0 (ix2 r k)) (fun k => x1 (ix2 r k)) (fun k => x2 (ix2 k d)) (fun k => x3 (ix2 k d)))
        (x5 (ix2 0 d)) (x6 (ix2 0 d)) d := by
  unfold norm mean pre
  pointwise [k0_pay8, k0_pay7, k0_pay6, k0_pay5, k0_pay4, k0_pay3]

/-- The reference's result, over the kernel's argument arrays. -/
abbrev whole (ya yb : FVec Ideal S4096x8x512 .f32) (x : FVec Ideal S8x4096x1024 .f32) (w : FVec Ideal S1x1024x1024 .f32)
    (g b : FVec Ideal S1024 .f32) : FVec Ideal S8x4096x1024 .f32 :=
  Cert.OutProjTmRefIdeal.Read.val_main_v30 (F := Ideal) ya yb x w g b

/-- The product with the two branches side by side is the sum of the two branches' products. -/
theorem prod_at (ya yb : FVec Ideal S4096x8x512 .f32) (w : FVec Ideal S1x1024x1024 .f32) (p : Fin 8) (s : Fin 4096) (d : Fin 1024) :
    Cert.OutProjTmRefIdeal.Read.val_main_v5 (F := Ideal) ya yb w (ix3 p s d)
      = (∑ k : Fin 512, ya (ix3 s p k) * w (ix3 0 ⟨k.val, by omega⟩ d)) + ∑ k : Fin 512, yb (ix3 s p k) * w (ix3 0 ⟨512 + k.val, by omega⟩ d) := by
  rw [Cert.OutProjTmRefIdeal.Read.val_main_v5_apply]
  refine (Fin.sum_univ_add (a := 512) (b := 512) _).trans (congrArg₂ (· + ·) ?_ ?_)
  · refine Finset.sum_congr rfl fun k _ => congrArg₂ (· * ·) ?_ ?_
    · pointwise [Cert.OutProjTmRefIdeal.Read.val_main_v3, Cert.OutProjTmRefIdeal.Read.val_main_v2]
      exact dif_pos k.isLt
    · pointwise [Cert.OutProjTmRefIdeal.Read.val_main_v4]
      rfl
  · refine Finset.sum_congr rfl fun k _ => congrArg₂ (· * ·) ?_ ?_
    · pointwise [Cert.OutProjTmRefIdeal.Read.val_main_v3, Cert.OutProjTmRefIdeal.Read.val_main_v2]
      refine (dif_neg (Nat.not_lt.2 (Nat.le_add_right 512 k.val))).trans (congrArg (fun j => yb (ix3 s p j)) (Fin.ext ?_))
      show 512 + k.val - 512 = k.val
      omega
    · pointwise [Cert.OutProjTmRefIdeal.Read.val_main_v4]
      rfl

theorem whole_at (ya yb : FVec Ideal S4096x8x512 .f32) (x : FVec Ideal S8x4096x1024 .f32) (w : FVec Ideal S1x1024x1024 .f32)
    (g b : FVec Ideal S1024 .f32) (p : Fin 8) (s : Fin 4096) (d : Fin 1024) :
    whole ya yb x w g b (ix3 p s d) = norm (fun d => pre (x (ix3 p s d)) (fun k => ya (ix3 s p k)) (fun k => yb (ix3 s p k))
      (fun k => w (ix3 0 ⟨k.val, by omega⟩ d)) (fun k => w (ix3 0 ⟨512 + k.val, by omega⟩ d))) (g (ix1 d)) (b (ix1 d)) d := by
  unfold norm mean pre
  simp only [← prod_at]
  unfold whole
  open Cert.OutProjTmRefIdeal.Read in
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v10, val_main_v9, val_main_v8, val_main_v7, val_main_v6, val_main_v1, val_main_v0, val_main_cst,
    val_main_cst_0, val_main_cst_1, val_main_cst_2, val_main_cst_3, val_main_cst_4]

/-- The block indices of the windows: batch and row tile, row tile and batch, or the whole array. -/
theorem idx : ∀ t : Fin cfg0.N, win0_0.index t = ![(grid0.coords t 1).val, (grid0.coords t 0).val]
    ∧ win0_1.index t = ![(grid0.coords t 1).val, (grid0.coords t 0).val] ∧ win0_2.index t = ![0, 0] ∧ win0_3.index t = ![0, 0]
    ∧ win0_4.index t = ![(grid0.coords t 0).val, (grid0.coords t 1).val, 0] ∧ win0_5.index t = ![0, 0] ∧ win0_6.index t = ![0, 0]
    ∧ win0_11.index t = ![(grid0.coords t 0).val, (grid0.coords t 1).val, 0] :=
  (by decide +kernel : ∀ t : Fin grid0.N, _)

theorem V_v4 (c : Dev nD) : V m c main_v4 = extractStridedSlice S512x1024 ![0, 0]
    (truncf (F := Ideal) .bf16 (shapeCast S1024x1024 (m ((c : Thread nD τ).loc main_arg3)) shapeCasts_S1x1024x1024_S1024x1024) bitsLt_bf16_f32)
    slices_S1024x1024_S512x1024_0_0 := rfl

theorem V_v5 (c : Dev nD) : V m c main_v5 = extractStridedSlice S512x1024 ![512, 0]
    (truncf (F := Ideal) .bf16 (shapeCast S1024x1024 (m ((c : Thread nD τ).loc main_arg3)) shapeCasts_S1x1024x1024_S1024x1024) bitsLt_bf16_f32)
    slices_S1024x1024_S512x1024_512_0 := rfl

theorem V_v15 (c : Dev nD) : V m c main_v15 = shapeCast S1x1024 (m ((c : Thread nD τ).loc main_arg4)) shapeCasts_S1024_S1x1024 := rfl

theorem V_v16 (c : Dev nD) : V m c main_v16 = shapeCast S1x1024 (m ((c : Thread nD τ).loc main_arg5)) shapeCasts_S1024_S1x1024 := rfl

/-- The halves of the weights, read at an element. -/
theorem half_a (w : FVec Ideal S1x1024x1024 .f32) (k : Fin 512) (d : Fin 1024) :
    extractStridedSlice S512x1024 ![0, 0] (truncf (F := Ideal) .bf16 (shapeCast S1024x1024 w shapeCasts_S1x1024x1024_S1024x1024) bitsLt_bf16_f32)
      slices_S1024x1024_S512x1024_0_0 (ix2 k d) = w (ix3 0 ⟨k.val, by omega⟩ d) := by
  pointwise []

theorem half_b (w : FVec Ideal S1x1024x1024 .f32) (k : Fin 512) (d : Fin 1024) :
    extractStridedSlice S512x1024 ![512, 0] (truncf (F := Ideal) .bf16 (shapeCast S1024x1024 w shapeCasts_S1x1024x1024_S1024x1024) bitsLt_bf16_f32)
      slices_S1024x1024_S512x1024_512_0 (ix2 k d) = w (ix3 0 ⟨512 + k.val, by omega⟩ d) := by
  pointwise []

theorem wa_at (c : Dev nD) (t : Fin cfg0.N) (k : Fin 512) (d : Fin 1024) :
    (iblk m c 2 t (ix2 k d) : EReal) = m ((c : Thread nD τ).loc main_arg3) (ix3 (0 : Fin 1) (⟨k.val, by omega⟩ : Fin 1024) d) := by
  have e : ((cfg0.win 2).blk t).view.emb (ix2 k d) = ix2 k d := by blk_point [idx t]
  exact (congrArg (V m c main_v4) e).trans ((congrFun (V_v4 m c) _).trans (half_a _ k d))

theorem wb_at (c : Dev nD) (t : Fin cfg0.N) (k : Fin 512) (d : Fin 1024) :
    (iblk m c 3 t (ix2 k d) : EReal) = m ((c : Thread nD τ).loc main_arg3) (ix3 (0 : Fin 1) (⟨512 + k.val, by omega⟩ : Fin 1024) d) := by
  have e : ((cfg0.win 3).blk t).view.emb (ix2 k d) = ix2 k d := by blk_point [idx t]
  exact (congrArg (V m c main_v5) e).trans ((congrFun (V_v5 m c) _).trans (half_b _ k d))

theorem g_at (c : Dev nD) (t : Fin cfg0.N) (d : Fin 1024) :
    (iblk m c 5 t : FVec Ideal S1x1024 .f32) (ix2 0 d) = m ((c : Thread nD τ).loc main_arg4) (ix1 d) := by
  have e : ((cfg0.win 5).blk t).view.emb (ix2 (0 : Fin 1) d) = ix2 (0 : Fin 1) d := by blk_point [idx t]
  show V m c main_v15 (((cfg0.win 5).blk t).view.emb (ix2 (0 : Fin 1) d)) = _
  rw [e, V_v15]
  generalize m ((c : Thread nD τ).loc main_arg4) = w
  pointwise []

theorem b_at (c : Dev nD) (t : Fin cfg0.N) (d : Fin 1024) :
    (iblk m c 6 t : FVec Ideal S1x1024 .f32) (ix2 0 d) = m ((c : Thread nD τ).loc main_arg5) (ix1 d) := by
  have e : ((cfg0.win 6).blk t).view.emb (ix2 (0 : Fin 1) d) = ix2 (0 : Fin 1) d := by blk_point [idx t]
  show V m c main_v16 (((cfg0.win 6).blk t).view.emb (ix2 (0 : Fin 1) d)) = _
  rw [e, V_v16]
  generalize m ((c : Thread nD τ).loc main_arg5) = w
  pointwise []

theorem V_v13 (c : Dev nD) : V m c main_v13 = shapeCast S4096x4096
    (truncf (F := Ideal) .bf16 (m ((c : Thread nD τ).loc main_arg0) : FVec Ideal S4096x8x512 .f32) bitsLt_bf16_f32) shapeCasts_S4096x8x512_S4096x4096 := rfl

theorem V_v14 (c : Dev nD) : V m c main_v14 = shapeCast S4096x4096
    (truncf (F := Ideal) .bf16 (m ((c : Thread nD τ).loc main_arg1) : FVec Ideal S4096x8x512 .f32) bitsLt_bf16_f32) shapeCasts_S4096x8x512_S4096x4096 := rfl

/-- A branch's rows side by side, read at an element. -/
theorem flat_at (y : FVec Ideal S4096x8x512 .f32) (s : Fin 4096) (p : Fin 8) (k : Fin 512) :
    shapeCast S4096x4096 (truncf (F := Ideal) .bf16 y bitsLt_bf16_f32) shapeCasts_S4096x8x512_S4096x4096
      (ix2 s (⟨512 * p.val + k.val, by omega⟩ : Fin 4096)) = y (ix3 s p k) := by
  pointwise []

theorem ya_at (c : Dev nD) (t : Fin cfg0.N) (p : Fin 8) (s : Fin 4096) (r k : Fin 512) (hp : (grid0.coords t 0).val = p.val)
    (hs : 512 * (grid0.coords t 1).val + r.val = s.val) :
    (iblk m c 0 t (ix2 r k) : EReal) = m ((c : Thread nD τ).loc main_arg0) (ix3 s p k) := by
  have e : ((cfg0.win 0).blk t).view.emb (ix2 r k) = ix2 s (⟨512 * p.val + k.val, by omega⟩ : Fin 4096) := by blk_point [idx t]
  exact (congrArg (V m c main_v13) e).trans ((congrFun (V_v13 m c) _).trans (flat_at _ s p k))

theorem yb_at (c : Dev nD) (t : Fin cfg0.N) (p : Fin 8) (s : Fin 4096) (r k : Fin 512) (hp : (grid0.coords t 0).val = p.val)
    (hs : 512 * (grid0.coords t 1).val + r.val = s.val) :
    (iblk m c 1 t (ix2 r k) : EReal) = m ((c : Thread nD τ).loc main_arg1) (ix3 s p k) := by
  have e : ((cfg0.win 1).blk t).view.emb (ix2 r k) = ix2 s (⟨512 * p.val + k.val, by omega⟩ : Fin 4096) := by blk_point [idx t]
  exact (congrArg (V m c main_v14) e).trans ((congrFun (V_v14 m c) _).trans (flat_at _ s p k))

/-- A place of a block holds the reference's value at the place's index. -/
theorem tile (c : Dev nD) (t : Fin cfg0.N) (y : S1x512x1024.Idx) :
    k0_pay8 (F := Ideal) (k0_pay3 (iblk m c 5 t)) (k0_pay4 (iblk m c 6 t)) (k0_pay5 (iblk m c 0 t) (iblk m c 2 t) (iblk m c 1 t) (iblk m c 3 t) (iblk m c 4 t))
        (k0_pay6 (iblk m c 0 t) (iblk m c 2 t) (iblk m c 1 t) (iblk m c 3 t) (iblk m c 4 t)) y
      = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 11).blk t).view.emb y) := by
  idx_vars y
  have h0 : (grid0.coords t 0).val < 8 := (grid0.coords t 0).isLt
  have h1 : (grid0.coords t 1).val < 8 := (grid0.coords t 1).isLt
  have e : ((cfg0.win 11).blk t).view.emb (ix3 y0 y1 y2) = ix3 (⟨(grid0.coords t 0).val, h0⟩ : Fin 8) (⟨512 * (grid0.coords t 1).val + y1.val, by omega⟩ : Fin 4096) y2 := by
    blk_point [idx t]
  rw [pay_at, e, whole_at]
  congr 1
  · funext d
    congr 1
    · blk_point [iblk, V, idx t]
    · funext k; exact ya_at m c t _ _ y1 k rfl rfl
    · funext k; exact yb_at m c t _ _ y1 k rfl rfl
    · funext k; exact wa_at m c t k d
    · funext k; exact wb_at m c t k d
  · exact g_at m c t y2
  · exact b_at m c t y2

/-- The normed rows after any point are the body's payload. -/
theorem rows (c : Dev nD) (t : Fin cfg0.N) (y : S1x512x1024.Idx) : (outsAt m c t.val t.isLt).1 y
    = k0_pay8 (F := Ideal) (k0_pay3 (iblk m c 5 t)) (k0_pay4 (iblk m c 6 t)) (k0_pay5 (iblk m c 0 t) (iblk m c 2 t) (iblk m c 1 t) (iblk m c 3 t) (iblk m c 4 t))
        (k0_pay6 (iblk m c 0 t) (iblk m c 2 t) (iblk m c 1 t) (iblk m c 3 t) (iblk m c 4 t)) y := by
  by_cases h : t.val = 0
  · rw [outsAt_A m c t h]; unfold outA; dsimp only; unfold runAAt runA; frame_out
  · rw [outsAt_B m c t h]; unfold outB; dsimp only; unfold runBAt runB; frame_out

/-- The result array after the run. -/
theorem result (c : Dev nD) : (dats m 0 c).arrAt 11 cfg0.N
    = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 11 _ (by decide +kernel) fun t _ y => ?_
  blk_simp
  rw [after11]
  exact (rows m c t y).trans (tile m c t y)

/-- A block of rows as token tiles: eight lines of 128 lanes for each row. -/
def tok (v : FVec Ideal S1x512x1024 .f32) : FVec Ideal S4096x128 .f32 := fun z =>
  v (ix3 (0 : Fin 1) (⟨(z 0).val / 8, by have h : (z 0).val < 4096 := (z 0).isLt; omega⟩ : Fin 512)
    (⟨(z 0).val % 8 * 128 + (z 1).val, by have h : (z 1).val < 128 := (z 1).isLt; omega⟩ : Fin 1024))

/-- A store of the columns of one line of every token agrees with the tiles. -/
theorem tok_piece (a b : FVec Ideal S1x1024 .f32) (z : FVec Ideal S512x1024 .f32) (u : FVec Ideal S512 .f32) (j o : ℕ)
    (hs : S512x1024.Slices ![0, o] S512x128) (inb) (pos) (hj : j < 8) (ho : o = j * 128) (q : S512x128.Idx) :
    extractStridedSlice S512x128 ![0, o] (k0_pay7 (F := Ideal) a b z u) hs q
      = tok (k0_pay8 (F := Ideal) a b z u) (({ off := ![j, 0], size := ![512, 128], stride := ![8, 1], inb := inb, stride_pos := pos }
          : Rect S4096x128).emb q) := by
  subst ho
  idx_vars q
  unfold tok k0_pay8
  generalize k0_pay7 (F := Ideal) a b z u = w
  pointwise []
  refine congrArg₂ (fun r d => w (ix2 r d)) (Fin.ext ?_) (Fin.ext ?_)
  · show q0.val = (j + 8 * q0.val) / 8; omega
  · show j * 128 + q1.val = (j + 8 * q0.val) % 8 * 128 + (0 + 1 * q1.val); omega

/-- The token tiles after any point are the payload's. -/
theorem tiles (c : Dev nD) (t : Fin cfg0.N) (y : S4096x128.Idx) : (outsAt m c t.val t.isLt).2.1 y
    = tok (k0_pay8 (F := Ideal) (k0_pay3 (iblk m c 5 t)) (k0_pay4 (iblk m c 6 t)) (k0_pay5 (iblk m c 0 t) (iblk m c 2 t) (iblk m c 1 t) (iblk m c 3 t) (iblk m c 4 t))
        (k0_pay6 (iblk m c 0 t) (iblk m c 2 t) (iblk m c 1 t) (iblk m c 3 t) (iblk m c 4 t))) y := by
  by_cases h : t.val = 0
  · rw [outsAt_A m c t h]; unfold outA; dsimp only; unfold runAAt runA; frame_out
    refine View.canon_apply_of_pieces (Val := Elt Ideal) (e := .f32) (tok _) _ ?_ y (strided_cover _ rfl y)
    repeat
      refine List.forall_mem_cons.2 ⟨fun q => ?_, ?_⟩
      · exact tok_piece _ _ _ _ _ _ (by decide) (by decide) (by decide) (by decide) (by decide) q
    exact fun _ h => absurd h List.not_mem_nil
  · rw [outsAt_B m c t h]; unfold outB; dsimp only; unfold runBAt runB; frame_out
    refine View.canon_apply_of_pieces (Val := Elt Ideal) (e := .f32) (tok _) _ ?_ y (strided_cover _ rfl y)
    repeat
      refine List.forall_mem_cons.2 ⟨fun q => ?_, ?_⟩
      · exact tok_piece _ _ _ _ _ _ (by decide) (by decide) (by decide) (by decide) (by decide) q
    exact fun _ h => absurd h List.not_mem_nil

/-- The reference's second result, over the kernel's argument arrays. -/
abbrev lines (ya yb : FVec Ideal S4096x8x512 .f32) (x : FVec Ideal S8x4096x1024 .f32) (w : FVec Ideal S1x1024x1024 .f32)
    (g b : FVec Ideal S1024 .f32) : FVec Ideal S262144x128 .f32 :=
  Cert.OutProjTmRefIdeal.Read.val_main_v31 (F := Ideal) ya yb x w g b

/-- The block index of the token tiles. -/
theorem idx12 : ∀ t : Fin cfg0.N, win0_12.index t = ![8 * (grid0.coords t 0).val + (grid0.coords t 1).val, 0] :=
  (by decide +kernel : ∀ t : Fin grid0.N, _)

/-- The second result array after the run. -/
theorem result12 (c : Dev nD) : (dats m 0 c).arrAt 12 cfg0.N
    = lines (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 12 _ (by decide +kernel) fun t _ y => ?_
  blk_simp
  rw [after12]
  refine (tiles m c t y).trans ((tile m c t _).trans ?_)
  refine Eq.trans ?_ (Cert.OutProjTmRefIdeal.Read.val_main_v31_apply (F := Ideal) _ _ _ _ _ _ _).symm
  idx_vars y
  have h0 : (grid0.coords t 0).val < 8 := (grid0.coords t 0).isLt
  have h1 : (grid0.coords t 1).val < 8 := (grid0.coords t 1).isLt
  have e : ((cfg0.win 12).blk t).view.emb (ix2 y0 y1)
      = ix2 (⟨4096 * (8 * (grid0.coords t 0).val + (grid0.coords t 1).val) + y0.val, by omega⟩ : Fin 262144) y1 := by
    blk_point [idx12 t]
  rw [e]
  refine congrArg (whole _ _ _ _ _ _) ?_
  blk_point [idx t]

end Cert.OutProjTmIdeal.Out

end

end
-- ==== Proof.OutTmClaims.lean ====
module

public import proofs.«01_k».proof.Defs
public import proofs.«01_k».proof.Proof.OutTmValue
public import proofs.«01_k».proof.Proof.OutTmPrintedFrame
public import Idealize.ShloMosaic.Lib.Claim

/-! # The claims of the time-major out-projection -/

set_option maxRecDepth 16384

@[expose] public section

noncomputable section

namespace Cert.Proof.OutTmClaims

open Idealize.ShloMosaic Idealize.ShloMosaic.TcCoe Idealize.SL.Sem

theorem kernel_frame : Cert.quiescent_OutProjTm := fun m g _ => Cert.OutProjTm.Out.frame_main m g

theorem kernel_ideal_frame : Cert.quiescent_OutProjTmIdeal := fun m g _ => Cert.OutProjTmIdeal.Out.frame_main m g

/-- The reference runs, leaves its arguments alone, and has no semaphore to leave anything on. -/
theorem reference_frame : Cert.quiescent_OutProjTmRefIdeal := fun m g _ =>
  (θ_run Cert.OutProjTmRefIdeal.defs _ _).mono
    (fun r h => ⟨fun c => (h c).2.2, Idealize.ShloMosaic.sem_eq_zero_of_no_sems (by decide) r.2⟩)
    (Cert.OutProjTmRefIdeal.Value.run (F := Ideal) m g)

/-- The kernel's normed rows and their token tiles are the reference's. -/
theorem algebraic : Cert.algebraic_OutProjTmIdeal_OutProjTmRefIdeal := by
  intro m g m' g' _ hagree
  refine ⟨fun c => Cert.OutProjTmIdeal.Out.whole (m ((c.tc : Thread _ _).loc Cert.OutProjTmIdeal.main_arg0))
      (m ((c.tc : Thread _ _).loc Cert.OutProjTmIdeal.main_arg1)) (m ((c.tc : Thread _ _).loc Cert.OutProjTmIdeal.main_arg2))
      (m ((c.tc : Thread _ _).loc Cert.OutProjTmIdeal.main_arg3)) (m ((c.tc : Thread _ _).loc Cert.OutProjTmIdeal.main_arg4))
      (m ((c.tc : Thread _ _).loc Cert.OutProjTmIdeal.main_arg5)),
    fun c => Cert.OutProjTmIdeal.Out.lines (m ((c.tc : Thread _ _).loc Cert.OutProjTmIdeal.main_arg0))
      (m ((c.tc : Thread _ _).loc Cert.OutProjTmIdeal.main_arg1)) (m ((c.tc : Thread _ _).loc Cert.OutProjTmIdeal.main_arg2))
      (m ((c.tc : Thread _ _).loc Cert.OutProjTmIdeal.main_arg3)) (m ((c.tc : Thread _ _).loc Cert.OutProjTmIdeal.main_arg4))
      (m ((c.tc : Thread _ _).loc Cert.OutProjTmIdeal.main_arg5)), ?_, ?_⟩
  · exact (θ_run Cert.OutProjTmIdeal.defs _ _).mono
      (fun _ h c => ⟨((h.1 c).1 11).trans (Cert.OutProjTmIdeal.Out.result m c),
        ((h.1 c).1 12).trans (Cert.OutProjTmIdeal.Out.result12 m c), h.2.1 c⟩)
      (θ_run_and (Cert.OutProjTmIdeal.Out.run_main m g) (Cert.OutProjTmIdeal.Out.frame_main m g))
  · refine (θ_run Cert.OutProjTmRefIdeal.defs _ _).mono (fun _ h c => ⟨(h c).1.trans ?_, (h c).2.1.trans ?_, (h c).2.2⟩)
      (Cert.OutProjTmRefIdeal.Value.run (F := Ideal) m' g')
    · obtain ⟨e0, e1, e2, e3, e4, e5, e6, e7⟩ := hagree c
      refine (Cert.OutProjTmRefIdeal.Read.val_main_v30_eq (F := Ideal) m' c).trans ?_
      rw [e0, e1, e2, e3, e4, e5]
    · obtain ⟨e0, e1, e2, e3, e4, e5, e6, e7⟩ := hagree c
      refine (Cert.OutProjTmRefIdeal.Read.val_main_v31_eq (F := Ideal) m' c).trans ?_
      rw [e0, e1, e2, e3, e4, e5]

end Cert.Proof.OutTmClaims

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjTm
public import proofs.«01_k».proof.Proof.Gen.InProjTm.Skeleton
public import proofs.«01_k».proof.Proof.Gen.InProjTm.Launch
public import proofs.«01_k».proof.Proof.Gen.InProjTm.Points
public import proofs.«01_k».proof.Proof.Gen.InProjTm.Frame
public import proofs.«01_k».proof.Proof.Gen.InProjTmIdeal
public import proofs.«01_k».proof.Proof.Gen.InProjTmIdeal.Skeleton
public import proofs.«01_k».proof.Proof.Gen.InProjTmIdeal.Launch
public import proofs.«01_k».proof.Proof.Gen.InProjTmIdeal.Points
public import proofs.«01_k».proof.Proof.Gen.InProjTmIdeal.Frame
public import proofs.«01_k».proof.Proof.Gen.InProjTmRefIdeal
public import proofs.«01_k».proof.Proof.Gen.InProjTmIdeal.Value
public import proofs.«01_k».proof.Proof.Gen.InProjTmRefIdeal.Run
public import proofs.«01_k».proof.Proof.Gen.InProjTmRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.OutProjTm
public import proofs.«01_k».proof.Proof.Gen.OutProjTm.Skeleton
public import proofs.«01_k».proof.Proof.Gen.OutProjTm.Launch
public import proofs.«01_k».proof.Proof.Gen.OutProjTm.Points
public import proofs.«01_k».proof.Proof.Gen.OutProjTm.Frame
public import proofs.«01_k».proof.Proof.Gen.OutProjTmIdeal
public import proofs.«01_k».proof.Proof.Gen.OutProjTmIdeal.Skeleton
public import proofs.«01_k».proof.Proof.Gen.OutProjTmIdeal.Launch
public import proofs.«01_k».proof.Proof.Gen.OutProjTmIdeal.Points
public import proofs.«01_k».proof.Proof.Gen.OutProjTmIdeal.Frame
public import proofs.«01_k».proof.Proof.Gen.OutProjTmRefIdeal
public import proofs.«01_k».proof.Proof.Gen.OutProjTmRefIdeal.Run
public import proofs.«01_k».proof.Proof.Gen.OutProjTmRefIdeal.Read
public import proofs.«01_k».proof.Proof.Gen.CdPrep
public import proofs.«01_k».proof.Proof.Gen.CdPrep.Skeleton
public import proofs.«01_k».proof.Proof.Gen.CdPrep.Launch
public import proofs.«01_k».proof.Proof.Gen.CdPrep.Points
public import proofs.«01_k».proof.Proof.Gen.CdPrep.Frame
public import proofs.«01_k».proof.Proof.Gen.CdPrepIdeal
public import proofs.«01_k».proof.Proof.Gen.CdPrepIdeal.Skeleton
public import proofs.«01_k».proof.Proof.Gen.CdPrepIdeal.Launch
public import proofs.«01_k».proof.Proof.Gen.CdPrepIdeal.Points
public import proofs.«01_k».proof.Proof.Gen.CdPrepIdeal.Frame
public import proofs.«01_k».proof.Proof.Gen.CdPrepRefIdeal
public import proofs.«01_k».proof.Proof.Gen.CdPrepRefIdeal.Run
public import proofs.«01_k».proof.Proof.Gen.CdPrepRefIdeal.Read
public import proofs.«01_k».proof.Proof.Gen.Pre_tables_in_range
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.ReferenceIdeal.Run
public import proofs.«01_k».proof.Proof.Gen.ReferenceIdeal.Read
public import proofs.«01_k».proof.Proof.CdClaims
public import proofs.«01_k».proof.Proof.InProjClaims
public import proofs.«01_k».proof.Proof.InProjTmClaims
public import proofs.«01_k».proof.Proof.MoeClaims
public import proofs.«01_k».proof.Proof.OutClaims
public import proofs.«01_k».proof.Proof.OutTmClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.InProj.Gen.facts, Cert.InProjIdeal.Gen.facts, Cert.InProjRefIdeal.Gen.facts,
  Cert.InProjTm.Gen.facts, Cert.InProjTmIdeal.Gen.facts, Cert.InProjTmRefIdeal.Gen.facts, Cert.OutProj.Gen.facts,
  Cert.OutProjIdeal.Gen.facts, Cert.OutProjRefIdeal.Gen.facts, Cert.OutProjTm.Gen.facts,
  Cert.OutProjTmIdeal.Gen.facts, Cert.OutProjTmRefIdeal.Gen.facts, Cert.CdPrep.Gen.facts,
  Cert.CdPrepIdeal.Gen.facts, Cert.CdPrepRefIdeal.Gen.facts, Cert.Pre_tables_in_range.Gen.facts,
  Cert.Proof.MoeClaims.kernel_frame, Cert.Proof.MoeClaims.kernel_ideal_frame, Cert.Proof.MoeClaims.reference_frame,
  Cert.Proof.MoeClaims.reference_frame_pre, fun m g _ => Cert.InProj.Gen.frame m g, fun m g _ => Cert.InProjIdeal.Gen.frame m g,
  Cert.Proof.InProjClaims.reference_frame, fun m g _ => Cert.InProjTm.Gen.frame m g, fun m g _ => Cert.InProjTmIdeal.Gen.frame m g,
  Cert.Proof.InProjTmClaims.reference_frame, Cert.Proof.OutClaims.kernel_frame, Cert.Proof.OutClaims.kernel_ideal_frame,
  Cert.Proof.OutClaims.reference_frame, Cert.Proof.OutTmClaims.kernel_frame, Cert.Proof.OutTmClaims.kernel_ideal_frame,
  Cert.Proof.OutTmClaims.reference_frame, fun m g _ => Cert.CdPrep.Gen.frame m g, fun m g _ => Cert.CdPrepIdeal.Gen.frame m g,
  Cert.Proof.CdClaims.reference_frame, trivial, Cert.Proof.MoeClaims.algebraic, trivial, Cert.Proof.InProjClaims.algebraic,
  trivial, Cert.Proof.InProjTmClaims.algebraic, trivial, Cert.Proof.OutClaims.algebraic, trivial,
  Cert.Proof.OutTmClaims.algebraic, trivial, Cert.Proof.CdClaims.algebraic⟩

end Cert.Proof

end
